-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_4)) (v4 : (c : Dev Cert.KernelIdeal.nD) → Buf (Elt Ideal) ((c.tc : Thread Cert.KernelIdeal.nD Cert.KernelIdeal.τ).loc Cert.KernelIdeal.main_v26_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_4) = v3 c
          ∧ r.2.mem ((c.tc : Thread Cert.KernelIdeal.nD Cert.KernelIdeal.τ).loc Cert.KernelIdeal.main_v26_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_arguments.lean ====
abbrev S8192x6144 : Shape := ⟨2, ![8192, 6144]⟩
abbrev S1x128 : Shape := ⟨2, ![1, 128]⟩
abbrev S16x513 : Shape := ⟨2, ![16, 513]⟩
abbrev S8192x2048 : Shape := ⟨2, ![8192, 2048]⟩
abbrev S_ : Shape := ⟨0, ![]⟩

class Facts : Prop where
  bcast_S_S8192x6144 : S_.BroadcastsInDim S8192x6144 (![] : Fin 0 → Fin S8192x6144.rank)
  bcast_S_S1x128 : S_.BroadcastsInDim S1x128 (![] : Fin 0 → Fin S1x128.rank)
  bcast_S_S16x513 : S_.BroadcastsInDim S16x513 (![] : Fin 0 → Fin S16x513.rank)
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x6144 .f32) (main_arg1 : FVec F S1x128 .f32) (main_arg2 : FVec F S1x128 .f32) (main_arg3 : FVec F S16x513 .f32) (main_arg4 : FVec F S8192x2048 .bf16) : IVec S8192x6144 1 × IVec S1x128 1 × IVec S1x128 1 × IVec S16x513 1 × IVec S8192x2048 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_v3 : FVec F S1x128 .f32 := Host.absf main_arg1
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x128 .f32 := Host.absf main_arg2
  let main_cst_1 : FVec F S_ .f32 := constant S_ .f32 0x7F800000#32
  let main_v7 : FVec F S1x128 .f32 := broadcastInDim S1x128 ![] bcast_S_S1x128 main_cst_1
  let main_v8 : IVec S1x128 1 := cmpf .olt main_v6 main_v7
  let main_v9 : FVec F S16x513 .f32 := Host.absf main_arg3
  let main_cst_2 : FVec F S_ .f32 := constant S_ .f32 0x7F800000#32
  let main_v10 : FVec F S16x513 .f32 := broadcastInDim S16x513 ![] bcast_S_S16x513 main_cst_2
  let main_v11 : IVec S16x513 1 := cmpf .olt main_v9 main_v10
  let main_v12 : FVec F S8192x2048 .f32 := (extf .f32 · bitsLt_bf16_f32) main_arg4
  let main_v13 : FVec F S8192x2048 .f32 := Host.absf main_v12
  let main_cst_3 : FVec F S_ .f32 := constant S_ .f32 0x7F800000#32
  let main_v14 : FVec F S8192x2048 .f32 := broadcastInDim S8192x2048 ![] bcast_S_S8192x2048 main_cst_3
  let main_v15 : IVec S8192x2048 1 := cmpf .olt main_v13 main_v14
  (main_v2, main_v5, main_v8, main_v11, main_v15)
-- ==== Kernel.lean ====
abbrev S8192x6144 : Shape := ⟨2, ![8192, 6144]⟩
abbrev S1x128 : Shape := ⟨2, ![1, 128]⟩
abbrev S16x513 : Shape := ⟨2, ![16, 513]⟩
abbrev S8192x2048 : Shape := ⟨2, ![8192, 2048]⟩
abbrev S16x1 : Shape := ⟨2, ![16, 1]⟩
abbrev S16x512 : Shape := ⟨2, ![16, 512]⟩
abbrev S16x511 : Shape := ⟨2, ![16, 511]⟩
abbrev S16x1023 : Shape := ⟨2, ![16, 1023]⟩
abbrev S_ : Shape := ⟨0, ![]⟩
abbrev S16x1024 : Shape := ⟨2, ![16, 1024]⟩
abbrev S16x1x1024 : Shape := ⟨3, ![16, 1, 1024]⟩
abbrev S16x256x1024 : Shape := ⟨3, ![16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256x768 : Shape := ⟨2, ![256, 768]⟩
abbrev S1x256x768 : Shape := ⟨3, ![1, 256, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S768 : Shape := ⟨1, ![768]⟩
abbrev S768x1 : Shape := ⟨2, ![768, 1]⟩
abbrev S128 : Shape := ⟨1, ![128]⟩
abbrev S512x128 : Shape := ⟨2, ![512, 128]⟩

abbrev nBuf : Space → Nat
  | .hbm => 78
  | .vmem => 32
  | .smem => 0
  | _ => 0

abbrev bufTy : (tb : Table) → Fin (tcTables nBuf tb) → BufTy
  | .hbm, ⟨0, _⟩ => ⟨S8192x6144, .f32⟩
  | .hbm, ⟨1, _⟩ => ⟨S1x128, .f32⟩
  | .hbm, ⟨2, _⟩ => ⟨S1x128, .f32⟩
  | .hbm, ⟨3, _⟩ => ⟨S16x513, .f32⟩
  | .hbm, ⟨4, _⟩ => ⟨S8192x2048, .bf16⟩
  | .hbm, ⟨5, _⟩ => ⟨S16x1, .f32⟩
  | .hbm, ⟨6, _⟩ => ⟨S16x512, .f32⟩
  | .hbm, ⟨7, _⟩ => ⟨S16x511, .f32⟩
  | .hbm, ⟨8, _⟩ => ⟨S16x511, .f32⟩
  | .hbm, ⟨9, _⟩ => ⟨S16x1023, .f32⟩
  | .hbm, ⟨10, _⟩ => ⟨S_, .i32⟩
  | .hbm, ⟨11, _⟩ => ⟨S_, .f32⟩
  | .hbm, ⟨12, _⟩ => ⟨S16x1024, .f32⟩
  | .hbm, ⟨13, _⟩ => ⟨S16x1x1024, .f32⟩
  | .hbm, ⟨14, _⟩ => ⟨S16x256x1024, .f32⟩
  | .hbm, ⟨15, _⟩ => ⟨S16x262144, .f32⟩
  | .hbm, ⟨16, _⟩ => ⟨S16x261888, .f32⟩
  | .hbm, ⟨17, _⟩ => ⟨S16x256x1023, .f32⟩
  | .hbm, ⟨18, _⟩ => ⟨S16x256x768, .f32⟩
  | .hbm, ⟨19, _⟩ => ⟨S256x768, .i32⟩
  | .hbm, ⟨20, _⟩ => ⟨S_, .i32⟩
  | .hbm, ⟨21, _⟩ => ⟨S_, .i32⟩
  | .hbm, ⟨22, _⟩ => ⟨S256x768, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S256x768, .i32⟩
  | .hbm, ⟨27, _⟩ => ⟨S256x768, .i1⟩
  | .hbm, ⟨28, _⟩ => ⟨S256x768, .i32⟩
  | .hbm, ⟨29, _⟩ => ⟨S256x768, .i32⟩
  | .hbm, ⟨30, _⟩ => ⟨S_, .i32⟩
  | .hbm, ⟨31, _⟩ => ⟨S256x768, .i32⟩
  | .hbm, ⟨32, _⟩ => ⟨S256x768, .i1⟩
  | .hbm, ⟨33, _⟩ => ⟨S256x768, .i1⟩
  | .hbm, ⟨34, _⟩ => ⟨S_, .i32⟩
  | .hbm, ⟨35, _⟩ => ⟨S256x768, .i32⟩
  | .hbm, ⟨36, _⟩ => ⟨S256x768, .i32⟩
  | .hbm, ⟨37, _⟩ => ⟨S256x768, .i32⟩
  | .hbm, ⟨38, _⟩ => ⟨S256x768, .i32⟩
  | .hbm, ⟨39, _⟩ => ⟨S_, .i32⟩
  | .hbm, ⟨40, _⟩ => ⟨S_, .i32⟩
  | .hbm, ⟨41, _⟩ => ⟨S256x768, .i32⟩
  | .hbm, ⟨42, _⟩ => ⟨S256x768, .i32⟩
  | .hbm, ⟨43, _⟩ => ⟨S256x768, .i32⟩
  | .hbm, ⟨44, _⟩ => ⟨S_, .i32⟩
  | .hbm, ⟨45, _⟩ => ⟨S256x768, .i32⟩
  | .hbm, ⟨46, _⟩ => ⟨S256x768, .i1⟩
  | .hbm, ⟨47, _⟩ => ⟨S256x768, .i32⟩
  | .hbm, ⟨48, _⟩ => ⟨S256x768, .i32⟩
  | .hbm, ⟨49, _⟩ => ⟨S_, .i32⟩
  | .hbm, ⟨50, _⟩ => ⟨S256x768, .i32⟩
  | .hbm, ⟨51, _⟩ => ⟨S256x768, .i1⟩
  | .hbm, ⟨52, _⟩ => ⟨S256x768, .i1⟩
  | .hbm, ⟨53, _⟩ => ⟨S_, .i32⟩
  | .hbm, ⟨54, _⟩ => ⟨S256x768, .i32⟩
  | .hbm, ⟨55, _⟩ => ⟨S256x768, .i32⟩
  | .hbm, ⟨56, _⟩ => ⟨S256x768, .i32⟩
  | .hbm, ⟨57, _⟩ => ⟨S256x768, .i1⟩
  | .hbm, ⟨58, _⟩ => ⟨S_, .i32⟩
  | .hbm, ⟨59, _⟩ => ⟨S256x768, .i32⟩
  | .hbm, ⟨60, _⟩ => ⟨S256x768, .i32⟩
  | .hbm, ⟨61, _⟩ => ⟨S256x768, .i1⟩
  | .hbm, ⟨62, _⟩ => ⟨S256x768, .i1⟩
  | .hbm, ⟨63, _⟩ => ⟨S_, .f32⟩
  | .hbm, ⟨64, _⟩ => ⟨S_, .f32⟩
  | .hbm, ⟨65, _⟩ => ⟨S256x768, .f32⟩
  | .hbm, ⟨66, _⟩ => ⟨S256x768, .f32⟩
  | .hbm, ⟨67, _⟩ => ⟨S256x768, .f32⟩
  | .hbm, ⟨68, _⟩ => ⟨S1x256x768, .f32⟩
  | .hbm, ⟨69, _⟩ => ⟨S1x256x768, .f32⟩
  | .hbm, ⟨70, _⟩ => ⟨S16x256x768, .f32⟩
  | .hbm, ⟨71, _⟩ => ⟨S16x256x768, .f32⟩
  | .hbm, ⟨72, _⟩ => ⟨S8192x2048, .bf16⟩
  | .hbm, ⟨73, _⟩ => ⟨S8192x2048, .bf16⟩
  | .hbm, ⟨74, _⟩ => ⟨S8192x2048, .bf16⟩
  | .hbm, ⟨75, _⟩ => ⟨S16x256x768, .f32⟩
  | .hbm, ⟨76, _⟩ => ⟨S1x128, .f32⟩
  | .hbm, ⟨77, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x256x768, .f32⟩
  | .local _ .vmem, ⟨17, _⟩ => ⟨S1x256x768, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S1x256x768, .f32⟩
  | .local _ .vmem, ⟨27, _⟩ => ⟨S1x256x768, .f32⟩
  | .local _ .vmem, ⟨28, _⟩ => ⟨S1x128, .f32⟩
  | .local _ .vmem, ⟨29, _⟩ => ⟨S1x128, .f32⟩
  | .local _ .vmem, ⟨30, _⟩ => ⟨S768x128, .f32⟩
  | .local _ .vmem, ⟨31, _⟩ => ⟨S768x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_c : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_0 : Ref sig .tc := ⟨.hbm, 34, rfl⟩
abbrev main_call1_v12 : Ref sig .tc := ⟨.hbm, 35, rfl⟩
abbrev main_call1_v13 : Ref sig .tc := ⟨.hbm, 36, rfl⟩
abbrev main_v13 : Ref sig .tc := ⟨.hbm, 37, rfl⟩
abbrev main_v14 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v15 : Ref sig .tc := ⟨.hbm, 56, rfl⟩
abbrev main_v16 : Ref sig .tc := ⟨.hbm, 57, rfl⟩
abbrev main_c_2 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst : Ref sig .tc := ⟨.hbm, 63, rfl⟩
abbrev main_cst_3 : Ref sig .tc := ⟨.hbm, 64, rfl⟩
abbrev main_call3_v0 : Ref sig .tc := ⟨.hbm, 65, rfl⟩
abbrev main_call3_v1 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26_0 : Ref sig .tc := ⟨.hbm, 72, rfl⟩
abbrev main_v26_1 : Ref sig .tc := ⟨.hbm, 73, rfl⟩
abbrev main_v26_2 : Ref sig .tc := ⟨.hbm, 74, rfl⟩
abbrev main_v26_3 : Ref sig .tc := ⟨.hbm, 75, rfl⟩
abbrev main_v26_4 : Ref sig .tc := ⟨.hbm, 76, rfl⟩
abbrev main_v26_5 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![16, 34], ![false, false]⟩

def k0_cond3 (i : grid0.Coords) : BitVec 1 :=
  let arg1 : BitVec 32 := BitVec.ofNat 32 (i 1).val
  let c32_i32 : BitVec 32 := 32#32
  let v8 : BitVec 1 := Scalar.cmpi .slt arg1 c32_i32
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c2_i32 : BitVec 32 := 2#32
  let v11 : BitVec 1 := Scalar.cmpi .sge arg1 c2_i32
  let v12 : BitVec 32 := Scalar.extui v11
  let c0_i32_5 : BitVec 32 := 0#32
  let v13 : BitVec 1 := Scalar.cmpi .ne v12 c0_i32_5
  v13

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c16_i32 : BitVec 32 := 16#32
  let v4 : BitVec 32 := Scalar.addi c16_i32 arg0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 32 := Scalar.addi c16_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let v4 : BitVec 32 := Scalar.addi c16_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let c31_i32 : BitVec 32 := 31#32
  let v2 : BitVec 32 := Scalar.maxsi c0_i32_0 v1
  let v3 : BitVec 32 := Scalar.minsi c31_i32 v2
  let c32_i32 : BitVec 32 := 32#32
  let v4 : BitVec 32 := Scalar.addi c32_i32 arg0
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let c31_i32 : BitVec 32 := 31#32
  let v2 : BitVec 32 := Scalar.maxsi c0_i32 v1
  let v3 : BitVec 32 := Scalar.minsi c31_i32 v2
  let c32_i32 : BitVec 32 := 32#32
  let v4 : BitVec 32 := Scalar.addi c32_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let c31_i32 : BitVec 32 := 31#32
  let v2 : BitVec 32 := Scalar.maxsi c0_i32 v1
  let v3 : BitVec 32 := Scalar.minsi c31_i32 v2
  let c32_i32 : BitVec 32 := 32#32
  let v4 : BitVec 32 := Scalar.addi c32_i32 arg0
  let c0_i32_1 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![v2.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S1x128 : Shape := ⟨2, ![1, 128]⟩
abbrev S16x513 : Shape := ⟨2, ![16, 513]⟩
abbrev S8192x2048 : Shape := ⟨2, ![8192, 2048]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192x8192 : Shape := ⟨3, ![16, 8192, 8192]⟩
abbrev S8192x8192x1 : Shape := ⟨3, ![8192, 8192, 1]⟩
abbrev S1x8192x8192 : Shape := ⟨3, ![1, 8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x128 : Shape := ⟨3, ![16, 8192, 128]⟩
abbrev S128 : Shape := ⟨1, ![128]⟩

abbrev nBuf : Space → Nat
  | .hbm => 266
  | .vmem => 0
  | .smem => 0
  | _ => 0

abbrev hbmTy0_0 (i : Nat) : BufTy := match i % 128 with
  | 0 => ⟨S8192x6144, .f32⟩
  | 1 => ⟨S1x128, .f32⟩
  | 2 => ⟨S1x128, .f32⟩
  | 3 => ⟨S16x513, .f32⟩
  | 4 => ⟨S8192x2048, .bf16⟩
  | 5 => ⟨S8192x2048, .f32⟩
  | 6 => ⟨S8192x2048, .f32⟩
  | 7 => ⟨S8192x2048, .f32⟩
  | 8 => ⟨S8192x16x128, .f32⟩
  | 9 => ⟨S8192x16x128, .f32⟩
  | 10 => ⟨S_, .f32⟩
  | 11 => ⟨S8192x16, .f32⟩
  | 12 => ⟨S8192x16x1, .f32⟩
  | 13 => ⟨S_, .f32⟩
  | 14 => ⟨S8192x16x1, .f32⟩
  | 15 => ⟨S8192x16x1, .f32⟩
  | 16 => ⟨S_, .f32⟩
  | 17 => ⟨S8192x16x1, .f32⟩
  | 18 => ⟨S8192x16x1, .f32⟩
  | 19 => ⟨S8192x16x1, .f32⟩
  | 20 => ⟨S8192x16x1, .f32⟩
  | 21 => ⟨S_, .f32⟩
  | 22 => ⟨S8192x16x1, .f32⟩
  | 23 => ⟨S8192x16x1, .f32⟩
  | 24 => ⟨S8192x16x128, .f32⟩
  | 25 => ⟨S8192x16x128, .f32⟩
  | 26 => ⟨S1x1x128, .f32⟩
  | 27 => ⟨S8192x16x128, .f32⟩
  | 28 => ⟨S8192x16x128, .f32⟩
  | 29 => ⟨S8192x16x128, .f32⟩
  | 30 => ⟨S8192x16x128, .f32⟩
  | 31 => ⟨S_, .f32⟩
  | 32 => ⟨S8192x16, .f32⟩
  | 33 => ⟨S8192x16x1, .f32⟩
  | 34 => ⟨S_, .f32⟩
  | 35 => ⟨S8192x16x1, .f32⟩
  | 36 => ⟨S8192x16x1, .f32⟩
  | 37 => ⟨S_, .f32⟩
  | 38 => ⟨S8192x16x1, .f32⟩
  | 39 => ⟨S8192x16x1, .f32⟩
  | 40 => ⟨S8192x16x1, .f32⟩
  | 41 => ⟨S8192x16x1, .f32⟩
  | 42 => ⟨S_, .f32⟩
  | 43 => ⟨S8192x16x1, .f32⟩
  | 44 => ⟨S8192x16x1, .f32⟩
  | 45 => ⟨S8192x16x128, .f32⟩
  | 46 => ⟨S8192x16x128, .f32⟩
  | 47 => ⟨S1x1x128, .f32⟩
  | 48 => ⟨S8192x16x128, .f32⟩
  | 49 => ⟨S8192x16x128, .f32⟩
  | 50 => ⟨S8192x16x128, .f32⟩
  | 51 => ⟨S8192, .i32⟩
  | 52 => ⟨S8192x1, .i32⟩
  | 53 => ⟨S8192, .i32⟩
  | 54 => ⟨S1x8192, .i32⟩
  | 55 => ⟨S8192x8192, .i32⟩
  | 56 => ⟨S8192x8192, .i32⟩
  | 57 => ⟨S8192x8192, .i32⟩
  | 58 => ⟨S_, .i32⟩
  | 59 => ⟨S_, .i32⟩
  | 60 => ⟨S_, .i32⟩
  | 61 => ⟨S8192x8192, .i32⟩
  | 62 => ⟨S8192x8192, .i32⟩
  | 63 => ⟨S_, .i32⟩
  | 64 => ⟨S8192x8192, .i32⟩
  | 65 => ⟨S8192x8192, .i32⟩
  | 66 => ⟨S_, .i32⟩
  | 67 => ⟨S8192x8192, .i32⟩
  | 68 => ⟨S8192x8192, .i32⟩
  | 69 => ⟨S16x8192x8192, .f32⟩
  | 70 => ⟨S_, .f32⟩
  | 71 => ⟨S16x8192x8192, .f32⟩
  | 72 => ⟨S16x8192x8192, .f32⟩
  | 73 => ⟨S_, .i32⟩
  | 74 => ⟨S8192x8192, .i32⟩
  | 75 => ⟨S8192x8192, .i1⟩
  | 76 => ⟨S_, .i32⟩
  | 77 => ⟨S8192x8192, .i32⟩
  | 78 => ⟨S8192x8192, .i32⟩
  | 79 => ⟨S8192x8192, .i32⟩
  | 80 => ⟨S8192x8192x1, .i32⟩
  | 81 => ⟨S16x8192x8192, .f32⟩
  | 82 => ⟨S16x8192x8192, .f32⟩
  | 83 => ⟨S_, .i32⟩
  | 84 => ⟨S_, .i32⟩
  | 85 => ⟨S8192x1, .i32⟩
  | 86 => ⟨S8192x1, .i32⟩
  | 87 => ⟨S8192x1, .i32⟩
  | 88 => ⟨S_, .i32⟩
  | 89 => ⟨S8192x1, .i32⟩
  | 90 => ⟨S8192x1, .i1⟩
  | 91 => ⟨S8192x1, .i32⟩
  | 92 => ⟨S8192x1, .i32⟩
  | 93 => ⟨S_, .i32⟩
  | 94 => ⟨S8192x1, .i32⟩
  | 95 => ⟨S8192x1, .i1⟩
  | 96 => ⟨S8192x1, .i1⟩
  | 97 => ⟨S_, .i32⟩
  | 98 => ⟨S8192x1, .i32⟩
  | 99 => ⟨S8192x1, .i32⟩
  | 100 => ⟨S8192x1, .i32⟩
  | 101 => ⟨S_, .i32⟩
  | 102 => ⟨S_, .i32⟩
  | 103 => ⟨S1x8192, .i32⟩
  | 104 => ⟨S1x8192, .i32⟩
  | 105 => ⟨S1x8192, .i32⟩
  | 106 => ⟨S_, .i32⟩
  | 107 => ⟨S1x8192, .i32⟩
  | 108 => ⟨S1x8192, .i1⟩
  | 109 => ⟨S1x8192, .i32⟩
  | 110 => ⟨S1x8192, .i32⟩
  | 111 => ⟨S_, .i32⟩
  | 112 => ⟨S1x8192, .i32⟩
  | 113 => ⟨S1x8192, .i1⟩
  | 114 => ⟨S1x8192, .i1⟩
  | 115 => ⟨S_, .i32⟩
  | 116 => ⟨S1x8192, .i32⟩
  | 117 => ⟨S1x8192, .i32⟩
  | 118 => ⟨S1x8192, .i32⟩
  | 119 => ⟨S8192x8192, .i32⟩
  | 120 => ⟨S8192x8192, .i32⟩
  | 121 => ⟨S8192x8192, .i32⟩
  | 122 => ⟨S_, .i32⟩
  | 123 => ⟨S8192x8192, .i32⟩
  | 124 => ⟨S8192x8192, .i1⟩
  | 125 => ⟨S_, .i32⟩
  | 126 => ⟨S8192x8192, .i32⟩
  | 127 => ⟨S8192x8192, .i1⟩
  | _ => ⟨S8192x6144, .f32⟩

abbrev hbmTy0_1 (i : Nat) : BufTy := match i % 128 with
  | 0 => ⟨S8192x8192, .i1⟩
  | 1 => ⟨S1x8192x8192, .i1⟩
  | 2 => ⟨S_, .f32⟩
  | 3 => ⟨S_, .f32⟩
  | 4 => ⟨S16x8192x8192, .i1⟩
  | 5 => ⟨S16x8192x8192, .f32⟩
  | 6 => ⟨S16x8192x8192, .f32⟩
  | 7 => ⟨S_, .f32⟩
  | 8 => ⟨S16x8192x8192, .f32⟩
  | 9 => ⟨S_, .f32⟩
  | 10 => ⟨S16x8192, .f32⟩
  | 11 => ⟨S16x8192x1, .f32⟩
  | 12 => ⟨S16x8192x8192, .f32⟩
  | 13 => ⟨S16x8192x8192, .i1⟩
  | 14 => ⟨S16x8192x8192, .f32⟩
  | 15 => ⟨S_, .f32⟩
  | 16 => ⟨S16x8192, .f32⟩
  | 17 => ⟨S_, .f32⟩
  | 18 => ⟨S16x8192, .f32⟩
  | 19 => ⟨S16x8192, .f32⟩
  | 20 => ⟨S_, .f32⟩
  | 21 => ⟨S16x8192, .f32⟩
  | 22 => ⟨S16x8192, .i1⟩
  | 23 => ⟨S_, .f32⟩
  | 24 => ⟨S16x8192, .f32⟩
  | 25 => ⟨S16x8192, .i1⟩
  | 26 => ⟨S_, .f32⟩
  | 27 => ⟨S16x8192, .f32⟩
  | 28 => ⟨S_, .f32⟩
  | 29 => ⟨S16x8192, .f32⟩
  | 30 => ⟨S_, .f32⟩
  | 31 => ⟨S16x8192, .f32⟩
  | 32 => ⟨S16x8192, .f32⟩
  | 33 => ⟨S16x8192, .f32⟩
  | 34 => ⟨S16x8192x1, .f32⟩
  | 35 => ⟨S16x8192x8192, .f32⟩
  | 36 => ⟨S16x8192x8192, .f32⟩
  | 37 => ⟨S16x8192x8192, .f32⟩
  | 38 => ⟨S_, .f32⟩
  | 39 => ⟨S16x8192, .f32⟩
  | 40 => ⟨S16x8192x1, .f32⟩
  | 41 => ⟨S16x8192x8192, .f32⟩
  | 42 => ⟨S16x8192x8192, .f32⟩
  | 43 => ⟨S16x8192x1, .f32⟩
  | 44 => ⟨S_, .f32⟩
  | 45 => ⟨S16x8192x1, .f32⟩
  | 46 => ⟨S16x8192x1, .f32⟩
  | 47 => ⟨S16x128x8192, .f32⟩
  | 48 => ⟨S8192x16x128, .f32⟩
  | 49 => ⟨S8192x2048, .f32⟩
  | 50 => ⟨S8192x2048, .f32⟩
  | 51 => ⟨S8192x16x128, .f32⟩
  | 52 => ⟨S16x128x8192, .f32⟩
  | 53 => ⟨S16x8192x8192, .f32⟩
  | 54 => ⟨S16x128x8192, .f32⟩
  | 55 => ⟨S8192x16x128, .f32⟩
  | 56 => ⟨S16x8192x8192, .f32⟩
  | 57 => ⟨S16x8192x8192, .f32⟩
  | 58 => ⟨S16x8192x8192, .f32⟩
  | 59 => ⟨S_, .f32⟩
  | 60 => ⟨S16x8192, .f32⟩
  | 61 => ⟨S16x8192x1, .f32⟩
  | 62 => ⟨S16x8192x1, .f32⟩
  | 63 => ⟨S16x8192x8192, .f32⟩
  | 64 => ⟨S16x8192x8192, .f32⟩
  | 65 => ⟨S_, .f32⟩
  | 66 => ⟨S16x8192, .f32⟩
  | 67 => ⟨S16x8192x8192, .f32⟩
  | 68 => ⟨S16x8192x8192, .f32⟩
  | 69 => ⟨S16x8192x8192, .f32⟩
  | 70 => ⟨S_, .f32⟩
  | 71 => ⟨S16x8192x8192, .f32⟩
  | 72 => ⟨S16x8192x8192, .f32⟩
  | 73 => ⟨S_, .f32⟩
  | 74 => ⟨S16x8192x8192, .f32⟩
  | 75 => ⟨S16x8192x8192, .f32⟩
  | 76 => ⟨S16x8192x128, .f32⟩
  | 77 => ⟨S8192x16x128, .f32⟩
  | 78 => ⟨S16x8192x128, .f32⟩
  | 79 => ⟨S8192x16x128, .f32⟩
  | 80 => ⟨S8192x2048, .f32⟩
  | 81 => ⟨S8192x16x128, .f32⟩
  | 82 => ⟨S_, .f32⟩
  | 83 => ⟨S128, .f32⟩
  | 84 => ⟨S1x1x128, .f32⟩
  | 85 => ⟨S8192x16x128, .f32⟩
  | 86 => ⟨S8192x16x128, .f32⟩
  | 87 => ⟨S_, .f32⟩
  | 88 => ⟨S128, .f32⟩
  | 89 => ⟨S1x128, .f32⟩
  | 90 => ⟨S8192x16x128, .f32⟩
  | 91 => ⟨S_, .f32⟩
  | 92 => ⟨S8192x16, .f32⟩
  | 93 => ⟨S8192x16x1, .f32⟩
  | 94 => ⟨S8192x16x128, .f32⟩
  | 95 => ⟨S8192x16x128, .f32⟩
  | 96 => ⟨S8192x16x1, .f32⟩
  | 97 => ⟨S_, .f32⟩
  | 98 => ⟨S8192x16x1, .f32⟩
  | 99 => ⟨S8192x16x1, .f32⟩
  | 100 => ⟨S_, .f32⟩
  | 101 => ⟨S8192x16, .f32⟩
  | 102 => ⟨S8192x16x128, .f32⟩
  | 103 => ⟨S8192x16x128, .f32⟩
  | 104 => ⟨S8192x16x128, .f32⟩
  | 105 => ⟨S8192x16x128, .f32⟩
  | 106 => ⟨S8192x16x128, .f32⟩
  | 107 => ⟨S8192x2048, .f32⟩
  | 108 => ⟨S8192x16x128, .f32⟩
  | 109 => ⟨S_, .f32⟩
  | 110 => ⟨S128, .f32⟩
  | 111 => ⟨S1x1x128, .f32⟩
  | 112 => ⟨S8192x16x128, .f32⟩
  | 113 => ⟨S8192x16x128, .f32⟩
  | 114 => ⟨S_, .f32⟩
  | 115 => ⟨S128, .f32⟩
  | 116 => ⟨S1x128, .f32⟩
  | 117 => ⟨S8192x16x128, .f32⟩
  | 118 => ⟨S_, .f32⟩
  | 119 => ⟨S8192x16, .f32⟩
  | 120 => ⟨S8192x16x1, .f32⟩
  | 121 => ⟨S8192x16x128, .f32⟩
  | 122 => ⟨S8192x16x128, .f32⟩
  | 123 => ⟨S8192x16x1, .f32⟩
  | 124 => ⟨S_, .f32⟩
  | 125 => ⟨S8192x16x1, .f32⟩
  | 126 => ⟨S8192x16x1, .f32⟩
  | 127 => ⟨S_, .f32⟩
  | _ => ⟨S8192x6144, .f32⟩

abbrev hbmTy0_2 (i : Nat) : BufTy := match i % 128 with
  | 0 => ⟨S8192x16, .f32⟩
  | 1 => ⟨S8192x16x128, .f32⟩
  | 2 => ⟨S8192x16x128, .f32⟩
  | 3 => ⟨S8192x16x128, .f32⟩
  | 4 => ⟨S8192x16x128, .f32⟩
  | 5 => ⟨S8192x16x128, .f32⟩
  | 6 => ⟨S8192x2048, .f32⟩
  | 7 => ⟨S8192x2048, .bf16⟩
  | 8 => ⟨S8192x2048, .bf16⟩
  | 9 => ⟨S8192x2048, .bf16⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_c_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_c : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_0 : Ref sig .tc := ⟨.hbm, 97, rfl⟩
abbrev main_call1_v12 : Ref sig .tc := ⟨.hbm, 98, rfl⟩
abbrev main_call1_v13 : Ref sig .tc := ⟨.hbm, 99, rfl⟩
abbrev main_v59 : Ref sig .tc := ⟨.hbm, 100, rfl⟩
abbrev main_c_13 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_c : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_0 : Ref sig .tc := ⟨.hbm, 115, rfl⟩
abbrev main_call2_v12 : Ref sig .tc := ⟨.hbm, 116, rfl⟩
abbrev main_call2_v13 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_c_14 : Ref sig .tc := ⟨.hbm, 122, rfl⟩
abbrev main_v64 : Ref sig .tc := ⟨.hbm, 123, rfl⟩
abbrev main_v65 : Ref sig .tc := ⟨.hbm, 124, rfl⟩
abbrev main_c_15 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_16 : Ref sig .tc := ⟨.hbm, 130, rfl⟩
abbrev main_call3_v0 : Ref sig .tc := ⟨.hbm, 131, rfl⟩
abbrev main_v70_1 : Ref sig .tc := ⟨.hbm, 132, rfl⟩
abbrev main_call3_v2 : Ref sig .tc := ⟨.hbm, 133, rfl⟩
abbrev main_v70_0 : Ref sig .tc := ⟨.hbm, 134, rfl⟩
abbrev main_call3_cst : Ref sig .tc := ⟨.hbm, 135, rfl⟩
abbrev main_v70_2 : Ref sig .tc := ⟨.hbm, 136, rfl⟩
abbrev main_cst_17 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_18 : Ref sig .tc := ⟨.hbm, 143, rfl⟩
abbrev main_v76 : Ref sig .tc := ⟨.hbm, 144, rfl⟩
abbrev main_cst_19 : Ref sig .tc := ⟨.hbm, 145, rfl⟩
abbrev main_v77 : Ref sig .tc := ⟨.hbm, 146, rfl⟩
abbrev main_v78 : Ref sig .tc := ⟨.hbm, 147, rfl⟩
abbrev main_cst_20 : Ref sig .tc := ⟨.hbm, 148, rfl⟩
abbrev main_v79 : Ref sig .tc := ⟨.hbm, 149, rfl⟩
abbrev main_v80 : Ref sig .tc := ⟨.hbm, 150, rfl⟩
abbrev main_cst_21 : Ref sig .tc := ⟨.hbm, 151, rfl⟩
abbrev main_v81 : Ref sig .tc := ⟨.hbm, 152, rfl⟩
abbrev main_v82 : Ref sig .tc := ⟨.hbm, 153, rfl⟩
abbrev main_cst_22 : Ref sig .tc := ⟨.hbm, 154, rfl⟩
abbrev main_v83 : Ref sig .tc := ⟨.hbm, 155, rfl⟩
abbrev main_cst_23 : Ref sig .tc := ⟨.hbm, 156, rfl⟩
abbrev main_v84 : Ref sig .tc := ⟨.hbm, 157, rfl⟩
abbrev main_cst_24 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_cst_25 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_cst_26 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_cst_27 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_cst_28 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_call4_cst : Ref sig .tc := ⟨.hbm, 198, rfl⟩
abbrev main_call4_v0 : Ref sig .tc := ⟨.hbm, 199, rfl⟩
abbrev main_v120 : Ref sig .tc := ⟨.hbm, 200, rfl⟩
abbrev main_cst_29 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_30 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_cst_31 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_32 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_cst_33 : Ref sig .tc := ⟨.hbm, 225, rfl⟩
abbrev main_v141 : Ref sig .tc := ⟨.hbm, 226, rfl⟩
abbrev main_v142 : Ref sig .tc := ⟨.hbm, 227, rfl⟩
abbrev main_cst_34 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_35 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_cst_36 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_cst_37 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_38 : Ref sig .tc := ⟨.hbm, 252, rfl⟩
abbrev main_v163 : Ref sig .tc := ⟨.hbm, 253, rfl⟩
abbrev main_v164 : Ref sig .tc := ⟨.hbm, 254, rfl⟩
abbrev main_cst_39 : Ref sig .tc := ⟨.hbm, 255, rfl⟩
abbrev main_v165 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩

abbrev nD : Nat := 1
abbrev τ : Topo := Topo.v7x

variable {F : FTy → Type} [FloatOps F]

def κ : String → Option EReal := fun
  | "mask" => some ⊥
  | _ => none
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x8192, .f32⟩
  | .hbm, ⟨11, _⟩ => ⟨S8192x8192, .bf16⟩
  | .hbm, ⟨12, _⟩ => ⟨S8192x2048, .bf16⟩
  | .hbm, ⟨13, _⟩ => ⟨S1x8192x2048, .bf16⟩
  | .hbm, ⟨14, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8x1024x2048 : Shape := ⟨3, ![8, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x8192, .f32⟩
  | .hbm, ⟨11, _⟩ => ⟨S8192x8192, .bf16⟩
  | .hbm, ⟨12, _⟩ => ⟨S8x1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 8, 2, 2], ![false, false, false, false]⟩

def k0_cond3 (i : grid0.Coords) : BitVec 1 :=
  let arg3 : BitVec 32 := BitVec.ofNat 32 (i 3).val
  let c1_i32_6 : BitVec 32 := 1#32
  let v12 : BitVec 1 := Scalar.cmpi .eq arg3 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, v55.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S4x2x1024x2048 : Shape := ⟨4, ![4, 2, 1024, 2048]⟩
abbrev S2x4x1024x2048 : Shape := ⟨4, ![2, 4, 1024, 2048]⟩
abbrev S8x1024x2048 : Shape := ⟨3, ![8, 1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S8192x2048, .f32⟩
  | .hbm, ⟨12, _⟩ => ⟨S2048x8192, .f32⟩
  | .hbm, ⟨13, _⟩ => ⟨S8192x2048, .f32⟩
  | .hbm, ⟨14, _⟩ => ⟨S4x2x1024x2048, .f32⟩
  | .hbm, ⟨15, _⟩ => ⟨S2x4x1024x2048, .f32⟩
  | .hbm, ⟨16, _⟩ => ⟨S8x1024x2048, .f32⟩
  | .hbm, ⟨17, _⟩ => ⟨S8x1024x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8x2048x1024 : Shape := ⟨3, ![8, 2048, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .bf16⟩
  | .hbm, ⟨25, _⟩ => ⟨S8x2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 8, 2], ![false, false, false, false]⟩

def k0_cond3 (i : grid0.Coords) : BitVec 1 :=
  let arg3 : BitVec 32 := BitVec.ofNat 32 (i 3).val
  let c1_i32_6 : BitVec 32 := 1#32
  let v12 : BitVec 1 := Scalar.cmpi .eq arg3 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg1
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg2 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, arg1.toNat, v55.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x4x2x1024 : Shape := ⟨4, ![2048, 4, 2, 1024]⟩
abbrev S2x4x2048x1024 : Shape := ⟨4, ![2, 4, 2048, 1024]⟩
abbrev S8x2048x1024 : Shape := ⟨3, ![8, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x2048, .f32⟩
  | .hbm, ⟨25, _⟩ => ⟨S2048x8192, .f32⟩
  | .hbm, ⟨26, _⟩ => ⟨S2048x4x2x1024, .f32⟩
  | .hbm, ⟨27, _⟩ => ⟨S2x4x2048x1024, .f32⟩
  | .hbm, ⟨28, _⟩ => ⟨S8x2048x1024, .f32⟩
  | .hbm, ⟨29, _⟩ => ⟨S8x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S_ : Shape := ⟨0, ![]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 29
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S2048x8x1024, .f32⟩
  | .hbm, ⟨5, _⟩ => ⟨S8x2048x1024, .f32⟩
  | .hbm, ⟨6, _⟩ => ⟨S8x2048x1024, .bf16⟩
  | .hbm, ⟨7, _⟩ => ⟨S8192x2048, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .i1⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .bf16⟩
  | .hbm, ⟨28, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 2, 4], ![false, false, false, false]⟩

def k0_cond3 (i : grid0.Coords) : BitVec 1 :=
  let arg3 : BitVec 32 := BitVec.ofNat 32 (i 3).val
  let c3_i32_13 : BitVec 32 := 3#32
  let v21 : BitVec 1 := Scalar.cmpi .eq arg3 c3_i32_13
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg3 c2_i32
  let c0_i32 : BitVec 32 := 0#32
  let v1 : BitVec 32 := Scalar.addi v0 c0_i32
  let c0_i32_0 : BitVec 32 := 0#32
  let c0_i32_1 : BitVec 32 := 0#32
  ![v1.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg3 c2_i32
  let c1_i32 : BitVec 32 := 1#32
  let v1 : BitVec 32 := Scalar.addi v0 c1_i32
  let c0_i32 : BitVec 32 := 0#32
  let c0_i32_0 : BitVec 32 := 0#32
  ![v1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S8192x8192, .bf16⟩
  | .hbm, ⟨6, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x8192, .bf16⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S1x8192x2048 : Shape := ⟨3, ![1, 8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 15
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x8192, .f32⟩
  | .hbm, ⟨11, _⟩ => ⟨S8192x8192, .bf16⟩
  | .hbm, ⟨12, _⟩ => ⟨S8192x2048, .bf16⟩
  | .hbm, ⟨13, _⟩ => ⟨S1x8192x2048, .bf16⟩
  | .hbm, ⟨14, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![8, 1, 2, 4], ![false, false, false, false]⟩

def k0_cond3 (i : grid0.Coords) : BitVec 1 :=
  let arg3 : BitVec 32 := BitVec.ofNat 32 (i 3).val
  let c3_i32_7 : BitVec 32 := 3#32
  let v13 : BitVec 1 := Scalar.cmpi .eq arg3 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference7Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S8192x2048, .f32⟩
  | .hbm, ⟨11, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Att.Cases.lean ====
/- The grid points of the attention backward kernel, 16 heads by 34 steps, fall into five cases by the body's four conditionals:
   A the very first point, B the second step of a head, C the steps that both take a query block and hand a key block back,
   D the last two steps of a head (no query block left), E the first step of a later head. Here: those conditions in closed form
   over the points, which output block each case leaves alone, and the staging buffers the body is run on. -/
module

public import proofs.«01_k».proof.Proof.Gen.KernelIdeal.Frame
public import proofs.«01_k».proof.Proof.Gen.KernelIdeal.Skeleton
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 34 = 0 :=
  (fun t => by
    have ht : t.val < 544 := Nat.lt_of_lt_of_eq t.isLt N_0
    have e0 : (grid0.coords t 0).val = t.val / 34 % 16 := Pipeline.Grid.coords_val t 0 (by decide) rfl
    have e1 : (grid0.coords t 1).val = t.val / 1 % 34 := Pipeline.Grid.coords_val t 1 (by decide) rfl
    simp only [cond0_0, k0_cond1, e0, e1]
    word_cmp
   : ∀ t : Fin grid0.N, cond0_0 (grid0.coords t) ↔ t.val % 34 = 0)

abbrev cond0_1 (i : grid0.Coords) : Prop := k0_cond2 i = 1#1
theorem hcond0_1 : ∀ t : Fin cfg0.N, cond0_1 (grid0.coords t) ↔ t.val % 544 = 0 :=
  (fun t => by
    have ht : t.val < 544 := Nat.lt_of_lt_of_eq t.isLt N_0
    have e0 : (grid0.coords t 0).val = t.val / 34 % 16 := Pipeline.Grid.coords_val t 0 (by decide) rfl
    have e1 : (grid0.coords t 1).val = t.val / 1 % 34 := Pipeline.Grid.coords_val t 1 (by decide) rfl
    simp only [cond0_1, k0_cond2, e0, e1]
    word_cmp
   : ∀ t : Fin grid0.N, cond0_1 (grid0.coords t) ↔ t.val % 544 = 0)

abbrev cond0_2 (i : grid0.Coords) : Prop := k0_cond3 i = 1#1
theorem hcond0_2 : ∀ t : Fin cfg0.N, cond0_2 (grid0.coords t) ↔ t.val % 34 ≤ 31 :=
  (by decide +kernel : ∀ t : Fin grid0.N, cond0_2 (grid0.coords t) ↔ t.val % 34 ≤ 31)

abbrev cond0_3 (i : grid0.Coords) : Prop := k0_cond4 i = 1#1
theorem hcond0_3 : ∀ t : Fin cfg0.N, cond0_3 (grid0.coords t) ↔ 2 ≤ t.val % 34 :=
  (by decide +kernel : ∀ t : Fin grid0.N, cond0_3 (grid0.coords t) ↔ 2 ≤ t.val % 34)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl

abbrev conds0_A (i : grid0.Coords) : Prop := cond0_0 i ∧ cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
abbrev conds0_E (i : grid0.Coords) : Prop := cond0_0 i ∧ ¬cond0_1 i ∧ cond0_2 i ∧ ¬cond0_3 i
instance conds0_E.dec (i : grid0.Coords) : Decidable (conds0_E i) :=
  @instDecidableAnd _ _ inferInstance (@instDecidableAnd _ _ inferInstance (@instDecidableAnd _ _ inferInstance inferInstance))
def freshTab0_11 : ℕ → Bool
  | 0 => true
  | n + 1 => (0x9fffffffe7fffffff9fffffffe7fffffff9fffffffe7fffffff9fffffffe7fffffff9fffffffe7fffffff9fffffffe7fffffff9fffffffe7fffffff9fffffffe7fffffff : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11_A : ∀ t : Fin cfg0.N, cond0_0 (grid0.coords t) → cond0_1 (grid0.coords t) → cond0_2 (grid0.coords t) → ¬cond0_3 (grid0.coords t) → cfg0.idle 11 (grid0.coords t) = false :=
  fun t h0 h1 h2 h3 => (by decide +kernel : ∀ t : Fin cfg0.N, conds0_A (grid0.coords t) → cfg0.idle 11 (grid0.coords t) = false) t ⟨h0, h1, h2, h3⟩
theorem liveAt0_11_B : ∀ t : Fin cfg0.N, ¬cond0_0 (grid0.coords t) → ¬cond0_1 (grid0.coords t) → cond0_2 (grid0.coords t) → ¬cond0_3 (grid0.coords t) → cfg0.idle 11 (grid0.coords t) = false :=
  fun t h0 h1 h2 h3 => (by decide +kernel : ∀ t : Fin cfg0.N, conds0_B (grid0.coords t) → cfg0.idle 11 (grid0.coords t) = false) t ⟨h0, h1, h2, h3⟩
theorem liveAt0_11_C : ∀ t : Fin cfg0.N, ¬cond0_0 (grid0.coords t) → ¬cond0_1 (grid0.coords t) → cond0_2 (grid0.coords t) → cond0_3 (grid0.coords t) → cfg0.idle 11 (grid0.coords t) = false :=
  fun t h0 h1 h2 h3 => (by decide +kernel : ∀ t : Fin cfg0.N, conds0_C (grid0.coords t) → cfg0.idle 11 (grid0.coords t) = false) t ⟨h0, h1, h2, h3⟩
theorem idleAt0_11_D : ∀ t : Fin cfg0.N, ¬cond0_0 (grid0.coords t) → ¬cond0_1 (grid0.coords t) → ¬cond0_2 (grid0.coords t) → cond0_3 (grid0.coords t) → cfg0.idle 11 (grid0.coords t) = true :=
  fun t h0 h1 h2 h3 => (by decide +kernel : ∀ t : Fin cfg0.N, conds0_D (grid0.coords t) → cfg0.idle 11 (grid0.coords t) = true) t ⟨h0, h1, h2, h3⟩
theorem notFresh0_11_D : ∀ t : Fin cfg0.N, ¬cond0_0 (grid0.coords t) → ¬cond0_1 (grid0.coords t) → ¬cond0_2 (grid0.coords t) → cond0_3 (grid0.coords t) → cfg0.fresh 11 t.val = false :=
  fun t h0 h1 h2 h3 => (by intro t; rw [fresh0_11_eq t]; revert t; decide +kernel : ∀ t : Fin cfg0.N, conds0_D (grid0.coords t) → cfg0.fresh 11 t.val = false) t ⟨h0, h1, h2, h3⟩
theorem liveAt0_11_E : ∀ t : Fin cfg0.N, cond0_0 (grid0.coords t) → ¬cond0_1 (grid0.coords t) → cond0_2 (grid0.coords t) → ¬cond0_3 (grid0.coords t) → cfg0.idle 11 (grid0.coords t) = false :=
  fun t h0 h1 h2 h3 => (by decide +kernel : ∀ t : Fin cfg0.N, conds0_E (grid0.coords t) → cfg0.idle 11 (grid0.coords t) = false) t ⟨h0, h1, h2, h3⟩
theorem idleAt0_12_A : ∀ t : Fin cfg0.N, cond0_0 (grid0.coords t) → cond0_1 (grid0.coords t) → cond0_2 (grid0.coords t) → ¬cond0_3 (grid0.coords t) → cfg0.idle 12 (grid0.coords t) = true :=
  fun t h0 h1 h2 h3 => (by decide +kernel : ∀ t : Fin cfg0.N, conds0_A (grid0.coords t) → cfg0.idle 12 (grid0.coords t) = true) t ⟨h0, h1, h2, h3⟩
theorem noFlush0_12_A : ∀ t : Fin cfg0.N, cond0_0 (grid0.coords t) → cond0_1 (grid0.coords t) → cond0_2 (grid0.coords t) → ¬cond0_3 (grid0.coords t) → (cfg0.win 12).flush t = false :=
  fun t h0 h1 h2 h3 => (by decide +kernel : ∀ t : Fin cfg0.N, conds0_A (grid0.coords t) → (cfg0.win 12).flush t = false) t ⟨h0, h1, h2, h3⟩
theorem idleAt0_12_B : ∀ t : Fin cfg0.N, ¬cond0_0 (grid0.coords t) → ¬cond0_1 (grid0.coords t) → cond0_2 (grid0.coords t) → ¬cond0_3 (grid0.coords t) → cfg0.idle 12 (grid0.coords t) = true :=
  fun t h0 h1 h2 h3 => (by decide +kernel : ∀ t : Fin cfg0.N, conds0_B (grid0.coords t) → cfg0.idle 12 (grid0.coords t) = true) t ⟨h0, h1, h2, h3⟩
theorem noFlush0_12_B : ∀ t : Fin cfg0.N, ¬cond0_0 (grid0.coords t) → ¬cond0_1 (grid0.coords t) → cond0_2 (grid0.coords t) → ¬cond0_3 (grid0.coords t) → (cfg0.win 12).flush t = false :=
  fun t h0 h1 h2 h3 => (by decide +kernel : ∀ t : Fin cfg0.N, conds0_B (grid0.coords t) → (cfg0.win 12).flush t = false) t ⟨h0, h1, h2, h3⟩
theorem liveAt0_12_C : ∀ t : Fin cfg0.N, ¬cond0_0 (grid0.coords t) → ¬cond0_1 (grid0.coords t) → cond0_2 (grid0.coords t) → cond0_3 (grid0.coords t) → cfg0.idle 12 (grid0.coords t) = false :=
  fun t h0 h1 h2 h3 => (by decide +kernel : ∀ t : Fin cfg0.N, conds0_C (grid0.coords t) → cfg0.idle 12 (grid0.coords t) = false) t ⟨h0, h1, h2, h3⟩
theorem liveAt0_12_D : ∀ t : Fin cfg0.N, ¬cond0_0 (grid0.coords t) → ¬cond0_1 (grid0.coords t) → ¬cond0_2 (grid0.coords t) → cond0_3 (grid0.coords t) → cfg0.idle 12 (grid0.coords t) = false :=
  fun t h0 h1 h2 h3 => (by decide +kernel : ∀ t : Fin cfg0.N, conds0_D (grid0.coords t) → cfg0.idle 12 (grid0.coords t) = false) t ⟨h0, h1, h2, h3⟩
theorem idleAt0_12_E : ∀ t : Fin cfg0.N, cond0_0 (grid0.coords t) → ¬cond0_1 (grid0.coords t) → cond0_2 (grid0.coords t) → ¬cond0_3 (grid0.coords t) → cfg0.idle 12 (grid0.coords t) = true :=
  fun t h0 h1 h2 h3 => (by decide +kernel : ∀ t : Fin cfg0.N, conds0_E (grid0.coords t) → cfg0.idle 12 (grid0.coords t) = true) t ⟨h0, h1, h2, h3⟩
theorem noFlush0_12_E : ∀ t : Fin cfg0.N, cond0_0 (grid0.coords t) → ¬cond0_1 (grid0.coords t) → cond0_2 (grid0.coords t) → ¬cond0_3 (grid0.coords t) → (cfg0.win 12).flush t = false :=
  fun t h0 h1 h2 h3 => (by decide +kernel : ∀ t : Fin cfg0.N, conds0_E (grid0.coords t) → (cfg0.win 12).flush t = false) t ⟨h0, h1, h2, h3⟩
theorem idleAt0_13_A : ∀ t : Fin cfg0.N, cond0_0 (grid0.coords t) → cond0_1 (grid0.coords t) → cond0_2 (grid0.coords t) → ¬cond0_3 (grid0.coords t) → cfg0.idle 13 (grid0.coords t) = true :=
  fun t h0 h1 h2 h3 => (by decide +kernel : ∀ t : Fin cfg0.N, conds0_A (grid0.coords t) → cfg0.idle 13 (grid0.coords t) = true) t ⟨h0, h1, h2, h3⟩
theorem noFlush0_13_A : ∀ t : Fin cfg0.N, cond0_0 (grid0.coords t) → cond0_1 (grid0.coords t) → cond0_2 (grid0.coords t) → ¬cond0_3 (grid0.coords t) → (cfg0.win 13).flush t = false :=
  fun t h0 h1 h2 h3 => (by decide +kernel : ∀ t : Fin cfg0.N, conds0_A (grid0.coords t) → (cfg0.win 13).flush t = false) t ⟨h0, h1, h2, h3⟩
theorem idleAt0_13_B : ∀ t : Fin cfg0.N, ¬cond0_0 (grid0.coords t) → ¬cond0_1 (grid0.coords t) → cond0_2 (grid0.coords t) → ¬cond0_3 (grid0.coords t) → cfg0.idle 13 (grid0.coords t) = true :=
  fun t h0 h1 h2 h3 => (by decide +kernel : ∀ t : Fin cfg0.N, conds0_B (grid0.coords t) → cfg0.idle 13 (grid0.coords t) = true) t ⟨h0, h1, h2, h3⟩
theorem noFlush0_13_B : ∀ t : Fin cfg0.N, ¬cond0_0 (grid0.coords t) → ¬cond0_1 (grid0.coords t) → cond0_2 (grid0.coords t) → ¬cond0_3 (grid0.coords t) → (cfg0.win 13).flush t = false :=
  fun t h0 h1 h2 h3 => (by decide +kernel : ∀ t : Fin cfg0.N, conds0_B (grid0.coords t) → (cfg0.win 13).flush t = false) t ⟨h0, h1, h2, h3⟩
theorem liveAt0_13_C : ∀ t : Fin cfg0.N, ¬cond0_0 (grid0.coords t) → ¬cond0_1 (grid0.coords t) → cond0_2 (grid0.coords t) → cond0_3 (grid0.coords t) → cfg0.idle 13 (grid0.coords t) = false :=
  fun t h0 h1 h2 h3 => (by decide +kernel : ∀ t : Fin cfg0.N, conds0_C (grid0.coords t) → cfg0.idle 13 (grid0.coords t) = false) t ⟨h0, h1, h2, h3⟩
theorem liveAt0_13_D : ∀ t : Fin cfg0.N, ¬cond0_0 (grid0.coords t) → ¬cond0_1 (grid0.coords t) → ¬cond0_2 (grid0.coords t) → cond0_3 (grid0.coords t) → cfg0.idle 13 (grid0.coords t) = false :=
  fun t h0 h1 h2 h3 => (by decide +kernel : ∀ t : Fin cfg0.N, conds0_D (grid0.coords t) → cfg0.idle 13 (grid0.coords t) = false) t ⟨h0, h1, h2, h3⟩
theorem idleAt0_13_E : ∀ t : Fin cfg0.N, cond0_0 (grid0.coords t) → ¬cond0_1 (grid0.coords t) → cond0_2 (grid0.coords t) → ¬cond0_3 (grid0.coords t) → cfg0.idle 13 (grid0.coords t) = true :=
  fun t h0 h1 h2 h3 => (by decide +kernel : ∀ t : Fin cfg0.N, conds0_E (grid0.coords t) → cfg0.idle 13 (grid0.coords t) = true) t ⟨h0, h1, h2, h3⟩
theorem noFlush0_13_E : ∀ t : Fin cfg0.N, cond0_0 (grid0.coords t) → ¬cond0_1 (grid0.coords t) → cond0_2 (grid0.coords t) → ¬cond0_3 (grid0.coords t) → (cfg0.win 13).flush t = false :=
  fun t h0 h1 h2 h3 => (by decide +kernel : ∀ t : Fin cfg0.N, conds0_E (grid0.coords t) → (cfg0.win 13).flush t = false) t ⟨h0, h1, h2, h3⟩
def freshTab0_14 : ℕ → Bool
  | 0 => true
  | n + 1 => (0x8000000020000000080000000200000000800000002000000008000000020000000080000000200000000800000002000000008000000020000000080000000200000000 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
theorem liveAt0_14_A : ∀ t : Fin cfg0.N, cond0_0 (grid0.coords t) → cond0_1 (grid0.coords t) → cond0_2 (grid0.coords t) → ¬cond0_3 (grid0.coords t) → cfg0.idle 14 (grid0.coords t) = false :=
  fun t h0 h1 h2 h3 => (by decide +kernel : ∀ t : Fin cfg0.N, conds0_A (grid0.coords t) → cfg0.idle 14 (grid0.coords t) = false) t ⟨h0, h1, h2, h3⟩
theorem liveAt0_14_B : ∀ t : Fin cfg0.N, ¬cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_B (grid0.coords t) → cfg0.idle 14 (grid0.coords t) = false) t ⟨h0, h1, h2, h3⟩
theorem notFresh0_14_B : ∀ t : Fin cfg0.N, ¬cond0_0 (grid0.coords t) → ¬cond0_1 (grid0.coords t) → cond0_2 (grid0.coords t) → ¬cond0_3 (grid0.coords t) → cfg0.fresh 14 t.val = false :=
  fun t h0 h1 h2 h3 => (by intro t; rw [fresh0_14_eq t]; revert t; decide +kernel : ∀ t : Fin cfg0.N, conds0_B (grid0.coords t) → cfg0.fresh 14 t.val = false) t ⟨h0, h1, h2, h3⟩
theorem liveAt0_14_C : ∀ t : Fin cfg0.N, ¬cond0_0 (grid0.coords t) → ¬cond0_1 (grid0.coords t) → cond0_2 (grid0.coords t) → cond0_3 (grid0.coords t) → cfg0.idle 14 (grid0.coords t) = false :=
  fun t h0 h1 h2 h3 => (by decide +kernel : ∀ t : Fin cfg0.N, conds0_C (grid0.coords t) → cfg0.idle 14 (grid0.coords t) = false) t ⟨h0, h1, h2, h3⟩
theorem notFresh0_14_C : ∀ t : Fin cfg0.N, ¬cond0_0 (grid0.coords t) → ¬cond0_1 (grid0.coords t) → cond0_2 (grid0.coords t) → cond0_3 (grid0.coords t) → cfg0.fresh 14 t.val = false :=
  fun t h0 h1 h2 h3 => (by intro t; rw [fresh0_14_eq t]; revert t; decide +kernel : ∀ t : Fin cfg0.N, conds0_C (grid0.coords t) → cfg0.fresh 14 t.val = false) t ⟨h0, h1, h2, h3⟩
theorem idleAt0_14_D : ∀ t : Fin cfg0.N, ¬cond0_0 (grid0.coords t) → ¬cond0_1 (grid0.coords t) → ¬cond0_2 (grid0.coords t) → cond0_3 (grid0.coords t) → cfg0.idle 14 (grid0.coords t) = true :=
  fun t h0 h1 h2 h3 => (by decide +kernel : ∀ t : Fin cfg0.N, conds0_D (grid0.coords t) → cfg0.idle 14 (grid0.coords t) = true) t ⟨h0, h1, h2, h3⟩
theorem notFresh0_14_D : ∀ t : Fin cfg0.N, ¬cond0_0 (grid0.coords t) → ¬cond0_1 (grid0.coords t) → ¬cond0_2 (grid0.coords t) → cond0_3 (grid0.coords t) → cfg0.fresh 14 t.val = false :=
  fun t h0 h1 h2 h3 => (by intro t; rw [fresh0_14_eq t]; revert t; decide +kernel : ∀ t : Fin cfg0.N, conds0_D (grid0.coords t) → cfg0.fresh 14 t.val = false) t ⟨h0, h1, h2, h3⟩
theorem liveAt0_14_E : ∀ t : Fin cfg0.N, cond0_0 (grid0.coords t) → ¬cond0_1 (grid0.coords t) → cond0_2 (grid0.coords t) → ¬cond0_3 (grid0.coords t) → cfg0.idle 14 (grid0.coords t) = false :=
  fun t h0 h1 h2 h3 => (by decide +kernel : ∀ t : Fin cfg0.N, conds0_E (grid0.coords t) → cfg0.idle 14 (grid0.coords t) = false) t ⟨h0, h1, h2, h3⟩
def freshTab0_15 : ℕ → Bool
  | 0 => true
  | n + 1 => (0x8000000000000000000000000000000000000000000000000000000000000000000000000000000000000000000000000000000000000000000000000000000000000000 : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
theorem liveAt0_15_A : ∀ t : Fin cfg0.N, cond0_0 (grid0.coords t) → cond0_1 (grid0.coords t) → cond0_2 (grid0.coords t) → ¬cond0_3 (grid0.coords t) → cfg0.idle 15 (grid0.coords t) = false :=
  fun t h0 h1 h2 h3 => (by decide +kernel : ∀ t : Fin cfg0.N, conds0_A (grid0.coords t) → cfg0.idle 15 (grid0.coords t) = false) t ⟨h0, h1, h2, h3⟩
theorem liveAt0_15_B : ∀ t : Fin cfg0.N, ¬cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_B (grid0.coords t) → cfg0.idle 15 (grid0.coords t) = false) t ⟨h0, h1, h2, h3⟩
theorem notFresh0_15_B : ∀ t : Fin cfg0.N, ¬cond0_0 (grid0.coords t) → ¬cond0_1 (grid0.coords t) → cond0_2 (grid0.coords t) → ¬cond0_3 (grid0.coords t) → cfg0.fresh 15 t.val = false :=
  fun t h0 h1 h2 h3 => (by intro t; rw [fresh0_15_eq t]; revert t; decide +kernel : ∀ t : Fin cfg0.N, conds0_B (grid0.coords t) → cfg0.fresh 15 t.val = false) t ⟨h0, h1, h2, h3⟩
theorem liveAt0_15_C : ∀ t : Fin cfg0.N, ¬cond0_0 (grid0.coords t) → ¬cond0_1 (grid0.coords t) → cond0_2 (grid0.coords t) → cond0_3 (grid0.coords t) → cfg0.idle 15 (grid0.coords t) = false :=
  fun t h0 h1 h2 h3 => (by decide +kernel : ∀ t : Fin cfg0.N, conds0_C (grid0.coords t) → cfg0.idle 15 (grid0.coords t) = false) t ⟨h0, h1, h2, h3⟩
theorem notFresh0_15_C : ∀ t : Fin cfg0.N, ¬cond0_0 (grid0.coords t) → ¬cond0_1 (grid0.coords t) → cond0_2 (grid0.coords t) → cond0_3 (grid0.coords t) → cfg0.fresh 15 t.val = false :=
  fun t h0 h1 h2 h3 => (by intro t; rw [fresh0_15_eq t]; revert t; decide +kernel : ∀ t : Fin cfg0.N, conds0_C (grid0.coords t) → cfg0.fresh 15 t.val = false) t ⟨h0, h1, h2, h3⟩
theorem idleAt0_15_D : ∀ t : Fin cfg0.N, ¬cond0_0 (grid0.coords t) → ¬cond0_1 (grid0.coords t) → ¬cond0_2 (grid0.coords t) → cond0_3 (grid0.coords t) → cfg0.idle 15 (grid0.coords t) = true :=
  fun t h0 h1 h2 h3 => (by decide +kernel : ∀ t : Fin cfg0.N, conds0_D (grid0.coords t) → cfg0.idle 15 (grid0.coords t) = true) t ⟨h0, h1, h2, h3⟩
theorem notFresh0_15_D : ∀ t : Fin cfg0.N, ¬cond0_0 (grid0.coords t) → ¬cond0_1 (grid0.coords t) → ¬cond0_2 (grid0.coords t) → cond0_3 (grid0.coords t) → cfg0.fresh 15 t.val = false :=
  fun t h0 h1 h2 h3 => (by intro t; rw [fresh0_15_eq t]; revert t; decide +kernel : ∀ t : Fin cfg0.N, conds0_D (grid0.coords t) → cfg0.fresh 15 t.val = false) t ⟨h0, h1, h2, h3⟩
theorem liveAt0_15_E : ∀ t : Fin cfg0.N, cond0_0 (grid0.coords t) → ¬cond0_1 (grid0.coords t) → cond0_2 (grid0.coords t) → ¬cond0_3 (grid0.coords t) → cfg0.idle 15 (grid0.coords t) = false :=
  fun t h0 h1 h2 h3 => (by decide +kernel : ∀ t : Fin cfg0.N, conds0_E (grid0.coords t) → cfg0.idle 15 (grid0.coords t) = false) t ⟨h0, h1, h2, h3⟩
theorem notFresh0_15_E : ∀ t : Fin cfg0.N, cond0_0 (grid0.coords t) → ¬cond0_1 (grid0.coords t) → cond0_2 (grid0.coords t) → ¬cond0_3 (grid0.coords t) → cfg0.fresh 15 t.val = false :=
  fun t h0 h1 h2 h3 => (by intro t; rw [fresh0_15_eq t]; revert t; decide +kernel : ∀ t : Fin cfg0.N, conds0_E (grid0.coords t) → cfg0.fresh 15 t.val = false) t ⟨h0, h1, h2, h3⟩
def freshTab0_16 : ℕ → Bool
  | 0 => true
  | n + 1 => (0x8000000000000000000000000000000000000000000000000000000000000000000000000000000000000000000000000000000000000000000000000000000000000000 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
theorem liveAt0_16_A : ∀ t : Fin cfg0.N, cond0_0 (grid0.coords t) → cond0_1 (grid0.coords t) → cond0_2 (grid0.coords t) → ¬cond0_3 (grid0.coords t) → cfg0.idle 16 (grid0.coords t) = false :=
  fun t h0 h1 h2 h3 => (by decide +kernel : ∀ t : Fin cfg0.N, conds0_A (grid0.coords t) → cfg0.idle 16 (grid0.coords t) = false) t ⟨h0, h1, h2, h3⟩
theorem idleAt0_16_B : ∀ t : Fin cfg0.N, ¬cond0_0 (grid0.coords t) → ¬cond0_1 (grid0.coords t) → cond0_2 (grid0.coords t) → ¬cond0_3 (grid0.coords t) → cfg0.idle 16 (grid0.coords t) = true :=
  fun t h0 h1 h2 h3 => (by decide +kernel : ∀ t : Fin cfg0.N, conds0_B (grid0.coords t) → cfg0.idle 16 (grid0.coords t) = true) t ⟨h0, h1, h2, h3⟩
theorem noFlush0_16_B : ∀ t : Fin cfg0.N, ¬cond0_0 (grid0.coords t) → ¬cond0_1 (grid0.coords t) → cond0_2 (grid0.coords t) → ¬cond0_3 (grid0.coords t) → (cfg0.win 16).flush t = false :=
  fun t h0 h1 h2 h3 => (by decide +kernel : ∀ t : Fin cfg0.N, conds0_B (grid0.coords t) → (cfg0.win 16).flush t = false) t ⟨h0, h1, h2, h3⟩
theorem liveAt0_16_C : ∀ t : Fin cfg0.N, ¬cond0_0 (grid0.coords t) → ¬cond0_1 (grid0.coords t) → cond0_2 (grid0.coords t) → cond0_3 (grid0.coords t) → cfg0.idle 16 (grid0.coords t) = false :=
  fun t h0 h1 h2 h3 => (by decide +kernel : ∀ t : Fin cfg0.N, conds0_C (grid0.coords t) → cfg0.idle 16 (grid0.coords t) = false) t ⟨h0, h1, h2, h3⟩
theorem notFresh0_16_C : ∀ t : Fin cfg0.N, ¬cond0_0 (grid0.coords t) → ¬cond0_1 (grid0.coords t) → cond0_2 (grid0.coords t) → cond0_3 (grid0.coords t) → cfg0.fresh 16 t.val = false :=
  fun t h0 h1 h2 h3 => (by intro t; rw [fresh0_16_eq t]; revert t; decide +kernel : ∀ t : Fin cfg0.N, conds0_C (grid0.coords t) → cfg0.fresh 16 t.val = false) t ⟨h0, h1, h2, h3⟩
theorem liveAt0_16_D : ∀ t : Fin cfg0.N, ¬cond0_0 (grid0.coords t) → ¬cond0_1 (grid0.coords t) → ¬cond0_2 (grid0.coords t) → cond0_3 (grid0.coords t) → cfg0.idle 16 (grid0.coords t) = false :=
  fun t h0 h1 h2 h3 => (by decide +kernel : ∀ t : Fin cfg0.N, conds0_D (grid0.coords t) → cfg0.idle 16 (grid0.coords t) = false) t ⟨h0, h1, h2, h3⟩
theorem notFresh0_16_D : ∀ t : Fin cfg0.N, ¬cond0_0 (grid0.coords t) → ¬cond0_1 (grid0.coords t) → ¬cond0_2 (grid0.coords t) → cond0_3 (grid0.coords t) → cfg0.fresh 16 t.val = false :=
  fun t h0 h1 h2 h3 => (by intro t; rw [fresh0_16_eq t]; revert t; decide +kernel : ∀ t : Fin cfg0.N, conds0_D (grid0.coords t) → cfg0.fresh 16 t.val = false) t ⟨h0, h1, h2, h3⟩
theorem idleAt0_16_E : ∀ t : Fin cfg0.N, cond0_0 (grid0.coords t) → ¬cond0_1 (grid0.coords t) → cond0_2 (grid0.coords t) → ¬cond0_3 (grid0.coords t) → cfg0.idle 16 (grid0.coords t) = true :=
  fun t h0 h1 h2 h3 => (by decide +kernel : ∀ t : Fin cfg0.N, conds0_E (grid0.coords t) → cfg0.idle 16 (grid0.coords t) = true) t ⟨h0, h1, h2, h3⟩
theorem noFlush0_16_E : ∀ t : Fin cfg0.N, cond0_0 (grid0.coords t) → ¬cond0_1 (grid0.coords t) → cond0_2 (grid0.coords t) → ¬cond0_3 (grid0.coords t) → (cfg0.win 16).flush t = false :=
  fun t h0 h1 h2 h3 => (by decide +kernel : ∀ t : Fin cfg0.N, conds0_E (grid0.coords t) → (cfg0.win 16).flush t = false) t ⟨h0, h1, h2, h3⟩

abbrev VO0_11 : View sig .tc .vmem S256x128 .bf16 := (Memref.whole cc0_stg11_0 : Memref sig .tc .vmem S256x128 .bf16).view
abbrev VO0_12 : View sig .tc .vmem S256x128 .bf16 := (Memref.whole cc0_stg12_0 : Memref sig .tc .vmem S256x128 .bf16).view
abbrev VO0_13 : View sig .tc .vmem S256x128 .bf16 := (Memref.whole cc0_stg13_0 : Memref sig .tc .vmem S256x128 .bf16).view
abbrev VO0_14 : View sig .tc .vmem S1x256x768 .f32 := (Memref.whole cc0_stg14_0 : Memref sig .tc .vmem S1x256x768 .f32).view
abbrev VO0_15 : View sig .tc .vmem S1x128 .f32 := (Memref.whole cc0_stg15_0 : Memref sig .tc .vmem S1x128 .f32).view
abbrev VO0_16 : View sig .tc .vmem S1x128 .f32 := (Memref.whole cc0_stg16_0 : Memref sig .tc .vmem S1x128 .f32).view
abbrev ms0_0 (t : Fin cfg0.N) : Memref sig .tc .vmem S256x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256x768 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256x768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev scM0_0 : Memref sig .tc .vmem S768x128 .f32 := Memref.whole cc0_scratch0
abbrev scM0_1 : Memref sig .tc .vmem S768x128 .f32 := Memref.whole cc0_scratch1
abbrev VS0_0 : View sig .tc .vmem S768x128 .f32 := scM0_0.view
abbrev VS0_1 : View sig .tc .vmem S768x128 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Att

end
-- ==== Proof.Att.RunA.lean ====
/- The kernel body run in case A: the pieces each buffer ends with are found by running it. -/
module

public import proofs.«01_k».proof.Proof.Att.Cases

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256x768 .f32) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S1x256x768 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S768x128 .f32) (harg19 : arg19.IsWhole) (arg20 : Memref sig .tc .vmem S768x128 .f32) (harg20 : arg20.IsWhole) (hc0 : cond0_0 i) (hc1 : cond0_1 i) (hc2 : cond0_2 i) (hc3 : ¬cond0_3 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S1x128 .f32) (x8 : Vec F S1x128 .f32) (x9 : Vec F S1x256x768 .f32) (x10 : Vec F S256x128 .bf16) :
    Σ' (L11 : List (View.Piece (Elt F) S256x128 .bf16)), Σ' (L12 : List (View.Piece (Elt F) S256x128 .bf16)), Σ' (L13 : List (View.Piece (Elt F) S256x128 .bf16)), Σ' (L14 : List (View.Piece (Elt F) S1x256x768 .f32)), Σ' (L15 : List (View.Piece (Elt F) S1x128 .f32)), Σ' (L16 : List (View.Piece (Elt F) S1x128 .f32)), Σ' (LS0 : List (View.Piece (Elt F) S768x128 .f32)), { LS1 : List (View.Piece (Elt F) S768x128 .f32) //
      ∀ (xi12 : Vec F S256x128 .bf16) (xi13 : Vec F S256x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xi12 ∗ owns (c : Thread nD τ) arg15 fullShare xi13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0_att_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], [], ?_, ?_, ?_, ?_, ?_, fun xi12 xi13 E K => ?run⟩
  case run =>
    simp only [cc0_att_core_bwd_eq_skeleton]; unfold cc0_att_core_bwd_skel
    simp only [k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%d16, %f16, -, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg15.eq_unread hf13
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [HS0]; · iexists _; iexact HS0
    iexists _; iexact HS1

/-- The run of case A on the buffers that grid point `t` uses. -/
abbrev runA (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc0 hc1 hc2 hc3 x0 x1 x2 x3 x4 x5 x6 x7 x8 x9 x10

end Cert.KernelIdeal.Att

end
-- ==== Proof.Att.RunB.lean ====
/- The kernel body run in case B: the pieces each buffer ends with are found by running it. -/
module

public import proofs.«01_k».proof.Proof.Att.RunA

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256x768 .f32) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S1x256x768 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S768x128 .f32) (harg19 : arg19.IsWhole) (arg20 : Memref sig .tc .vmem S768x128 .f32) (harg20 : arg20.IsWhole) (hc0 : ¬cond0_0 i) (hc1 : ¬cond0_1 i) (hc2 : cond0_2 i) (hc3 : ¬cond0_3 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S1x128 .f32) (x8 : Vec F S1x128 .f32) (x9 : Vec F S1x256x768 .f32) (x10 : Vec F S256x128 .bf16) (xo14 : Vec F S1x256x768 .f32) (xo15 : Vec F S1x128 .f32) (xs0 : Vec F S768x128 .f32) (xs1 : Vec F S768x128 .f32) :
    Σ' (L11 : List (View.Piece (Elt F) S256x128 .bf16)), Σ' (L12 : List (View.Piece (Elt F) S256x128 .bf16)), Σ' (L13 : List (View.Piece (Elt F) S256x128 .bf16)), Σ' (L14 : List (View.Piece (Elt F) S1x256x768 .f32)), Σ' (L15 : List (View.Piece (Elt F) S1x128 .f32)), Σ' (L16 : List (View.Piece (Elt F) S1x128 .f32)), Σ' (LS0 : List (View.Piece (Elt F) S768x128 .f32)), { LS1 : List (View.Piece (Elt F) S768x128 .f32) //
      ∀ (xi12 : Vec F S256x128 .bf16) (xi13 : Vec F S256x128 .bf16) (xi16 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xi12 ∗ owns (c : Thread nD τ) arg15 fullShare xi13 ∗ owns (c : Thread nD τ) arg16 fullShare xo14 ∗ owns (c : Thread nD τ) arg17 fullShare xo15 ∗ owns (c : Thread nD τ) arg18 fullShare xi16 ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xi16 ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0_att_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], [], ?_, ?_, [], ?_, ?_, fun xi12 xi13 xi16 E K => ?run⟩
  case run =>
    simp only [cc0_att_core_bwd_eq_skeleton]; unfold cc0_att_core_bwd_skel
    simp only [k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg15.eq_unread hf13; obtain rfl := harg16.eq_unread hf14; obtain rfl := harg17.eq_unread hf15; obtain rfl := harg18.eq_unread hf16; obtain rfl := harg19.eq_unread hfs0; obtain rfl := harg20.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]
    · iexists _; isplitr; · ipureintro; exact harg18.read_unread _
      iexact H16
    isplitl [HS0]; · iexists _; iexact HS0
    iexists _; iexact HS1

/-- The run of case B on the buffers that grid point `t` uses. -/
abbrev runB (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc0 hc1 hc2 hc3 x0 x1 x2 x3 x4 x5 x6 x7 x8 x9 x10 xo14 xo15 xs0 xs1

end Cert.KernelIdeal.Att

end
-- ==== Proof.Att.RunC.lean ====
/- The kernel body run in case C: the pieces each buffer ends with are found by running it. -/
module

public import proofs.«01_k».proof.Proof.Att.RunB

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256x768 .f32) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S1x256x768 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S768x128 .f32) (harg19 : arg19.IsWhole) (arg20 : Memref sig .tc .vmem S768x128 .f32) (harg20 : arg20.IsWhole) (hc0 : ¬cond0_0 i) (hc1 : ¬cond0_1 i) (hc2 : cond0_2 i) (hc3 : cond0_3 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S1x128 .f32) (x8 : Vec F S1x128 .f32) (x9 : Vec F S1x256x768 .f32) (x10 : Vec F S256x128 .bf16) (xo14 : Vec F S1x256x768 .f32) (xo15 : Vec F S1x128 .f32) (xo16 : Vec F S1x128 .f32) (xs0 : Vec F S768x128 .f32) (xs1 : Vec F S768x128 .f32) :
    Σ' (L11 : List (View.Piece (Elt F) S256x128 .bf16)), Σ' (L12 : List (View.Piece (Elt F) S256x128 .bf16)), Σ' (L13 : List (View.Piece (Elt F) S256x128 .bf16)), Σ' (L14 : List (View.Piece (Elt F) S1x256x768 .f32)), Σ' (L15 : List (View.Piece (Elt F) S1x128 .f32)), Σ' (L16 : List (View.Piece (Elt F) S1x128 .f32)), Σ' (LS0 : List (View.Piece (Elt F) S768x128 .f32)), { LS1 : List (View.Piece (Elt F) S768x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xo14 ∗ owns (c : Thread nD τ) arg17 fullShare xo15 ∗ owns (c : Thread nD τ) arg18 fullShare xo16 ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0_att_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, ?_, ?_, fun E K => ?run⟩
  case run =>
    simp only [cc0_att_core_bwd_eq_skeleton]; unfold cc0_att_core_bwd_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg16.eq_unread hf14; obtain rfl := harg17.eq_unread hf15; obtain rfl := harg18.eq_unread hf16; obtain rfl := harg19.eq_unread hfs0; obtain rfl := harg20.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    iexists _; iexact HS1

/-- The run of case C on the buffers that grid point `t` uses. -/
abbrev runC (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc0 hc1 hc2 hc3 x0 x1 x2 x3 x4 x5 x6 x7 x8 x9 x10 xo14 xo15 xo16 xs0 xs1

end Cert.KernelIdeal.Att

end
-- ==== Proof.Att.RunD.lean ====
/- The kernel body run in case D: the pieces each buffer ends with are found by running it. -/
module

public import proofs.«01_k».proof.Proof.Att.RunC

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_D (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256x768 .f32) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S1x256x768 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S768x128 .f32) (harg19 : arg19.IsWhole) (arg20 : Memref sig .tc .vmem S768x128 .f32) (harg20 : arg20.IsWhole) (hc0 : ¬cond0_0 i) (hc1 : ¬cond0_1 i) (hc2 : ¬cond0_2 i) (hc3 : cond0_3 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S1x128 .f32) (x8 : Vec F S1x128 .f32) (x9 : Vec F S1x256x768 .f32) (x10 : Vec F S256x128 .bf16) (xo16 : Vec F S1x128 .f32) (xs0 : Vec F S768x128 .f32) (xs1 : Vec F S768x128 .f32) :
    Σ' (L11 : List (View.Piece (Elt F) S256x128 .bf16)), Σ' (L12 : List (View.Piece (Elt F) S256x128 .bf16)), Σ' (L13 : List (View.Piece (Elt F) S256x128 .bf16)), Σ' (L14 : List (View.Piece (Elt F) S1x256x768 .f32)), Σ' (L15 : List (View.Piece (Elt F) S1x128 .f32)), Σ' (L16 : List (View.Piece (Elt F) S1x128 .f32)), Σ' (LS0 : List (View.Piece (Elt F) S768x128 .f32)), { LS1 : List (View.Piece (Elt F) S768x128 .f32) //
      ∀ (xi11 : Vec F S256x128 .bf16) (xi14 : Vec F S1x256x768 .f32) (xi15 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ d, owns (c : Thread nD τ) arg14 fullShare d) ∗ (∃ d, owns (c : Thread nD τ) arg15 fullShare d) ∗ owns (c : Thread nD τ) arg16 fullShare xi14 ∗ owns (c : Thread nD τ) arg17 fullShare xi15 ∗ owns (c : Thread nD τ) arg18 fullShare xo16 ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xi11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ owns (c : Thread nD τ) arg16 fullShare xi14 ∗ owns (c : Thread nD τ) arg17 fullShare xi15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0_att_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], ?_, ?_, [], [], ?_, ?_, ?_, fun xi11 xi14 xi15 E K => ?run⟩
  case run =>
    simp only [cc0_att_core_bwd_eq_skeleton]; unfold cc0_att_core_bwd_skel
    simp only [k0_part5_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg16.eq_unread hf14; obtain rfl := harg17.eq_unread hf15; obtain rfl := harg18.eq_unread hf16; obtain rfl := harg19.eq_unread hfs0; obtain rfl := harg20.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [HS0]; · iexists _; iexact HS0
    iexists _; iexact HS1

/-- The run of case D on the buffers that grid point `t` uses. -/
abbrev runD (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc0 hc1 hc2 hc3 x0 x1 x2 x3 x4 x5 x6 x7 x8 x9 x10 xo16 xs0 xs1

end Cert.KernelIdeal.Att

end
-- ==== Proof.Att.RunE.lean ====
/- The kernel body run in case E: the pieces each buffer ends with are found by running it. -/
module

public import proofs.«01_k».proof.Proof.Att.RunD

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_E (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x256x768 .f32) (harg11 : arg11.IsWhole) (arg12 : Memref sig .tc .vmem S256x128 .bf16) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x128 .bf16) (harg15 : arg15.IsWhole) (arg16 : Memref sig .tc .vmem S1x256x768 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S768x128 .f32) (harg19 : arg19.IsWhole) (arg20 : Memref sig .tc .vmem S768x128 .f32) (harg20 : arg20.IsWhole) (hc0 : cond0_0 i) (hc1 : ¬cond0_1 i) (hc2 : cond0_2 i) (hc3 : ¬cond0_3 i)
    (x0 : Vec F S256x128 .f32) (x1 : Vec F S256x128 .f32) (x2 : Vec F S256x128 .f32) (x3 : Vec F S256x128 .f32) (x4 : Vec F S256x128 .f32) (x5 : Vec F S256x128 .f32) (x6 : Vec F S256x128 .f32) (x7 : Vec F S1x128 .f32) (x8 : Vec F S1x128 .f32) (x9 : Vec F S1x256x768 .f32) (x10 : Vec F S256x128 .bf16) (xo15 : Vec F S1x128 .f32) :
    Σ' (L11 : List (View.Piece (Elt F) S256x128 .bf16)), Σ' (L12 : List (View.Piece (Elt F) S256x128 .bf16)), Σ' (L13 : List (View.Piece (Elt F) S256x128 .bf16)), Σ' (L14 : List (View.Piece (Elt F) S1x256x768 .f32)), Σ' (L15 : List (View.Piece (Elt F) S1x128 .f32)), Σ' (L16 : List (View.Piece (Elt F) S1x128 .f32)), Σ' (LS0 : List (View.Piece (Elt F) S768x128 .f32)), { LS1 : List (View.Piece (Elt F) S768x128 .f32) //
      ∀ (xi12 : Vec F S256x128 .bf16) (xi13 : Vec F S256x128 .bf16) (xi16 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xi12 ∗ owns (c : Thread nD τ) arg15 fullShare xi13 ∗ (∃ d, owns (c : Thread nD τ) arg16 fullShare d) ∗ owns (c : Thread nD τ) arg17 fullShare xo15 ∗ owns (c : Thread nD τ) arg18 fullShare xi16 ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ owns (c : Thread nD τ) arg14 fullShare xi12 ∗ owns (c : Thread nD τ) arg15 fullShare xi13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ owns (c : Thread nD τ) arg18 fullShare xi16 ∗ (∃ f, arg19.view.loc (c : Thread nD τ) ↦[arg19.view.set]{fullShare} arg19.view.writes (Elt F) f LS0) ∗ (∃ f, arg20.view.loc (c : Thread nD τ) ↦[arg20.view.set]{fullShare} arg20.view.writes (Elt F) f LS1)) -∗ K ⟨⟩))
          ⊢ wp frame (wpE (defs₀ (F := F)) Variants.none c none) E (cc0_att_core_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], [], ?_, ?_, [], ?_, ?_, fun xi12 xi13 xi16 E K => ?run⟩
  case run =>
    simp only [cc0_att_core_bwd_eq_skeleton]; unfold cc0_att_core_bwd_skel
    simp only [k0_part5_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hf12; obtain rfl := harg15.eq_unread hf13; obtain rfl := harg17.eq_unread hf15; obtain rfl := harg18.eq_unread hf16
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]
    · iexists _; isplitr; · ipureintro; exact harg18.read_unread _
      iexact H16
    isplitl [HS0]; · iexists _; iexact HS0
    iexists _; iexact HS1

/-- The run of case E on the buffers that grid point `t` uses. -/
abbrev runE (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc0 hc1 hc2 hc3 x0 x1 x2 x3 x4 x5 x6 x7 x8 x9 x10 xo15

end Cert.KernelIdeal.Att

end
-- ==== Proof.Att.Outs.lean ====
/- What each case leaves in each output's staging buffer and in the two scratch accumulators. -/
module

public import proofs.«01_k».proof.Proof.Att.RunE

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem cover0_A_11 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S256x128.Idx) :
    ∃ pc ∈ (runA c t hc0 hc1 hc2 hc3 x0 x1 x2 x3 x4 x5 x6 x7 x8 x9 x10).1, y ∈ pc.1.set :=
  View.cover_of_tiledL (runA c t hc0 hc1 hc2 hc3 x0 x1 x2 x3 x4 x5 x6 x7 x8 x9 x10).1 S256x128.size (by sl_kernel_rfl) y

def out0_A_11 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S256x128 .bf16 :=
  VO0_11.read (Elt F) (VO0_11.writes (Elt F) VO0_11.junk (runA c t hc0 hc1 hc2 hc3 x0 x1 x2 x3 x4 x5 x6 x7 x8 x9 x10).1)

def out0_A_12 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S256x128 .bf16 :=
  VO0_12.read (Elt F) (VO0_12.writes (Elt F) VO0_12.junk (runA c t hc0 hc1 hc2 hc3 x0 x1 x2 x3 x4 x5 x6 x7 x8 x9 x10).2.1)

def out0_A_13 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S256x128 .bf16 :=
  VO0_13.read (Elt F) (VO0_13.writes (Elt F) VO0_13.junk (runA c t hc0 hc1 hc2 hc3 x0 x1 x2 x3 x4 x5 x6 x7 x8 x9 x10).2.2.1)

theorem cover0_A_14 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S1x256x768.Idx) :
    ∃ pc ∈ (runA c t hc0 hc1 hc2 hc3 x0 x1 x2 x3 x4 x5 x6 x7 x8 x9 x10).2.2.2.1, y ∈ pc.1.set :=
  View.cover_of_tiledL (runA c t hc0 hc1 hc2 hc3 x0 x1 x2 x3 x4 x5 x6 x7 x8 x9 x10).2.2.2.1 S1x256x768.size (by sl_kernel_rfl) y

def out0_A_14 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S1x256x768 .f32 :=
  VO0_14.read (Elt F) (VO0_14.writes (Elt F) VO0_14.junk (runA c t hc0 hc1 hc2 hc3 x0 x1 x2 x3 x4 x5 x6 x7 x8 x9 x10).2.2.2.1)

theorem cover0_A_15 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S1x128.Idx) :
    ∃ pc ∈ (runA c t hc0 hc1 hc2 hc3 x0 x1 x2 x3 x4 x5 x6 x7 x8 x9 x10).2.2.2.2.1, y ∈ pc.1.set :=
  View.cover_of_tiledL (runA c t hc0 hc1 hc2 hc3 x0 x1 x2 x3 x4 x5 x6 x7 x8 x9 x10).2.2.2.2.1 S1x128.size (by sl_kernel_rfl) y

def out0_A_15 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S1x128 .f32 :=
  VO0_15.read (Elt F) (VO0_15.writes (Elt F) VO0_15.junk (runA c t hc0 hc1 hc2 hc3 x0 x1 x2 x3 x4 x5 x6 x7 x8 x9 x10).2.2.2.2.1)

theorem cover0_A_16 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S1x128.Idx) :
    ∃ pc ∈ (runA c t hc0 hc1 hc2 hc3 x0 x1 x2 x3 x4 x5 x6 x7 x8 x9 x10).2.2.2.2.2.1, y ∈ pc.1.set :=
  View.cover_of_tiledL (runA c t hc0 hc1 hc2 hc3 x0 x1 x2 x3 x4 x5 x6 x7 x8 x9 x10).2.2.2.2.2.1 S1x128.size (by sl_kernel_rfl) y

def out0_A_16 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S1x128 .f32 :=
  VO0_16.read (Elt F) (VO0_16.writes (Elt F) VO0_16.junk (runA c t hc0 hc1 hc2 hc3 x0 x1 x2 x3 x4 x5 x6 x7 x8 x9 x10).2.2.2.2.2.1)

theorem scover0_A_0 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S768x128.Idx) :
    ∃ pc ∈ (runA c t hc0 hc1 hc2 hc3 x0 x1 x2 x3 x4 x5 x6 x7 x8 x9 x10).2.2.2.2.2.2.1, y ∈ pc.1.set :=
  View.cover_of_wholeMem (runA c t hc0 hc1 hc2 hc3 x0 x1 x2 x3 x4 x5 x6 x7 x8 x9 x10).2.2.2.2.2.2.1 (by sl_whole_mem) y

def sout0_A_0 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S768x128 .f32 :=
  VS0_0.read (Elt F) (VS0_0.writes (Elt F) VS0_0.junk (runA c t hc0 hc1 hc2 hc3 x0 x1 x2 x3 x4 x5 x6 x7 x8 x9 x10).2.2.2.2.2.2.1)

theorem scover0_A_1 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (y : S768x128.Idx) :
    ∃ pc ∈ (runA c t hc0 hc1 hc2 hc3 x0 x1 x2 x3 x4 x5 x6 x7 x8 x9 x10).2.2.2.2.2.2.2.1, y ∈ pc.1.set :=
  View.cover_of_wholeMem (runA c t hc0 hc1 hc2 hc3 x0 x1 x2 x3 x4 x5 x6 x7 x8 x9 x10).2.2.2.2.2.2.2.1 (by sl_whole_mem) y

def sout0_A_1 (c : Dev nD) (t : Fin cfg0.N) (hc0 : cond0_0 (grid0.coords t)) (hc1 : cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) : Vec F S768x128 .f32 :=
  VS0_1.read (Elt F) (VS0_1.writes (Elt F) VS0_1.junk (runA c t hc0 hc1 hc2 hc3 x0 x1 x2 x3 x4 x5 x6 x7 x8 x9 x10).2.2.2.2.2.2.2.1)

theorem cover0_B_11 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (y : S256x128.Idx) :
    ∃ pc ∈ (runB c t hc0 hc1 hc2 hc3 x0 x1 x2 x3 x4 x5 x6 x7 x8 x9 x10 xo14 xo15 xs0 xs1).1, y ∈ pc.1.set :=
  View.cover_of_tiledL (runB c t hc0 hc1 hc2 hc3 x0 x1 x2 x3 x4 x5 x6 x7 x8 x9 x10 xo14 xo15 xs0 xs1).1 S256x128.size (by sl_kernel_rfl) y

def out0_B_11 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S256x128 .bf16 :=
  VO0_11.read (Elt F) (VO0_11.writes (Elt F) VO0_11.junk (runB c t hc0 hc1 hc2 hc3 x0 x1 x2 x3 x4 x5 x6 x7 x8 x9 x10 xo14 xo15 xs0 xs1).1)

def out0_B_12 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S256x128 .bf16 :=
  VO0_12.read (Elt F) (VO0_12.writes (Elt F) VO0_12.junk (runB c t hc0 hc1 hc2 hc3 x0 x1 x2 x3 x4 x5 x6 x7 x8 x9 x10 xo14 xo15 xs0 xs1).2.1)

def out0_B_13 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S256x128 .bf16 :=
  VO0_13.read (Elt F) (VO0_13.writes (Elt F) VO0_13.junk (runB c t hc0 hc1 hc2 hc3 x0 x1 x2 x3 x4 x5 x6 x7 x8 x9 x10 xo14 xo15 xs0 xs1).2.2.1)

theorem cover0_B_14 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (y : S1x256x768.Idx) :
    ∃ pc ∈ (runB c t hc0 hc1 hc2 hc3 x0 x1 x2 x3 x4 x5 x6 x7 x8 x9 x10 xo14 xo15 xs0 xs1).2.2.2.1, y ∈ pc.1.set :=
  View.cover_of_tiledL (runB c t hc0 hc1 hc2 hc3 x0 x1 x2 x3 x4 x5 x6 x7 x8 x9 x10 xo14 xo15 xs0 xs1).2.2.2.1 S1x256x768.size (by sl_kernel_rfl) y

def out0_B_14 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S1x256x768 .f32 :=
  VO0_14.read (Elt F) (VO0_14.writes (Elt F) VO0_14.junk (runB c t hc0 hc1 hc2 hc3 x0 x1 x2 x3 x4 x5 x6 x7 x8 x9 x10 xo14 xo15 xs0 xs1).2.2.2.1)

theorem cover0_B_15 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (y : S1x128.Idx) :
    ∃ pc ∈ (runB c t hc0 hc1 hc2 hc3 x0 x1 x2 x3 x4 x5 x6 x7 x8 x9 x10 xo14 xo15 xs0 xs1).2.2.2.2.1, y ∈ pc.1.set :=
  View.cover_of_tiledL (runB c t hc0 hc1 hc2 hc3 x0 x1 x2 x3 x4 x5 x6 x7 x8 x9 x10 xo14 xo15 xs0 xs1).2.2.2.2.1 S1x128.size (by sl_kernel_rfl) y

def out0_B_15 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S1x128 .f32 :=
  VO0_15.read (Elt F) (VO0_15.writes (Elt F) VO0_15.junk (runB c t hc0 hc1 hc2 hc3 x0 x1 x2 x3 x4 x5 x6 x7 x8 x9 x10 xo14 xo15 xs0 xs1).2.2.2.2.1)

def out0_B_16 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (xo16 : Vec F S1x128 .f32) : Vec F S1x128 .f32 := xo16

theorem scover0_B_0 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (y : S768x128.Idx) :
    ∃ pc ∈ (runB c t hc0 hc1 hc2 hc3 x0 x1 x2 x3 x4 x5 x6 x7 x8 x9 x10 xo14 xo15 xs0 xs1).2.2.2.2.2.2.1, y ∈ pc.1.set :=
  View.cover_of_wholeMem (runB c t hc0 hc1 hc2 hc3 x0 x1 x2 x3 x4 x5 x6 x7 x8 x9 x10 xo14 xo15 xs0 xs1).2.2.2.2.2.2.1 (by sl_whole_mem) y

def sout0_B_0 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S768x128 .f32 :=
  VS0_0.read (Elt F) (VS0_0.writes (Elt F) VS0_0.junk (runB c t hc0 hc1 hc2 hc3 x0 x1 x2 x3 x4 x5 x6 x7 x8 x9 x10 xo14 xo15 xs0 xs1).2.2.2.2.2.2.1)

theorem scover0_B_1 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) (y : S768x128.Idx) :
    ∃ pc ∈ (runB c t hc0 hc1 hc2 hc3 x0 x1 x2 x3 x4 x5 x6 x7 x8 x9 x10 xo14 xo15 xs0 xs1).2.2.2.2.2.2.2.1, y ∈ pc.1.set :=
  View.cover_of_wholeMem (runB c t hc0 hc1 hc2 hc3 x0 x1 x2 x3 x4 x5 x6 x7 x8 x9 x10 xo14 xo15 xs0 xs1).2.2.2.2.2.2.2.1 (by sl_whole_mem) y

def sout0_B_1 (c : Dev nD) (t : Fin cfg0.N) (hc0 : ¬cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32) : Vec F S768x128 .f32 :=
  VS0_1.read (Elt F) (VS0_1.writes (Elt F) VS0_1.junk (runB c t hc0 hc1 hc2 hc3 x0 x1 x2 x3 x4 x5 x6 x7 x8 x9 x10 xo14 xo15 xs0 xs1).2.2.2.2.2.2.2.1)

theorem cover0_C_11 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S256x128.Idx) :
    ∃ pc ∈ (runC c t hc0 hc1 hc2 hc3 x0 x1 x2 x3 x4 x5 x6 x7 x8 x9 x10 xo14 xo15 xo16 xs0 xs1).1, y ∈ pc.1.set :=
  View.cover_of_tiledL (runC c t hc0 hc1 hc2 hc3 x0 x1 x2 x3 x4 x5 x6 x7 x8 x9 x10 xo14 xo15 xo16 xs0 xs1).1 S256x128.size (by sl_kernel_rfl) y

def out0_C_11 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S256x128 .bf16 :=
  VO0_11.read (Elt F) (VO0_11.writes (Elt F) VO0_11.junk (runC c t hc0 hc1 hc2 hc3 x0 x1 x2 x3 x4 x5 x6 x7 x8 x9 x10 xo14 xo15 xo16 xs0 xs1).1)

theorem cover0_C_12 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S256x128.Idx) :
    ∃ pc ∈ (runC c t hc0 hc1 hc2 hc3 x0 x1 x2 x3 x4 x5 x6 x7 x8 x9 x10 xo14 xo15 xo16 xs0 xs1).2.1, y ∈ pc.1.set :=
  View.cover_of_tiledL (runC c t hc0 hc1 hc2 hc3 x0 x1 x2 x3 x4 x5 x6 x7 x8 x9 x10 xo14 xo15 xo16 xs0 xs1).2.1 S256x128.size (by sl_kernel_rfl) y

def out0_C_12 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S256x128 .bf16 :=
  VO0_12.read (Elt F) (VO0_12.writes (Elt F) VO0_12.junk (runC c t hc0 hc1 hc2 hc3 x0 x1 x2 x3 x4 x5 x6 x7 x8 x9 x10 xo14 xo15 xo16 xs0 xs1).2.1)

theorem cover0_C_13 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S256x128.Idx) :
    ∃ pc ∈ (runC c t hc0 hc1 hc2 hc3 x0 x1 x2 x3 x4 x5 x6 x7 x8 x9 x10 xo14 xo15 xo16 xs0 xs1).2.2.1, y ∈ pc.1.set :=
  View.cover_of_tiledL (runC c t hc0 hc1 hc2 hc3 x0 x1 x2 x3 x4 x5 x6 x7 x8 x9 x10 xo14 xo15 xo16 xs0 xs1).2.2.1 S256x128.size (by sl_kernel_rfl) y

def out0_C_13 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S256x128 .bf16 :=
  VO0_13.read (Elt F) (VO0_13.writes (Elt F) VO0_13.junk (runC c t hc0 hc1 hc2 hc3 x0 x1 x2 x3 x4 x5 x6 x7 x8 x9 x10 xo14 xo15 xo16 xs0 xs1).2.2.1)

theorem cover0_C_14 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S1x256x768.Idx) :
    ∃ pc ∈ (runC c t hc0 hc1 hc2 hc3 x0 x1 x2 x3 x4 x5 x6 x7 x8 x9 x10 xo14 xo15 xo16 xs0 xs1).2.2.2.1, y ∈ pc.1.set :=
  View.cover_of_tiledL (runC c t hc0 hc1 hc2 hc3 x0 x1 x2 x3 x4 x5 x6 x7 x8 x9 x10 xo14 xo15 xo16 xs0 xs1).2.2.2.1 S1x256x768.size (by sl_kernel_rfl) y

def out0_C_14 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S1x256x768 .f32 :=
  VO0_14.read (Elt F) (VO0_14.writes (Elt F) VO0_14.junk (runC c t hc0 hc1 hc2 hc3 x0 x1 x2 x3 x4 x5 x6 x7 x8 x9 x10 xo14 xo15 xo16 xs0 xs1).2.2.2.1)

theorem cover0_C_15 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S1x128.Idx) :
    ∃ pc ∈ (runC c t hc0 hc1 hc2 hc3 x0 x1 x2 x3 x4 x5 x6 x7 x8 x9 x10 xo14 xo15 xo16 xs0 xs1).2.2.2.2.1, y ∈ pc.1.set :=
  View.cover_of_tiledL (runC c t hc0 hc1 hc2 hc3 x0 x1 x2 x3 x4 x5 x6 x7 x8 x9 x10 xo14 xo15 xo16 xs0 xs1).2.2.2.2.1 S1x128.size (by sl_kernel_rfl) y

def out0_C_15 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S1x128 .f32 :=
  VO0_15.read (Elt F) (VO0_15.writes (Elt F) VO0_15.junk (runC c t hc0 hc1 hc2 hc3 x0 x1 x2 x3 x4 x5 x6 x7 x8 x9 x10 xo14 xo15 xo16 xs0 xs1).2.2.2.2.1)

theorem cover0_C_16 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S1x128.Idx) :
    ∃ pc ∈ (runC c t hc0 hc1 hc2 hc3 x0 x1 x2 x3 x4 x5 x6 x7 x8 x9 x10 xo14 xo15 xo16 xs0 xs1).2.2.2.2.2.1, y ∈ pc.1.set :=
  View.cover_of_tiledL (runC c t hc0 hc1 hc2 hc3 x0 x1 x2 x3 x4 x5 x6 x7 x8 x9 x10 xo14 xo15 xo16 xs0 xs1).2.2.2.2.2.1 S1x128.size (by sl_kernel_rfl) y

def out0_C_16 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S1x128 .f32 :=
  VO0_16.read (Elt F) (VO0_16.writes (Elt F) VO0_16.junk (runC c t hc0 hc1 hc2 hc3 x0 x1 x2 x3 x4 x5 x6 x7 x8 x9 x10 xo14 xo15 xo16 xs0 xs1).2.2.2.2.2.1)

theorem scover0_C_0 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S768x128.Idx) :
    ∃ pc ∈ (runC c t hc0 hc1 hc2 hc3 x0 x1 x2 x3 x4 x5 x6 x7 x8 x9 x10 xo14 xo15 xo16 xs0 xs1).2.2.2.2.2.2.1, y ∈ pc.1.set :=
  View.cover_of_wholeMem (runC c t hc0 hc1 hc2 hc3 x0 x1 x2 x3 x4 x5 x6 x7 x8 x9 x10 xo14 xo15 xo16 xs0 xs1).2.2.2.2.2.2.1 (by sl_whole_mem) y

def sout0_C_0 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S768x128 .f32 :=
  VS0_0.read (Elt F) (VS0_0.writes (Elt F) VS0_0.junk (runC c t hc0 hc1 hc2 hc3 x0 x1 x2 x3 x4 x5 x6 x7 x8 x9 x10 xo14 xo15 xo16 xs0 xs1).2.2.2.2.2.2.1)

theorem scover0_C_1 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) (y : S768x128.Idx) :
    ∃ pc ∈ (runC c t hc0 hc1 hc2 hc3 x0 x1 x2 x3 x4 x5 x6 x7 x8 x9 x10 xo14 xo15 xo16 xs0 xs1).2.2.2.2.2.2.2.1, y ∈ pc.1.set :=
  View.cover_of_wholeMem (runC c t hc0 hc1 hc2 hc3 x0 x1 x2 x3 x4 x5 x6 x7 x8 x9 x10 xo14 xo15 xo16 xs0 xs1).2.2.2.2.2.2.2.1 (by sl_whole_mem) y

def sout0_C_1 (c : Dev nD) (t : Fin cfg0.N) (hc0 : ¬cond0_0 (grid0.coords t)) (hc1 : ¬cond0_1 (grid0.coords t)) (hc2 : cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32) : Vec F S768x128 .f32 :=
  VS0_1.read (Elt F) (VS0_1.writes (Elt F) VS0_1.junk (runC c t hc0 hc1 hc2 hc3 x0 x1 x2 x3 x4 x5 x6 x7 x8 x9 x10 xo14 xo15 xo16 xs0 xs1).2.2.2.2.2.2.2.1)

def out0_D_11 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (xo11 : Vec F S256x128 .bf16) : Vec F S256x128 .bf16 := xo11

theorem cover0_D_12 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (y : S256x128.Idx) :
    ∃ pc ∈ (runD c t hc0 hc1 hc2 hc3 x0 x1 x2 x3 x4 x5 x6 x7 x8 x9 x10 xo16 xs0 xs1).2.1, y ∈ pc.1.set :=
  View.cover_of_tiledL (runD c t hc0 hc1 hc2 hc3 x0 x1 x2 x3 x4 x5 x6 x7 x8 x9 x10 xo16 xs0 xs1).2.1 S256x128.size (by sl_kernel_rfl) y

def out0_D_12 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) : Vec F S256x128 .bf16 :=
  VO0_12.read (Elt F) (VO0_12.writes (Elt F) VO0_12.junk (runD c t hc0 hc1 hc2 hc3 x0 x1 x2 x3 x4 x5 x6 x7 x8 x9 x10 xo16 xs0 xs1).2.1)

theorem cover0_D_13 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (y : S256x128.Idx) :
    ∃ pc ∈ (runD c t hc0 hc1 hc2 hc3 x0 x1 x2 x3 x4 x5 x6 x7 x8 x9 x10 xo16 xs0 xs1).2.2.1, y ∈ pc.1.set :=
  View.cover_of_tiledL (runD c t hc0 hc1 hc2 hc3 x0 x1 x2 x3 x4 x5 x6 x7 x8 x9 x10 xo16 xs0 xs1).2.2.1 S256x128.size (by sl_kernel_rfl) y

def out0_D_13 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) : Vec F S256x128 .bf16 :=
  VO0_13.read (Elt F) (VO0_13.writes (Elt F) VO0_13.junk (runD c t hc0 hc1 hc2 hc3 x0 x1 x2 x3 x4 x5 x6 x7 x8 x9 x10 xo16 xs0 xs1).2.2.1)

def out0_D_14 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (xo14 : Vec F S1x256x768 .f32) : Vec F S1x256x768 .f32 := xo14

def out0_D_15 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (xo15 : Vec F S1x128 .f32) : Vec F S1x128 .f32 := xo15

theorem cover0_D_16 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (y : S1x128.Idx) :
    ∃ pc ∈ (runD c t hc0 hc1 hc2 hc3 x0 x1 x2 x3 x4 x5 x6 x7 x8 x9 x10 xo16 xs0 xs1).2.2.2.2.2.1, y ∈ pc.1.set :=
  View.cover_of_tiledL (runD c t hc0 hc1 hc2 hc3 x0 x1 x2 x3 x4 x5 x6 x7 x8 x9 x10 xo16 xs0 xs1).2.2.2.2.2.1 S1x128.size (by sl_kernel_rfl) y

def out0_D_16 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) : Vec F S1x128 .f32 :=
  VO0_16.read (Elt F) (VO0_16.writes (Elt F) VO0_16.junk (runD c t hc0 hc1 hc2 hc3 x0 x1 x2 x3 x4 x5 x6 x7 x8 x9 x10 xo16 xs0 xs1).2.2.2.2.2.1)

theorem scover0_D_0 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (y : S768x128.Idx) :
    ∃ pc ∈ (runD c t hc0 hc1 hc2 hc3 x0 x1 x2 x3 x4 x5 x6 x7 x8 x9 x10 xo16 xs0 xs1).2.2.2.2.2.2.1, y ∈ pc.1.set :=
  View.cover_of_tiledBy (runD c t hc0 hc1 hc2 hc3 x0 x1 x2 x3 x4 x5 x6 x7 x8 x9 x10 xo16 xs0 xs1).2.2.2.2.2.2.1 ![256, 128] (by sl_kernel_rfl) y

def sout0_D_0 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) : Vec F S768x128 .f32 :=
  VS0_0.read (Elt F) (VS0_0.writes (Elt F) VS0_0.junk (runD c t hc0 hc1 hc2 hc3 x0 x1 x2 x3 x4 x5 x6 x7 x8 x9 x10 xo16 xs0 xs1).2.2.2.2.2.2.1)

theorem scover0_D_1 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) (y : S768x128.Idx) :
    ∃ pc ∈ (runD c t hc0 hc1 hc2 hc3 x0 x1 x2 x3 x4 x5 x6 x7 x8 x9 x10 xo16 xs0 xs1).2.2.2.2.2.2.2.1, y ∈ pc.1.set :=
  View.cover_of_tiledBy (runD c t hc0 hc1 hc2 hc3 x0 x1 x2 x3 x4 x5 x6 x7 x8 x9 x10 xo16 xs0 xs1).2.2.2.2.2.2.2.1 ![256, 128] (by sl_kernel_rfl) y

def sout0_D_1 (c : Dev nD) (t : Fin cfg0.N) (hc0 : ¬cond0_0 (grid0.coords t)) (hc1 : ¬cond0_1 (grid0.coords t)) (hc2 : ¬cond0_2 (grid0.coords t)) (hc3 : cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32) : Vec F S768x128 .f32 :=
  VS0_1.read (Elt F) (VS0_1.writes (Elt F) VS0_1.junk (runD c t hc0 hc1 hc2 hc3 x0 x1 x2 x3 x4 x5 x6 x7 x8 x9 x10 xo16 xs0 xs1).2.2.2.2.2.2.2.1)

theorem cover0_E_11 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) (y : S256x128.Idx) :
    ∃ pc ∈ (runE c t hc0 hc1 hc2 hc3 x0 x1 x2 x3 x4 x5 x6 x7 x8 x9 x10 xo15).1, y ∈ pc.1.set :=
  View.cover_of_tiledL (runE c t hc0 hc1 hc2 hc3 x0 x1 x2 x3 x4 x5 x6 x7 x8 x9 x10 xo15).1 S256x128.size (by sl_kernel_rfl) y

def out0_E_11 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S256x128 .bf16 :=
  VO0_11.read (Elt F) (VO0_11.writes (Elt F) VO0_11.junk (runE c t hc0 hc1 hc2 hc3 x0 x1 x2 x3 x4 x5 x6 x7 x8 x9 x10 xo15).1)

def out0_E_12 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S256x128 .bf16 :=
  VO0_12.read (Elt F) (VO0_12.writes (Elt F) VO0_12.junk (runE c t hc0 hc1 hc2 hc3 x0 x1 x2 x3 x4 x5 x6 x7 x8 x9 x10 xo15).2.1)

def out0_E_13 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S256x128 .bf16 :=
  VO0_13.read (Elt F) (VO0_13.writes (Elt F) VO0_13.junk (runE c t hc0 hc1 hc2 hc3 x0 x1 x2 x3 x4 x5 x6 x7 x8 x9 x10 xo15).2.2.1)

theorem cover0_E_14 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) (y : S1x256x768.Idx) :
    ∃ pc ∈ (runE c t hc0 hc1 hc2 hc3 x0 x1 x2 x3 x4 x5 x6 x7 x8 x9 x10 xo15).2.2.2.1, y ∈ pc.1.set :=
  View.cover_of_tiledL (runE c t hc0 hc1 hc2 hc3 x0 x1 x2 x3 x4 x5 x6 x7 x8 x9 x10 xo15).2.2.2.1 S1x256x768.size (by sl_kernel_rfl) y

def out0_E_14 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S1x256x768 .f32 :=
  VO0_14.read (Elt F) (VO0_14.writes (Elt F) VO0_14.junk (runE c t hc0 hc1 hc2 hc3 x0 x1 x2 x3 x4 x5 x6 x7 x8 x9 x10 xo15).2.2.2.1)

theorem cover0_E_15 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) (y : S1x128.Idx) :
    ∃ pc ∈ (runE c t hc0 hc1 hc2 hc3 x0 x1 x2 x3 x4 x5 x6 x7 x8 x9 x10 xo15).2.2.2.2.1, y ∈ pc.1.set :=
  View.cover_of_tiledL (runE c t hc0 hc1 hc2 hc3 x0 x1 x2 x3 x4 x5 x6 x7 x8 x9 x10 xo15).2.2.2.2.1 S1x128.size (by sl_kernel_rfl) y

def out0_E_15 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S1x128 .f32 :=
  VO0_15.read (Elt F) (VO0_15.writes (Elt F) VO0_15.junk (runE c t hc0 hc1 hc2 hc3 x0 x1 x2 x3 x4 x5 x6 x7 x8 x9 x10 xo15).2.2.2.2.1)

def out0_E_16 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 xo16 : Vec F S1x128 .f32) : Vec F S1x128 .f32 := xo16

theorem scover0_E_0 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) (y : S768x128.Idx) :
    ∃ pc ∈ (runE c t hc0 hc1 hc2 hc3 x0 x1 x2 x3 x4 x5 x6 x7 x8 x9 x10 xo15).2.2.2.2.2.2.1, y ∈ pc.1.set :=
  View.cover_of_wholeMem (runE c t hc0 hc1 hc2 hc3 x0 x1 x2 x3 x4 x5 x6 x7 x8 x9 x10 xo15).2.2.2.2.2.2.1 (by sl_whole_mem) y

def sout0_E_0 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S768x128 .f32 :=
  VS0_0.read (Elt F) (VS0_0.writes (Elt F) VS0_0.junk (runE c t hc0 hc1 hc2 hc3 x0 x1 x2 x3 x4 x5 x6 x7 x8 x9 x10 xo15).2.2.2.2.2.2.1)

theorem scover0_E_1 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) (y : S768x128.Idx) :
    ∃ pc ∈ (runE c t hc0 hc1 hc2 hc3 x0 x1 x2 x3 x4 x5 x6 x7 x8 x9 x10 xo15).2.2.2.2.2.2.2.1, y ∈ pc.1.set :=
  View.cover_of_wholeMem (runE c t hc0 hc1 hc2 hc3 x0 x1 x2 x3 x4 x5 x6 x7 x8 x9 x10 xo15).2.2.2.2.2.2.2.1 (by sl_whole_mem) y

def sout0_E_1 (c : Dev nD) (t : Fin cfg0.N) (hc0 : cond0_0 (grid0.coords t)) (hc1 : ¬cond0_1 (grid0.coords t)) (hc2 : cond0_2 (grid0.coords t)) (hc3 : ¬cond0_3 (grid0.coords t))
    (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32) : Vec F S768x128 .f32 :=
  VS0_1.read (Elt F) (VS0_1.writes (Elt F) VS0_1.junk (runE c t hc0 hc1 hc2 hc3 x0 x1 x2 x3 x4 x5 x6 x7 x8 x9 x10 xo15).2.2.2.2.2.2.2.1)

end Cert.KernelIdeal.Att

end
-- ==== Proof.Att.State.lean ====
/- What the outputs' staging buffers and the two accumulators hold after every grid point, and what a point finds in them. -/
module

public import proofs.«01_k».proof.Proof.Att.Outs

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def outsAt0 (c : Dev nD) : (n : ℕ) → n < cfg0.N → Vec F S256x128 .bf16 × Vec F S256x128 .bf16 × Vec F S256x128 .bf16 × Vec F S1x256x768 .f32 × Vec F S1x128 .f32 × Vec F S1x128 .f32 × Vec F S768x128 .f32 × Vec F S768x128 .f32
  | 0, hn => (out0_A_11 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_1 c ⟨0, hn⟩ ((hcond0_0 ⟨0, hn⟩).mpr (Nat.zero_mod _)) ((hcond0_1 ⟨0, hn⟩).mpr (Nat.zero_mod _)) ((hcond0_2 ⟨0, hn⟩).mpr (by (try dsimp only) <;> omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) % 34 = 0 then
      if h1 : (n + 1) % 544 = 0 then
        if h2 : (n + 1) % 34 ≤ 31 then
          if h3 : 2 ≤ (n + 1) % 34 then
            False.elim (by have hN : n + 1 < 544 := lt_of_lt_of_eq hn (show cfg0.N = 544 from N_0); omega)
          else
            (out0_A_11 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_1 c ⟨n + 1, hn⟩ ((hcond0_0 ⟨n + 1, hn⟩).mpr h0) ((hcond0_1 ⟨n + 1, hn⟩).mpr h1) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
        else
          False.elim (by have hN : n + 1 < 544 := lt_of_lt_of_eq hn (show cfg0.N = 544 from N_0); omega)
      else
        if h2 : (n + 1) % 34 ≤ 31 then
          if h3 : 2 ≤ (n + 1) % 34 then
            False.elim (by have hN : n + 1 < 544 := lt_of_lt_of_eq hn (show cfg0.N = 544 from N_0); omega)
          else
            (out0_E_11 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, out0_E_12 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, out0_E_13 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, out0_E_14 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, out0_E_15 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, out0_E_16 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1 (outsAt0 c n (Nat.lt_of_succ_lt hn)).2.2.2.2.2.1, sout0_E_0 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1, sout0_E_1 c ⟨n + 1, hn⟩ ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.1)
        else
          False.elim (by have hN : n + 1 < 544 := lt_of_lt_of_eq hn (show cfg0.N = 544 from N_0); omega)
    else
      if h1 : (n + 1) % 544 = 0 then
        False.elim (by have hN : n + 1 < 544 := lt_of_lt_of_eq hn (show cfg0.N = 544 from N_0); omega)
      else
        if h2 : (n + 1) % 34 ≤ 31 then
          if h3 : 2 ≤ (n + 1) % 34 then
            (out0_C_11 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_12 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_13 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_14 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_15 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_C_16 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_0 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_C_1 c ⟨n + 1, hn⟩ (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2)
          else
            (out0_B_11 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, out0_B_12 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, out0_B_13 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, out0_B_14 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, out0_B_15 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, out0_B_16 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2 (outsAt0 c n (Nat.lt_of_succ_lt hn)).2.2.2.2.2.1, sout0_B_0 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2, sout0_B_1 c ⟨n + 1, hn⟩ (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.2.1 (outsAt0 c n (Nat.lt_of_succ_lt hn)).2.2.2.2.2.2.2)
        else
          if h3 : 2 ≤ (n + 1) % 34 then
            (out0_D_11 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (outsAt0 c n (Nat.lt_of_succ_lt hn)).1, out0_D_12 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_D_13 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2, out0_D_14 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (outsAt0 c n (Nat.lt_of_succ_lt hn)).2.2.2.1, out0_D_15 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2 (outsAt0 c n (Nat.lt_of_succ_lt hn)).2.2.2.2.1, out0_D_16 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_D_0 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2, sout0_D_1 c ⟨n + 1, hn⟩ (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2)
          else
            False.elim (by have hN : n + 1 < 544 := lt_of_lt_of_eq hn (show cfg0.N = 544 from N_0); omega)

/-- What the point before `t` left (at the first point: what the first point leaves). -/
abbrev prevOuts (c : Dev nD) (t : Fin cfg0.N) := outsAt0 m c (t.val - 1) (Nat.lt_of_le_of_lt (Nat.sub_le _ _) t.isLt)

theorem outsAt0_A (c : Dev nD) (t : Fin cfg0.N) (h0 : t.val % 34 = 0) (h1 : t.val % 544 = 0) (h2 : t.val % 34 ≤ 31) (h3 : ¬2 ≤ t.val % 34) :
    outsAt0 m c t.val t.isLt = (out0_A_11 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_12 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_13 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_14 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_15 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), out0_A_16 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_0 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t), sout0_A_1 c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_pos h1).trans ((dif_pos h2).trans ((dif_neg h3).trans rfl)))

theorem outsAt0_B (c : Dev nD) (t : Fin cfg0.N) (h0 : ¬t.val % 34 = 0) (h1 : ¬t.val % 544 = 0) (h2 : t.val % 34 ≤ 31) (h3 : ¬2 ≤ t.val % 34) :
    outsAt0 m c t.val t.isLt = (out0_B_11 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, out0_B_12 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, out0_B_13 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, out0_B_14 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, out0_B_15 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, out0_B_16 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2 (prevOuts m c t).2.2.2.2.2.1, sout0_B_0 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2, sout0_B_1 c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt0_C (c : Dev nD) (t : Fin cfg0.N) (h0 : ¬t.val % 34 = 0) (h1 : ¬t.val % 544 = 0) (h2 : t.val % 34 ≤ 31) (h3 : 2 ≤ t.val % 34) :
    outsAt0 m c t.val t.isLt = (out0_C_11 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, out0_C_12 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, out0_C_13 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, out0_C_14 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, out0_C_15 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, out0_C_16 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, sout0_C_0 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2, sout0_C_1 c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

theorem outsAt0_D (c : Dev nD) (t : Fin cfg0.N) (h0 : ¬t.val % 34 = 0) (h1 : ¬t.val % 544 = 0) (h2 : ¬t.val % 34 ≤ 31) (h3 : 2 ≤ t.val % 34) :
    outsAt0 m c t.val t.isLt = (out0_D_11 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2 (prevOuts m c t).1, out0_D_12 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2, out0_D_13 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2, out0_D_14 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2 (prevOuts m c t).2.2.2.1, out0_D_15 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2 (prevOuts m c t).2.2.2.2.1, out0_D_16 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2, sout0_D_0 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2, sout0_D_1 c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

theorem outsAt0_E (c : Dev nD) (t : Fin cfg0.N) (h0 : t.val % 34 = 0) (h1 : ¬t.val % 544 = 0) (h2 : t.val % 34 ≤ 31) (h3 : ¬2 ≤ t.val % 34) :
    outsAt0 m c t.val t.isLt = (out0_E_11 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, out0_E_12 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, out0_E_13 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, out0_E_14 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, out0_E_15 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, out0_E_16 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1 (prevOuts m c t).2.2.2.2.2.1, sout0_E_0 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1, sout0_E_1 c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1) := by
  obtain ⟨n, hn⟩ := t
  cases n with
  | zero => exact (by exfalso; (try dsimp only at h1); exact absurd (Nat.zero_mod _) h1)
  | succ n => exact (dif_pos h0).trans ((dif_neg h1).trans ((dif_pos h2).trans ((dif_neg h3).trans rfl)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 544 := lt_of_lt_of_eq t.isLt (show cfg0.N = 544 from N_0)
  rw [after0_11, after0_11]
  by_cases h0 : t.val % 34 = 0
  · by_cases h1 : t.val % 544 = 0
    · by_cases h2 : t.val % 34 ≤ 31
      · by_cases h3 : 2 ≤ t.val % 34
        · exfalso; omega
        · rw [liveAt0_11_A t ((hcond0_0 t).mpr h0) ((hcond0_1 t).mpr h1) ((hcond0_2 t).mpr h2) (fun h => h3 ((hcond0_3 t).mp h))] at hi
          exact absurd hi Bool.false_ne_true
      · exfalso; omega
    · by_cases h2 : t.val % 34 ≤ 31
      · by_cases h3 : 2 ≤ t.val % 34
        · exfalso; omega
        · rw [liveAt0_11_E t ((hcond0_0 t).mpr h0) (fun h => h1 ((hcond0_1 t).mp h)) ((hcond0_2 t).mpr h2) (fun h => h3 ((hcond0_3 t).mp h))] at hi
          exact absurd hi Bool.false_ne_true
      · exfalso; omega
  · by_cases h1 : t.val % 544 = 0
    · exfalso; omega
    · by_cases h2 : t.val % 34 ≤ 31
      · by_cases h3 : 2 ≤ t.val % 34
        · rw [liveAt0_11_C t (fun h => h0 ((hcond0_0 t).mp h)) (fun h => h1 ((hcond0_1 t).mp h)) ((hcond0_2 t).mpr h2) ((hcond0_3 t).mpr h3)] at hi
          exact absurd hi Bool.false_ne_true
        · rw [liveAt0_11_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : 2 ≤ t.val % 34
        · rw [outsAt0_D m c t h0 h1 h2 h3]
          dsimp only
          unfold out0_D_11
          rfl
        · exfalso; omega

theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 544 := lt_of_lt_of_eq t.isLt (show cfg0.N = 544 from N_0)
  rw [after0_14, after0_14]
  by_cases h0 : t.val % 34 = 0
  · by_cases h1 : t.val % 544 = 0
    · by_cases h2 : t.val % 34 ≤ 31
      · by_cases h3 : 2 ≤ t.val % 34
        · exfalso; omega
        · rw [liveAt0_14_A t ((hcond0_0 t).mpr h0) ((hcond0_1 t).mpr h1) ((hcond0_2 t).mpr h2) (fun h => h3 ((hcond0_3 t).mp h))] at hi
          exact absurd hi Bool.false_ne_true
      · exfalso; omega
    · by_cases h2 : t.val % 34 ≤ 31
      · by_cases h3 : 2 ≤ t.val % 34
        · exfalso; omega
        · rw [liveAt0_14_E t ((hcond0_0 t).mpr h0) (fun h => h1 ((hcond0_1 t).mp h)) ((hcond0_2 t).mpr h2) (fun h => h3 ((hcond0_3 t).mp h))] at hi
          exact absurd hi Bool.false_ne_true
      · exfalso; omega
  · by_cases h1 : t.val % 544 = 0
    · exfalso; omega
    · by_cases h2 : t.val % 34 ≤ 31
      · by_cases h3 : 2 ≤ t.val % 34
        · rw [liveAt0_14_C t (fun h => h0 ((hcond0_0 t).mp h)) (fun h => h1 ((hcond0_1 t).mp h)) ((hcond0_2 t).mpr h2) ((hcond0_3 t).mpr h3)] at hi
          exact absurd hi Bool.false_ne_true
        · rw [liveAt0_14_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : 2 ≤ t.val % 34
        · rw [outsAt0_D m c t h0 h1 h2 h3]
          dsimp only
          unfold out0_D_14
          rfl
        · exfalso; omega

theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 544 := lt_of_lt_of_eq t.isLt (show cfg0.N = 544 from N_0)
  rw [after0_15, after0_15]
  by_cases h0 : t.val % 34 = 0
  · by_cases h1 : t.val % 544 = 0
    · by_cases h2 : t.val % 34 ≤ 31
      · by_cases h3 : 2 ≤ t.val % 34
        · exfalso; omega
        · rw [liveAt0_15_A t ((hcond0_0 t).mpr h0) ((hcond0_1 t).mpr h1) ((hcond0_2 t).mpr h2) (fun h => h3 ((hcond0_3 t).mp h))] at hi
          exact absurd hi Bool.false_ne_true
      · exfalso; omega
    · by_cases h2 : t.val % 34 ≤ 31
      · by_cases h3 : 2 ≤ t.val % 34
        · exfalso; omega
        · rw [liveAt0_15_E t ((hcond0_0 t).mpr h0) (fun h => h1 ((hcond0_1 t).mp h)) ((hcond0_2 t).mpr h2) (fun h => h3 ((hcond0_3 t).mp h))] at hi
          exact absurd hi Bool.false_ne_true
      · exfalso; omega
  · by_cases h1 : t.val % 544 = 0
    · exfalso; omega
    · by_cases h2 : t.val % 34 ≤ 31
      · by_cases h3 : 2 ≤ t.val % 34
        · rw [liveAt0_15_C t (fun h => h0 ((hcond0_0 t).mp h)) (fun h => h1 ((hcond0_1 t).mp h)) ((hcond0_2 t).mpr h2) ((hcond0_3 t).mpr h3)] at hi
          exact absurd hi Bool.false_ne_true
        · rw [liveAt0_15_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : 2 ≤ t.val % 34
        · rw [outsAt0_D m c t h0 h1 h2 h3]
          dsimp only
          unfold out0_D_15
          rfl
        · exfalso; omega

theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 544 := lt_of_lt_of_eq t.isLt (show cfg0.N = 544 from N_0)
  rw [after0_16, after0_16]
  by_cases h0 : t.val % 34 = 0
  · by_cases h1 : t.val % 544 = 0
    · by_cases h2 : t.val % 34 ≤ 31
      · by_cases h3 : 2 ≤ t.val % 34
        · exfalso; omega
        · rw [liveAt0_16_A t ((hcond0_0 t).mpr h0) ((hcond0_1 t).mpr h1) ((hcond0_2 t).mpr h2) (fun h => h3 ((hcond0_3 t).mp h))] at hi
          exact absurd hi Bool.false_ne_true
      · exfalso; omega
    · by_cases h2 : t.val % 34 ≤ 31
      · by_cases h3 : 2 ≤ t.val % 34
        · exfalso; omega
        · rw [outsAt0_E m c t h0 h1 h2 h3]
          dsimp only
          unfold out0_E_16
          rfl
      · exfalso; omega
  · by_cases h1 : t.val % 544 = 0
    · exfalso; omega
    · by_cases h2 : t.val % 34 ≤ 31
      · by_cases h3 : 2 ≤ t.val % 34
        · rw [liveAt0_16_C t (fun h => h0 ((hcond0_0 t).mp h)) (fun h => h1 ((hcond0_1 t).mp h)) ((hcond0_2 t).mpr h2) ((hcond0_3 t).mpr h3)] at hi
          exact absurd hi Bool.false_ne_true
        · rw [outsAt0_B m c t h0 h1 h2 h3]
          dsimp only
          unfold out0_B_16
          rfl
      · by_cases h3 : 2 ≤ t.val % 34
        · rw [liveAt0_16_D t (fun h => h0 ((hcond0_0 t).mp h)) (fun h => h1 ((hcond0_1 t).mp h)) (fun h => h2 ((hcond0_2 t).mp h)) ((hcond0_3 t).mpr h3)] at hi
          exact absurd hi Bool.false_ne_true
        · exfalso; omega
theorem before0_14_B (c : Dev nD) (t : Fin cfg0.N) (h0 : ¬t.val % 34 = 0) (h1 : ¬t.val % 544 = 0) (h2 : t.val % 34 ≤ 31) (h3 : ¬2 ≤ t.val % 34) (d) :
    (dats m 0 c).before 14 t d = (prevOuts m c t).2.2.2.1 := by
  rw [Dat.before_out_traj _ 14 rfl (fun _ _ => rfl) (hcarry0_14 m c) t.val t rfl d,
    if_neg (by rw [notFresh0_14_B t (fun h => h0 ((hcond0_0 t).mp h)) (fun h => h1 ((hcond0_1 t).mp h)) ((hcond0_2 t).mpr h2) (fun h => h3 ((hcond0_3 t).mp h))]; exact Bool.false_ne_true)]
  dsimp only [dats]
theorem before0_15_B (c : Dev nD) (t : Fin cfg0.N) (h0 : ¬t.val % 34 = 0) (h1 : ¬t.val % 544 = 0) (h2 : t.val % 34 ≤ 31) (h3 : ¬2 ≤ t.val % 34) (d) :
    (dats m 0 c).before 15 t d = (prevOuts m c t).2.2.2.2.1 := by
  rw [Dat.before_out_traj _ 15 rfl (fun _ _ => rfl) (hcarry0_15 m c) t.val t rfl d,
    if_neg (by rw [notFresh0_15_B t (fun h => h0 ((hcond0_0 t).mp h)) (fun h => h1 ((hcond0_1 t).mp h)) ((hcond0_2 t).mpr h2) (fun h => h3 ((hcond0_3 t).mp h))]; exact Bool.false_ne_true)]
  dsimp only [dats]
theorem before0_14_C (c : Dev nD) (t : Fin cfg0.N) (h0 : ¬t.val % 34 = 0) (h1 : ¬t.val % 544 = 0) (h2 : t.val % 34 ≤ 31) (h3 : 2 ≤ t.val % 34) (d) :
    (dats m 0 c).before 14 t d = (prevOuts m c t).2.2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) ((hcond0_2 t).mpr h2) ((hcond0_3 t).mpr h3)]; exact Bool.false_ne_true)]
  dsimp only [dats]
theorem before0_15_C (c : Dev nD) (t : Fin cfg0.N) (h0 : ¬t.val % 34 = 0) (h1 : ¬t.val % 544 = 0) (h2 : t.val % 34 ≤ 31) (h3 : 2 ≤ t.val % 34) (d) :
    (dats m 0 c).before 15 t d = (prevOuts m c t).2.2.2.2.1 := by
  rw [Dat.before_out_traj _ 15 rfl (fun _ _ => rfl) (hcarry0_15 m c) t.val t rfl d,
    if_neg (by rw [notFresh0_15_C t (fun h => h0 ((hcond0_0 t).mp h)) (fun h => h1 ((hcond0_1 t).mp h)) ((hcond0_2 t).mpr h2) ((hcond0_3 t).mpr h3)]; exact Bool.false_ne_true)]
  dsimp only [dats]
theorem before0_16_C (c : Dev nD) (t : Fin cfg0.N) (h0 : ¬t.val % 34 = 0) (h1 : ¬t.val % 544 = 0) (h2 : t.val % 34 ≤ 31) (h3 : 2 ≤ t.val % 34) (d) :
    (dats m 0 c).before 16 t d = (prevOuts m c t).2.2.2.2.2.1 := by
  rw [Dat.before_out_traj _ 16 rfl (fun _ _ => rfl) (hcarry0_16 m c) t.val t rfl d,
    if_neg (by rw [notFresh0_16_C t (fun h => h0 ((hcond0_0 t).mp h)) (fun h => h1 ((hcond0_1 t).mp h)) ((hcond0_2 t).mpr h2) ((hcond0_3 t).mpr h3)]; exact Bool.false_ne_true)]
  dsimp only [dats]
theorem before0_16_D (c : Dev nD) (t : Fin cfg0.N) (h0 : ¬t.val % 34 = 0) (h1 : ¬t.val % 544 = 0) (h2 : ¬t.val % 34 ≤ 31) (h3 : 2 ≤ t.val % 34) (d) :
    (dats m 0 c).before 16 t d = (prevOuts m c t).2.2.2.2.2.1 := by
  rw [Dat.before_out_traj _ 16 rfl (fun _ _ => rfl) (hcarry0_16 m c) t.val t rfl d,
    if_neg (by rw [notFresh0_16_D t (fun h => h0 ((hcond0_0 t).mp h)) (fun h => h1 ((hcond0_1 t).mp h)) (fun h => h2 ((hcond0_2 t).mp h)) ((hcond0_3 t).mpr h3)]; exact Bool.false_ne_true)]
  dsimp only [dats]
theorem before0_15_E (c : Dev nD) (t : Fin cfg0.N) (h0 : t.val % 34 = 0) (h1 : ¬t.val % 544 = 0) (h2 : t.val % 34 ≤ 31) (h3 : ¬2 ≤ t.val % 34) (d) :
    (dats m 0 c).before 15 t d = (prevOuts m c t).2.2.2.2.1 := by
  rw [Dat.before_out_traj _ 15 rfl (fun _ _ => rfl) (hcarry0_15 m c) t.val t rfl d,
    if_neg (by rw [notFresh0_15_E t ((hcond0_0 t).mpr h0) (fun h => h1 ((hcond0_1 t).mp h)) ((hcond0_2 t).mpr h2) (fun h => h3 ((hcond0_3 t).mp h))]; exact Bool.false_ne_true)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- At the last two steps of a head the query gradient's block is left alone, and at the very last it is written back: what is
    written back is what the last step that stored it left. -/
theorem leaves0_11_D (c : Dev nD) (t : Fin cfg0.N) (h0 : ¬t.val % 34 = 0) (h1 : ¬t.val % 544 = 0) (h2 : ¬t.val % 34 ≤ 31) (h3 : 2 ≤ t.val % 34) (d) :
    owns (c : Thread nD τ) (ms0_11 t) fullShare ((dats m 0 c).before 11 t d) ⊢ (dats m 0 c).leavesExact 11 t := by
  have hi := idleAt0_11_D t (fun h => h0 ((hcond0_0 t).mp h)) (fun h => h1 ((hcond0_1 t).mp h)) (fun h => h2 ((hcond0_2 t).mp h)) ((hcond0_3 t).mpr h3)
  have hz : t.val ≠ 0 := fun h => h0 (by rw [h])
  cases hf : (cfg0.win 11).flush t with
  | false =>
    rw [Dat.leavesExact_idle (dats m 0 c) 11 t hi hf]
    iintro H; iexists _; iexact H
  | true =>
    have e : (dats m 0 c).before 11 t d = (dats m 0 c).after 11 t := by
      rw [Dat.before_out_traj _ 11 rfl (fun _ _ => rfl) (hcarry0_11 m c) t.val t rfl d,
        if_neg (by rw [notFresh0_11_D t (fun h => h0 ((hcond0_0 t).mp h)) (fun h => h1 ((hcond0_1 t).mp h)) (fun h => h2 ((hcond0_2 t).mp h)) ((hcond0_3 t).mpr h3)]; exact Bool.false_ne_true)]
      exact (hcarry0_11 m c t hz hi (notFresh0_11_D t (fun h => h0 ((hcond0_0 t).mp h)) (fun h => h1 ((hcond0_1 t).mp h)) (fun h => h2 ((hcond0_2 t).mp h)) ((hcond0_3 t).mpr h3))).symm
    rw [show (dats m 0 c).leavesExact 11 t = owns (c : Thread nD τ) (ms0_11 t) fullShare ((dats m 0 c).after 11 t) from by
      unfold Dat.leavesExact; rw [hi, hf], e]

/-- At the last two steps of a head the bias gradient's block is left alone, and at the very last it is written back: what is
    written back is what the last step that stored it left. -/
theorem leaves0_14_D (c : Dev nD) (t : Fin cfg0.N) (h0 : ¬t.val % 34 = 0) (h1 : ¬t.val % 544 = 0) (h2 : ¬t.val % 34 ≤ 31) (h3 : 2 ≤ t.val % 34) (d) :
    owns (c : Thread nD τ) (ms0_14 t) fullShare ((dats m 0 c).before 14 t d) ⊢ (dats m 0 c).leavesExact 14 t := by
  have hi := idleAt0_14_D t (fun h => h0 ((hcond0_0 t).mp h)) (fun h => h1 ((hcond0_1 t).mp h)) (fun h => h2 ((hcond0_2 t).mp h)) ((hcond0_3 t).mpr h3)
  have hz : t.val ≠ 0 := fun h => h0 (by rw [h])
  cases hf : (cfg0.win 14).flush t with
  | false =>
    rw [Dat.leavesExact_idle (dats m 0 c) 14 t hi hf]
    iintro H; iexists _; iexact H
  | true =>
    have e : (dats m 0 c).before 14 t d = (dats m 0 c).after 14 t := by
      rw [Dat.before_out_traj _ 14 rfl (fun _ _ => rfl) (hcarry0_14 m c) t.val t rfl d,
        if_neg (by rw [notFresh0_14_D t (fun h => h0 ((hcond0_0 t).mp h)) (fun h => h1 ((hcond0_1 t).mp h)) (fun h => h2 ((hcond0_2 t).mp h)) ((hcond0_3 t).mpr h3)]; exact Bool.false_ne_true)]
      exact (hcarry0_14 m c t hz hi (notFresh0_14_D t (fun h => h0 ((hcond0_0 t).mp h)) (fun h => h1 ((hcond0_1 t).mp h)) (fun h => h2 ((hcond0_2 t).mp h)) ((hcond0_3 t).mpr h3))).symm
    rw [show (dats m 0 c).leavesExact 14 t = owns (c : Thread nD τ) (ms0_14 t) fullShare ((dats m 0 c).after 14 t) from by
      unfold Dat.leavesExact; rw [hi, hf], e]

/-- At the last two steps of a head the query gain gradient's block is left alone, and at the very last it is written back: what is
    written back is what the last step that stored it left. -/
theorem leaves0_15_D (c : Dev nD) (t : Fin cfg0.N) (h0 : ¬t.val % 34 = 0) (h1 : ¬t.val % 544 = 0) (h2 : ¬t.val % 34 ≤ 31) (h3 : 2 ≤ t.val % 34) (d) :
    owns (c : Thread nD τ) (ms0_15 t) fullShare ((dats m 0 c).before 15 t d) ⊢ (dats m 0 c).leavesExact 15 t := by
  have hi := idleAt0_15_D t (fun h => h0 ((hcond0_0 t).mp h)) (fun h => h1 ((hcond0_1 t).mp h)) (fun h => h2 ((hcond0_2 t).mp h)) ((hcond0_3 t).mpr h3)
  have hz : t.val ≠ 0 := fun h => h0 (by rw [h])
  cases hf : (cfg0.win 15).flush t with
  | false =>
    rw [Dat.leavesExact_idle (dats m 0 c) 15 t hi hf]
    iintro H; iexists _; iexact H
  | true =>
    have e : (dats m 0 c).before 15 t d = (dats m 0 c).after 15 t := by
      rw [Dat.before_out_traj _ 15 rfl (fun _ _ => rfl) (hcarry0_15 m c) t.val t rfl d,
        if_neg (by rw [notFresh0_15_D t (fun h => h0 ((hcond0_0 t).mp h)) (fun h => h1 ((hcond0_1 t).mp h)) (fun h => h2 ((hcond0_2 t).mp h)) ((hcond0_3 t).mpr h3)]; exact Bool.false_ne_true)]
      exact (hcarry0_15 m c t hz hi (notFresh0_15_D t (fun h => h0 ((hcond0_0 t).mp h)) (fun h => h1 ((hcond0_1 t).mp h)) (fun h => h2 ((hcond0_2 t).mp h)) ((hcond0_3 t).mpr h3))).symm
    rw [show (dats m 0 c).leavesExact 15 t = owns (c : Thread nD τ) (ms0_15 t) fullShare ((dats m 0 c).after 15 t) from by
      unfold Dat.leavesExact; rw [hi, hf], e]

end Cert.KernelIdeal.Att

end
-- ==== Proof.Att.SoundA.lean ====
/- The body's obligation at the points of case A. -/
module

public import proofs.«01_k».proof.Proof.Att.State

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_A

set_option maxHeartbeats 8000000 in
theorem sound_A (c : Dev nD) (t : Fin cfg0.N) (h0 : t.val % 34 = 0) (h1 : t.val % 544 = 0) (h2 : t.val % 34 ≤ 31) (h3 : ¬2 ≤ t.val % 34) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 11 t = owns (c : Thread nD τ) (ms0_11 t) fullShare ((dats m 0 c).after 11 t) from by unfold Dat.leavesExact; rw [liveAt0_11_A t ((hcond0_0 t).mpr h0) ((hcond0_1 t).mpr h1) ((hcond0_2 t).mpr h2) (fun h => h3 ((hcond0_3 t).mp h))], after0_11]
  rw [Dat.leavesExact_idle (dats m 0 c) 12 t (idleAt0_12_A t ((hcond0_0 t).mpr h0) ((hcond0_1 t).mpr h1) ((hcond0_2 t).mpr h2) (fun h => h3 ((hcond0_3 t).mp h))) (noFlush0_12_A t ((hcond0_0 t).mpr h0) ((hcond0_1 t).mpr h1) ((hcond0_2 t).mpr h2) (fun h => h3 ((hcond0_3 t).mp h)))]
  rw [Dat.leavesExact_idle (dats m 0 c) 13 t (idleAt0_13_A t ((hcond0_0 t).mpr h0) ((hcond0_1 t).mpr h1) ((hcond0_2 t).mpr h2) (fun h => h3 ((hcond0_3 t).mp h))) (noFlush0_13_A t ((hcond0_0 t).mpr h0) ((hcond0_1 t).mpr h1) ((hcond0_2 t).mpr h2) (fun h => h3 ((hcond0_3 t).mp h)))]
  rw [show (dats m 0 c).leavesExact 14 t = owns (c : Thread nD τ) (ms0_14 t) fullShare ((dats m 0 c).after 14 t) from by unfold Dat.leavesExact; rw [liveAt0_14_A t ((hcond0_0 t).mpr h0) ((hcond0_1 t).mpr h1) ((hcond0_2 t).mpr h2) (fun h => h3 ((hcond0_3 t).mp h))], after0_14]
  rw [show (dats m 0 c).leavesExact 15 t = owns (c : Thread nD τ) (ms0_15 t) fullShare ((dats m 0 c).after 15 t) from by unfold Dat.leavesExact; rw [liveAt0_15_A t ((hcond0_0 t).mpr h0) ((hcond0_1 t).mpr h1) ((hcond0_2 t).mpr h2) (fun h => h3 ((hcond0_3 t).mp h))], after0_15]
  rw [show (dats m 0 c).leavesExact 16 t = owns (c : Thread nD τ) (ms0_16 t) fullShare ((dats m 0 c).after 16 t) from by unfold Dat.leavesExact; rw [liveAt0_16_A t ((hcond0_0 t).mpr h0) ((hcond0_1 t).mpr h1) ((hcond0_2 t).mpr h2) (fun h => h3 ((hcond0_3 t).mp h))], after0_16]
  by_cases hz : t.val = 0
  · rw [PhiS_castSucc m c t, PhiS_zero m c _ _ hz, PhiA0_eq]
    rw [outsAt0_A m c t h0 h1 h2 h3]
    unfold out0_A_11 out0_A_14 out0_A_15 out0_A_16 sout0_A_0 sout0_A_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runA c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexists _; iexact H14
    isplitl [H15]; · iexists _; iexact H15
    isplitl [H16]; · iexists _; iexact H16
    isplitl [HS0]; · iexact HS0
    isplitl [HS1]; · iexact HS1
    iintro ⟨H0, H1, H2, H3, H4, H5, H6, H7, H8, H9, H10, ⟨%e11, H11⟩, H12, H13, ⟨%e14, H14⟩, ⟨%e15, H15⟩, ⟨%e16, H16⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_A_0 c _ _ _ _ _ _ _ _ _ _ _ _ _ _ _ _)
        unfold owns; iexists _; isplitr
        swap; · iexact HS1
        ipureintro; exact View.read_writes_of_cover _ _ _ _ _ (scover0_A_1 c _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_A_11 c _ _ _ _ _ _ _ _ _ _ _ _ _ _ _ _)
    isplitl [H12]; · iexists _; iexact H12
    isplitl [H13]; · iexists _; iexact H13
    isplitl [H14]
    · unfold owns; iexists _; isplitr
      swap; · iexact H14
      ipureintro; exact View.read_writes_of_cover _ _ _ _ _ (cover0_A_14 c _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _)
    unfold owns; iexists _; isplitr
    swap; · iexact H16
    ipureintro; exact View.read_writes_of_cover _ _ _ _ _ (cover0_A_16 c _ _ _ _ _ _ _ _ _ _ _ _ _ _ _ _)
  · exfalso; have hN : t.val < 544 := lt_of_lt_of_eq t.isLt (show cfg0.N = 544 from N_0); omega

end Cert.KernelIdeal.Att
-- ==== Proof.Att.SoundB.lean ====
/- The body's obligation at the points of case B. -/
module

public import proofs.«01_k».proof.Proof.Att.State

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_B

set_option maxHeartbeats 8000000 in
theorem sound_B (c : Dev nD) (t : Fin cfg0.N) (h0 : ¬t.val % 34 = 0) (h1 : ¬t.val % 544 = 0) (h2 : t.val % 34 ≤ 31) (h3 : ¬2 ≤ t.val % 34) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 11 t = owns (c : Thread nD τ) (ms0_11 t) fullShare ((dats m 0 c).after 11 t) from by unfold Dat.leavesExact; rw [liveAt0_11_B t (fun h => h0 ((hcond0_0 t).mp h)) (fun h => h1 ((hcond0_1 t).mp h)) ((hcond0_2 t).mpr h2) (fun h => h3 ((hcond0_3 t).mp h))], after0_11]
  rw [Dat.leavesExact_idle (dats m 0 c) 12 t (idleAt0_12_B t (fun h => h0 ((hcond0_0 t).mp h)) (fun h => h1 ((hcond0_1 t).mp h)) ((hcond0_2 t).mpr h2) (fun h => h3 ((hcond0_3 t).mp h))) (noFlush0_12_B t (fun h => h0 ((hcond0_0 t).mp h)) (fun h => h1 ((hcond0_1 t).mp h)) ((hcond0_2 t).mpr h2) (fun h => h3 ((hcond0_3 t).mp h)))]
  rw [Dat.leavesExact_idle (dats m 0 c) 13 t (idleAt0_13_B t (fun h => h0 ((hcond0_0 t).mp h)) (fun h => h1 ((hcond0_1 t).mp h)) ((hcond0_2 t).mpr h2) (fun h => h3 ((hcond0_3 t).mp h))) (noFlush0_13_B t (fun h => h0 ((hcond0_0 t).mp h)) (fun h => h1 ((hcond0_1 t).mp h)) ((hcond0_2 t).mpr h2) (fun h => h3 ((hcond0_3 t).mp h)))]
  rw [show (dats m 0 c).leavesExact 14 t = owns (c : Thread nD τ) (ms0_14 t) fullShare ((dats m 0 c).after 14 t) from by unfold Dat.leavesExact; rw [liveAt0_14_B t (fun h => h0 ((hcond0_0 t).mp h)) (fun h => h1 ((hcond0_1 t).mp h)) ((hcond0_2 t).mpr h2) (fun h => h3 ((hcond0_3 t).mp h))], after0_14]
  rw [show (dats m 0 c).leavesExact 15 t = owns (c : Thread nD τ) (ms0_15 t) fullShare ((dats m 0 c).after 15 t) from by unfold Dat.leavesExact; rw [liveAt0_15_B t (fun h => h0 ((hcond0_0 t).mp h)) (fun h => h1 ((hcond0_1 t).mp h)) ((hcond0_2 t).mpr h2) (fun h => h3 ((hcond0_3 t).mp h))], after0_15]
  rw [Dat.leavesExact_idle (dats m 0 c) 16 t (idleAt0_16_B t (fun h => h0 ((hcond0_0 t).mp h)) (fun h => h1 ((hcond0_1 t).mp h)) ((hcond0_2 t).mpr h2) (fun h => h3 ((hcond0_3 t).mp h))) (noFlush0_16_B t (fun h => h0 ((hcond0_0 t).mp h)) (fun h => h1 ((hcond0_1 t).mp h)) ((hcond0_2 t).mpr h2) (fun h => h3 ((hcond0_3 t).mp h)))]
  by_cases hz : t.val = 0
  · exfalso; have hN : t.val < 544 := lt_of_lt_of_eq t.isLt (show cfg0.N = 544 from N_0); omega
  · rw [PhiS_castSucc m c t, PhiS_pos m c _ _ hz]
    rw [outsAt0_B m c t h0 h1 h2 h3]
    simp only [before0_14_B m c t h0 h1 h2 h3, before0_15_B m c t h0 h1 h2 h3]
    unfold out0_B_11 out0_B_14 out0_B_15 sout0_B_0 sout0_B_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runB c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, H10, ⟨%e11, H11⟩, H12, H13, ⟨%e14, H14⟩, ⟨%e15, H15⟩, H16, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        unfold owns; iexists _; isplitr
        swap; · iexact HS1
        ipureintro; exact View.read_writes_of_cover _ _ _ _ _ (scover0_B_1 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_B_11 c _ _ _ _ _ _ _ _ _ _ _ _ _ _ _ _ _ _ _ _)
    isplitl [H12]; · iexists _; iexact H12
    isplitl [H13]; · iexists _; iexact H13
    isplitl [H14]
    · unfold owns; iexists _; isplitr
      swap; · iexact H14
      ipureintro; exact View.read_writes_of_cover _ _ _ _ _ (cover0_B_14 c _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _)
    iexists _; iexact H16

end Cert.KernelIdeal.Att
-- ==== Proof.Att.SoundC.lean ====
/- The body's obligation at the points of case C. -/
module

public import proofs.«01_k».proof.Proof.Att.State

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_C

set_option maxHeartbeats 8000000 in
theorem sound_C (c : Dev nD) (t : Fin cfg0.N) (h0 : ¬t.val % 34 = 0) (h1 : ¬t.val % 544 = 0) (h2 : t.val % 34 ≤ 31) (h3 : 2 ≤ t.val % 34) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 11 t = owns (c : Thread nD τ) (ms0_11 t) fullShare ((dats m 0 c).after 11 t) from by unfold Dat.leavesExact; rw [liveAt0_11_C t (fun h => h0 ((hcond0_0 t).mp h)) (fun h => h1 ((hcond0_1 t).mp h)) ((hcond0_2 t).mpr h2) ((hcond0_3 t).mpr h3)], after0_11]
  rw [show (dats m 0 c).leavesExact 12 t = owns (c : Thread nD τ) (ms0_12 t) fullShare ((dats m 0 c).after 12 t) from by unfold Dat.leavesExact; rw [liveAt0_12_C t (fun h => h0 ((hcond0_0 t).mp h)) (fun h => h1 ((hcond0_1 t).mp h)) ((hcond0_2 t).mpr h2) ((hcond0_3 t).mpr h3)], after0_12]
  rw [show (dats m 0 c).leavesExact 13 t = owns (c : Thread nD τ) (ms0_13 t) fullShare ((dats m 0 c).after 13 t) from by unfold Dat.leavesExact; rw [liveAt0_13_C t (fun h => h0 ((hcond0_0 t).mp h)) (fun h => h1 ((hcond0_1 t).mp h)) ((hcond0_2 t).mpr h2) ((hcond0_3 t).mpr h3)], after0_13]
  rw [show (dats m 0 c).leavesExact 14 t = owns (c : Thread nD τ) (ms0_14 t) fullShare ((dats m 0 c).after 14 t) from by unfold Dat.leavesExact; rw [liveAt0_14_C t (fun h => h0 ((hcond0_0 t).mp h)) (fun h => h1 ((hcond0_1 t).mp h)) ((hcond0_2 t).mpr h2) ((hcond0_3 t).mpr h3)], after0_14]
  rw [show (dats m 0 c).leavesExact 15 t = owns (c : Thread nD τ) (ms0_15 t) fullShare ((dats m 0 c).after 15 t) from by unfold Dat.leavesExact; rw [liveAt0_15_C t (fun h => h0 ((hcond0_0 t).mp h)) (fun h => h1 ((hcond0_1 t).mp h)) ((hcond0_2 t).mpr h2) ((hcond0_3 t).mpr h3)], after0_15]
  rw [show (dats m 0 c).leavesExact 16 t = owns (c : Thread nD τ) (ms0_16 t) fullShare ((dats m 0 c).after 16 t) from by unfold Dat.leavesExact; rw [liveAt0_16_C t (fun h => h0 ((hcond0_0 t).mp h)) (fun h => h1 ((hcond0_1 t).mp h)) ((hcond0_2 t).mpr h2) ((hcond0_3 t).mpr h3)], after0_16]
  by_cases hz : t.val = 0
  · exfalso; have hN : t.val < 544 := lt_of_lt_of_eq t.isLt (show cfg0.N = 544 from N_0); omega
  · rw [PhiS_castSucc m c t, PhiS_pos m c _ _ hz]
    rw [outsAt0_C m c t h0 h1 h2 h3]
    simp only [before0_14_C m c t h0 h1 h2 h3, before0_15_C m c t h0 h1 h2 h3, before0_16_C m c t h0 h1 h2 h3]
    unfold out0_C_11 out0_C_12 out0_C_13 out0_C_14 out0_C_15 out0_C_16 sout0_C_0 sout0_C_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runC c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _)
        unfold owns; iexists _; isplitr
        swap; · iexact HS1
        ipureintro; exact View.read_writes_of_cover _ _ _ _ _ (scover0_C_1 c _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_C_11 c _ _ _ _ _ _ _ _ _ _ _ _ _ _ _ _ _ _ _ _ _)
    isplitl [H12]
    · unfold owns; iexists _; isplitr
      swap; · iexact H12
      ipureintro; exact View.read_writes_of_cover _ _ _ _ _ (cover0_C_12 c _ _ _ _ _ _ _ _ _ _ _ _ _ _ _ _ _ _ _ _ _)
    isplitl [H13]
    · unfold owns; iexists _; isplitr
      swap; · iexact H13
      ipureintro; exact View.read_writes_of_cover _ _ _ _ _ (cover0_C_13 c _ _ _ _ _ _ _ _ _ _ _ _ _ _ _ _ _ _ _ _ _)
    isplitl [H14]
    · unfold owns; iexists _; isplitr
      swap; · iexact H14
      ipureintro; exact View.read_writes_of_cover _ _ _ _ _ (cover0_C_14 c _ _ _ _ _ _ _ _ _ _ _ _ _ _ _ _ _ _ _ _ _)
    isplitl [H15]
    · unfold owns; iexists _; isplitr
      swap; · iexact H15
      ipureintro; exact View.read_writes_of_cover _ _ _ _ _ (cover0_C_15 c _ _ _ _ _ _ _ _ _ _ _ _ _ _ _ _ _ _ _ _ _)
    unfold owns; iexists _; isplitr
    swap; · iexact H16
    ipureintro; exact View.read_writes_of_cover _ _ _ _ _ (cover0_C_16 c _ _ _ _ _ _ _ _ _ _ _ _ _ _ _ _ _ _ _ _ _)

end Cert.KernelIdeal.Att
-- ==== Proof.Att.SoundD.lean ====
/- The body's obligation at the points of case D. -/
module

public import proofs.«01_k».proof.Proof.Att.State

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_D

set_option maxHeartbeats 8000000 in
theorem sound_D (c : Dev nD) (t : Fin cfg0.N) (h0 : ¬t.val % 34 = 0) (h1 : ¬t.val % 544 = 0) (h2 : ¬t.val % 34 ≤ 31) (h3 : 2 ≤ t.val % 34) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 12 t = owns (c : Thread nD τ) (ms0_12 t) fullShare ((dats m 0 c).after 12 t) from by unfold Dat.leavesExact; rw [liveAt0_12_D t (fun h => h0 ((hcond0_0 t).mp h)) (fun h => h1 ((hcond0_1 t).mp h)) (fun h => h2 ((hcond0_2 t).mp h)) ((hcond0_3 t).mpr h3)], after0_12]
  rw [show (dats m 0 c).leavesExact 13 t = owns (c : Thread nD τ) (ms0_13 t) fullShare ((dats m 0 c).after 13 t) from by unfold Dat.leavesExact; rw [liveAt0_13_D t (fun h => h0 ((hcond0_0 t).mp h)) (fun h => h1 ((hcond0_1 t).mp h)) (fun h => h2 ((hcond0_2 t).mp h)) ((hcond0_3 t).mpr h3)], after0_13]
  rw [show (dats m 0 c).leavesExact 16 t = owns (c : Thread nD τ) (ms0_16 t) fullShare ((dats m 0 c).after 16 t) from by unfold Dat.leavesExact; rw [liveAt0_16_D t (fun h => h0 ((hcond0_0 t).mp h)) (fun h => h1 ((hcond0_1 t).mp h)) (fun h => h2 ((hcond0_2 t).mp h)) ((hcond0_3 t).mpr h3)], after0_16]
  by_cases hz : t.val = 0
  · exfalso; have hN : t.val < 544 := lt_of_lt_of_eq t.isLt (show cfg0.N = 544 from N_0); omega
  · rw [PhiS_castSucc m c t, PhiS_pos m c _ _ hz]
    rw [outsAt0_D m c t h0 h1 h2 h3]
    simp only [before0_16_D m c t h0 h1 h2 h3]
    unfold out0_D_12 out0_D_13 out0_D_16 sout0_D_0 sout0_D_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runD c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _).2.2.2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, H10, H11, ⟨%e12, H12⟩, ⟨%e13, H13⟩, H14, H15, ⟨%e16, H16⟩, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_D_0 c _ _ _ _ _ _ _ _ _ _ _ _ _ _ _ _ _ _ _)
        unfold owns; iexists _; isplitr
        swap; · iexact HS1
        ipureintro; exact View.read_writes_of_cover _ _ _ _ _ (scover0_D_1 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iapply (leaves0_11_D m c t h0 h1 h2 h3 d11); iexact H11
    isplitl [H12]
    · unfold owns; iexists _; isplitr
      swap; · iexact H12
      ipureintro; exact View.read_writes_of_cover _ _ _ _ _ (cover0_D_12 c _ _ _ _ _ _ _ _ _ _ _ _ _ _ _ _ _ _ _)
    isplitl [H13]
    · unfold owns; iexists _; isplitr
      swap; · iexact H13
      ipureintro; exact View.read_writes_of_cover _ _ _ _ _ (cover0_D_13 c _ _ _ _ _ _ _ _ _ _ _ _ _ _ _ _ _ _ _)
    isplitl [H14]; · iapply (leaves0_14_D m c t h0 h1 h2 h3 d14); iexact H14
    isplitl [H15]; · iapply (leaves0_15_D m c t h0 h1 h2 h3 d15); iexact H15
    unfold owns; iexists _; isplitr
    swap; · iexact H16
    ipureintro; exact View.read_writes_of_cover _ _ _ _ _ (cover0_D_16 c _ _ _ _ _ _ _ _ _ _ _ _ _ _ _ _ _ _ _)

end Cert.KernelIdeal.Att
-- ==== Proof.Att.SoundE.lean ====
/- The body's obligation at the points of case E. -/
module

public import proofs.«01_k».proof.Proof.Att.State

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

attribute [local irreducible] kernelRun0_E

set_option maxHeartbeats 8000000 in
theorem sound_E (c : Dev nD) (t : Fin cfg0.N) (h0 : t.val % 34 = 0) (h1 : ¬t.val % 544 = 0) (h2 : t.val % 34 ≤ 31) (h3 : ¬2 ≤ t.val % 34) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 544 := lt_of_lt_of_eq t.isLt (show cfg0.N = 544 from N_0)
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t], after0_4]
  rw [show (dats m 0 c).leavesExact 5 t = owns (c : Thread nD τ) (ms0_5 t) fullShare ((dats m 0 c).after 5 t) from by unfold Dat.leavesExact; rw [liveAt0_5 t], after0_5]
  rw [show (dats m 0 c).leavesExact 6 t = owns (c : Thread nD τ) (ms0_6 t) fullShare ((dats m 0 c).after 6 t) from by unfold Dat.leavesExact; rw [liveAt0_6 t], after0_6]
  rw [show (dats m 0 c).leavesExact 7 t = owns (c : Thread nD τ) (ms0_7 t) fullShare ((dats m 0 c).after 7 t) from by unfold Dat.leavesExact; rw [liveAt0_7 t], after0_7]
  rw [show (dats m 0 c).leavesExact 8 t = owns (c : Thread nD τ) (ms0_8 t) fullShare ((dats m 0 c).after 8 t) from by unfold Dat.leavesExact; rw [liveAt0_8 t], after0_8]
  rw [show (dats m 0 c).leavesExact 9 t = owns (c : Thread nD τ) (ms0_9 t) fullShare ((dats m 0 c).after 9 t) from by unfold Dat.leavesExact; rw [liveAt0_9 t], after0_9]
  rw [show (dats m 0 c).leavesExact 10 t = owns (c : Thread nD τ) (ms0_10 t) fullShare ((dats m 0 c).after 10 t) from by unfold Dat.leavesExact; rw [liveAt0_10 t], after0_10]
  rw [show (dats m 0 c).leavesExact 11 t = owns (c : Thread nD τ) (ms0_11 t) fullShare ((dats m 0 c).after 11 t) from by unfold Dat.leavesExact; rw [liveAt0_11_E t ((hcond0_0 t).mpr h0) (fun h => h1 ((hcond0_1 t).mp h)) ((hcond0_2 t).mpr h2) (fun h => h3 ((hcond0_3 t).mp h))], after0_11]
  rw [Dat.leavesExact_idle (dats m 0 c) 12 t (idleAt0_12_E t ((hcond0_0 t).mpr h0) (fun h => h1 ((hcond0_1 t).mp h)) ((hcond0_2 t).mpr h2) (fun h => h3 ((hcond0_3 t).mp h))) (noFlush0_12_E t ((hcond0_0 t).mpr h0) (fun h => h1 ((hcond0_1 t).mp h)) ((hcond0_2 t).mpr h2) (fun h => h3 ((hcond0_3 t).mp h)))]
  rw [Dat.leavesExact_idle (dats m 0 c) 13 t (idleAt0_13_E t ((hcond0_0 t).mpr h0) (fun h => h1 ((hcond0_1 t).mp h)) ((hcond0_2 t).mpr h2) (fun h => h3 ((hcond0_3 t).mp h))) (noFlush0_13_E t ((hcond0_0 t).mpr h0) (fun h => h1 ((hcond0_1 t).mp h)) ((hcond0_2 t).mpr h2) (fun h => h3 ((hcond0_3 t).mp h)))]
  rw [show (dats m 0 c).leavesExact 14 t = owns (c : Thread nD τ) (ms0_14 t) fullShare ((dats m 0 c).after 14 t) from by unfold Dat.leavesExact; rw [liveAt0_14_E t ((hcond0_0 t).mpr h0) (fun h => h1 ((hcond0_1 t).mp h)) ((hcond0_2 t).mpr h2) (fun h => h3 ((hcond0_3 t).mp h))], after0_14]
  rw [show (dats m 0 c).leavesExact 15 t = owns (c : Thread nD τ) (ms0_15 t) fullShare ((dats m 0 c).after 15 t) from by unfold Dat.leavesExact; rw [liveAt0_15_E t ((hcond0_0 t).mpr h0) (fun h => h1 ((hcond0_1 t).mp h)) ((hcond0_2 t).mpr h2) (fun h => h3 ((hcond0_3 t).mp h))], after0_15]
  rw [Dat.leavesExact_idle (dats m 0 c) 16 t (idleAt0_16_E t ((hcond0_0 t).mpr h0) (fun h => h1 ((hcond0_1 t).mp h)) ((hcond0_2 t).mpr h2) (fun h => h3 ((hcond0_3 t).mp h))) (noFlush0_16_E t ((hcond0_0 t).mpr h0) (fun h => h1 ((hcond0_1 t).mp h)) ((hcond0_2 t).mpr h2) (fun h => h3 ((hcond0_3 t).mp h)))]
  by_cases hz : t.val = 0
  · exfalso; have hN : t.val < 544 := lt_of_lt_of_eq t.isLt (show cfg0.N = 544 from N_0); omega
  · rw [PhiS_castSucc m c t, PhiS_pos m c _ _ hz]
    rw [outsAt0_E m c t h0 h1 h2 h3]
    simp only [before0_15_E m c t h0 h1 h2 h3]
    unfold out0_E_11 out0_E_14 out0_E_15 sout0_E_0 sout0_E_1; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((runE c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _).2.2.2.2.2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [H13]; · iexact H13
    isplitl [H14]; · iexists _; iexact H14
    isplitl [H15]; · iexact H15
    isplitl [H16]; · iexact H16
    isplitl [HS0]; · iexists _; iexact HS0
    isplitl [HS1]; · iexists _; iexact HS1
    iintro ⟨H0, H1, H2, H3, H4, H5, H6, H7, H8, H9, H10, ⟨%e11, H11⟩, H12, H13, ⟨%e14, H14⟩, ⟨%e15, H15⟩, H16, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scover0_E_0 c _ _ _ _ _ _ _ _ _ _ _ _ _ _ _ _ _)
        unfold owns; iexists _; isplitr
        swap; · iexact HS1
        ipureintro; exact View.read_writes_of_cover _ _ _ _ _ (scover0_E_1 c _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cover0_E_11 c _ _ _ _ _ _ _ _ _ _ _ _ _ _ _ _ _)
    isplitl [H12]; · iexists _; iexact H12
    isplitl [H13]; · iexists _; iexact H13
    isplitl [H14]
    · unfold owns; iexists _; isplitr
      swap; · iexact H14
      ipureintro; exact View.read_writes_of_cover _ _ _ _ _ (cover0_E_14 c _ _ _ _ _ _ _ _ _ _ _ _ _ _ _ _ _)
    isplitl [H15]
    · unfold owns; iexists _; isplitr
      swap; · iexact H15
      ipureintro; exact View.read_writes_of_cover _ _ _ _ _ (cover0_E_15 c _ _ _ _ _ _ _ _ _ _ _ _ _ _ _ _ _)
    iexists _; iexact H16

end Cert.KernelIdeal.Att
-- ==== Proof.Att.Body.lean ====
/- The body's obligation at a generic point, and the run of the whole kernel: frame and contents of the output arrays. -/
module

public import proofs.«01_k».proof.Proof.Att.SoundA
public import proofs.«01_k».proof.Proof.Att.SoundB
public import proofs.«01_k».proof.Proof.Att.SoundC
public import proofs.«01_k».proof.Proof.Att.SoundD
public import proofs.«01_k».proof.Proof.Att.SoundE
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body meets its obligation at every grid point: one of the five cases holds there. -/
theorem sound_body (c : Dev nD) (t : Fin cfg0.N) :
    bodyPre m c t ⊢ wp frame (wpE (defs₀ (F := F)) Variants.none c none) Set.univ (bodyAt0 t) (fun _ => bodyPost m c t) := by
  have hN : t.val < 544 := lt_of_lt_of_eq t.isLt (show cfg0.N = 544 from N_0)
  by_cases h0 : t.val % 34 = 0
  · by_cases h1 : t.val % 544 = 0
    · exact sound_A m c t h0 h1 (by omega) (by omega)
    · exact sound_E m c t h0 h1 (by omega) (by omega)
  · by_cases h2 : t.val % 34 ≤ 31
    · by_cases h3 : 2 ≤ t.val % 34
      · exact sound_C m c t h0 (by omega) h2 h3
      · exact sound_B m c t h0 (by omega) h2 h3
    · exact sound_D m c t h0 (by omega) h2 (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 544 := N_0; omega)

-- `θ_run_frame_track_shared`'s implicit arguments are found by unifying its conclusion with this one, which takes unfolding plain
-- definitions in a metavariable's type
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Att

end
-- ==== Proof.Att.Same.lean ====
/-
  The program that is idealized and the one read at the machine's floats differ in the one constant that the first names:
  with the name read as the bits it was printed with, they are one program, and a run of the first is a run of the second.
-/
module

public import proofs.«01_k».proof.Proof.Att.Body
public import proofs.«01_k».proof.Defs
public import Idealize.ShloMosaic.Lib.Tactic.ProgEq

@[expose] public section

set_option maxRecDepth 65536
set_option maxHeartbeats 4000000

noncomputable section

open Idealize.ShloMosaic Idealize.ShloMosaic.TcCoe Idealize.ShloMosaic.Tactic
open Idealize.SL.Sem
open scoped Idealize.ShloMosaic.ProgEq

namespace Cert.Att
/-- A named constant read as the bits it was printed with. -/
@[implicit_reducible] def namedBits (F : FTy → Type) [FloatOps F] : Named F := ⟨fun _ _ {φ} b => Scalar.ofBits φ b⟩
end Cert.Att

namespace Cert.KernelIdeal
open Facts₀ Facts
/-- The idealized kernel, its named constant read as its bits. -/
abbrev bits_kernel (F : FTy → Type) [FloatOps F] [Facts] := @cc0_att_core_bwd F _ (Cert.Att.namedBits F) _
/-- The body table over that kernel. -/
def bits_defs₀ (F : FTy → Type) [FloatOps F] [Facts] : Defs nD τ sig (Elt F) Λ₀ := Defs.onTc fun
  | 0, (t, s) => bits_kernel F (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (win0_14.stage (s 14)) (hstage0_14 ((s 14).cast nbuf0_14)) (win0_15.stage (s 15)) (hstage0_15 ((s 15).cast nbuf0_15)) (win0_16.stage (s 16)) (hstage0_16 ((s 16).cast nbuf0_16)) (Memref.whole cc0_scratch0) (Memref.isWhole_whole _) (Memref.whole cc0_scratch1) (Memref.isWhole_whole _)
  | ⟨_ + 1, h⟩, _ => absurd h (Nat.not_lt.2 (Nat.le_add_left _ _))
/-- The whole table over that kernel. -/
def bits_defs (F : FTy → Type) [FloatOps F] [Facts] : Defs nD τ sig (Elt F) (Pipeline.Sig Λ₀ (Fin 1) fun p => (pcfgs (F := F) p).Adm) :=
  Pipeline.defs pcfgs (bits_defs₀ F)
end Cert.KernelIdeal

namespace Cert.Kernel
open Facts₀ Facts
/-- The kernel as printed. -/
abbrev bits_kernel (F : FTy → Type) [FloatOps F] [Facts] := @cc0_att_core_bwd F _ _
/-- The body table over that kernel. -/
def bits_defs₀ (F : FTy → Type) [FloatOps F] [Facts] : Defs nD τ sig (Elt F) Λ₀ := Defs.onTc fun
  | 0, (t, s) => bits_kernel F (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (win0_14.stage (s 14)) (hstage0_14 ((s 14).cast nbuf0_14)) (win0_15.stage (s 15)) (hstage0_15 ((s 15).cast nbuf0_15)) (win0_16.stage (s 16)) (hstage0_16 ((s 16).cast nbuf0_16)) (Memref.whole cc0_scratch0) (Memref.isWhole_whole _) (Memref.whole cc0_scratch1) (Memref.isWhole_whole _)
  | ⟨_ + 1, h⟩, _ => absurd h (Nat.not_lt.2 (Nat.le_add_left _ _))
/-- The whole table over that kernel. -/
def bits_defs (F : FTy → Type) [FloatOps F] [Facts] : Defs nD τ sig (Elt F) (Pipeline.Sig Λ₀ (Fin 1) fun p => (pcfgs (F := F) p).Adm) :=
  Pipeline.defs pcfgs (bits_defs₀ F)
end Cert.Kernel

prog_eq Cert.Att.kernel_same : Cert.KernelIdeal.bits_kernel Cert.Kernel.bits_kernel from Cert.KernelIdeal to Cert.Kernel at Bits inferInstance by
  intros; sl_kernel_rfl

lift_eq Cert.Att.defs₀_same : Cert.KernelIdeal.bits_defs₀ Cert.Kernel.bits_defs₀ via Cert.Att.kernel_same of Cert.KernelIdeal.bits_kernel Cert.Kernel.bits_kernel from Cert.KernelIdeal to Cert.Kernel at Bits inferInstance

lift_eq Cert.Att.defs_same : Cert.KernelIdeal.bits_defs Cert.Kernel.bits_defs via Cert.Att.defs₀_same of Cert.KernelIdeal.bits_defs₀ Cert.Kernel.bits_defs₀ from Cert.KernelIdeal to Cert.Kernel at Bits inferInstance

namespace Cert.Att

theorem main_same [Cert.KernelIdeal.Facts] [Cert.Kernel.Facts] : @Cert.KernelIdeal.main Bits _ _ = @Cert.Kernel.main Bits _ _ := by
  sl_kernel_rfl

theorem defs_bits [Cert.KernelIdeal.Facts] : @Cert.KernelIdeal.defs Bits _ (namedBits Bits) _ = Cert.KernelIdeal.bits_defs Bits := by
  sl_kernel_rfl

theorem defs_printed [Cert.Kernel.Facts] : Cert.Kernel.bits_defs Bits = Cert.Kernel.defs (F := Bits) := by
  sl_kernel_rfl

/-- The frame of the program as printed. -/
theorem frame_printed [hI : Cert.KernelIdeal.Facts] [hK : Cert.Kernel.Facts] : Cert.quiescent_Kernel := by
  intro m g _
  have h := @Cert.KernelIdeal.Att.frame Bits _ (namedBits Bits) m g
  rw [defs_bits, defs_same hK, main_same, defs_printed] at h
  exact h

end Cert.Att

end
-- ==== Proof.Att.Vals.lean ====
/- What each case of the body leaves in its outputs and accumulators, as the body's named expressions of the blocks read. -/
module

public import proofs.«01_k».proof.Proof.Att.Outs
public import Idealize.ShloMosaic.Lib.ValueIdxCore
public import Idealize.ShloMosaic.Lib.WholeRead
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.ValueIdx
open Idealize.ShloMosaic.Pipeline (Dat Cfg Window BodyObligation cellOf)

/-- A load of the whole of a memref held at the contents that read `X` reads `X`. -/
theorem rd {sig : RefSig} {κ : Kind} {sp : Space} {s : Shape} {e : EltTy} {Val : EltTy → Type} {m : Memref sig κ sp s e} (h : m.IsWhole)
    (X : s.Idx → Val e) {off : Fin s.rank → ℕ} (inb : ∀ a, off a + s.size a ≤ s.size a) :
    View.readAt Val m.view (Rect.unit off s.size inb).toLoadRect (h.unread X) = X :=
  (View.readAt_full m.view _ inb).trans (h.read_unread X)

theorem z2 : (![0, 0] : Fin 2 → ℕ) = fun _ => 0 := by funext a; fin_cases a <;> rfl

/-- A load of the whole of what a last whole store left reads its payload. -/
theorem rc {sig : RefSig} {κ : Kind} {sp : Space} {s : Shape} {e : EltTy} {Val : EltTy → Type} [∀ e, Nonempty (Val e)] (v : View sig κ sp s e)
    {off : Fin s.rank → ℕ} (inb inb' : ∀ a, off a + s.size a ≤ s.size a) (w : s.Idx → Val e) (L : List (View.Piece Val s e)) :
    v.readCov (⟨Rect.unit off s.size inb, w⟩ :: L) (Rect.unit off s.size inb').toLoadRect = w :=
  View.readCov_cons_toLoadRect v (Rect.unit off s.size inb) w L

theorem rd_a {sig : RefSig} {κ : Kind} {sp : Space} {e : EltTy} {Val : EltTy → Type} {m : Memref sig κ sp S256x128 e} (h : m.IsWhole)
    (X : S256x128.Idx → Val e) (inb) :
    View.readAt Val m.view (Rect.unit (s := S256x128) ![0, 0] ![256, 128] inb).toLoadRect (h.unread X) = X :=
  rd h X inb

theorem rc_a {sig : RefSig} {κ : Kind} {sp : Space} {e : EltTy} {Val : EltTy → Type} [∀ e, Nonempty (Val e)] (v : View sig κ sp S256x128 e)
    (inb inb') (w : S256x128.Idx → Val e) (L : List (View.Piece Val S256x128 e)) :
    v.readCov (⟨Rect.unit (s := S256x128) ![0, 0] ![256, 128] inb, w⟩ :: L) (Rect.unit (s := S256x128) ![0, 0] ![256, 128] inb').toLoadRect = w :=
  rc v inb inb' w L

theorem rd_b {sig : RefSig} {κ : Kind} {sp : Space} {e : EltTy} {Val : EltTy → Type} {m : Memref sig κ sp S1x128 e} (h : m.IsWhole)
    (X : S1x128.Idx → Val e) (inb) :
    View.readAt Val m.view (Rect.unit (s := S1x128) ![0, 0] ![1, 128] inb).toLoadRect (h.unread X) = X :=
  rd h X inb

theorem rc_b {sig : RefSig} {κ : Kind} {sp : Space} {e : EltTy} {Val : EltTy → Type} [∀ e, Nonempty (Val e)] (v : View sig κ sp S1x128 e)
    (inb inb') (w : S1x128.Idx → Val e) (L : List (View.Piece Val S1x128 e)) :
    v.readCov (⟨Rect.unit (s := S1x128) ![0, 0] ![1, 128] inb, w⟩ :: L) (Rect.unit (s := S1x128) ![0, 0] ![1, 128] inb').toLoadRect = w :=
  rc v inb inb' w L

theorem rd_c {sig : RefSig} {κ : Kind} {sp : Space} {e : EltTy} {Val : EltTy → Type} {m : Memref sig κ sp S1x256x768 e} (h : m.IsWhole)
    (X : S1x256x768.Idx → Val e) (inb) :
    View.readAt Val m.view (Rect.unit (s := S1x256x768) ![0, 0, 0] ![1, 256, 768] inb).toLoadRect (h.unread X) = X :=
  rd h X inb

theorem rc_c {sig : RefSig} {κ : Kind} {sp : Space} {e : EltTy} {Val : EltTy → Type} [∀ e, Nonempty (Val e)] (v : View sig κ sp S1x256x768 e)
    (inb inb') (w : S1x256x768.Idx → Val e) (L : List (View.Piece Val S1x256x768 e)) :
    v.readCov (⟨Rect.unit (s := S1x256x768) ![0, 0, 0] ![1, 256, 768] inb, w⟩ :: L) (Rect.unit (s := S1x256x768) ![0, 0, 0] ![1, 256, 768] inb').toLoadRect = w :=
  rc v inb inb' w L

theorem rd_d {sig : RefSig} {κ : Kind} {sp : Space} {e : EltTy} {Val : EltTy → Type} {m : Memref sig κ sp S768x128 e} (h : m.IsWhole)
    (X : S768x128.Idx → Val e) (inb) :
    View.readAt Val m.view (Rect.unit (s := S768x128) ![0, 0] ![768, 128] inb).toLoadRect (h.unread X) = X :=
  rd h X inb

theorem rc_d {sig : RefSig} {κ : Kind} {sp : Space} {e : EltTy} {Val : EltTy → Type} [∀ e, Nonempty (Val e)] (v : View sig κ sp S768x128 e)
    (inb inb') (w : S768x128.Idx → Val e) (L : List (View.Piece Val S768x128 e)) :
    v.readCov (⟨Rect.unit (s := S768x128) ![0, 0] ![768, 128] inb, w⟩ :: L) (Rect.unit (s := S768x128) ![0, 0] ![768, 128] inb').toLoadRect = w :=
  rc v inb inb' w L

variable {F : FTy → Type} [FloatOps F] [Named F]

/-- Rows `0..255` of an accumulator. -/
def top (a : Vec F S768x128 .f32) : Vec F S256x128 .f32 :=
  fun j => a (ix2 ⟨(j 0).val, by have := (j 0).isLt; change _ < 256 at this; omega⟩ (j 1))

/-- Rows `256..767` of an accumulator. -/
def rest (a : Vec F S768x128 .f32) : Vec F S512x128 .f32 :=
  fun j => a (ix2 ⟨(j 0).val + 256, by have := (j 0).isLt; change _ < 512 at this; omega⟩ (j 1))

/-- An accumulator after its rows `0..511` were overwritten by `w` and its rows `512..767` by `z`. -/
def shifted (w : Vec F S512x128 .f32) (z : Vec F S256x128 .f32) : Vec F S768x128 .f32 :=
  fun i => if h : (i 0).val < 512 then w (ix2 ⟨(i 0).val, h⟩ (i 1))
    else z (ix2 ⟨(i 0).val - 512, by have := (i 0).isLt; change _ < 768 at this; omega⟩ (i 1))

theorem canon_shift (z : Vec F S256x128 .f32) (w : Vec F S512x128 .f32) (L : List (View.Piece (Elt F) S768x128 .f32)) :
    View.canon (⟨Rect.unit ![512, 0] ![256, 128] inb_S768x128_S256x128_512_0, z⟩ ::
      ⟨Rect.unit ![0, 0] ![512, 128] inb_S768x128_S512x128_0_0, w⟩ :: L) = shifted w z := by
  funext i
  have hi : (i 0).val < 768 := (i 0).isLt
  by_cases h : (i 0).val < 512
  · rw [View.canon_cons_of_not_mem]
    · have e : i = (Rect.unit (s := S768x128) ![0, 0] ![512, 128] inb_S768x128_S512x128_0_0).emb
          (ix2 ⟨(i 0).val, h⟩ (i 1)) := by
        funext a; apply Fin.ext; fin_cases a
        · show (i 0).val = 0 + 1 * (i 0).val; omega
        · show (i 1).val = 0 + 1 * (i 1).val; omega
      conv_lhs => rw [e]
      rw [View.canon_cons_emb]
      unfold shifted; rw [dif_pos h]
    · intro hm
      obtain ⟨x, hx⟩ := (Rect.unit (s := S768x128) ![512, 0] ![256, 128] inb_S768x128_S256x128_512_0).exists_idx_of_mem hm
      have := congrArg (fun j => (j 0).val) hx
      have e2 : 512 + 1 * (x 0).val = (i 0).val := this
      omega
  · have e : i = (Rect.unit (s := S768x128) ![512, 0] ![256, 128] inb_S768x128_S256x128_512_0).emb
        (ix2 ⟨(i 0).val - 512, by omega⟩ (i 1)) := by
      funext a; apply Fin.ext; fin_cases a
      · show (i 0).val = 512 + 1 * ((i 0).val - 512); omega
      · show (i 1).val = 0 + 1 * (i 1).val; omega
    conv_lhs => rw [e]
    rw [View.canon_cons_emb]
    unfold shifted; rw [dif_neg h]

theorem cov_rest {sig : RefSig} {κ : Kind} {sp : Space} (v : View sig κ sp S768x128 .f32) (a : Vec F S768x128 .f32) (L : List (View.Piece (Elt F) S768x128 .f32)) (inb inb') :
    v.readCov (⟨Rect.unit ![0, 0] ![768, 128] inb, a⟩ :: L) (Rect.unit ![256, 0] ![512, 128] inb').toLoadRect = rest a := by
  rw [View.readCov_eq_canon', View.canon_cons_unit_zero z2]
  funext j; unfold rest
  exact congrArg a (by funext x; apply Fin.ext; fin_cases x
                       · show 256 + 1 * (j 0).val = (j 0).val + 256; omega
                       · show 0 + 1 * (j 1).val = (j 1).val; omega)

theorem cov_top {sig : RefSig} {κ : Kind} {sp : Space} (v : View sig κ sp S768x128 .f32) (a : Vec F S768x128 .f32) (L : List (View.Piece (Elt F) S768x128 .f32)) (inb inb') :
    v.readCov (⟨Rect.unit ![0, 0] ![768, 128] inb, a⟩ :: L) (Rect.unit ![0, 0] ![256, 128] inb').toLoadRect = top a := by
  rw [View.readCov_eq_canon', View.canon_cons_unit_zero z2]
  funext j; unfold top
  exact congrArg a (by funext x; apply Fin.ext; fin_cases x
                       · show 0 + 1 * (j 0).val = (j 0).val; omega
                       · show 0 + 1 * (j 1).val = (j 1).val; omega)

theorem rd_rest {sig : RefSig} {κ : Kind} {sp : Space} {m : Memref sig κ sp S768x128 .f32} (h : m.IsWhole) (a : Vec F S768x128 .f32) (inb') :
    View.readAt (Elt F) m.view (Rect.unit ![256, 0] ![512, 128] inb').toLoadRect (h.unread a) = rest a := by
  funext j; rw [h.readAt_unread]; unfold rest
  exact congrArg a (by funext x; apply Fin.ext; fin_cases x
                       · show 256 + 1 * (j 0).val = (j 0).val + 256; omega
                       · show 0 + 1 * (j 1).val = (j 1).val; omega)

theorem rd_top {sig : RefSig} {κ : Kind} {sp : Space} {m : Memref sig κ sp S768x128 .f32} (h : m.IsWhole) (a : Vec F S768x128 .f32) (inb') :
    View.readAt (Elt F) m.view (Rect.unit ![0, 0] ![256, 128] inb').toLoadRect (h.unread a) = top a := by
  funext j; rw [h.readAt_unread]; unfold top
  exact congrArg a (by funext x; apply Fin.ext; fin_cases x
                       · show 0 + 1 * (j 0).val = (j 0).val; omega
                       · show 0 + 1 * (j 1).val = (j 1).val; omega)

theorem rd_s0 (h : (scM0_0).IsWhole) (X : Vec F S768x128 .f32) (inb) :
    View.readAt (Elt F) (View.whole cc0_scratch0) (Rect.unit (s := S768x128) ![0, 0] ![768, 128] inb).toLoadRect (h.unread X) = X :=
  rd h X inb

theorem rdr_s0 (h : (scM0_0).IsWhole) (X : Vec F S768x128 .f32) (inb) :
    View.readAt (Elt F) (View.whole cc0_scratch0) (Rect.unit (s := S768x128) ![256, 0] ![512, 128] inb).toLoadRect (h.unread X) = rest X :=
  rd_rest h X inb

theorem rdt_s0 (h : (scM0_0).IsWhole) (X : Vec F S768x128 .f32) (inb) :
    View.readAt (Elt F) (View.whole cc0_scratch0) (Rect.unit (s := S768x128) ![0, 0] ![256, 128] inb).toLoadRect (h.unread X) = top X :=
  rd_top h X inb

theorem rd_s1 (h : (scM0_1).IsWhole) (X : Vec F S768x128 .f32) (inb) :
    View.readAt (Elt F) (View.whole cc0_scratch1) (Rect.unit (s := S768x128) ![0, 0] ![768, 128] inb).toLoadRect (h.unread X) = X :=
  rd h X inb

theorem rdr_s1 (h : (scM0_1).IsWhole) (X : Vec F S768x128 .f32) (inb) :
    View.readAt (Elt F) (View.whole cc0_scratch1) (Rect.unit (s := S768x128) ![256, 0] ![512, 128] inb).toLoadRect (h.unread X) = rest X :=
  rd_rest h X inb

theorem rdt_s1 (h : (scM0_1).IsWhole) (X : Vec F S768x128 .f32) (inb) :
    View.readAt (Elt F) (View.whole cc0_scratch1) (Rect.unit (s := S768x128) ![0, 0] ![256, 128] inb).toLoadRect (h.unread X) = top X :=
  rd_top h X inb

/-- The three key blocks, one under the other. -/
def cat3 (x1 x2 x3 : Vec F S256x128 .f32) : Vec F S768x128 .f32 :=
  concatenate S768x128 0 [⟨S256x128, x1⟩, ⟨S256x128, x2⟩, ⟨S256x128, x3⟩] concatenates_S256x128_S256x128_S256x128_S768x128_d0

theorem cat3_congr {x1 x2 x3 y1 y2 y3 : Vec F S256x128 .f32} (h1 : y1 = x1) (h2 : y2 = x2) (h3 : y3 = x3) :
    cat3 y1 y2 y3 = cat3 x1 x2 x3 := by subst h1 h2 h3; rfl

/-- The second grid coordinate as the word the body computes with. -/
abbrev a1 (t : Fin cfg0.N) : BitVec 32 := BitVec.ofNat 32 ((grid0.coords t) 1).val

section
variable (t : Fin cfg0.N) (x0 x1 x2 x3 x4 x5 x6 : Vec F S256x128 .f32) (x7 x8 : Vec F S1x128 .f32) (x9 : Vec F S1x256x768 .f32) (x10 : Vec F S256x128 .bf16)

/-- A point's gradient of the scores. -/
def DSp : FVec F S256x768 .f32 := k0_pay7 (a1 t) (k0_pay4 x0 x1 x2 x3 x7 x8) x9 x4 x5 x6 x10

/-- A point's accumulator of the keys' gradient, from the one found. -/
def acK (a : Vec F S768x128 .f32) : FVec F S768x128 .f32 :=
  k0_pay11 (k0_pay2 x0 x7) (DSp t x0 x1 x2 x3 x4 x5 x6 x7 x8 x9 x10) a

/-- A point's accumulator of the values' gradient, from the one found. -/
def acV (a : Vec F S768x128 .f32) : FVec F S768x128 .f32 :=
  k0_pay6 (a1 t) (k0_pay4 x0 x1 x2 x3 x7 x8) x9 x10 a

/-- A point's gradient of the queries. -/
def dQp : FVec F S256x128 .bf16 :=
  k0_pay27 (k0_pay12 x0) (k0_pay13 x0) (k0_pay15 (k0_pay3 x1 x2 x3 x8) (DSp t x0 x1 x2 x3 x4 x5 x6 x7 x8 x9 x10) x7)
    (k0_pay16 (k0_pay3 x1 x2 x3 x8) (DSp t x0 x1 x2 x3 x4 x5 x6 x7 x8 x9 x10) x0 x7) (FloatOps.ofBits .f32 1124073472#32)

/-- A point's sum of the queries' gain gradient, from the one found. -/
def gQp (a : Vec F S1x128 .f32) : FVec F S1x128 .f32 :=
  k0_pay28 (k0_pay14 (k0_pay3 x1 x2 x3 x8) (DSp t x0 x1 x2 x3 x4 x5 x6 x7 x8 x9 x10) x0) a
end

theorem v44_A {c : Dev nD} {M1 M2 M3 : Memref sig .tc .vmem S256x128 .f32} {h1 : M1.IsWhole} {h2 : M2.IsWhole} {h3 : M3.IsWhole} {x1 x2 x3 : Vec F S256x128 .f32} :
    kernelRun0_A.sl.v44 c M1 h1 M2 h2 M3 h3 x1 x2 x3 = cat3 x1 x2 x3 :=
  cat3_congr (rd_a h1 x1 _) (rd_a h2 x2 _) (rd_a h3 x3 _)

section

variable (c : Dev nD) (t : Fin cfg0.N) (hc0 : cond0_0 (grid0.coords t)) (hc1 : cond0_1 (grid0.coords t)) (hc2 : cond0_2 (grid0.coords t)) (hc3 : ¬cond0_3 (grid0.coords t))
  (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16)

set_option maxHeartbeats 2000000 in
theorem out0_A_11_eq :
    out0_A_11 c t hc0 hc1 hc2 hc3 x0 x1 x2 x3 x4 x5 x6 x7 x8 x9 x10 = dQp t x0 x1 x2 x3 x4 x5 x6 x7 x8 x9 x10 := by
  unfold out0_A_11 runA kernelRun0_A
  rw [View.read_writes_junk_eq_canon]
  dsimp only
  refine (View.canon_cons_unit_zero z2 _ _ _).trans ?_
  simp only [v44_A, kernelRun0_A.sl.H14_1, kernelRun0_A.sl.H15_1, kernelRun0_A.sl.HS0_1, kernelRun0_A.sl.HS0_2, kernelRun0_A.sl.HS1_1, kernelRun0_A.sl.HS1_2, kernelRun0_A.sl.HS1_3, kernelRun0_A.sl.cst_18, kernelRun0_A.sl.cst_19, kernelRun0_A.sl.cst_20, kernelRun0_A.sl.cst_27, kernelRun0_A.sl.cst_34, kernelRun0_A.sl.cst_35, kernelRun0_A.sl.cst_65, kernelRun0_A.sl.cst_68, kernelRun0_A.sl.cst_78, kernelRun0_A.sl.r, kernelRun0_A.sl.r_1, kernelRun0_A.sl.v105, kernelRun0_A.sl.v106, kernelRun0_A.sl.v107, kernelRun0_A.sl.v110, kernelRun0_A.sl.v112, kernelRun0_A.sl.v113, kernelRun0_A.sl.v114, kernelRun0_A.sl.v115, kernelRun0_A.sl.v116, kernelRun0_A.sl.v117, kernelRun0_A.sl.v119, kernelRun0_A.sl.v120, kernelRun0_A.sl.v133, kernelRun0_A.sl.v134, kernelRun0_A.sl.v135, kernelRun0_A.sl.v137, kernelRun0_A.sl.v138, kernelRun0_A.sl.v139, kernelRun0_A.sl.v14, kernelRun0_A.sl.v140, kernelRun0_A.sl.v150, kernelRun0_A.sl.v22, kernelRun0_A.sl.v27, kernelRun0_A.sl.v31, kernelRun0_A.sl.v32, kernelRun0_A.sl.v33, kernelRun0_A.sl.v34, kernelRun0_A.sl.v35, kernelRun0_A.sl.v36, kernelRun0_A.sl.v37, kernelRun0_A.sl.v38, kernelRun0_A.sl.v39, kernelRun0_A.sl.v40, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v56, kernelRun0_A.sl.v57, kernelRun0_A.sl.v58, kernelRun0_A.sl.v60, kernelRun0_A.sl.v61, kernelRun0_A.sl.v62, kernelRun0_A.sl.v63, kernelRun0_A.sl.v64, kernelRun0_A.sl.v65, kernelRun0_A.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_A_15_eq :
    out0_A_15 c t hc0 hc1 hc2 hc3 x0 x1 x2 x3 x4 x5 x6 x7 x8 x9 x10 = gQp t x0 x1 x2 x3 x4 x5 x6 x7 x8 x9 x10 k0_pay25 := by
  unfold out0_A_15 runA kernelRun0_A
  rw [View.read_writes_junk_eq_canon]
  dsimp only
  refine (View.canon_cons_unit_zero z2 _ _ _).trans ?_
  simp only [v44_A, kernelRun0_A.sl.H14_1, kernelRun0_A.sl.H15_1, kernelRun0_A.sl.HS0_1, kernelRun0_A.sl.HS0_2, kernelRun0_A.sl.HS1_1, kernelRun0_A.sl.HS1_2, kernelRun0_A.sl.HS1_3, kernelRun0_A.sl.cst_18, kernelRun0_A.sl.cst_19, kernelRun0_A.sl.cst_20, kernelRun0_A.sl.cst_27, kernelRun0_A.sl.cst_34, kernelRun0_A.sl.cst_35, kernelRun0_A.sl.cst_65, kernelRun0_A.sl.cst_68, kernelRun0_A.sl.cst_78, kernelRun0_A.sl.r, kernelRun0_A.sl.r_1, kernelRun0_A.sl.v105, kernelRun0_A.sl.v106, kernelRun0_A.sl.v107, kernelRun0_A.sl.v110, kernelRun0_A.sl.v112, kernelRun0_A.sl.v113, kernelRun0_A.sl.v114, kernelRun0_A.sl.v115, kernelRun0_A.sl.v116, kernelRun0_A.sl.v117, kernelRun0_A.sl.v119, kernelRun0_A.sl.v120, kernelRun0_A.sl.v133, kernelRun0_A.sl.v134, kernelRun0_A.sl.v135, kernelRun0_A.sl.v137, kernelRun0_A.sl.v138, kernelRun0_A.sl.v139, kernelRun0_A.sl.v14, kernelRun0_A.sl.v140, kernelRun0_A.sl.v150, kernelRun0_A.sl.v22, kernelRun0_A.sl.v27, kernelRun0_A.sl.v31, kernelRun0_A.sl.v32, kernelRun0_A.sl.v33, kernelRun0_A.sl.v34, kernelRun0_A.sl.v35, kernelRun0_A.sl.v36, kernelRun0_A.sl.v37, kernelRun0_A.sl.v38, kernelRun0_A.sl.v39, kernelRun0_A.sl.v40, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v56, kernelRun0_A.sl.v57, kernelRun0_A.sl.v58, kernelRun0_A.sl.v60, kernelRun0_A.sl.v61, kernelRun0_A.sl.v62, kernelRun0_A.sl.v63, kernelRun0_A.sl.v64, kernelRun0_A.sl.v65, kernelRun0_A.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_A_16_eq :
    out0_A_16 c t hc0 hc1 hc2 hc3 x0 x1 x2 x3 x4 x5 x6 x7 x8 x9 x10 = k0_pay26 := by
  unfold out0_A_16 runA kernelRun0_A
  rw [View.read_writes_junk_eq_canon]
  dsimp only
  refine (View.canon_cons_unit_zero z2 _ _ _).trans ?_
  simp only [v44_A, kernelRun0_A.sl.H14_1, kernelRun0_A.sl.H15_1, kernelRun0_A.sl.HS0_1, kernelRun0_A.sl.HS0_2, kernelRun0_A.sl.HS1_1, kernelRun0_A.sl.HS1_2, kernelRun0_A.sl.HS1_3, kernelRun0_A.sl.cst_18, kernelRun0_A.sl.cst_19, kernelRun0_A.sl.cst_20, kernelRun0_A.sl.cst_27, kernelRun0_A.sl.cst_34, kernelRun0_A.sl.cst_35, kernelRun0_A.sl.cst_65, kernelRun0_A.sl.cst_68, kernelRun0_A.sl.cst_78, kernelRun0_A.sl.r, kernelRun0_A.sl.r_1, kernelRun0_A.sl.v105, kernelRun0_A.sl.v106, kernelRun0_A.sl.v107, kernelRun0_A.sl.v110, kernelRun0_A.sl.v112, kernelRun0_A.sl.v113, kernelRun0_A.sl.v114, kernelRun0_A.sl.v115, kernelRun0_A.sl.v116, kernelRun0_A.sl.v117, kernelRun0_A.sl.v119, kernelRun0_A.sl.v120, kernelRun0_A.sl.v133, kernelRun0_A.sl.v134, kernelRun0_A.sl.v135, kernelRun0_A.sl.v137, kernelRun0_A.sl.v138, kernelRun0_A.sl.v139, kernelRun0_A.sl.v14, kernelRun0_A.sl.v140, kernelRun0_A.sl.v150, kernelRun0_A.sl.v22, kernelRun0_A.sl.v27, kernelRun0_A.sl.v31, kernelRun0_A.sl.v32, kernelRun0_A.sl.v33, kernelRun0_A.sl.v34, kernelRun0_A.sl.v35, kernelRun0_A.sl.v36, kernelRun0_A.sl.v37, kernelRun0_A.sl.v38, kernelRun0_A.sl.v39, kernelRun0_A.sl.v40, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v56, kernelRun0_A.sl.v57, kernelRun0_A.sl.v58, kernelRun0_A.sl.v60, kernelRun0_A.sl.v61, kernelRun0_A.sl.v62, kernelRun0_A.sl.v63, kernelRun0_A.sl.v64, kernelRun0_A.sl.v65, kernelRun0_A.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_A_0_eq :
    sout0_A_0 c t hc0 hc1 hc2 hc3 x0 x1 x2 x3 x4 x5 x6 x7 x8 x9 x10 = shifted (k0_pay29 (rest (acK t x0 x1 x2 x3 x4 x5 x6 x7 x8 x9 x10 k0_pay22))) k0_pay30 := by
  unfold sout0_A_0 runA kernelRun0_A
  rw [View.read_writes_junk_eq_canon]
  dsimp only
  refine (canon_shift _ _ _).trans ?_
  simp only [v44_A, kernelRun0_A.sl.H14_1, kernelRun0_A.sl.H15_1, kernelRun0_A.sl.HS0_1, kernelRun0_A.sl.HS0_2, kernelRun0_A.sl.HS1_1, kernelRun0_A.sl.HS1_2, kernelRun0_A.sl.HS1_3, kernelRun0_A.sl.cst_18, kernelRun0_A.sl.cst_19, kernelRun0_A.sl.cst_20, kernelRun0_A.sl.cst_27, kernelRun0_A.sl.cst_34, kernelRun0_A.sl.cst_35, kernelRun0_A.sl.cst_65, kernelRun0_A.sl.cst_68, kernelRun0_A.sl.cst_78, kernelRun0_A.sl.r, kernelRun0_A.sl.r_1, kernelRun0_A.sl.v105, kernelRun0_A.sl.v106, kernelRun0_A.sl.v107, kernelRun0_A.sl.v110, kernelRun0_A.sl.v112, kernelRun0_A.sl.v113, kernelRun0_A.sl.v114, kernelRun0_A.sl.v115, kernelRun0_A.sl.v116, kernelRun0_A.sl.v117, kernelRun0_A.sl.v119, kernelRun0_A.sl.v120, kernelRun0_A.sl.v133, kernelRun0_A.sl.v134, kernelRun0_A.sl.v135, kernelRun0_A.sl.v137, kernelRun0_A.sl.v138, kernelRun0_A.sl.v139, kernelRun0_A.sl.v14, kernelRun0_A.sl.v140, kernelRun0_A.sl.v150, kernelRun0_A.sl.v22, kernelRun0_A.sl.v27, kernelRun0_A.sl.v31, kernelRun0_A.sl.v32, kernelRun0_A.sl.v33, kernelRun0_A.sl.v34, kernelRun0_A.sl.v35, kernelRun0_A.sl.v36, kernelRun0_A.sl.v37, kernelRun0_A.sl.v38, kernelRun0_A.sl.v39, kernelRun0_A.sl.v40, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v56, kernelRun0_A.sl.v57, kernelRun0_A.sl.v58, kernelRun0_A.sl.v60, kernelRun0_A.sl.v61, kernelRun0_A.sl.v62, kernelRun0_A.sl.v63, kernelRun0_A.sl.v64, kernelRun0_A.sl.v65, kernelRun0_A.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_A_1_eq :
    sout0_A_1 c t hc0 hc1 hc2 hc3 x0 x1 x2 x3 x4 x5 x6 x7 x8 x9 x10 = shifted (k0_pay31 (rest (acV t x0 x1 x2 x3 x7 x8 x9 x10 k0_pay23))) (k0_pay1 k0_pay32) := by
  unfold sout0_A_1 runA kernelRun0_A
  rw [View.read_writes_junk_eq_canon]
  dsimp only
  try unfold kernelRun0_A.sl.HS1_3
  refine (canon_shift _ _ _).trans ?_
  simp only [v44_A, kernelRun0_A.sl.H14_1, kernelRun0_A.sl.H15_1, kernelRun0_A.sl.HS0_1, kernelRun0_A.sl.HS0_2, kernelRun0_A.sl.HS1_1, kernelRun0_A.sl.HS1_2, kernelRun0_A.sl.HS1_3, kernelRun0_A.sl.cst_18, kernelRun0_A.sl.cst_19, kernelRun0_A.sl.cst_20, kernelRun0_A.sl.cst_27, kernelRun0_A.sl.cst_34, kernelRun0_A.sl.cst_35, kernelRun0_A.sl.cst_65, kernelRun0_A.sl.cst_68, kernelRun0_A.sl.cst_78, kernelRun0_A.sl.r, kernelRun0_A.sl.r_1, kernelRun0_A.sl.v105, kernelRun0_A.sl.v106, kernelRun0_A.sl.v107, kernelRun0_A.sl.v110, kernelRun0_A.sl.v112, kernelRun0_A.sl.v113, kernelRun0_A.sl.v114, kernelRun0_A.sl.v115, kernelRun0_A.sl.v116, kernelRun0_A.sl.v117, kernelRun0_A.sl.v119, kernelRun0_A.sl.v120, kernelRun0_A.sl.v133, kernelRun0_A.sl.v134, kernelRun0_A.sl.v135, kernelRun0_A.sl.v137, kernelRun0_A.sl.v138, kernelRun0_A.sl.v139, kernelRun0_A.sl.v14, kernelRun0_A.sl.v140, kernelRun0_A.sl.v150, kernelRun0_A.sl.v22, kernelRun0_A.sl.v27, kernelRun0_A.sl.v31, kernelRun0_A.sl.v32, kernelRun0_A.sl.v33, kernelRun0_A.sl.v34, kernelRun0_A.sl.v35, kernelRun0_A.sl.v36, kernelRun0_A.sl.v37, kernelRun0_A.sl.v38, kernelRun0_A.sl.v39, kernelRun0_A.sl.v40, kernelRun0_A.sl.v45, kernelRun0_A.sl.v46, kernelRun0_A.sl.v47, kernelRun0_A.sl.v48, kernelRun0_A.sl.v49, kernelRun0_A.sl.v50, kernelRun0_A.sl.v51, kernelRun0_A.sl.v52, kernelRun0_A.sl.v53, kernelRun0_A.sl.v54, kernelRun0_A.sl.v56, kernelRun0_A.sl.v57, kernelRun0_A.sl.v58, kernelRun0_A.sl.v60, kernelRun0_A.sl.v61, kernelRun0_A.sl.v62, kernelRun0_A.sl.v63, kernelRun0_A.sl.v64, kernelRun0_A.sl.v65, kernelRun0_A.sl.v91, rd_s0, rd_s1, rdr_s0, rdr_s1, rdt_s0, rdt_s1, rd_a, rd_b, rd_c, rd_d, rc_a, rc_b, rc_c, rc_d, rd_top, rd_rest, cov_rest, cov_top]
  all_goals rfl

end

theorem v44_B {c : Dev nD} {M1 M2 M3 : Memref sig .tc .vmem S256x128 .f32} {h1 : M1.IsWhole} {h2 : M2.IsWhole} {h3 : M3.IsWhole} {x1 x2 x3 : Vec F S256x128 .f32} :
    kernelRun0_B.sl.v44 c M1 h1 M2 h2 M3 h3 x1 x2 x3 = cat3 x1 x2 x3 :=
  cat3_congr (rd_a h1 x1 _) (rd_a h2 x2 _) (rd_a h3 x3 _)

section

variable (c : Dev nD) (t : Fin cfg0.N) (hc0 : ¬cond0_0 (grid0.coords t)) (hc1 : ¬cond0_1 (grid0.coords t)) (hc2 : cond0_2 (grid0.coords t)) (hc3 : ¬cond0_3 (grid0.coords t))
  (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 : Vec F S1x128 .f32) (xs0 xs1 : Vec F S768x128 .f32)

set_option maxHeartbeats 2000000 in
theorem out0_B_11_eq :
    out0_B_11 c t hc0 hc1 hc2 hc3 x0 x1 x2 x3 x4 x5 x6 x7 x8 x9 x10 xo14 xo15 xs0 xs1 = dQp t x0 x1 x2 x3 x4 x5 x6 x7 x8 x9 x10 := by
  unfold out0_B_11 runB kernelRun0_B
  rw [View.read_writes_junk_eq_canon]
  dsimp only
  refine (View.canon_cons_unit_zero z2 _ _ _).trans ?_
  simp only [v44_B, kernelRun0_B.sl.HS0_1, kernelRun0_B.sl.HS1_1, kernelRun0_B.sl.HS1_2, kernelRun0_B.sl.cst_18, kernelRun0_B.sl.cst_19, kernelRun0_B.sl.cst_20, kernelRun0_B.sl.cst_27, kernelRun0_B.sl.cst_34, kernelRun0_B.sl.cst_35, kernelRun0_B.sl.cst_65, kernelRun0_B.sl.cst_68, kernelRun0_B.sl.cst_78, kernelRun0_B.sl.r, kernelRun0_B.sl.r_1, kernelRun0_B.sl.v106, kernelRun0_B.sl.v107, kernelRun0_B.sl.v110, kernelRun0_B.sl.v112, kernelRun0_B.sl.v113, kernelRun0_B.sl.v114, kernelRun0_B.sl.v116, kernelRun0_B.sl.v117, kernelRun0_B.sl.v119, kernelRun0_B.sl.v120, kernelRun0_B.sl.v133, kernelRun0_B.sl.v134, kernelRun0_B.sl.v135, kernelRun0_B.sl.v137, kernelRun0_B.sl.v138, kernelRun0_B.sl.v139, kernelRun0_B.sl.v14, kernelRun0_B.sl.v140, kernelRun0_B.sl.v22, kernelRun0_B.sl.v27, kernelRun0_B.sl.v31, kernelRun0_B.sl.v32, kernelRun0_B.sl.v33, kernelRun0_B.sl.v34, kernelRun0_B.sl.v35, kernelRun0_B.sl.v36, kernelRun0_B.sl.v37, kernelRun0_B.sl.v38, kernelRun0_B.sl.v39, kernelRun0_B.sl.v40, kernelRun0_B.sl.v45, kernelRun0_B.sl.v46, kernelRun0_B.sl.v47, kernelRun0_B.sl.v48, kernelRun0_B.sl.v49, kernelRun0_B.sl.v50, kernelRun0_B.sl.v51, kernelRun0_B.sl.v52, kernelRun0_B.sl.v53, kernelRun0_B.sl.v54, kernelRun0_B.sl.v56, kernelRun0_B.sl.v57, kernelRun0_B.sl.v58, kernelRun0_B.sl.v60, kernelRun0_B.sl.v61, kernelRun0_B.sl.v62, kernelRun0_B.sl.v63, kernelRun0_B.sl.v64, kernelRun0_B.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_B_15_eq :
    out0_B_15 c t hc0 hc1 hc2 hc3 x0 x1 x2 x3 x4 x5 x6 x7 x8 x9 x10 xo14 xo15 xs0 xs1 = gQp t x0 x1 x2 x3 x4 x5 x6 x7 x8 x9 x10 xo15 := by
  unfold out0_B_15 runB kernelRun0_B
  rw [View.read_writes_junk_eq_canon]
  dsimp only
  refine (View.canon_cons_unit_zero z2 _ _ _).trans ?_
  simp only [v44_B, kernelRun0_B.sl.HS0_1, kernelRun0_B.sl.HS1_1, kernelRun0_B.sl.HS1_2, kernelRun0_B.sl.cst_18, kernelRun0_B.sl.cst_19, kernelRun0_B.sl.cst_20, kernelRun0_B.sl.cst_27, kernelRun0_B.sl.cst_34, kernelRun0_B.sl.cst_35, kernelRun0_B.sl.cst_65, kernelRun0_B.sl.cst_68, kernelRun0_B.sl.cst_78, kernelRun0_B.sl.r, kernelRun0_B.sl.r_1, kernelRun0_B.sl.v106, kernelRun0_B.sl.v107, kernelRun0_B.sl.v110, kernelRun0_B.sl.v112, kernelRun0_B.sl.v113, kernelRun0_B.sl.v114, kernelRun0_B.sl.v116, kernelRun0_B.sl.v117, kernelRun0_B.sl.v119, kernelRun0_B.sl.v120, kernelRun0_B.sl.v133, kernelRun0_B.sl.v134, kernelRun0_B.sl.v135, kernelRun0_B.sl.v137, kernelRun0_B.sl.v138, kernelRun0_B.sl.v139, kernelRun0_B.sl.v14, kernelRun0_B.sl.v140, kernelRun0_B.sl.v22, kernelRun0_B.sl.v27, kernelRun0_B.sl.v31, kernelRun0_B.sl.v32, kernelRun0_B.sl.v33, kernelRun0_B.sl.v34, kernelRun0_B.sl.v35, kernelRun0_B.sl.v36, kernelRun0_B.sl.v37, kernelRun0_B.sl.v38, kernelRun0_B.sl.v39, kernelRun0_B.sl.v40, kernelRun0_B.sl.v45, kernelRun0_B.sl.v46, kernelRun0_B.sl.v47, kernelRun0_B.sl.v48, kernelRun0_B.sl.v49, kernelRun0_B.sl.v50, kernelRun0_B.sl.v51, kernelRun0_B.sl.v52, kernelRun0_B.sl.v53, kernelRun0_B.sl.v54, kernelRun0_B.sl.v56, kernelRun0_B.sl.v57, kernelRun0_B.sl.v58, kernelRun0_B.sl.v60, kernelRun0_B.sl.v61, kernelRun0_B.sl.v62, kernelRun0_B.sl.v63, kernelRun0_B.sl.v64, kernelRun0_B.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_B_0_eq :
    sout0_B_0 c t hc0 hc1 hc2 hc3 x0 x1 x2 x3 x4 x5 x6 x7 x8 x9 x10 xo14 xo15 xs0 xs1 = shifted (k0_pay29 (rest (acK t x0 x1 x2 x3 x4 x5 x6 x7 x8 x9 x10 xs0))) k0_pay30 := by
  unfold sout0_B_0 runB kernelRun0_B
  rw [View.read_writes_junk_eq_canon]
  dsimp only
  refine (canon_shift _ _ _).trans ?_
  simp only [v44_B, kernelRun0_B.sl.HS0_1, kernelRun0_B.sl.HS1_1, kernelRun0_B.sl.HS1_2, kernelRun0_B.sl.cst_18, kernelRun0_B.sl.cst_19, kernelRun0_B.sl.cst_20, kernelRun0_B.sl.cst_27, kernelRun0_B.sl.cst_34, kernelRun0_B.sl.cst_35, kernelRun0_B.sl.cst_65, kernelRun0_B.sl.cst_68, kernelRun0_B.sl.cst_78, kernelRun0_B.sl.r, kernelRun0_B.sl.r_1, kernelRun0_B.sl.v106, kernelRun0_B.sl.v107, kernelRun0_B.sl.v110, kernelRun0_B.sl.v112, kernelRun0_B.sl.v113, kernelRun0_B.sl.v114, kernelRun0_B.sl.v116, kernelRun0_B.sl.v117, kernelRun0_B.sl.v119, kernelRun0_B.sl.v120, kernelRun0_B.sl.v133, kernelRun0_B.sl.v134, kernelRun0_B.sl.v135, kernelRun0_B.sl.v137, kernelRun0_B.sl.v138, kernelRun0_B.sl.v139, kernelRun0_B.sl.v14, kernelRun0_B.sl.v140, kernelRun0_B.sl.v22, kernelRun0_B.sl.v27, kernelRun0_B.sl.v31, kernelRun0_B.sl.v32, kernelRun0_B.sl.v33, kernelRun0_B.sl.v34, kernelRun0_B.sl.v35, kernelRun0_B.sl.v36, kernelRun0_B.sl.v37, kernelRun0_B.sl.v38, kernelRun0_B.sl.v39, kernelRun0_B.sl.v40, kernelRun0_B.sl.v45, kernelRun0_B.sl.v46, kernelRun0_B.sl.v47, kernelRun0_B.sl.v48, kernelRun0_B.sl.v49, kernelRun0_B.sl.v50, kernelRun0_B.sl.v51, kernelRun0_B.sl.v52, kernelRun0_B.sl.v53, kernelRun0_B.sl.v54, kernelRun0_B.sl.v56, kernelRun0_B.sl.v57, kernelRun0_B.sl.v58, kernelRun0_B.sl.v60, kernelRun0_B.sl.v61, kernelRun0_B.sl.v62, kernelRun0_B.sl.v63, kernelRun0_B.sl.v64, kernelRun0_B.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_B_1_eq :
    sout0_B_1 c t hc0 hc1 hc2 hc3 x0 x1 x2 x3 x4 x5 x6 x7 x8 x9 x10 xo14 xo15 xs0 xs1 = shifted (k0_pay31 (rest (acV t x0 x1 x2 x3 x7 x8 x9 x10 xs1))) (k0_pay1 k0_pay32) := by
  unfold sout0_B_1 runB kernelRun0_B
  rw [View.read_writes_junk_eq_canon]
  dsimp only
  try unfold kernelRun0_B.sl.HS1_2
  refine (canon_shift _ _ _).trans ?_
  simp only [v44_B, kernelRun0_B.sl.HS0_1, kernelRun0_B.sl.HS1_1, kernelRun0_B.sl.HS1_2, kernelRun0_B.sl.cst_18, kernelRun0_B.sl.cst_19, kernelRun0_B.sl.cst_20, kernelRun0_B.sl.cst_27, kernelRun0_B.sl.cst_34, kernelRun0_B.sl.cst_35, kernelRun0_B.sl.cst_65, kernelRun0_B.sl.cst_68, kernelRun0_B.sl.cst_78, kernelRun0_B.sl.r, kernelRun0_B.sl.r_1, kernelRun0_B.sl.v106, kernelRun0_B.sl.v107, kernelRun0_B.sl.v110, kernelRun0_B.sl.v112, kernelRun0_B.sl.v113, kernelRun0_B.sl.v114, kernelRun0_B.sl.v116, kernelRun0_B.sl.v117, kernelRun0_B.sl.v119, kernelRun0_B.sl.v120, kernelRun0_B.sl.v133, kernelRun0_B.sl.v134, kernelRun0_B.sl.v135, kernelRun0_B.sl.v137, kernelRun0_B.sl.v138, kernelRun0_B.sl.v139, kernelRun0_B.sl.v14, kernelRun0_B.sl.v140, kernelRun0_B.sl.v22, kernelRun0_B.sl.v27, kernelRun0_B.sl.v31, kernelRun0_B.sl.v32, kernelRun0_B.sl.v33, kernelRun0_B.sl.v34, kernelRun0_B.sl.v35, kernelRun0_B.sl.v36, kernelRun0_B.sl.v37, kernelRun0_B.sl.v38, kernelRun0_B.sl.v39, kernelRun0_B.sl.v40, kernelRun0_B.sl.v45, kernelRun0_B.sl.v46, kernelRun0_B.sl.v47, kernelRun0_B.sl.v48, kernelRun0_B.sl.v49, kernelRun0_B.sl.v50, kernelRun0_B.sl.v51, kernelRun0_B.sl.v52, kernelRun0_B.sl.v53, kernelRun0_B.sl.v54, kernelRun0_B.sl.v56, kernelRun0_B.sl.v57, kernelRun0_B.sl.v58, kernelRun0_B.sl.v60, kernelRun0_B.sl.v61, kernelRun0_B.sl.v62, kernelRun0_B.sl.v63, kernelRun0_B.sl.v64, kernelRun0_B.sl.v65, rd_s0, rd_s1, rdr_s0, rdr_s1, rdt_s0, rdt_s1, rd_a, rd_b, rd_c, rd_d, rc_a, rc_b, rc_c, rc_d, rd_top, rd_rest, cov_rest, cov_top]
  all_goals rfl

end

theorem v44_C {c : Dev nD} {M1 M2 M3 : Memref sig .tc .vmem S256x128 .f32} {h1 : M1.IsWhole} {h2 : M2.IsWhole} {h3 : M3.IsWhole} {x1 x2 x3 : Vec F S256x128 .f32} :
    kernelRun0_C.sl.v44 c M1 h1 M2 h2 M3 h3 x1 x2 x3 = cat3 x1 x2 x3 :=
  cat3_congr (rd_a h1 x1 _) (rd_a h2 x2 _) (rd_a h3 x3 _)

section

variable (c : Dev nD) (t : Fin cfg0.N) (hc0 : ¬cond0_0 (grid0.coords t)) (hc1 : ¬cond0_1 (grid0.coords t)) (hc2 : cond0_2 (grid0.coords t)) (hc3 : cond0_3 (grid0.coords t))
  (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo14 : Vec F S1x256x768 .f32) (xo15 xo16 : Vec F S1x128 .f32) (xs0 xs1 : Vec F S768x128 .f32)

set_option maxHeartbeats 2000000 in
theorem out0_C_11_eq :
    out0_C_11 c t hc0 hc1 hc2 hc3 x0 x1 x2 x3 x4 x5 x6 x7 x8 x9 x10 xo14 xo15 xo16 xs0 xs1 = dQp t x0 x1 x2 x3 x4 x5 x6 x7 x8 x9 x10 := by
  unfold out0_C_11 runC kernelRun0_C
  rw [View.read_writes_junk_eq_canon]
  dsimp only
  refine (View.canon_cons_unit_zero z2 _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_C_12_eq :
    out0_C_12 c t hc0 hc1 hc2 hc3 x0 x1 x2 x3 x4 x5 x6 x7 x8 x9 x10 xo14 xo15 xo16 xs0 xs1 = k0_pay19 (top (acK t x0 x1 x2 x3 x4 x5 x6 x7 x8 x9 x10 xs0)) x1 x8 := by
  unfold out0_C_12 runC kernelRun0_C
  rw [View.read_writes_junk_eq_canon]
  dsimp only
  refine (View.canon_cons_unit_zero z2 _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_C_13_eq :
    out0_C_13 c t hc0 hc1 hc2 hc3 x0 x1 x2 x3 x4 x5 x6 x7 x8 x9 x10 xo14 xo15 xo16 xs0 xs1 = k0_pay21 (top (acV t x0 x1 x2 x3 x7 x8 x9 x10 xs1)) := by
  unfold out0_C_13 runC kernelRun0_C
  rw [View.read_writes_junk_eq_canon]
  dsimp only
  refine (View.canon_cons_unit_zero z2 _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_C_15_eq :
    out0_C_15 c t hc0 hc1 hc2 hc3 x0 x1 x2 x3 x4 x5 x6 x7 x8 x9 x10 xo14 xo15 xo16 xs0 xs1 = gQp t x0 x1 x2 x3 x4 x5 x6 x7 x8 x9 x10 xo15 := by
  unfold out0_C_15 runC kernelRun0_C
  rw [View.read_writes_junk_eq_canon]
  dsimp only
  refine (View.canon_cons_unit_zero z2 _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_C_16_eq :
    out0_C_16 c t hc0 hc1 hc2 hc3 x0 x1 x2 x3 x4 x5 x6 x7 x8 x9 x10 xo14 xo15 xo16 xs0 xs1 = k0_pay20 (top (acK t x0 x1 x2 x3 x4 x5 x6 x7 x8 x9 x10 xs0)) x1 xo16 := by
  unfold out0_C_16 runC kernelRun0_C
  rw [View.read_writes_junk_eq_canon]
  dsimp only
  refine (View.canon_cons_unit_zero z2 _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_C_0_eq :
    sout0_C_0 c t hc0 hc1 hc2 hc3 x0 x1 x2 x3 x4 x5 x6 x7 x8 x9 x10 xo14 xo15 xo16 xs0 xs1 = shifted (k0_pay29 (rest (acK t x0 x1 x2 x3 x4 x5 x6 x7 x8 x9 x10 xs0))) k0_pay30 := by
  unfold sout0_C_0 runC kernelRun0_C
  rw [View.read_writes_junk_eq_canon]
  dsimp only
  refine (canon_shift _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_C_1_eq :
    sout0_C_1 c t hc0 hc1 hc2 hc3 x0 x1 x2 x3 x4 x5 x6 x7 x8 x9 x10 xo14 xo15 xo16 xs0 xs1 = shifted (k0_pay31 (rest (acV t x0 x1 x2 x3 x7 x8 x9 x10 xs1))) (k0_pay1 k0_pay32) := by
  unfold sout0_C_1 runC kernelRun0_C
  rw [View.read_writes_junk_eq_canon]
  dsimp only
  try unfold kernelRun0_C.sl.HS1_2
  refine (canon_shift _ _ _).trans ?_
  simp only [v44_C, kernelRun0_C.sl.HS0_1, kernelRun0_C.sl.HS1_1, kernelRun0_C.sl.HS1_2, kernelRun0_C.sl.cst_18, kernelRun0_C.sl.cst_19, kernelRun0_C.sl.cst_20, kernelRun0_C.sl.cst_27, kernelRun0_C.sl.cst_34, kernelRun0_C.sl.cst_35, kernelRun0_C.sl.cst_65, kernelRun0_C.sl.cst_68, kernelRun0_C.sl.cst_78, kernelRun0_C.sl.r, kernelRun0_C.sl.r_1, kernelRun0_C.sl.v106, kernelRun0_C.sl.v107, kernelRun0_C.sl.v110, kernelRun0_C.sl.v112, kernelRun0_C.sl.v113, kernelRun0_C.sl.v114, kernelRun0_C.sl.v116, kernelRun0_C.sl.v117, kernelRun0_C.sl.v119, kernelRun0_C.sl.v120, kernelRun0_C.sl.v133, kernelRun0_C.sl.v134, kernelRun0_C.sl.v135, kernelRun0_C.sl.v137, kernelRun0_C.sl.v138, kernelRun0_C.sl.v139, kernelRun0_C.sl.v14, kernelRun0_C.sl.v140, kernelRun0_C.sl.v22, kernelRun0_C.sl.v27, kernelRun0_C.sl.v30, kernelRun0_C.sl.v31, kernelRun0_C.sl.v32, kernelRun0_C.sl.v33, kernelRun0_C.sl.v33_1, kernelRun0_C.sl.v34, kernelRun0_C.sl.v34_1, kernelRun0_C.sl.v35, kernelRun0_C.sl.v35_1, kernelRun0_C.sl.v36, kernelRun0_C.sl.v37, kernelRun0_C.sl.v37_1, kernelRun0_C.sl.v38, kernelRun0_C.sl.v39, kernelRun0_C.sl.v39_1, kernelRun0_C.sl.v40, kernelRun0_C.sl.v40_1, kernelRun0_C.sl.v41, kernelRun0_C.sl.v42, kernelRun0_C.sl.v43, kernelRun0_C.sl.v44_1, kernelRun0_C.sl.v45, kernelRun0_C.sl.v45_1, kernelRun0_C.sl.v46, kernelRun0_C.sl.v46_1, kernelRun0_C.sl.v47, kernelRun0_C.sl.v47_1, kernelRun0_C.sl.v48, kernelRun0_C.sl.v48_1, kernelRun0_C.sl.v49, kernelRun0_C.sl.v49_1, kernelRun0_C.sl.v50, kernelRun0_C.sl.v50_1, kernelRun0_C.sl.v51, kernelRun0_C.sl.v52, kernelRun0_C.sl.v52_1, kernelRun0_C.sl.v53, kernelRun0_C.sl.v53_1, kernelRun0_C.sl.v54, kernelRun0_C.sl.v54_1, kernelRun0_C.sl.v55, kernelRun0_C.sl.v56, kernelRun0_C.sl.v57, kernelRun0_C.sl.v57_1, kernelRun0_C.sl.v58, kernelRun0_C.sl.v58_1, kernelRun0_C.sl.v60, kernelRun0_C.sl.v61, kernelRun0_C.sl.v61_1, kernelRun0_C.sl.v62, kernelRun0_C.sl.v62_1, kernelRun0_C.sl.v63, kernelRun0_C.sl.v64, kernelRun0_C.sl.v64_1, kernelRun0_C.sl.v65, kernelRun0_C.sl.v65_1, rd_s0, rd_s1, rdr_s0, rdr_s1, rdt_s0, rdt_s1, rd_a, rd_b, rd_c, rd_d, rc_a, rc_b, rc_c, rc_d, rd_top, rd_rest, cov_rest, cov_top]
  all_goals rfl

end

section

variable (c : Dev nD) (t : Fin cfg0.N) (hc0 : ¬cond0_0 (grid0.coords t)) (hc1 : ¬cond0_1 (grid0.coords t)) (hc2 : ¬cond0_2 (grid0.coords t)) (hc3 : cond0_3 (grid0.coords t))
  (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo16 : Vec F S1x128 .f32) (xs0 xs1 : Vec F S768x128 .f32)

set_option maxHeartbeats 2000000 in
theorem out0_D_12_eq :
    out0_D_12 c t hc0 hc1 hc2 hc3 x0 x1 x2 x3 x4 x5 x6 x7 x8 x9 x10 xo16 xs0 xs1 = k0_pay19 (top xs0) x1 x8 := by
  unfold out0_D_12 runD kernelRun0_D
  rw [View.read_writes_junk_eq_canon]
  dsimp only
  refine (View.canon_cons_unit_zero z2 _ _ _).trans ?_
  simp only [kernelRun0_D.sl.cst_22, kernelRun0_D.sl.cst_23, kernelRun0_D.sl.cst_24, kernelRun0_D.sl.cst_25, kernelRun0_D.sl.v27, kernelRun0_D.sl.v33, kernelRun0_D.sl.v34, kernelRun0_D.sl.v35, kernelRun0_D.sl.v36, kernelRun0_D.sl.v37, kernelRun0_D.sl.v38, kernelRun0_D.sl.v39, kernelRun0_D.sl.v40, kernelRun0_D.sl.v41, kernelRun0_D.sl.v42, kernelRun0_D.sl.v43, kernelRun0_D.sl.v44, kernelRun0_D.sl.v45, kernelRun0_D.sl.v46, kernelRun0_D.sl.v47, kernelRun0_D.sl.v48, kernelRun0_D.sl.v49, kernelRun0_D.sl.v50, kernelRun0_D.sl.v52, kernelRun0_D.sl.v53, kernelRun0_D.sl.v54, kernelRun0_D.sl.v55, kernelRun0_D.sl.v57, kernelRun0_D.sl.v58, kernelRun0_D.sl.v61, kernelRun0_D.sl.v62, kernelRun0_D.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_D_13_eq :
    out0_D_13 c t hc0 hc1 hc2 hc3 x0 x1 x2 x3 x4 x5 x6 x7 x8 x9 x10 xo16 xs0 xs1 = k0_pay21 (top xs1) := by
  unfold out0_D_13 runD kernelRun0_D
  rw [View.read_writes_junk_eq_canon]
  dsimp only
  refine (View.canon_cons_unit_zero z2 _ _ _).trans ?_
  simp only [kernelRun0_D.sl.cst_22, kernelRun0_D.sl.cst_23, kernelRun0_D.sl.cst_24, kernelRun0_D.sl.cst_25, kernelRun0_D.sl.v27, kernelRun0_D.sl.v33, kernelRun0_D.sl.v34, kernelRun0_D.sl.v35, kernelRun0_D.sl.v36, kernelRun0_D.sl.v37, kernelRun0_D.sl.v38, kernelRun0_D.sl.v39, kernelRun0_D.sl.v40, kernelRun0_D.sl.v41, kernelRun0_D.sl.v42, kernelRun0_D.sl.v43, kernelRun0_D.sl.v44, kernelRun0_D.sl.v45, kernelRun0_D.sl.v46, kernelRun0_D.sl.v47, kernelRun0_D.sl.v48, kernelRun0_D.sl.v49, kernelRun0_D.sl.v50, kernelRun0_D.sl.v52, kernelRun0_D.sl.v53, kernelRun0_D.sl.v54, kernelRun0_D.sl.v55, kernelRun0_D.sl.v57, kernelRun0_D.sl.v58, kernelRun0_D.sl.v61, kernelRun0_D.sl.v62, kernelRun0_D.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_D_16_eq :
    out0_D_16 c t hc0 hc1 hc2 hc3 x0 x1 x2 x3 x4 x5 x6 x7 x8 x9 x10 xo16 xs0 xs1 = k0_pay20 (top xs0) x1 xo16 := by
  unfold out0_D_16 runD kernelRun0_D
  rw [View.read_writes_junk_eq_canon]
  dsimp only
  refine (View.canon_cons_unit_zero z2 _ _ _).trans ?_
  simp only [kernelRun0_D.sl.cst_22, kernelRun0_D.sl.cst_23, kernelRun0_D.sl.cst_24, kernelRun0_D.sl.cst_25, kernelRun0_D.sl.v27, kernelRun0_D.sl.v33, kernelRun0_D.sl.v34, kernelRun0_D.sl.v35, kernelRun0_D.sl.v36, kernelRun0_D.sl.v37, kernelRun0_D.sl.v38, kernelRun0_D.sl.v39, kernelRun0_D.sl.v40, kernelRun0_D.sl.v41, kernelRun0_D.sl.v42, kernelRun0_D.sl.v43, kernelRun0_D.sl.v44, kernelRun0_D.sl.v45, kernelRun0_D.sl.v46, kernelRun0_D.sl.v47, kernelRun0_D.sl.v48, kernelRun0_D.sl.v49, kernelRun0_D.sl.v50, kernelRun0_D.sl.v52, kernelRun0_D.sl.v53, kernelRun0_D.sl.v54, kernelRun0_D.sl.v55, kernelRun0_D.sl.v57, kernelRun0_D.sl.v58, kernelRun0_D.sl.v61, kernelRun0_D.sl.v62, kernelRun0_D.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_D_0_eq :
    sout0_D_0 c t hc0 hc1 hc2 hc3 x0 x1 x2 x3 x4 x5 x6 x7 x8 x9 x10 xo16 xs0 xs1 = shifted (k0_pay29 (rest xs0)) k0_pay30 := by
  unfold sout0_D_0 runD kernelRun0_D
  rw [View.read_writes_junk_eq_canon]
  dsimp only
  refine (canon_shift _ _ _).trans ?_
  simp only [kernelRun0_D.sl.cst_22, kernelRun0_D.sl.cst_23, kernelRun0_D.sl.cst_24, kernelRun0_D.sl.cst_25, kernelRun0_D.sl.v27, kernelRun0_D.sl.v33, kernelRun0_D.sl.v34, kernelRun0_D.sl.v35, kernelRun0_D.sl.v36, kernelRun0_D.sl.v37, kernelRun0_D.sl.v38, kernelRun0_D.sl.v39, kernelRun0_D.sl.v40, kernelRun0_D.sl.v41, kernelRun0_D.sl.v42, kernelRun0_D.sl.v43, kernelRun0_D.sl.v44, kernelRun0_D.sl.v45, kernelRun0_D.sl.v46, kernelRun0_D.sl.v47, kernelRun0_D.sl.v48, kernelRun0_D.sl.v49, kernelRun0_D.sl.v50, kernelRun0_D.sl.v52, kernelRun0_D.sl.v53, kernelRun0_D.sl.v54, kernelRun0_D.sl.v55, kernelRun0_D.sl.v57, kernelRun0_D.sl.v58, kernelRun0_D.sl.v61, kernelRun0_D.sl.v62, kernelRun0_D.sl.v65, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_D_1_eq :
    sout0_D_1 c t hc0 hc1 hc2 hc3 x0 x1 x2 x3 x4 x5 x6 x7 x8 x9 x10 xo16 xs0 xs1 = shifted (k0_pay31 (rest xs1)) (k0_pay1 k0_pay32) := by
  unfold sout0_D_1 runD kernelRun0_D
  rw [View.read_writes_junk_eq_canon]
  dsimp only
  refine (canon_shift _ _ _).trans ?_
  simp only [kernelRun0_D.sl.cst_22, kernelRun0_D.sl.cst_23, kernelRun0_D.sl.cst_24, kernelRun0_D.sl.cst_25, kernelRun0_D.sl.v27, kernelRun0_D.sl.v33, kernelRun0_D.sl.v34, kernelRun0_D.sl.v35, kernelRun0_D.sl.v36, kernelRun0_D.sl.v37, kernelRun0_D.sl.v38, kernelRun0_D.sl.v39, kernelRun0_D.sl.v40, kernelRun0_D.sl.v41, kernelRun0_D.sl.v42, kernelRun0_D.sl.v43, kernelRun0_D.sl.v44, kernelRun0_D.sl.v45, kernelRun0_D.sl.v46, kernelRun0_D.sl.v47, kernelRun0_D.sl.v48, kernelRun0_D.sl.v49, kernelRun0_D.sl.v50, kernelRun0_D.sl.v52, kernelRun0_D.sl.v53, kernelRun0_D.sl.v54, kernelRun0_D.sl.v55, kernelRun0_D.sl.v57, kernelRun0_D.sl.v58, kernelRun0_D.sl.v61, kernelRun0_D.sl.v62, kernelRun0_D.sl.v65, rd_s0, rd_s1, rdr_s0, rdr_s1, rdt_s0, rdt_s1, rd_a, rd_b, rd_c, rd_d, rc_a, rc_b, rc_c, rc_d, rd_top, rd_rest, cov_rest, cov_top]
  all_goals rfl

end

theorem v44_E {c : Dev nD} {M1 M2 M3 : Memref sig .tc .vmem S256x128 .f32} {h1 : M1.IsWhole} {h2 : M2.IsWhole} {h3 : M3.IsWhole} {x1 x2 x3 : Vec F S256x128 .f32} :
    kernelRun0_E.sl.v44 c M1 h1 M2 h2 M3 h3 x1 x2 x3 = cat3 x1 x2 x3 :=
  cat3_congr (rd_a h1 x1 _) (rd_a h2 x2 _) (rd_a h3 x3 _)

section

variable (c : Dev nD) (t : Fin cfg0.N) (hc0 : cond0_0 (grid0.coords t)) (hc1 : ¬cond0_1 (grid0.coords t)) (hc2 : cond0_2 (grid0.coords t)) (hc3 : ¬cond0_3 (grid0.coords t))
  (x0 x1 : Vec F S256x128 .f32) (x2 x3 : Vec F S256x128 .f32) (x4 x5 x6 : Vec F S256x128 .f32) (x7 x8 : Vec F S1x128 .f32) (x9 : Vec F S1x256x768 .f32) (x10 : Vec F S256x128 .bf16) (xo15 : Vec F S1x128 .f32)

set_option maxHeartbeats 2000000 in
theorem out0_E_11_eq :
    out0_E_11 c t hc0 hc1 hc2 hc3 x0 x1 x2 x3 x4 x5 x6 x7 x8 x9 x10 xo15 = dQp t x0 x1 x2 x3 x4 x5 x6 x7 x8 x9 x10 := by
  unfold out0_E_11 runE kernelRun0_E
  rw [View.read_writes_junk_eq_canon]
  dsimp only
  refine (View.canon_cons_unit_zero z2 _ _ _).trans ?_
  simp only [v44_E, kernelRun0_E.sl.H14_1, kernelRun0_E.sl.HS0_1, kernelRun0_E.sl.HS0_2, kernelRun0_E.sl.HS1_1, kernelRun0_E.sl.HS1_2, kernelRun0_E.sl.HS1_3, kernelRun0_E.sl.cst_18, kernelRun0_E.sl.cst_19, kernelRun0_E.sl.cst_20, kernelRun0_E.sl.cst_27, kernelRun0_E.sl.cst_34, kernelRun0_E.sl.cst_35, kernelRun0_E.sl.cst_65, kernelRun0_E.sl.cst_68, kernelRun0_E.sl.cst_78, kernelRun0_E.sl.r, kernelRun0_E.sl.r_1, kernelRun0_E.sl.v105, kernelRun0_E.sl.v106, kernelRun0_E.sl.v107, kernelRun0_E.sl.v110, kernelRun0_E.sl.v112, kernelRun0_E.sl.v113, kernelRun0_E.sl.v114, kernelRun0_E.sl.v115, kernelRun0_E.sl.v116, kernelRun0_E.sl.v117, kernelRun0_E.sl.v119, kernelRun0_E.sl.v120, kernelRun0_E.sl.v133, kernelRun0_E.sl.v134, kernelRun0_E.sl.v135, kernelRun0_E.sl.v137, kernelRun0_E.sl.v138, kernelRun0_E.sl.v139, kernelRun0_E.sl.v14, kernelRun0_E.sl.v140, kernelRun0_E.sl.v22, kernelRun0_E.sl.v27, kernelRun0_E.sl.v31, kernelRun0_E.sl.v32, kernelRun0_E.sl.v33, kernelRun0_E.sl.v34, kernelRun0_E.sl.v35, kernelRun0_E.sl.v36, kernelRun0_E.sl.v37, kernelRun0_E.sl.v38, kernelRun0_E.sl.v39, kernelRun0_E.sl.v40, kernelRun0_E.sl.v45, kernelRun0_E.sl.v46, kernelRun0_E.sl.v47, kernelRun0_E.sl.v48, kernelRun0_E.sl.v49, kernelRun0_E.sl.v50, kernelRun0_E.sl.v51, kernelRun0_E.sl.v52, kernelRun0_E.sl.v53, kernelRun0_E.sl.v54, kernelRun0_E.sl.v56, kernelRun0_E.sl.v57, kernelRun0_E.sl.v58, kernelRun0_E.sl.v60, kernelRun0_E.sl.v61, kernelRun0_E.sl.v62, kernelRun0_E.sl.v63, kernelRun0_E.sl.v64, kernelRun0_E.sl.v65, kernelRun0_E.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem out0_E_15_eq :
    out0_E_15 c t hc0 hc1 hc2 hc3 x0 x1 x2 x3 x4 x5 x6 x7 x8 x9 x10 xo15 = gQp t x0 x1 x2 x3 x4 x5 x6 x7 x8 x9 x10 xo15 := by
  unfold out0_E_15 runE kernelRun0_E
  rw [View.read_writes_junk_eq_canon]
  dsimp only
  refine (View.canon_cons_unit_zero z2 _ _ _).trans ?_
  simp only [v44_E, kernelRun0_E.sl.H14_1, kernelRun0_E.sl.HS0_1, kernelRun0_E.sl.HS0_2, kernelRun0_E.sl.HS1_1, kernelRun0_E.sl.HS1_2, kernelRun0_E.sl.HS1_3, kernelRun0_E.sl.cst_18, kernelRun0_E.sl.cst_19, kernelRun0_E.sl.cst_20, kernelRun0_E.sl.cst_27, kernelRun0_E.sl.cst_34, kernelRun0_E.sl.cst_35, kernelRun0_E.sl.cst_65, kernelRun0_E.sl.cst_68, kernelRun0_E.sl.cst_78, kernelRun0_E.sl.r, kernelRun0_E.sl.r_1, kernelRun0_E.sl.v105, kernelRun0_E.sl.v106, kernelRun0_E.sl.v107, kernelRun0_E.sl.v110, kernelRun0_E.sl.v112, kernelRun0_E.sl.v113, kernelRun0_E.sl.v114, kernelRun0_E.sl.v115, kernelRun0_E.sl.v116, kernelRun0_E.sl.v117, kernelRun0_E.sl.v119, kernelRun0_E.sl.v120, kernelRun0_E.sl.v133, kernelRun0_E.sl.v134, kernelRun0_E.sl.v135, kernelRun0_E.sl.v137, kernelRun0_E.sl.v138, kernelRun0_E.sl.v139, kernelRun0_E.sl.v14, kernelRun0_E.sl.v140, kernelRun0_E.sl.v22, kernelRun0_E.sl.v27, kernelRun0_E.sl.v31, kernelRun0_E.sl.v32, kernelRun0_E.sl.v33, kernelRun0_E.sl.v34, kernelRun0_E.sl.v35, kernelRun0_E.sl.v36, kernelRun0_E.sl.v37, kernelRun0_E.sl.v38, kernelRun0_E.sl.v39, kernelRun0_E.sl.v40, kernelRun0_E.sl.v45, kernelRun0_E.sl.v46, kernelRun0_E.sl.v47, kernelRun0_E.sl.v48, kernelRun0_E.sl.v49, kernelRun0_E.sl.v50, kernelRun0_E.sl.v51, kernelRun0_E.sl.v52, kernelRun0_E.sl.v53, kernelRun0_E.sl.v54, kernelRun0_E.sl.v56, kernelRun0_E.sl.v57, kernelRun0_E.sl.v58, kernelRun0_E.sl.v60, kernelRun0_E.sl.v61, kernelRun0_E.sl.v62, kernelRun0_E.sl.v63, kernelRun0_E.sl.v64, kernelRun0_E.sl.v65, kernelRun0_E.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_E_0_eq :
    sout0_E_0 c t hc0 hc1 hc2 hc3 x0 x1 x2 x3 x4 x5 x6 x7 x8 x9 x10 xo15 = shifted (k0_pay29 (rest (acK t x0 x1 x2 x3 x4 x5 x6 x7 x8 x9 x10 k0_pay22))) k0_pay30 := by
  unfold sout0_E_0 runE kernelRun0_E
  rw [View.read_writes_junk_eq_canon]
  dsimp only
  refine (canon_shift _ _ _).trans ?_
  simp only [v44_E, kernelRun0_E.sl.H14_1, kernelRun0_E.sl.HS0_1, kernelRun0_E.sl.HS0_2, kernelRun0_E.sl.HS1_1, kernelRun0_E.sl.HS1_2, kernelRun0_E.sl.HS1_3, kernelRun0_E.sl.cst_18, kernelRun0_E.sl.cst_19, kernelRun0_E.sl.cst_20, kernelRun0_E.sl.cst_27, kernelRun0_E.sl.cst_34, kernelRun0_E.sl.cst_35, kernelRun0_E.sl.cst_65, kernelRun0_E.sl.cst_68, kernelRun0_E.sl.cst_78, kernelRun0_E.sl.r, kernelRun0_E.sl.r_1, kernelRun0_E.sl.v105, kernelRun0_E.sl.v106, kernelRun0_E.sl.v107, kernelRun0_E.sl.v110, kernelRun0_E.sl.v112, kernelRun0_E.sl.v113, kernelRun0_E.sl.v114, kernelRun0_E.sl.v115, kernelRun0_E.sl.v116, kernelRun0_E.sl.v117, kernelRun0_E.sl.v119, kernelRun0_E.sl.v120, kernelRun0_E.sl.v133, kernelRun0_E.sl.v134, kernelRun0_E.sl.v135, kernelRun0_E.sl.v137, kernelRun0_E.sl.v138, kernelRun0_E.sl.v139, kernelRun0_E.sl.v14, kernelRun0_E.sl.v140, kernelRun0_E.sl.v22, kernelRun0_E.sl.v27, kernelRun0_E.sl.v31, kernelRun0_E.sl.v32, kernelRun0_E.sl.v33, kernelRun0_E.sl.v34, kernelRun0_E.sl.v35, kernelRun0_E.sl.v36, kernelRun0_E.sl.v37, kernelRun0_E.sl.v38, kernelRun0_E.sl.v39, kernelRun0_E.sl.v40, kernelRun0_E.sl.v45, kernelRun0_E.sl.v46, kernelRun0_E.sl.v47, kernelRun0_E.sl.v48, kernelRun0_E.sl.v49, kernelRun0_E.sl.v50, kernelRun0_E.sl.v51, kernelRun0_E.sl.v52, kernelRun0_E.sl.v53, kernelRun0_E.sl.v54, kernelRun0_E.sl.v56, kernelRun0_E.sl.v57, kernelRun0_E.sl.v58, kernelRun0_E.sl.v60, kernelRun0_E.sl.v61, kernelRun0_E.sl.v62, kernelRun0_E.sl.v63, kernelRun0_E.sl.v64, kernelRun0_E.sl.v65, kernelRun0_E.sl.v91, rd_s0, rd_s1, rdr_s0, rdr_s1, rdt_s0, rdt_s1, rd_a, rd_b, rd_c, rd_d, rc_a, rc_b, rc_c, rc_d, rd_top, rd_rest, cov_rest, cov_top]
  all_goals rfl

set_option maxHeartbeats 2000000 in
theorem sout0_E_1_eq :
    sout0_E_1 c t hc0 hc1 hc2 hc3 x0 x1 x2 x3 x4 x5 x6 x7 x8 x9 x10 xo15 = shifted (k0_pay31 (rest (acV t x0 x1 x2 x3 x7 x8 x9 x10 k0_pay23))) (k0_pay1 k0_pay32) := by
  unfold sout0_E_1 runE kernelRun0_E
  rw [View.read_writes_junk_eq_canon]
  dsimp only
  try unfold kernelRun0_E.sl.HS1_3
  refine (canon_shift _ _ _).trans ?_
  simp only [v44_E, kernelRun0_E.sl.H14_1, kernelRun0_E.sl.HS0_1, kernelRun0_E.sl.HS0_2, kernelRun0_E.sl.HS1_1, kernelRun0_E.sl.HS1_2, kernelRun0_E.sl.HS1_3, kernelRun0_E.sl.cst_18, kernelRun0_E.sl.cst_19, kernelRun0_E.sl.cst_20, kernelRun0_E.sl.cst_27, kernelRun0_E.sl.cst_34, kernelRun0_E.sl.cst_35, kernelRun0_E.sl.cst_65, kernelRun0_E.sl.cst_68, kernelRun0_E.sl.cst_78, kernelRun0_E.sl.r, kernelRun0_E.sl.r_1, kernelRun0_E.sl.v105, kernelRun0_E.sl.v106, kernelRun0_E.sl.v107, kernelRun0_E.sl.v110, kernelRun0_E.sl.v112, kernelRun0_E.sl.v113, kernelRun0_E.sl.v114, kernelRun0_E.sl.v115, kernelRun0_E.sl.v116, kernelRun0_E.sl.v117, kernelRun0_E.sl.v119, kernelRun0_E.sl.v120, kernelRun0_E.sl.v133, kernelRun0_E.sl.v134, kernelRun0_E.sl.v135, kernelRun0_E.sl.v137, kernelRun0_E.sl.v138, kernelRun0_E.sl.v139, kernelRun0_E.sl.v14, kernelRun0_E.sl.v140, kernelRun0_E.sl.v22, kernelRun0_E.sl.v27, kernelRun0_E.sl.v31, kernelRun0_E.sl.v32, kernelRun0_E.sl.v33, kernelRun0_E.sl.v34, kernelRun0_E.sl.v35, kernelRun0_E.sl.v36, kernelRun0_E.sl.v37, kernelRun0_E.sl.v38, kernelRun0_E.sl.v39, kernelRun0_E.sl.v40, kernelRun0_E.sl.v45, kernelRun0_E.sl.v46, kernelRun0_E.sl.v47, kernelRun0_E.sl.v48, kernelRun0_E.sl.v49, kernelRun0_E.sl.v50, kernelRun0_E.sl.v51, kernelRun0_E.sl.v52, kernelRun0_E.sl.v53, kernelRun0_E.sl.v54, kernelRun0_E.sl.v56, kernelRun0_E.sl.v57, kernelRun0_E.sl.v58, kernelRun0_E.sl.v60, kernelRun0_E.sl.v61, kernelRun0_E.sl.v62, kernelRun0_E.sl.v63, kernelRun0_E.sl.v64, kernelRun0_E.sl.v65, kernelRun0_E.sl.v91, rd_s0, rd_s1, rdr_s0, rdr_s1, rdt_s0, rdt_s1, rd_a, rd_b, rd_c, rd_d, rc_a, rc_b, rc_c, rc_d, rd_top, rd_rest, cov_rest, cov_top]
  all_goals rfl

end

end Cert.KernelIdeal.Att
-- ==== Proof.Att.Blocks.lean ====
/-
  Where the blocks of the kernel's windows lie in their arrays.
-/
module

public import proofs.«01_k».proof.Proof.Gen.KernelIdeal.Frame
public import Idealize.ShloMosaic.Lib.ValueIdxCore
public import Idealize.ShloMosaic.Lib.Pipeline.Value

@[expose] public section

set_option maxRecDepth 16384

noncomputable section

namespace Cert.KernelIdeal.Att

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F] [Named F]
variable (m : (ℓ : Loc nD τ sig) → Buf (Elt F) ℓ)

theorem co0 (t : Fin cfg0.N) : (grid0.coords t 0).val = t.val / 34 := by
  have e : (grid0.coords t 0).val = t.val / 34 % 16 := Pipeline.Grid.coords_val t 0 (by decide) rfl
  have hN : t.val < 544 := lt_of_lt_of_eq t.isLt (show cfg0.N = 544 from N_0)
  omega
theorem co1 (t : Fin cfg0.N) : (grid0.coords t 1).val = t.val % 34 := by
  have e : (grid0.coords t 1).val = t.val / 1 % 34 := Pipeline.Grid.coords_val t 1 (by decide) rfl
  omega

theorem w_min : ∀ n : Fin 34, (Scalar.minsi (BitVec.ofNat 32 n.val) 31#32).toNat = min n.val 31 := by decide
theorem w_clip : ∀ n : Fin 34, (Scalar.minsi 31#32 (Scalar.maxsi 0#32 (Scalar.subi (BitVec.ofNat 32 n.val) 2#32))).toNat = min (n.val - 2) 31 := by decide
theorem w_clip0 : ∀ n : Fin 34, (Scalar.minsi 31#32 (Scalar.maxsi 0#32 (Scalar.addi (Scalar.subi (BitVec.ofNat 32 n.val) 2#32) 0#32))).toNat = min (n.val + 0 - 2) 31 := by decide
theorem w_clip1 : ∀ n : Fin 34, (Scalar.minsi 31#32 (Scalar.maxsi 0#32 (Scalar.addi (Scalar.subi (BitVec.ofNat 32 n.val) 2#32) 1#32))).toNat = min (n.val + 1 - 2) 31 := by decide
theorem w_clip2 : ∀ n : Fin 34, (Scalar.minsi 31#32 (Scalar.maxsi 0#32 (Scalar.addi (Scalar.subi (BitVec.ofNat 32 n.val) 2#32) 2#32))).toNat = min (n.val + 2 - 2) 31 := by decide
theorem w_id : ∀ h : Fin 16, (BitVec.ofNat 32 h.val).toNat = h.val := by decide
theorem w_head1 : ∀ h : Fin 16, (Scalar.addi 16#32 (BitVec.ofNat 32 h.val)).toNat = 16 + h.val := by decide
theorem w_head2 : ∀ h : Fin 16, (Scalar.addi 32#32 (BitVec.ofNat 32 h.val)).toNat = 32 + h.val := by decide

/-! ## Block indices -/

theorem tr0 (t : Fin cfg0.N) : cc0_transform_0 (grid0.coords t) = ![min (t.val % 34) 31, t.val / 34] := by
  have h0 := w_min (grid0.coords t 1); rw [co1] at h0
  have h1 := w_id (grid0.coords t 0); rw [co0] at h1
  unfold cc0_transform_0; dsimp only; rw [co1, co0, h0, h1]
theorem tr1 (t : Fin cfg0.N) : cc0_transform_1 (grid0.coords t) = ![min (t.val % 34 + 0 - 2) 31, 16 + t.val / 34] := by
  have h0 := w_clip0 (grid0.coords t 1); rw [co1] at h0
  have h1 := w_head1 (grid0.coords t 0); rw [co0] at h1
  unfold cc0_transform_1; dsimp only; rw [co1, co0, h0, h1]
theorem tr2 (t : Fin cfg0.N) : cc0_transform_2 (grid0.coords t) = ![min (t.val % 34 + 1 - 2) 31, 16 + t.val / 34] := by
  have h0 := w_clip1 (grid0.coords t 1); rw [co1] at h0
  have h1 := w_head1 (grid0.coords t 0); rw [co0] at h1
  unfold cc0_transform_2; dsimp only; rw [co1, co0, h0, h1]
theorem tr3 (t : Fin cfg0.N) : cc0_transform_3 (grid0.coords t) = ![min (t.val % 34 + 2 - 2) 31, 16 + t.val / 34] := by
  have h0 := w_clip2 (grid0.coords t 1); rw [co1] at h0
  have h1 := w_head1 (grid0.coords t 0); rw [co0] at h1
  unfold cc0_transform_3; dsimp only; rw [co1, co0, h0, h1]
theorem tr4 (t : Fin cfg0.N) : cc0_transform_4 (grid0.coords t) = ![min (t.val % 34 + 0 - 2) 31, 32 + t.val / 34] := by
  have h0 := w_clip0 (grid0.coords t 1); rw [co1] at h0
  have h1 := w_head2 (grid0.coords t 0); rw [co0] at h1
  unfold cc0_transform_4; dsimp only; rw [co1, co0, h0, h1]
theorem tr5 (t : Fin cfg0.N) : cc0_transform_5 (grid0.coords t) = ![min (t.val % 34 + 1 - 2) 31, 32 + t.val / 34] := by
  have h0 := w_clip1 (grid0.coords t 1); rw [co1] at h0
  have h1 := w_head2 (grid0.coords t 0); rw [co0] at h1
  unfold cc0_transform_5; dsimp only; rw [co1, co0, h0, h1]
theorem tr6 (t : Fin cfg0.N) : cc0_transform_6 (grid0.coords t) = ![min (t.val % 34 + 2 - 2) 31, 32 + t.val / 34] := by
  have h0 := w_clip2 (grid0.coords t 1); rw [co1] at h0
  have h1 := w_head2 (grid0.coords t 0); rw [co0] at h1
  unfold cc0_transform_6; dsimp only; rw [co1, co0, h0, h1]
theorem tr7 (t : Fin cfg0.N) : cc0_transform_7 (grid0.coords t) = ![0, 0] := rfl
theorem tr8 (t : Fin cfg0.N) : cc0_transform_8 (grid0.coords t) = ![0, 0] := rfl
theorem tr9 (t : Fin cfg0.N) : cc0_transform_9 (grid0.coords t) = ![t.val / 34, 0, 0] := by
  have h1 := w_id (grid0.coords t 0); rw [co0] at h1
  unfold cc0_transform_9; dsimp only; rw [co0, h1]; rfl
theorem tr10 (t : Fin cfg0.N) : cc0_transform_10 (grid0.coords t) = ![min (t.val % 34) 31, t.val / 34] := by
  have h0 := w_min (grid0.coords t 1); rw [co1] at h0
  have h1 := w_id (grid0.coords t 0); rw [co0] at h1
  unfold cc0_transform_10; dsimp only; rw [co1, co0, h0, h1]
theorem tr11 (t : Fin cfg0.N) : cc0_transform_11 (grid0.coords t) = ![min (t.val % 34) 31, t.val / 34] := by
  have h0 := w_min (grid0.coords t 1); rw [co1] at h0
  have h1 := w_id (grid0.coords t 0); rw [co0] at h1
  unfold cc0_transform_11; dsimp only; rw [co1, co0, h0, h1]
theorem tr12 (t : Fin cfg0.N) : cc0_transform_12 (grid0.coords t) = ![min (t.val % 34 - 2) 31, t.val / 34] := by
  have h0 := w_clip (grid0.coords t 1); rw [co1] at h0
  have h1 := w_id (grid0.coords t 0); rw [co0] at h1
  unfold cc0_transform_12; dsimp only; rw [co1, co0, h0, h1]
theorem tr13 (t : Fin cfg0.N) : cc0_transform_13 (grid0.coords t) = ![min (t.val % 34 - 2) 31, t.val / 34] := by
  have h0 := w_clip (grid0.coords t 1); rw [co1] at h0
  have h1 := w_id (grid0.coords t 0); rw [co0] at h1
  unfold cc0_transform_13; dsimp only; rw [co1, co0, h0, h1]
theorem tr15 (t : Fin cfg0.N) : cc0_transform_15 (grid0.coords t) = ![0, 0] := rfl
theorem tr16 (t : Fin cfg0.N) : cc0_transform_16 (grid0.coords t) = ![0, 0] := rfl

/-! ## Where a block's element lies in its array -/

theorem emb0 (t : Fin cfg0.N) (r : Fin 256) (d : Fin 128) (i : S8192x6144.Idx) (h0 : (i 0).val = (min (t.val % 34) 31) * 256 + r.val) (h1 : (i 1).val = (t.val / 34) * 128 + d.val) :
    ((cfg0.win 0).blk t).view.emb (ix2 r d) = i := by
  funext a
  apply Fin.ext
  match a with
  | ⟨0, _⟩ => exact ((Window.rect_emb_val (cfg0.win 0) t (ix2 r d) 0).trans (by show cc0_transform_0 (grid0.coords t) 0 * 256 + r.val = _; rw [tr0]; rfl)).trans h0.symm
  | ⟨1, _⟩ => exact ((Window.rect_emb_val (cfg0.win 0) t (ix2 r d) 1).trans (by show cc0_transform_0 (grid0.coords t) 1 * 128 + d.val = _; rw [tr0]; rfl)).trans h1.symm
theorem iblk0 (c : Dev nD) (t : Fin cfg0.N) (r : Fin 256) (d : Fin 128) (i : S8192x6144.Idx) (h0 : (i 0).val = (min (t.val % 34) 31) * 256 + r.val) (h1 : (i 1).val = (t.val / 34) * 128 + d.val) :
    iblk m c 0 t (ix2 r d) = V m c main_arg0 i :=
  congrArg (V m c main_arg0) (emb0 t r d i h0 h1)
theorem emb1 (t : Fin cfg0.N) (r : Fin 256) (d : Fin 128) (i : S8192x6144.Idx) (h0 : (i 0).val = (min (t.val % 34 + 0 - 2) 31) * 256 + r.val) (h1 : (i 1).val = (16 + t.val / 34) * 128 + d.val) :
    ((cfg0.win 1).blk t).view.emb (ix2 r d) = i := by
  funext a
  apply Fin.ext
  match a with
  | ⟨0, _⟩ => exact ((Window.rect_emb_val (cfg0.win 1) t (ix2 r d) 0).trans (by show cc0_transform_1 (grid0.coords t) 0 * 256 + r.val = _; rw [tr1]; rfl)).trans h0.symm
  | ⟨1, _⟩ => exact ((Window.rect_emb_val (cfg0.win 1) t (ix2 r d) 1).trans (by show cc0_transform_1 (grid0.coords t) 1 * 128 + d.val = _; rw [tr1]; rfl)).trans h1.symm
theorem iblk1 (c : Dev nD) (t : Fin cfg0.N) (r : Fin 256) (d : Fin 128) (i : S8192x6144.Idx) (h0 : (i 0).val = (min (t.val % 34 + 0 - 2) 31) * 256 + r.val) (h1 : (i 1).val = (16 + t.val / 34) * 128 + d.val) :
    iblk m c 1 t (ix2 r d) = V m c main_arg0 i :=
  congrArg (V m c main_arg0) (emb1 t r d i h0 h1)
theorem emb2 (t : Fin cfg0.N) (r : Fin 256) (d : Fin 128) (i : S8192x6144.Idx) (h0 : (i 0).val = (min (t.val % 34 + 1 - 2) 31) * 256 + r.val) (h1 : (i 1).val = (16 + t.val / 34) * 128 + d.val) :
    ((cfg0.win 2).blk t).view.emb (ix2 r d) = i := by
  funext a
  apply Fin.ext
  match a with
  | ⟨0, _⟩ => exact ((Window.rect_emb_val (cfg0.win 2) t (ix2 r d) 0).trans (by show cc0_transform_2 (grid0.coords t) 0 * 256 + r.val = _; rw [tr2]; rfl)).trans h0.symm
  | ⟨1, _⟩ => exact ((Window.rect_emb_val (cfg0.win 2) t (ix2 r d) 1).trans (by show cc0_transform_2 (grid0.coords t) 1 * 128 + d.val = _; rw [tr2]; rfl)).trans h1.symm
theorem iblk2 (c : Dev nD) (t : Fin cfg0.N) (r : Fin 256) (d : Fin 128) (i : S8192x6144.Idx) (h0 : (i 0).val = (min (t.val % 34 + 1 - 2) 31) * 256 + r.val) (h1 : (i 1).val = (16 + t.val / 34) * 128 + d.val) :
    iblk m c 2 t (ix2 r d) = V m c main_arg0 i :=
  congrArg (V m c main_arg0) (emb2 t r d i h0 h1)
theorem emb3 (t : Fin cfg0.N) (r : Fin 256) (d : Fin 128) (i : S8192x6144.Idx) (h0 : (i 0).val = (min (t.val % 34 + 2 - 2) 31) * 256 + r.val) (h1 : (i 1).val = (16 + t.val / 34) * 128 + d.val) :
    ((cfg0.win 3).blk t).view.emb (ix2 r d) = i := by
  funext a
  apply Fin.ext
  match a with
  | ⟨0, _⟩ => exact ((Window.rect_emb_val (cfg0.win 3) t (ix2 r d) 0).trans (by show cc0_transform_3 (grid0.coords t) 0 * 256 + r.val = _; rw [tr3]; rfl)).trans h0.symm
  | ⟨1, _⟩ => exact ((Window.rect_emb_val (cfg0.win 3) t (ix2 r d) 1).trans (by show cc0_transform_3 (grid0.coords t) 1 * 128 + d.val = _; rw [tr3]; rfl)).trans h1.symm
theorem iblk3 (c : Dev nD) (t : Fin cfg0.N) (r : Fin 256) (d : Fin 128) (i : S8192x6144.Idx) (h0 : (i 0).val = (min (t.val % 34 + 2 - 2) 31) * 256 + r.val) (h1 : (i 1).val = (16 + t.val / 34) * 128 + d.val) :
    iblk m c 3 t (ix2 r d) = V m c main_arg0 i :=
  congrArg (V m c main_arg0) (emb3 t r d i h0 h1)
theorem emb4 (t : Fin cfg0.N) (r : Fin 256) (d : Fin 128) (i : S8192x6144.Idx) (h0 : (i 0).val = (min (t.val % 34 + 0 - 2) 31) * 256 + r.val) (h1 : (i 1).val = (32 + t.val / 34) * 128 + d.val) :
    ((cfg0.win 4).blk t).view.emb (ix2 r d) = i := by
  funext a
  apply Fin.ext
  match a with
  | ⟨0, _⟩ => exact ((Window.rect_emb_val (cfg0.win 4) t (ix2 r d) 0).trans (by show cc0_transform_4 (grid0.coords t) 0 * 256 + r.val = _; rw [tr4]; rfl)).trans h0.symm
  | ⟨1, _⟩ => exact ((Window.rect_emb_val (cfg0.win 4) t (ix2 r d) 1).trans (by show cc0_transform_4 (grid0.coords t) 1 * 128 + d.val = _; rw [tr4]; rfl)).trans h1.symm
theorem iblk4 (c : Dev nD) (t : Fin cfg0.N) (r : Fin 256) (d : Fin 128) (i : S8192x6144.Idx) (h0 : (i 0).val = (min (t.val % 34 + 0 - 2) 31) * 256 + r.val) (h1 : (i 1).val = (32 + t.val / 34) * 128 + d.val) :
    iblk m c 4 t (ix2 r d) = V m c main_arg0 i :=
  congrArg (V m c main_arg0) (emb4 t r d i h0 h1)
theorem emb5 (t : Fin cfg0.N) (r : Fin 256) (d : Fin 128) (i : S8192x6144.Idx) (h0 : (i 0).val = (min (t.val % 34 + 1 - 2) 31) * 256 + r.val) (h1 : (i 1).val = (32 + t.val / 34) * 128 + d.val) :
    ((cfg0.win 5).blk t).view.emb (ix2 r d) = i := by
  funext a
  apply Fin.ext
  match a with
  | ⟨0, _⟩ => exact ((Window.rect_emb_val (cfg0.win 5) t (ix2 r d) 0).trans (by show cc0_transform_5 (grid0.coords t) 0 * 256 + r.val = _; rw [tr5]; rfl)).trans h0.symm
  | ⟨1, _⟩ => exact ((Window.rect_emb_val (cfg0.win 5) t (ix2 r d) 1).trans (by show cc0_transform_5 (grid0.coords t) 1 * 128 + d.val = _; rw [tr5]; rfl)).trans h1.symm
theorem iblk5 (c : Dev nD) (t : Fin cfg0.N) (r : Fin 256) (d : Fin 128) (i : S8192x6144.Idx) (h0 : (i 0).val = (min (t.val % 34 + 1 - 2) 31) * 256 + r.val) (h1 : (i 1).val = (32 + t.val / 34) * 128 + d.val) :
    iblk m c 5 t (ix2 r d) = V m c main_arg0 i :=
  congrArg (V m c main_arg0) (emb5 t r d i h0 h1)
theorem emb6 (t : Fin cfg0.N) (r : Fin 256) (d : Fin 128) (i : S8192x6144.Idx) (h0 : (i 0).val = (min (t.val % 34 + 2 - 2) 31) * 256 + r.val) (h1 : (i 1).val = (32 + t.val / 34) * 128 + d.val) :
    ((cfg0.win 6).blk t).view.emb (ix2 r d) = i := by
  funext a
  apply Fin.ext
  match a with
  | ⟨0, _⟩ => exact ((Window.rect_emb_val (cfg0.win 6) t (ix2 r d) 0).trans (by show cc0_transform_6 (grid0.coords t) 0 * 256 + r.val = _; rw [tr6]; rfl)).trans h0.symm
  | ⟨1, _⟩ => exact ((Window.rect_emb_val (cfg0.win 6) t (ix2 r d) 1).trans (by show cc0_transform_6 (grid0.coords t) 1 * 128 + d.val = _; rw [tr6]; rfl)).trans h1.symm
theorem iblk6 (c : Dev nD) (t : Fin cfg0.N) (r : Fin 256) (d : Fin 128) (i : S8192x6144.Idx) (h0 : (i 0).val = (min (t.val % 34 + 2 - 2) 31) * 256 + r.val) (h1 : (i 1).val = (32 + t.val / 34) * 128 + d.val) :
    iblk m c 6 t (ix2 r d) = V m c main_arg0 i :=
  congrArg (V m c main_arg0) (emb6 t r d i h0 h1)
theorem emb7 (t : Fin cfg0.N) (r : Fin 1) (d : Fin 128) (i : S1x128.Idx) (h0 : (i 0).val = (0) * 1 + r.val) (h1 : (i 1).val = (0) * 128 + d.val) :
    ((cfg0.win 7).blk t).view.emb (ix2 r d) = i := by
  funext a
  apply Fin.ext
  match a with
  | ⟨0, _⟩ => exact ((Window.rect_emb_val (cfg0.win 7) t (ix2 r d) 0).trans (by show cc0_transform_7 (grid0.coords t) 0 * 1 + r.val = _; rw [tr7]; rfl)).trans h0.symm
  | ⟨1, _⟩ => exact ((Window.rect_emb_val (cfg0.win 7) t (ix2 r d) 1).trans (by show cc0_transform_7 (grid0.coords t) 1 * 128 + d.val = _; rw [tr7]; rfl)).trans h1.symm
theorem iblk7 (c : Dev nD) (t : Fin cfg0.N) (r : Fin 1) (d : Fin 128) (i : S1x128.Idx) (h0 : (i 0).val = (0) * 1 + r.val) (h1 : (i 1).val = (0) * 128 + d.val) :
    iblk m c 7 t (ix2 r d) = V m c main_arg1 i :=
  congrArg (V m c main_arg1) (emb7 t r d i h0 h1)
theorem emb8 (t : Fin cfg0.N) (r : Fin 1) (d : Fin 128) (i : S1x128.Idx) (h0 : (i 0).val = (0) * 1 + r.val) (h1 : (i 1).val = (0) * 128 + d.val) :
    ((cfg0.win 8).blk t).view.emb (ix2 r d) = i := by
  funext a
  apply Fin.ext
  match a with
  | ⟨0, _⟩ => exact ((Window.rect_emb_val (cfg0.win 8) t (ix2 r d) 0).trans (by show cc0_transform_8 (grid0.coords t) 0 * 1 + r.val = _; rw [tr8]; rfl)).trans h0.symm
  | ⟨1, _⟩ => exact ((Window.rect_emb_val (cfg0.win 8) t (ix2 r d) 1).trans (by show cc0_transform_8 (grid0.coords t) 1 * 128 + d.val = _; rw [tr8]; rfl)).trans h1.symm
theorem iblk8 (c : Dev nD) (t : Fin cfg0.N) (r : Fin 1) (d : Fin 128) (i : S1x128.Idx) (h0 : (i 0).val = (0) * 1 + r.val) (h1 : (i 1).val = (0) * 128 + d.val) :
    iblk m c 8 t (ix2 r d) = V m c main_arg2 i :=
  congrArg (V m c main_arg2) (emb8 t r d i h0 h1)
theorem emb9 (t : Fin cfg0.N) (u : Fin 1) (r : Fin 256) (d : Fin 768) (i : S16x256x768.Idx) (h0 : (i 0).val = (t.val / 34) * 1 + u.val) (h1 : (i 1).val = (0) * 256 + r.val) (h2 : (i 2).val = (0) * 768 + d.val) :
    ((cfg0.win 9).blk t).view.emb (ix3 u r d) = i := by
  funext a
  apply Fin.ext
  match a with
  | ⟨0, _⟩ => exact ((Window.rect_emb_val (cfg0.win 9) t (ix3 u r d) 0).trans (by show cc0_transform_9 (grid0.coords t) 0 * 1 + u.val = _; rw [tr9]; rfl)).trans h0.symm
  | ⟨1, _⟩ => exact ((Window.rect_emb_val (cfg0.win 9) t (ix3 u r d) 1).trans (by show cc0_transform_9 (grid0.coords t) 1 * 256 + r.val = _; rw [tr9]; rfl)).trans h1.symm
  | ⟨2, _⟩ => exact ((Window.rect_emb_val (cfg0.win 9) t (ix3 u r d) 2).trans (by show cc0_transform_9 (grid0.coords t) 2 * 768 + d.val = _; rw [tr9]; rfl)).trans h2.symm
theorem iblk9 (c : Dev nD) (t : Fin cfg0.N) (u : Fin 1) (r : Fin 256) (d : Fin 768) (i : S16x256x768.Idx) (h0 : (i 0).val = (t.val / 34) * 1 + u.val) (h1 : (i 1).val = (0) * 256 + r.val) (h2 : (i 2).val = (0) * 768 + d.val) :
    iblk m c 9 t (ix3 u r d) = V m c main_v25 i :=
  congrArg (V m c main_v25) (emb9 t u r d i h0 h1 h2)
theorem emb10 (t : Fin cfg0.N) (r : Fin 256) (d : Fin 128) (i : S8192x2048.Idx) (h0 : (i 0).val = (min (t.val % 34) 31) * 256 + r.val) (h1 : (i 1).val = (t.val / 34) * 128 + d.val) :
    ((cfg0.win 10).blk t).view.emb (ix2 r d) = i := by
  funext a
  apply Fin.ext
  match a with
  | ⟨0, _⟩ => exact ((Window.rect_emb_val (cfg0.win 10) t (ix2 r d) 0).trans (by show cc0_transform_10 (grid0.coords t) 0 * 256 + r.val = _; rw [tr10]; rfl)).trans h0.symm
  | ⟨1, _⟩ => exact ((Window.rect_emb_val (cfg0.win 10) t (ix2 r d) 1).trans (by show cc0_transform_10 (grid0.coords t) 1 * 128 + d.val = _; rw [tr10]; rfl)).trans h1.symm
theorem iblk10 (c : Dev nD) (t : Fin cfg0.N) (r : Fin 256) (d : Fin 128) (i : S8192x2048.Idx) (h0 : (i 0).val = (min (t.val % 34) 31) * 256 + r.val) (h1 : (i 1).val = (t.val / 34) * 128 + d.val) :
    iblk m c 10 t (ix2 r d) = V m c main_arg4 i :=
  congrArg (V m c main_arg4) (emb10 t r d i h0 h1)
theorem emb11 (t : Fin cfg0.N) (r : Fin 256) (d : Fin 128) (i : S8192x2048.Idx) (h0 : (i 0).val = (min (t.val % 34) 31) * 256 + r.val) (h1 : (i 1).val = (t.val / 34) * 128 + d.val) :
    ((cfg0.win 11).blk t).view.emb (ix2 r d) = i := by
  funext a
  apply Fin.ext
  match a with
  | ⟨0, _⟩ => exact ((Window.rect_emb_val (cfg0.win 11) t (ix2 r d) 0).trans (by show cc0_transform_11 (grid0.coords t) 0 * 256 + r.val = _; rw [tr11]; rfl)).trans h0.symm
  | ⟨1, _⟩ => exact ((Window.rect_emb_val (cfg0.win 11) t (ix2 r d) 1).trans (by show cc0_transform_11 (grid0.coords t) 1 * 128 + d.val = _; rw [tr11]; rfl)).trans h1.symm
theorem emb12 (t : Fin cfg0.N) (r : Fin 256) (d : Fin 128) (i : S8192x2048.Idx) (h0 : (i 0).val = (min (t.val % 34 - 2) 31) * 256 + r.val) (h1 : (i 1).val = (t.val / 34) * 128 + d.val) :
    ((cfg0.win 12).blk t).view.emb (ix2 r d) = i := by
  funext a
  apply Fin.ext
  match a with
  | ⟨0, _⟩ => exact ((Window.rect_emb_val (cfg0.win 12) t (ix2 r d) 0).trans (by show cc0_transform_12 (grid0.coords t) 0 * 256 + r.val = _; rw [tr12]; rfl)).trans h0.symm
  | ⟨1, _⟩ => exact ((Window.rect_emb_val (cfg0.win 12) t (ix2 r d) 1).trans (by show cc0_transform_12 (grid0.coords t) 1 * 128 + d.val = _; rw [tr12]; rfl)).trans h1.symm
theorem emb13 (t : Fin cfg0.N) (r : Fin 256) (d : Fin 128) (i : S8192x2048.Idx) (h0 : (i 0).val = (min (t.val % 34 - 2) 31) * 256 + r.val) (h1 : (i 1).val = (t.val / 34) * 128 + d.val) :
    ((cfg0.win 13).blk t).view.emb (ix2 r d) = i := by
  funext a
  apply Fin.ext
  match a with
  | ⟨0, _⟩ => exact ((Window.rect_emb_val (cfg0.win 13) t (ix2 r d) 0).trans (by show cc0_transform_13 (grid0.coords t) 0 * 256 + r.val = _; rw [tr13]; rfl)).trans h0.symm
  | ⟨1, _⟩ => exact ((Window.rect_emb_val (cfg0.win 13) t (ix2 r d) 1).trans (by show cc0_transform_13 (grid0.coords t) 1 * 128 + d.val = _; rw [tr13]; rfl)).trans h1.symm
theorem emb15 (t : Fin cfg0.N) (r : Fin 1) (d : Fin 128) (i : S1x128.Idx) (h0 : (i 0).val = (0) * 1 + r.val) (h1 : (i 1).val = (0) * 128 + d.val) :
    ((cfg0.win 15).blk t).view.emb (ix2 r d) = i := by
  funext a
  apply Fin.ext
  match a with
  | ⟨0, _⟩ => exact ((Window.rect_emb_val (cfg0.win 15) t (ix2 r d) 0).trans (by show cc0_transform_15 (grid0.coords t) 0 * 1 + r.val = _; rw [tr15]; rfl)).trans h0.symm
  | ⟨1, _⟩ => exact ((Window.rect_emb_val (cfg0.win 15) t (ix2 r d) 1).trans (by show cc0_transform_15 (grid0.coords t) 1 * 128 + d.val = _; rw [tr15]; rfl)).trans h1.symm
theorem emb16 (t : Fin cfg0.N) (r : Fin 1) (d : Fin 128) (i : S1x128.Idx) (h0 : (i 0).val = (0) * 1 + r.val) (h1 : (i 1).val = (0) * 128 + d.val) :
    ((cfg0.win 16).blk t).view.emb (ix2 r d) = i := by
  funext a
  apply Fin.ext
  match a with
  | ⟨0, _⟩ => exact ((Window.rect_emb_val (cfg0.win 16) t (ix2 r d) 0).trans (by show cc0_transform_16 (grid0.coords t) 0 * 1 + r.val = _; rw [tr16]; rfl)).trans h0.symm
  | ⟨1, _⟩ => exact ((Window.rect_emb_val (cfg0.win 16) t (ix2 r d) 1).trans (by show cc0_transform_16 (grid0.coords t) 1 * 128 + d.val = _; rw [tr16]; rfl)).trans h1.symm

end Cert.KernelIdeal.Att
-- ==== Proof.Att.Spec.lean ====
/-
  The gradient of banded attention over the real numbers, written once for both programs: the normalised queries and
  keys, the scores with their relative bias, the softmax over the allowed keys, and the gradients of the raw queries,
  keys, values and of the two gains. The lemmas at the end move finite sums, quotients, exponentials and maxima
  between the real numbers and the extended reals.
-/
module

public import Idealize.ShloMosaic.PureOps.Ideal.Laws

@[expose] public section

noncomputable section

namespace Cert.Att

open Idealize.ShloMosaic

/-- The constant under the root of the normalisation, as the word in the programs encodes it. -/
def eps : ℝ := 8796093 / 8796093022208
/-- The scale of the scores, as the word in the programs encodes it. -/
def scl : ℝ := 11863283 / 134217728

theorem eps_pos : 0 < eps := by unfold eps; norm_num

/-- What the gradient depends on: queries, keys, values and output cotangents by head, position and coordinate; the
    two gains; and the bias by head and clipped distance. -/
structure Ins where
  q : Fin 16 → Fin 8192 → Fin 128 → ℝ
  k : Fin 16 → Fin 8192 → Fin 128 → ℝ
  v : Fin 16 → Fin 8192 → Fin 128 → ℝ
  o : Fin 16 → Fin 8192 → Fin 128 → ℝ
  gq : Fin 128 → ℝ
  gk : Fin 128 → ℝ
  b : Fin 16 → Fin 513 → ℝ

/-- The mean square of a row plus the constant. -/
def var (x : Fin 128 → ℝ) : ℝ := (∑ d, x d * x d) / 128 + eps
/-- The reciprocal root of a row's mean square. -/
def rinv (x : Fin 128 → ℝ) : ℝ := (√(var x))⁻¹
/-- The normalised row. -/
def hat (x : Fin 128 → ℝ) (d : Fin 128) : ℝ := x d * rinv x

theorem var_pos (x : Fin 128 → ℝ) : 0 < var x :=
  add_pos_of_nonneg_of_pos (div_nonneg (Finset.sum_nonneg fun d _ => mul_self_nonneg (x d)) (by norm_num)) eps_pos

/-- A query at `i` sees the keys `j` of its own chunk of 64 and of the eight before it. -/
def ok (i j : ℕ) : Prop := j / 64 ≤ i / 64 ∧ i / 64 ≤ j / 64 + 8
instance (i j : ℕ) : Decidable (ok i j) := by unfold ok; infer_instance
theorem ok_self (i : ℕ) : ok i i := ⟨le_rfl, by omega⟩

/-- The column of the bias table at distance `i - j`, clipped to 256 either way. -/
def rel (i j : ℕ) : Fin 513 := ⟨(max (-256) (min 256 ((i : ℤ) - j)) + 256).toNat, by omega⟩

/-- The gradient of a row under normalisation with gain `g`, from the cotangent `dn` of the normalised row. -/
def normBwd (g x dn : Fin 128 → ℝ) (d : Fin 128) : ℝ :=
  rinv x * (dn d * g d - hat x d * ((∑ e, dn e * g e * hat x e) / 128))

namespace Ins
variable (A : Ins)

def qn (h : Fin 16) (i : Fin 8192) (d : Fin 128) : ℝ := hat (A.q h i) d * A.gq d
def kn (h : Fin 16) (j : Fin 8192) (d : Fin 128) : ℝ := hat (A.k h j) d * A.gk d
def score (h : Fin 16) (i j : Fin 8192) : ℝ := (∑ d, A.qn h i d * A.kn h j d) * scl + A.b h (rel i j)
/-- The exponential of the score where the key is allowed, zero elsewhere. -/
def ez (h : Fin 16) (i j : Fin 8192) : ℝ := if ok i j then Real.exp (A.score h i j) else 0
def Z (h : Fin 16) (i : Fin 8192) : ℝ := ∑ j, A.ez h i j
/-- The softmax weight of key `j` for query `i`. -/
def P (h : Fin 16) (i j : Fin 8192) : ℝ := A.ez h i j / A.Z h i
/-- The cotangent of the weights. -/
def DP (h : Fin 16) (i j : Fin 8192) : ℝ := ∑ d, A.o h i d * A.v h j d
/-- The cotangent of the scores. -/
def DS (h : Fin 16) (i j : Fin 8192) : ℝ := A.P h i j * (A.DP h i j - ∑ l, A.DP h i l * A.P h i l)
def dqn (h : Fin 16) (i : Fin 8192) (d : Fin 128) : ℝ := ∑ j, A.DS h i j * scl * A.kn h j d
def dkn (h : Fin 16) (j : Fin 8192) (d : Fin 128) : ℝ := ∑ i, A.DS h i j * scl * A.qn h i d
def dv (h : Fin 16) (j : Fin 8192) (d : Fin 128) : ℝ := ∑ i, A.P h i j * A.o h i d
def dq (h : Fin 16) (i : Fin 8192) (d : Fin 128) : ℝ := normBwd A.gq (A.q h i) (A.dqn h i) d
def dk (h : Fin 16) (j : Fin 8192) (d : Fin 128) : ℝ := normBwd A.gk (A.k h j) (A.dkn h j) d
def dgq (d : Fin 128) : ℝ := ∑ h, ∑ i, A.dqn h i d * hat (A.q h i) d
def dgk (d : Fin 128) : ℝ := ∑ h, ∑ j, A.dkn h j d * hat (A.k h j) d

theorem Z_pos (h : Fin 16) (i : Fin 8192) : 0 < A.Z h i := by
  refine Finset.sum_pos' (fun j _ => ?_) ⟨i, Finset.mem_univ _, ?_⟩
  · unfold ez; split
    · exact (Real.exp_pos _).le
    · exact le_rfl
  · unfold ez; rw [if_pos (ok_self i)]; exact Real.exp_pos _

theorem P_of_not_ok {h : Fin 16} {i j : Fin 8192} (hn : ¬ ok i j) : A.P h i j = 0 := by
  unfold P ez; rw [if_neg hn, zero_div]

theorem DS_of_not_ok {h : Fin 16} {i j : Fin 8192} (hn : ¬ ok i j) : A.DS h i j = 0 := by
  unfold DS; rw [A.P_of_not_ok hn, zero_mul]

end Ins

/-! ## Between the real numbers and the extended reals -/

/-- A finite sum of reals, read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real is the real sum. -/
theorem sum_eq_coe {ι : Type*} [Fintype ι] (x : ι → EReal) (f : ι → ℝ) (hx : ∀ i, x i = (f i : EReal)) :
    ∑ i, x i = ((∑ i, f i : ℝ) : EReal) := by
  rw [coe_sum]; exact Finset.sum_congr rfl fun i _ => hx i

/-- A quotient of reals with a divisor other than zero. -/
theorem div_real {x y : ℝ} (h : y ≠ 0) : Ideal.div (x : EReal) (y : EReal) = ((x / y : ℝ) : EReal) := by
  rw [Ideal.div_coe h, ← EReal.coe_mul, one_div, div_eq_mul_inv]

/-- The reciprocal root of a positive real. -/
theorem rsqrt_real {x : ℝ} (h : 0 < x) : Ideal.rsqrt (x : EReal) = (((√x)⁻¹ : ℝ) : EReal) := by
  rw [Ideal.rsqrt_coe, if_neg (not_lt.2 h.le), if_neg h.ne']

/-- The maximum from `-∞` over values that are real or `-∞`, one of them real, is a real number. -/
theorem fold_max_real {ι : Type*} [Fintype ι] (x : ι → EReal) (ht : ∀ i, x i ≠ ⊤) (i₀ : ι) (hb : x i₀ ≠ ⊥) :
    ∃ μ : ℝ, (Finset.univ : Finset ι).fold max ⊥ x = (μ : EReal) := by
  classical
  have h1 : (Finset.univ : Finset ι).fold max ⊥ x ≠ ⊤ := by
    intro h
    have := (Finset.fold_max_lt (s := Finset.univ) (f := x) (b := ⊥) (c := ⊤)).2
      ⟨bot_lt_top, fun i _ => lt_top_iff_ne_top.2 (ht i)⟩
    exact this.ne h
  have h2 : (Finset.univ : Finset ι).fold max ⊥ x ≠ ⊥ := by
    intro h
    have := (Finset.le_fold_max (s := Finset.univ) (f := x) (b := ⊥) (x i₀)).2 (Or.inr ⟨i₀, Finset.mem_univ _, le_rfl⟩)
    rw [h] at this
    exact hb (le_bot_iff.1 this)
  exact ⟨_, (EReal.coe_toReal h1 h2).symm⟩

theorem ofBits_eps : Ideal.ofBits .f32 0x358637BD#32 = (eps : EReal) := by
  unfold eps; simp [Ideal.ofBits, Ideal.ieee]; rw [← EReal.coe_mul]; norm_num
theorem ofBits_scl : Ideal.ofBits .f32 0x3DB504F3#32 = (scl : EReal) := by
  unfold scl; simp [Ideal.ofBits, Ideal.ieee]; rw [← EReal.coe_mul]; norm_num
theorem ofBits_128 : Ideal.ofBits .f32 0x43000000#32 = ((128 : ℝ) : EReal) := by
  simp [Ideal.ofBits, Ideal.ieee]; rw [← EReal.coe_mul]; norm_num
theorem ofBits_neg_half : Ideal.ofBits .f32 0xBF000000#32 = ((-(1 / 2) : ℝ) : EReal) := by
  simp [Ideal.ofBits, Ideal.ieee]; rw [← EReal.coe_mul]; norm_num
theorem ofBits_one : Ideal.ofBits .f32 0x3F800000#32 = ((1 : ℝ) : EReal) := by
  simp [Ideal.ofBits, Ideal.ieee]; rw [← EReal.coe_mul]; norm_num
theorem ofBits_bot : Ideal.ofBits .f32 0xFF800000#32 = (⊥ : EReal) := by
  simp [Ideal.ofBits, Ideal.ieee]
theorem ofBits_top : Ideal.ofBits .f32 0x7F800000#32 = (⊤ : EReal) := by
  simp [Ideal.ofBits, Ideal.ieee]

/-- The derivative of the normalisation as differentiation writes it, over the mean square, is the one over the
    normalised row. -/
theorem normBwd_eq (g x dn : Fin 128 → ℝ) (d : Fin 128) :
    dn d * g d * rinv x + x d * ((∑ e, x e * (dn e * g e)) * (-(1 / 2) * (rinv x / var x)) / 128)
      + ((∑ e, x e * (dn e * g e)) * (-(1 / 2) * (rinv x / var x)) / 128) * x d = normBwd g x dn d := by
  have hv := var_pos x
  have hs : rinv x * rinv x = (var x)⁻¹ := by
    unfold rinv; rw [← mul_inv, Real.mul_self_sqrt hv.le]
  have e1 : ∑ e, dn e * g e * hat x e = (∑ e, x e * (dn e * g e)) * rinv x := by
    rw [Finset.sum_mul]; exact Finset.sum_congr rfl fun e _ => by unfold hat; ring
  unfold normBwd
  rw [e1]
  unfold hat
  rw [div_eq_mul_inv (rinv x) (var x), ← hs]
  ring

/-- The cotangent of the scores as differentiation of the quotient writes it, over exponentials `e = c · ez` and their
    sum, is the weight times the centred cotangent. -/
theorem scoreBwd_eq (A : Ins) (h : Fin 16) (i j : Fin 8192) (c : ℝ) (hc : 0 < c) :
    (A.DP h i j / (c * A.Z h i) + -(∑ l, A.DP h i l * (1 / (c * A.Z h i * (c * A.Z h i))) * (c * A.ez h i l))) * (c * A.ez h i j)
      = A.DS h i j := by
  have hz := (A.Z_pos h i).ne'
  have hc' := hc.ne'
  have e1 : ∑ l, A.DP h i l * (1 / (c * A.Z h i * (c * A.Z h i))) * (c * A.ez h i l)
      = (∑ l, A.DP h i l * A.P h i l) * (1 / (c * A.Z h i)) := by
    rw [Finset.sum_mul]; refine Finset.sum_congr rfl fun l _ => ?_
    unfold Ins.P; field_simp
  rw [e1]
  unfold Ins.DS
  generalize ∑ l, A.DP h i l * A.P h i l = S
  unfold Ins.P
  field_simp
  ring

end Cert.Att

end
-- ==== Proof.Att.KerOps.lean ====
/-
  The kernel's layout operations, reductions and products over the extended reals, read at an index given by its
  coordinates, where the operands hold real numbers.
-/
module

public import proofs.«01_k».proof.Proof.Att.Spec
public import proofs.«01_k».proof.Proof.Gen.KernelIdeal.Skeleton
public import Idealize.ShloMosaic.Lib.ValueIdxCore
public import Idealize.ShloMosaic.Lib.ValueLayout
public import Idealize.ShloMosaic.Lib.ValueLayoutCasts

@[expose] public section

set_option maxRecDepth 16384

noncomputable section

namespace Cert.Att

open Cert.KernelIdeal Cert.KernelIdeal.Gen
open Idealize.ShloMosaic Idealize.ShloMosaic.TcCoe Idealize.ShloMosaic.ValueIdx

theorem sum_cols {m n : ℕ} (x : (⟨2, ![m, n]⟩ : Shape).Idx → EReal) (h : Shape.Reduces ⟨2, ![m, n]⟩ [1] ⟨1, ![m]⟩)
    (hφ : FKind.Formats .f32) (hacc : (0#32 : BitVec 32) = 0#32) (r : Fin m) (f : Fin n → ℝ)
    (hf : ∀ c, x (ix2 r c) = (f c : EReal)) :
    multiReduction (F := Ideal) (φ := .f32) .add [1] ⟨1, ![m]⟩ x 0#32 h hφ hacc (ix1 r) = ((∑ c, f c : ℝ) : EReal) := by
  refine (Ideal.multiReduction_add_single _ _ _ _ _ _).trans ?_
  refine sum_eq_coe _ f fun c => ?_
  rw [← hf]
  exact congrArg x (by funext a; match a with | ⟨0, _⟩ => rfl | ⟨1, _⟩ => rfl)

theorem sum_rows {m n : ℕ} (x : (⟨2, ![m, n]⟩ : Shape).Idx → EReal) (h : Shape.Reduces ⟨2, ![m, n]⟩ [0] ⟨1, ![n]⟩)
    (hφ : FKind.Formats .f32) (hacc : (0#32 : BitVec 32) = 0#32) (c : Fin n) (f : Fin m → ℝ)
    (hf : ∀ r, x (ix2 r c) = (f r : EReal)) :
    multiReduction (F := Ideal) (φ := .f32) .add [0] ⟨1, ![n]⟩ x 0#32 h hφ hacc (ix1 c) = ((∑ r, f r : ℝ) : EReal) := by
  refine (Ideal.multiReduction_add_single _ _ _ _ _ _).trans ?_
  refine sum_eq_coe _ f fun r => ?_
  rw [← hf]
  exact congrArg x (by funext a; match a with | ⟨0, _⟩ => rfl | ⟨1, _⟩ => rfl)

theorem max_cols {m n : ℕ} (x : (⟨2, ![m, n]⟩ : Shape).Idx → EReal) (h : Shape.Reduces ⟨2, ![m, n]⟩ [1] ⟨1, ![m]⟩)
    (hφ : FKind.Formats .f32) (hacc : (0xFF800000#32 : BitVec 32) = 0xFF800000#32) (r : Fin m)
    (ht : ∀ c, x (ix2 r c) ≠ ⊤) (c₀ : Fin n) (hb : x (ix2 r c₀) ≠ ⊥) :
    ∃ μ : ℝ, multiReduction (F := Ideal) (φ := .f32) .maximumf [1] ⟨1, ![m]⟩ x 0xFF800000#32 h hφ hacc (ix1 r) = (μ : EReal) := by
  rw [show multiReduction (F := Ideal) (φ := .f32) .maximumf [1] ⟨1, ![m]⟩ x 0xFF800000#32 h hφ hacc (ix1 r) = _ from Ideal.multiReduction_maximumf_single _ _ _ _ _ _]
  have e : ∀ c : Fin n, h.lift (ix1 r) c = ix2 r c := fun c => by
    funext a; match a with | ⟨0, _⟩ => rfl | ⟨1, _⟩ => rfl
  have e0 : (FloatOps.ofBits .f32 0xFF800000#32 : Ideal .f32) = (⊥ : EReal) := ofBits_bot
  rw [e0]
  exact fold_max_real (ι := Fin n) _ (fun c => by show x (h.lift (ix1 r) c) ≠ ⊤; rw [e c]; exact ht c) c₀
    (by show x (h.lift (ix1 r) c₀) ≠ ⊥; rw [e c₀]; exact hb)

theorem bc_col {m n : ℕ} (hm : m ≠ 1) (x : (⟨2, ![m, 1]⟩ : Shape).Idx → EReal) (h : (⟨2, ![m, 1]⟩ : Shape).Broadcasts ⟨2, ![m, n]⟩) (r : Fin m) (c : Fin n) :
    broadcastTo ⟨2, ![m, n]⟩ x h (ix2 r c) = x (ix2 r 0) :=
  broadcastTo_apply x h _ _ fun a => match a with
    | ⟨0, _⟩ => by show r.val = if m = 1 then 0 else r.val; exact (if_neg hm).symm
    | ⟨1, _⟩ => by show 0 = if 1 = 1 then 0 else c.val; exact (if_pos rfl).symm

theorem bc_row {m n : ℕ} (hn : n ≠ 1) (x : (⟨2, ![1, n]⟩ : Shape).Idx → EReal) (h : (⟨2, ![1, n]⟩ : Shape).Broadcasts ⟨2, ![m, n]⟩) (r : Fin m) (c : Fin n) :
    broadcastTo ⟨2, ![m, n]⟩ x h (ix2 r c) = x (ix2 0 c) :=
  broadcastTo_apply x h _ _ fun a => match a with
    | ⟨0, _⟩ => by show 0 = if 1 = 1 then 0 else r.val; exact (if_pos rfl).symm
    | ⟨1, _⟩ => by show c.val = if n = 1 then 0 else c.val; exact (if_neg hn).symm

section
variable {S : Shape} (x y : S.Idx → EReal) (i : S.Idx)
theorem mul_ap : mulf (F := Ideal) (φ := .f32) x y i = x i * y i := rfl
theorem add_ap : addf (F := Ideal) (φ := .f32) x y i = x i + y i := rfl
theorem sub_ap : subf (F := Ideal) (φ := .f32) x y i = x i - y i := rfl
theorem div_ap : divf (F := Ideal) (φ := .f32) x y i = Ideal.div (x i) (y i) := rfl
theorem exp_ap : exp (F := Ideal) (φ := .f32) x i = Ideal.exp (x i) := rfl
theorem rsqrt_ap : rsqrt (F := Ideal) (φ := .f32) x i = Ideal.rsqrt (x i) := rfl
theorem trunc_ap (h) : truncf (F := Ideal) (φ := .f32) .bf16 x h i = x i := rfl
theorem splat_ap (a : EReal) : broadcast S a i = a := rfl
theorem select_ap (c : IVec S 1) : select c x y i = if c i = 1#1 then x i else y i := rfl
end

/-- Three blocks of 256 rows, one under the other, read at row `c`. -/
theorem cat_ap (x1 x2 x3 : S256x128.Idx → EReal) (K : Fin 768 → Fin 128 → ℝ)
    (h1 : ∀ (r : Fin 256) d, x1 (ix2 r d) = (K ⟨r.val, by omega⟩ d : EReal))
    (h2 : ∀ (r : Fin 256) d, x2 (ix2 r d) = (K ⟨r.val + 256, by omega⟩ d : EReal))
    (h3 : ∀ (r : Fin 256) d, x3 (ix2 r d) = (K ⟨r.val + 512, by omega⟩ d : EReal)) (c : Fin 768) (d : Fin 128) (h) :
    concatenate S768x128 0 [⟨S256x128, x1⟩, ⟨S256x128, x2⟩, ⟨S256x128, x3⟩] h (ix2 c d) = (K c d : EReal) := by
  by_cases e1 : c.val < 256
  · rw [concatenate_apply_piece 0 _ h (ix2 c d) 0 (by simp) S256x128 x1 rfl rfl 0 rfl (ix2 ⟨c.val, e1⟩ d)
      (fun b hb => match b with | ⟨0, _⟩ => absurd rfl hb | ⟨1, _⟩ => rfl) (by show 0 + c.val = c.val; omega), h1]
  · by_cases e2 : c.val < 512
    · rw [concatenate_apply_piece 0 _ h (ix2 c d) 1 (by simp) S256x128 x2 rfl rfl 256 rfl (ix2 ⟨c.val - 256, by omega⟩ d)
        (fun b hb => match b with | ⟨0, _⟩ => absurd rfl hb | ⟨1, _⟩ => rfl) (by show 256 + (c.val - 256) = c.val; omega), h2]
      exact congrArg (fun q => (K q d : EReal)) (Fin.ext (by show c.val - 256 + 256 = c.val; omega))
    · rw [concatenate_apply_piece 0 _ h (ix2 c d) 2 (by simp) S256x128 x3 rfl rfl 512 rfl (ix2 ⟨c.val - 512, by omega⟩ d)
        (fun b hb => match b with | ⟨0, _⟩ => absurd rfl hb | ⟨1, _⟩ => rfl) (by show 512 + (c.val - 512) = c.val; omega), h3]
      exact congrArg (fun q => (K q d : EReal)) (Fin.ext (by show c.val - 512 + 512 = c.val; omega))

/-- The product mm_nt, contracting 128 coordinates. -/
theorem mm_nt {φ₁ φ₂ : FTy} (a : FVec Ideal S256x128 φ₁) (b : FVec Ideal S768x128 φ₂) (f : Fin 256 → Fin 128 → ℝ) (g : Fin 768 → Fin 128 → ℝ)
    (ha : ∀ i j, a (ix2 i j) = (f i j : EReal)) (hb : ∀ i j, b (ix2 i j) = (g i j : EReal)) (r : Fin 256) (c : Fin 768) :
    matmul (F := Ideal) dot_S256x128_S768x128_S256x768_1_1_0_0_n_n none a b (constant S256x768 .f32 0x00000000#32) (ix2 r c) = ((∑ k, f r k * g c k : ℝ) : EReal) := by
  refine (Ideal.matmul_constant_zero_apply dot_S256x128_S768x128_S256x768_1_1_0_0_n_n none a b (ix2 r c)).trans ?_
  rw [← Equiv.sum_comp (contrEquiv1 dot_S256x128_S768x128_S256x768_1_1_0_0_n_n 128 rfl rfl).symm]
  refine sum_eq_coe _ _ fun k => ?_
  rw [EReal.coe_mul, ← ha, ← hb]
  congr 1
  · exact congrArg a (funext fun x => Fin.ext (match x with | ⟨0, _⟩ => rfl | ⟨1, _⟩ => rfl))
  · exact congrArg b (funext fun x => Fin.ext (match x with | ⟨0, _⟩ => rfl | ⟨1, _⟩ => rfl))

/-- The product mm_nn, contracting 768 coordinates. -/
theorem mm_nn {φ₁ φ₂ : FTy} (a : FVec Ideal S256x768 φ₁) (b : FVec Ideal S768x128 φ₂) (f : Fin 256 → Fin 768 → ℝ) (g : Fin 768 → Fin 128 → ℝ)
    (ha : ∀ i j, a (ix2 i j) = (f i j : EReal)) (hb : ∀ i j, b (ix2 i j) = (g i j : EReal)) (r : Fin 256) (c : Fin 128) :
    matmul (F := Ideal) dot_S256x768_S768x128_S256x128_1_0_0_1_n_n none a b (constant S256x128 .f32 0x00000000#32) (ix2 r c) = ((∑ k, f r k * g k c : ℝ) : EReal) := by
  refine (Ideal.matmul_constant_zero_apply dot_S256x768_S768x128_S256x128_1_0_0_1_n_n none a b (ix2 r c)).trans ?_
  rw [← Equiv.sum_comp (contrEquiv1 dot_S256x768_S768x128_S256x128_1_0_0_1_n_n 768 rfl rfl).symm]
  refine sum_eq_coe _ _ fun k => ?_
  rw [EReal.coe_mul, ← ha, ← hb]
  congr 1
  · exact congrArg a (funext fun x => Fin.ext (match x with | ⟨0, _⟩ => rfl | ⟨1, _⟩ => rfl))
  · exact congrArg b (funext fun x => Fin.ext (match x with | ⟨0, _⟩ => rfl | ⟨1, _⟩ => rfl))

/-- The product mm_tn, contracting 256 coordinates. -/
theorem mm_tn {φ₁ φ₂ : FTy} (a : FVec Ideal S256x768 φ₁) (b : FVec Ideal S256x128 φ₂) (f : Fin 256 → Fin 768 → ℝ) (g : Fin 256 → Fin 128 → ℝ)
    (ha : ∀ i j, a (ix2 i j) = (f i j : EReal)) (hb : ∀ i j, b (ix2 i j) = (g i j : EReal)) (r : Fin 768) (c : Fin 128) :
    matmul (F := Ideal) dot_S256x768_S256x128_S768x128_0_0_1_1_n_n none a b (constant S768x128 .f32 0x00000000#32) (ix2 r c) = ((∑ k, f k r * g k c : ℝ) : EReal) := by
  refine (Ideal.matmul_constant_zero_apply dot_S256x768_S256x128_S768x128_0_0_1_1_n_n none a b (ix2 r c)).trans ?_
  rw [← Equiv.sum_comp (contrEquiv1 dot_S256x768_S256x128_S768x128_0_0_1_1_n_n 256 rfl rfl).symm]
  refine sum_eq_coe _ _ fun k => ?_
  rw [EReal.coe_mul, ← ha, ← hb]
  congr 1
  · exact congrArg a (funext fun x => Fin.ext (match x with | ⟨0, _⟩ => rfl | ⟨1, _⟩ => rfl))
  · exact congrArg b (funext fun x => Fin.ext (match x with | ⟨0, _⟩ => rfl | ⟨1, _⟩ => rfl))

end Cert.Att
-- ==== Proof.Att.KerPays.lean ====
/-
  The kernel's named expressions over the real numbers, at one grid point: the softmax of a block of 256 queries over a
  window of 768 keys, and its gradients.
-/
module

public import proofs.«01_k».proof.Proof.Att.KerOps

@[expose] public section

set_option maxRecDepth 16384

noncomputable section

namespace Cert.Att

open Cert.KernelIdeal Cert.KernelIdeal.Gen
open Idealize.ShloMosaic Idealize.ShloMosaic.TcCoe Idealize.ShloMosaic.ValueIdx

/-- What a grid point reads, as real numbers: the block's queries and cotangents, the window's keys and values, the
    gains, the bias, and which entries are allowed. -/
structure Pt where
  q : Fin 256 → Fin 128 → ℝ
  k : Fin 768 → Fin 128 → ℝ
  v : Fin 768 → Fin 128 → ℝ
  o : Fin 256 → Fin 128 → ℝ
  gq : Fin 128 → ℝ
  gk : Fin 128 → ℝ
  b : Fin 256 → Fin 768 → ℝ
  al : Fin 256 → Fin 768 → Bool

namespace Pt
variable (T : Pt)
def qn (r : Fin 256) (d : Fin 128) : ℝ := hat (T.q r) d * T.gq d
def kn (c : Fin 768) (d : Fin 128) : ℝ := hat (T.k c) d * T.gk d
def s0 (r : Fin 256) (c : Fin 768) : ℝ := (∑ d, T.qn r d * T.kn c d) * scl
def e (r : Fin 256) (c : Fin 768) : ℝ := if T.al r c then Real.exp (T.s0 r c + T.b r c) else 0
def z (r : Fin 256) : ℝ := ∑ c, T.e r c
def p (r : Fin 256) (c : Fin 768) : ℝ := T.e r c / T.z r
def dp (r : Fin 256) (c : Fin 768) : ℝ := ∑ d, T.o r d * T.v c d
def ds (r : Fin 256) (c : Fin 768) : ℝ := T.p r c * (T.dp r c - ∑ l, T.dp r l * T.p r l)
def dqn (r : Fin 256) (d : Fin 128) : ℝ := ∑ c, T.ds r c * scl * T.kn c d
/-- The point's share of the keys' gradient, and of the values'. -/
def ck (c : Fin 768) (d : Fin 128) : ℝ := ∑ r, T.ds r c * scl * T.qn r d
def cv (c : Fin 768) (d : Fin 128) : ℝ := ∑ r, T.p r c * T.o r d
def cg (d : Fin 128) : ℝ := ∑ r, T.dqn r d * hat (T.q r) d
end Pt

/-- The comparison that hides the columns before the first key. -/
def vis (a1 : BitVec 32) (c : Fin 768) : Prop :=
  IntOp.cmpi .sge (BitVec.ofNat 32 c.val) (IntOp.muli (IntOp.subi 2#32 a1) 256#32) = 1#1

theorem named_mask : (Named.named (F := Ideal) κ "mask" (φ := .f32) 0xF149F2CA#32 : EReal) = ⊥ := rfl

/-- The reciprocal root of a row's mean square. -/
theorem w12 {x0 : S256x128.Idx → EReal} {q : Fin 256 → Fin 128 → ℝ} (hq : ∀ r d, x0 (ix2 r d) = (q r d : EReal)) (r : Fin 256) (u : Fin 1) :
    k0_pay12 (F := Ideal) x0 (ix2 r u) = (rinv (q r) : EReal) := by
  unfold k0_pay12
  rw [rsqrt_ap, add_ap, div_ap, shapeCast_a_a1_apply,
    sum_cols _ _ _ _ r (fun d => q r d * q r d) (fun d => by rw [mul_ap, hq, ← EReal.coe_mul])]
  show Ideal.rsqrt (Ideal.div _ (Ideal.ofBits .f32 0x43000000#32) + Ideal.ofBits .f32 0x358637BD#32) = _
  rw [ofBits_128, ofBits_eps, div_real (by norm_num), ← EReal.coe_add]
  exact rsqrt_real (var_pos (q r))

theorem w17 {x0 : S256x128.Idx → EReal} {q : Fin 256 → Fin 128 → ℝ} (hq : ∀ r d, x0 (ix2 r d) = (q r d : EReal)) (r : Fin 256) (u : Fin 1) :
    k0_pay17 (F := Ideal) x0 (ix2 r u) = (rinv (q r) : EReal) :=
  w12 hq r u

theorem w13 {x0 : S256x128.Idx → EReal} {q : Fin 256 → Fin 128 → ℝ} (hq : ∀ r d, x0 (ix2 r d) = (q r d : EReal)) (r : Fin 256) (d : Fin 128) :
    k0_pay13 (F := Ideal) x0 (ix2 r d) = (hat (q r) d : EReal) := by
  unfold k0_pay13
  rw [mul_ap, bc_col (by decide), w12 hq, hq, ← EReal.coe_mul]; rfl

theorem w18 {x0 : S256x128.Idx → EReal} {q : Fin 256 → Fin 128 → ℝ} (hq : ∀ r d, x0 (ix2 r d) = (q r d : EReal)) (r : Fin 256) (d : Fin 128) :
    k0_pay18 (F := Ideal) x0 (ix2 r d) = (hat (q r) d : EReal) :=
  w13 hq r d

/-- The normalised queries with their gain. -/
theorem w2 {x0 : S256x128.Idx → EReal} {x7 : S1x128.Idx → EReal} {q : Fin 256 → Fin 128 → ℝ} {g : Fin 128 → ℝ}
    (hq : ∀ r d, x0 (ix2 r d) = (q r d : EReal)) (hg : ∀ d, x7 (ix2 0 d) = (g d : EReal)) (r : Fin 256) (d : Fin 128) :
    k0_pay2 (F := Ideal) x0 x7 (ix2 r d) = ((hat (q r) d * g d : ℝ) : EReal) := by
  have e : k0_pay2 (F := Ideal) x0 x7 = truncf (F := Ideal) .bf16 (mulf (φ := .f32) (k0_pay13 (F := Ideal) x0) (broadcastTo S256x128 x7 broadcasts_S1x128_S256x128)) bitsLt_bf16_f32 := rfl
  rw [e, trunc_ap, mul_ap, w13 hq, bc_row (by decide), hg, ← EReal.coe_mul]

/-- The normalised keys with their gain. -/
theorem w3 {x1 x2 x3 : S256x128.Idx → EReal} {x8 : S1x128.Idx → EReal} {K : Fin 768 → Fin 128 → ℝ} {g : Fin 128 → ℝ}
    (h1 : ∀ (r : Fin 256) d, x1 (ix2 r d) = (K ⟨r.val, by omega⟩ d : EReal))
    (h2 : ∀ (r : Fin 256) d, x2 (ix2 r d) = (K ⟨r.val + 256, by omega⟩ d : EReal))
    (h3 : ∀ (r : Fin 256) d, x3 (ix2 r d) = (K ⟨r.val + 512, by omega⟩ d : EReal))
    (hg : ∀ d, x8 (ix2 0 d) = (g d : EReal)) (c : Fin 768) (d : Fin 128) :
    k0_pay3 (F := Ideal) x1 x2 x3 x8 (ix2 c d) = ((hat (K c) d * g d : ℝ) : EReal) := by
  have hK := fun c d => cat_ap x1 x2 x3 K h1 h2 h3 c d concatenates_S256x128_S256x128_S256x128_S768x128_d0
  unfold k0_pay3
  rw [trunc_ap, mul_ap, mul_ap, hK, bc_row (by decide), hg, bc_col (by decide), rsqrt_ap, add_ap, div_ap, shapeCast_a_a1_apply,
    sum_cols _ _ _ _ c (fun d => K c d * K c d) (fun d => by rw [mul_ap, hK, ← EReal.coe_mul])]
  show (K c d : EReal) * Ideal.rsqrt (Ideal.div _ (Ideal.ofBits .f32 0x43000000#32) + Ideal.ofBits .f32 0x358637BD#32) * (g d : EReal) = _
  rw [ofBits_128, ofBits_eps, div_real (by norm_num), ← EReal.coe_add]
  rw [show Ideal.rsqrt (((∑ d, K c d * K c d) / 128 + eps : ℝ) : EReal) = (rinv (K c) : EReal) from rsqrt_real (var_pos (K c)),
    ← EReal.coe_mul, ← EReal.coe_mul]
  rfl

/-- The blocks read at a point hold its real numbers. -/
structure PtHolds (T : Pt) (a1 : BitVec 32) (x0 x1 x2 x3 x4 x5 x6 : S256x128.Idx → EReal) (x7 x8 : S1x128.Idx → EReal)
    (x9 : S1x256x768.Idx → EReal) (x10 : S256x128.Idx → EReal) : Prop where
  q : ∀ r d, x0 (ix2 r d) = (T.q r d : EReal)
  k1 : ∀ (r : Fin 256) d, x1 (ix2 r d) = (T.k ⟨r.val, by omega⟩ d : EReal)
  k2 : ∀ (r : Fin 256) d, x2 (ix2 r d) = (T.k ⟨r.val + 256, by omega⟩ d : EReal)
  k3 : ∀ (r : Fin 256) d, x3 (ix2 r d) = (T.k ⟨r.val + 512, by omega⟩ d : EReal)
  v1 : ∀ (r : Fin 256) d, x4 (ix2 r d) = (T.v ⟨r.val, by omega⟩ d : EReal)
  v2 : ∀ (r : Fin 256) d, x5 (ix2 r d) = (T.v ⟨r.val + 256, by omega⟩ d : EReal)
  v3 : ∀ (r : Fin 256) d, x6 (ix2 r d) = (T.v ⟨r.val + 512, by omega⟩ d : EReal)
  gq : ∀ d, x7 (ix2 0 d) = (T.gq d : EReal)
  gk : ∀ d, x8 (ix2 0 d) = (T.gk d : EReal)
  /-- Among the columns the comparison keeps, the bias is `-∞` where the entry is not allowed. -/
  b : ∀ r c, vis a1 c → x9 (ix3 0 r c) = if T.al r c then (T.b r c : EReal) else ⊥
  /-- The comparison hides the other columns, and they are not allowed. -/
  hid : ∀ r c, ¬ vis a1 c → T.al r c = false
  o : ∀ r d, x10 (ix2 r d) = (T.o r d : EReal)
  /-- Every query is allowed some key. -/
  some_al : ∀ r, ∃ c, T.al r c = true

section
variable {T : Pt} {a1 : BitVec 32} {x0 x1 x2 x3 x4 x5 x6 : S256x128.Idx → EReal} {x7 x8 : S1x128.Idx → EReal}
  {x9 : S1x256x768.Idx → EReal} {x10 : S256x128.Idx → EReal} (H : PtHolds T a1 x0 x1 x2 x3 x4 x5 x6 x7 x8 x9 x10)
include H

theorem z_pos (r : Fin 256) : 0 < T.z r := by
  obtain ⟨c, hc⟩ := H.some_al r
  refine Finset.sum_pos' (fun j _ => ?_) ⟨c, Finset.mem_univ _, ?_⟩
  · unfold Pt.e; split
    · exact (Real.exp_pos _).le
    · exact le_rfl
  · unfold Pt.e; rw [if_pos hc]; exact Real.exp_pos _

/-- The scaled products of queries and keys. -/
theorem w4 (r : Fin 256) (c : Fin 768) : k0_pay4 (F := Ideal) x0 x1 x2 x3 x7 x8 (ix2 r c) = (T.s0 r c : EReal) := by
  unfold k0_pay4
  rw [mul_ap, mm_nt _ _ T.qn T.kn (fun i j => w2 H.q H.gq i j) (fun i j => w3 H.k1 H.k2 H.k3 H.gk i j)]
  show _ * Ideal.ofBits .f32 0x3DB504F3#32 = _
  rw [ofBits_scl, ← EReal.coe_mul]; rfl

/-- The softmax weights. -/
theorem w5 (r : Fin 256) (c : Fin 768) :
    k0_pay5 (F := Ideal) a1 (k0_pay4 (F := Ideal) x0 x1 x2 x3 x7 x8) x9 (ix2 r c) = (T.p r c : EReal) := by
  unfold k0_pay5
  rw [div_ap]
  set v75 : FVec Ideal S256x768 .f32 := select (cmpi .sge (iota .tc S256x768 32 [1] iota_S256x768_d1_w32)
    (broadcast S256x768 (Scalar.muli (Scalar.subi 2#32 a1) 256#32)))
    (addf (k0_pay4 (F := Ideal) x0 x1 x2 x3 x7 x8) (shapeCast S256x768 x9 shapeCasts_S1x256x768_S256x768))
    (broadcast S256x768 (Named.named (F := Ideal) κ "mask" (φ := .f32) 0xF149F2CA#32)) with hv
  have h75 : ∀ r c, v75 (ix2 r c) = if T.al r c then ((T.s0 r c + T.b r c : ℝ) : EReal) else ⊥ := by
    intro r c
    rw [hv, select_ap, add_ap, w4 H, shapeCast_1ab_ab_apply, splat_ap, named_mask]
    by_cases hc : vis a1 c
    · have hb := H.b r c hc
      rw [if_pos (show (cmpi .sge (iota .tc S256x768 32 [1] iota_S256x768_d1_w32)
        (broadcast S256x768 (Scalar.muli (Scalar.subi 2#32 a1) 256#32))) (ix2 r c) = 1#1 by
          show IntOp.cmpi .sge (iota .tc S256x768 32 [1] iota_S256x768_d1_w32 (ix2 r c)) _ = 1#1
          rw [iota_single_apply]; exact hc), hb]
      split
      · rw [← EReal.coe_add]
      · rw [EReal.add_bot]
    · rw [if_neg (show ¬ (cmpi .sge (iota .tc S256x768 32 [1] iota_S256x768_d1_w32)
        (broadcast S256x768 (Scalar.muli (Scalar.subi 2#32 a1) 256#32))) (ix2 r c) = 1#1 by
          show ¬ IntOp.cmpi .sge (iota .tc S256x768 32 [1] iota_S256x768_d1_w32 (ix2 r c)) _ = 1#1
          rw [iota_single_apply]; exact hc), H.hid r c hc]
      rfl
  clear_value v75
  obtain ⟨c₀, hc₀⟩ := H.some_al r
  obtain ⟨μ, hμ⟩ := max_cols v75 reduces_S256x768_S256 (.inl rfl) rfl r
    (fun c => by rw [h75]; split; exacts [EReal.coe_ne_top _, bot_ne_top]) c₀ (by rw [h75, if_pos hc₀]; exact EReal.coe_ne_bot _)
  have h80 : ∀ c, exp (F := Ideal) (φ := .f32) (subf v75 (broadcastTo S256x768 (shapeCast S256x1
      (multiReduction (F := Ideal) (φ := .f32) .maximumf [1] S256 v75 0xFF800000#32 reduces_S256x768_S256 (.inl rfl) rfl)
      shapeCasts_S256_S256x1) broadcasts_S256x1_S256x768)) (ix2 r c) = ((T.e r c * Real.exp (-μ) : ℝ) : EReal) := by
    intro c
    rw [exp_ap, sub_ap, bc_col (by decide), shapeCast_a_a1_apply, hμ, h75]
    unfold Pt.e
    split
    · rw [← EReal.coe_sub, Ideal.exp_coe, ← Real.exp_add, sub_eq_add_neg]
    · rw [EReal.bot_sub, Ideal.exp_bot, zero_mul]; rfl
  rw [h80 c, bc_col (by decide), shapeCast_a_a1_apply, sum_cols _ _ _ _ r (fun c => T.e r c * Real.exp (-μ)) h80, ← Finset.sum_mul]
  have hz : T.z r * Real.exp (-μ) ≠ 0 := (mul_pos (z_pos H r) (Real.exp_pos _)).ne'
  rw [show ∑ c, T.e r c = T.z r from rfl, div_real hz]
  unfold Pt.p
  rw [mul_div_mul_right _ _ (Real.exp_pos _).ne']

/-- The gradient of the scores. -/
theorem w7 (r : Fin 256) (c : Fin 768) :
    k0_pay7 (F := Ideal) a1 (k0_pay4 (F := Ideal) x0 x1 x2 x3 x7 x8) x9 x4 x5 x6 x10 (ix2 r c) = (T.ds r c : EReal) := by
  have hp : ∀ r c, matmul (F := Ideal) dot_S256x128_S768x128_S256x768_1_1_0_0_n_n none x10
      (truncf (F := Ideal) (φ := .f32) .bf16 (concatenate S768x128 0 [⟨S256x128, x4⟩, ⟨S256x128, x5⟩, ⟨S256x128, x6⟩]
        concatenates_S256x128_S256x128_S256x128_S768x128_d0) bitsLt_bf16_f32) (constant S256x768 .f32 0x00000000#32) (ix2 r c)
      = (T.dp r c : EReal) := fun r c =>
    mm_nt (φ₁ := .bf16) (φ₂ := .bf16) x10 _ T.o T.v H.o (fun i j => by rw [trunc_ap]; exact cat_ap x4 x5 x6 T.v H.v1 H.v2 H.v3 i j _) r c
  unfold k0_pay7
  rw [mul_ap, sub_ap, w5 H, hp, bc_col (by decide), shapeCast_a_a1_apply,
    sum_cols _ _ _ _ r (fun c => T.dp r c * T.p r c) (fun c => by rw [mul_ap, w5 H, hp, ← EReal.coe_mul]),
    ← EReal.coe_sub, ← EReal.coe_mul]
  rfl

theorem w9 (r : Fin 256) (c : Fin 768) :
    k0_pay9 (F := Ideal) (k0_pay7 (F := Ideal) a1 (k0_pay4 (F := Ideal) x0 x1 x2 x3 x7 x8) x9 x4 x5 x6 x10) (ix2 r c)
      = ((T.ds r c * scl : ℝ) : EReal) := by
  unfold k0_pay9
  rw [trunc_ap, mul_ap, w7 H]
  show _ * Ideal.ofBits .f32 0x3DB504F3#32 = _
  rw [ofBits_scl, ← EReal.coe_mul]

/-- The gradient of the normalised queries. -/
theorem w10 (r : Fin 256) (d : Fin 128) :
    k0_pay10 (F := Ideal) (k0_pay3 (F := Ideal) x1 x2 x3 x8)
      (k0_pay7 (F := Ideal) a1 (k0_pay4 (F := Ideal) x0 x1 x2 x3 x7 x8) x9 x4 x5 x6 x10) (ix2 r d) = (T.dqn r d : EReal) := by
  unfold k0_pay10
  exact mm_nn _ _ (fun r c => T.ds r c * scl) T.kn (fun i j => w9 H i j) (fun i j => w3 H.k1 H.k2 H.k3 H.gk i j) r d

/-- The accumulator of the keys' gradient grows by the point's share. -/
theorem w11 (a : S768x128.Idx → EReal) (g : Fin 768 → Fin 128 → ℝ) (ha : ∀ c d, a (ix2 c d) = (g c d : EReal)) (c : Fin 768) (d : Fin 128) :
    k0_pay11 (F := Ideal) (k0_pay2 (F := Ideal) x0 x7)
      (k0_pay7 (F := Ideal) a1 (k0_pay4 (F := Ideal) x0 x1 x2 x3 x7 x8) x9 x4 x5 x6 x10) a (ix2 c d)
      = ((g c d + T.ck c d : ℝ) : EReal) := by
  unfold k0_pay11
  rw [shapeCast_self, add_ap, ha, mm_tn _ _ (fun r c => T.ds r c * scl) T.qn (fun i j => w9 H i j) (fun i j => w2 H.q H.gq i j),
    ← EReal.coe_add]
  rfl

/-- The accumulator of the values' gradient grows by the point's share. -/
theorem w6 (a : S768x128.Idx → EReal) (g : Fin 768 → Fin 128 → ℝ) (ha : ∀ c d, a (ix2 c d) = (g c d : EReal)) (c : Fin 768) (d : Fin 128) :
    k0_pay6 (F := Ideal) a1 (k0_pay4 (F := Ideal) x0 x1 x2 x3 x7 x8) x9 x10 a (ix2 c d)
      = ((g c d + T.cv c d : ℝ) : EReal) := by
  unfold k0_pay6
  rw [shapeCast_self, add_ap, ha, mm_tn (φ₂ := .bf16) _ x10 T.p T.o (fun i j => by rw [trunc_ap]; exact w5 H i j) H.o, ← EReal.coe_add]
  rfl

/-- The sum of the queries' gain gradient grows by the point's share. -/
theorem w28 (a : S1x128.Idx → EReal) (g : Fin 128 → ℝ) (ha : ∀ d, a (ix2 0 d) = (g d : EReal)) (d : Fin 128) :
    k0_pay28 (F := Ideal) (k0_pay14 (F := Ideal) (k0_pay3 (F := Ideal) x1 x2 x3 x8)
      (k0_pay7 (F := Ideal) a1 (k0_pay4 (F := Ideal) x0 x1 x2 x3 x7 x8) x9 x4 x5 x6 x10) x0) a (ix2 0 d)
      = ((g d + T.cg d : ℝ) : EReal) := by
  unfold k0_pay28 k0_pay14
  rw [shapeCast_self, add_ap, ha, shapeCast_a_1a_apply,
    sum_rows _ _ _ _ d (fun r => T.dqn r d * hat (T.q r) d) (fun r => by rw [mul_ap, w10 H, w13 H.q, ← EReal.coe_mul]),
    ← EReal.coe_add]
  rfl

/-- The gradient of the queries. -/
theorem w27 (r : Fin 256) (d : Fin 128) :
    k0_pay27 (F := Ideal) (k0_pay12 (F := Ideal) x0) (k0_pay13 (F := Ideal) x0)
      (k0_pay15 (F := Ideal) (k0_pay3 (F := Ideal) x1 x2 x3 x8)
        (k0_pay7 (F := Ideal) a1 (k0_pay4 (F := Ideal) x0 x1 x2 x3 x7 x8) x9 x4 x5 x6 x10) x7)
      (k0_pay16 (F := Ideal) (k0_pay3 (F := Ideal) x1 x2 x3 x8)
        (k0_pay7 (F := Ideal) a1 (k0_pay4 (F := Ideal) x0 x1 x2 x3 x7 x8) x9 x4 x5 x6 x10) x0 x7)
      (FloatOps.ofBits (F := Ideal) .f32 1124073472#32) (ix2 r d)
      = (normBwd T.gq (T.q r) (T.dqn r) d : EReal) := by
  have h15 : ∀ r d, k0_pay15 (F := Ideal) (k0_pay3 (F := Ideal) x1 x2 x3 x8)
      (k0_pay7 (F := Ideal) a1 (k0_pay4 (F := Ideal) x0 x1 x2 x3 x7 x8) x9 x4 x5 x6 x10) x7 (ix2 r d)
      = ((T.dqn r d * T.gq d : ℝ) : EReal) := fun r d => by
    unfold k0_pay15
    rw [mul_ap, w10 H, bc_row (by decide), H.gq, ← EReal.coe_mul]
  have h16 : ∀ r u, k0_pay16 (F := Ideal) (k0_pay3 (F := Ideal) x1 x2 x3 x8)
      (k0_pay7 (F := Ideal) a1 (k0_pay4 (F := Ideal) x0 x1 x2 x3 x7 x8) x9 x4 x5 x6 x10) x0 x7 (ix2 r u)
      = ((∑ d, T.dqn r d * T.gq d * hat (T.q r) d : ℝ) : EReal) := fun r u => by
    unfold k0_pay16
    rw [shapeCast_a_a1_apply, sum_cols _ _ _ _ r (fun d => T.dqn r d * T.gq d * hat (T.q r) d)
      (fun d => by rw [mul_ap, h15, w13 H.q, ← EReal.coe_mul])]
  unfold k0_pay27
  rw [trunc_ap, mul_ap, sub_ap, mul_ap, bc_col (by decide), bc_col (by decide), w12 H.q, w13 H.q, h15, div_ap, h16, splat_ap]
  show _ * (_ - _ * Ideal.div _ (Ideal.ofBits .f32 0x43000000#32)) = _
  rw [ofBits_128, div_real (by norm_num), ← EReal.coe_mul, ← EReal.coe_sub, ← EReal.coe_mul]
  rfl
end

/-- The gradient of a block of keys from that of its normalised rows. -/
theorem w19 {a x1 : S256x128.Idx → EReal} {x8 : S1x128.Idx → EReal} {dn k : Fin 256 → Fin 128 → ℝ} {g : Fin 128 → ℝ}
    (ha : ∀ r d, a (ix2 r d) = (dn r d : EReal)) (hk : ∀ r d, x1 (ix2 r d) = (k r d : EReal)) (hg : ∀ d, x8 (ix2 0 d) = (g d : EReal))
    (r : Fin 256) (d : Fin 128) :
    k0_pay19 (F := Ideal) a x1 x8 (ix2 r d) = (normBwd g (k r) (dn r) d : EReal) := by
  have h47 : ∀ r d, mulf (F := Ideal) (φ := .f32) a (broadcastTo S256x128 x8 broadcasts_S1x128_S256x128) (ix2 r d)
      = ((dn r d * g d : ℝ) : EReal) := fun r d => by rw [mul_ap, ha, bc_row (by decide), hg, ← EReal.coe_mul]
  unfold k0_pay19
  rw [trunc_ap, mul_ap, sub_ap, h47, mul_ap, bc_col (by decide), bc_col (by decide), w17 hk, w18 hk, div_ap, shapeCast_a_a1_apply,
    sum_cols _ _ _ _ r (fun d => dn r d * g d * hat (k r) d) (fun d => by rw [mul_ap, h47, w18 hk, ← EReal.coe_mul]), splat_ap]
  show _ * (_ - _ * Ideal.div _ (Ideal.ofBits .f32 0x43000000#32)) = _
  rw [ofBits_128, div_real (by norm_num), ← EReal.coe_mul, ← EReal.coe_sub, ← EReal.coe_mul]
  rfl

/-- The sum of the keys' gain gradient grows by a block's share. -/
theorem w20 {a x1 : S256x128.Idx → EReal} {x : S1x128.Idx → EReal} {dn k : Fin 256 → Fin 128 → ℝ} {g : Fin 128 → ℝ}
    (ha : ∀ r d, a (ix2 r d) = (dn r d : EReal)) (hk : ∀ r d, x1 (ix2 r d) = (k r d : EReal)) (hg : ∀ d, x (ix2 0 d) = (g d : EReal))
    (d : Fin 128) :
    k0_pay20 (F := Ideal) a x1 x (ix2 0 d) = ((g d + ∑ r, dn r d * hat (k r) d : ℝ) : EReal) := by
  unfold k0_pay20
  rw [shapeCast_self, add_ap, hg, shapeCast_a_1a_apply,
    sum_rows _ _ _ _ d (fun r => dn r d * hat (k r) d) (fun r => by rw [mul_ap, ha, w18 hk, ← EReal.coe_mul]), ← EReal.coe_add]

/-- The zeros the kernel starts from. -/
theorem w22 (i : S768x128.Idx) : k0_pay22 (F := Ideal) i = ((0 : ℝ) : EReal) := by
  unfold k0_pay22; rw [shapeCast_self]; exact Ideal.ofBits_zero_f32
theorem w23 (i : S768x128.Idx) : k0_pay23 (F := Ideal) i = ((0 : ℝ) : EReal) := by
  unfold k0_pay23; rw [shapeCast_self]; exact Ideal.ofBits_zero_f32
theorem w25 (i : S1x128.Idx) : k0_pay25 (F := Ideal) i = ((0 : ℝ) : EReal) := Ideal.ofBits_zero_f32
theorem w26 (i : S1x128.Idx) : k0_pay26 (F := Ideal) i = ((0 : ℝ) : EReal) := Ideal.ofBits_zero_f32
theorem w30 (i : S256x128.Idx) : k0_pay30 (F := Ideal) i = ((0 : ℝ) : EReal) := by
  unfold k0_pay30; rw [shapeCast_self]; exact Ideal.ofBits_zero_f32
theorem w32 (i : S256x128.Idx) : k0_pay1 (F := Ideal) k0_pay32 i = ((0 : ℝ) : EReal) := by
  unfold k0_pay1 k0_pay32; rw [shapeCast_self]; exact Ideal.ofBits_zero_f32
theorem w29 (x : S512x128.Idx → EReal) : k0_pay29 (F := Ideal) x = x := by unfold k0_pay29; rw [shapeCast_self]
theorem w31 (x : S512x128.Idx → EReal) : k0_pay31 (F := Ideal) x = x := by unfold k0_pay31; rw [shapeCast_self]
theorem w21 (x : S256x128.Idx → EReal) : k0_pay21 (F := Ideal) x = x := rfl

end Cert.Att
-- ==== Proof.Att.Band.lean ====
/-
  From a grid point's window to the whole sequence, over the real numbers: a block of 256 queries sees every allowed key
  among the 768 columns of its window, so the block's softmax is the whole row's, and the shares of three successive
  blocks add up to a key's whole gradient.
-/
module

public import proofs.«01_k».proof.Proof.Att.KerPays
public import Mathlib.Algebra.BigOperators.Fin
public import Mathlib.Logic.Equiv.Fin.Basic

@[expose] public section

set_option maxRecDepth 16384

noncomputable section

namespace Cert.Att

/-- The position of row `r` of query block `n`. -/
def qp (n : ℕ) (r : Fin 256) : Fin 8192 := ⟨min n 31 * 256 + r.val, by omega⟩
/-- The position of the key column `c` of block `n` holds. -/
def kp (n : ℕ) (c : Fin 768) : Fin 8192 := ⟨min (n + c.val / 256 - 2) 31 * 256 + c.val % 256, by omega⟩
/-- Column `c` of block `n` is not before the first key. -/
def val (n : ℕ) (c : Fin 768) : Prop := 512 ≤ n * 256 + c.val
instance (n : ℕ) (c : Fin 768) : Decidable (val n c) := by unfold val; infer_instance
/-- Row `r` of a block is allowed column `c` of its window. -/
def okc (r : Fin 256) (c : Fin 768) : Prop := r.val / 64 ≤ c.val / 64 ∧ c.val / 64 ≤ r.val / 64 + 8
instance (r : Fin 256) (c : Fin 768) : Decidable (okc r c) := by unfold okc; infer_instance

/-- The point of head `h` and block `n`. -/
def pt (A : Ins) (h : Fin 16) (n : ℕ) : Pt where
  q r := A.q h (qp n r)
  k c := A.k h (kp n c)
  v c := A.v h (kp n c)
  o r := A.o h (qp n r)
  gq := A.gq
  gk := A.gk
  b r c := A.b h (rel (r.val + 512) c.val)
  al r c := decide (val n c ∧ okc r c)

section
variable {n : ℕ} (hn : n ≤ 31)
include hn

theorem kp_val {c : Fin 768} (hv : val n c) : (kp n c).val = n * 256 + c.val - 512 := by
  unfold val at hv; show min (n + c.val / 256 - 2) 31 * 256 + c.val % 256 = _; omega
theorem qp_val (r : Fin 256) : (qp n r).val = n * 256 + r.val := by
  show min n 31 * 256 + r.val = _; omega

theorem ok_iff {r : Fin 256} {c : Fin 768} (hv : val n c) : ok (qp n r) (kp n c) ↔ okc r c := by
  unfold ok okc; rw [kp_val hn hv, qp_val hn]; unfold val at hv; omega

theorem rel_eq {r : Fin 256} {c : Fin 768} (hv : val n c) : rel (qp n r) (kp n c) = rel (r.val + 512) c.val := by
  unfold rel; rw [kp_val hn hv, qp_val hn]; unfold val at hv
  apply Fin.ext
  show (max (-256) (min 256 (((n * 256 + r.val : ℕ) : ℤ) - ((n * 256 + c.val - 512 : ℕ) : ℤ))) + 256).toNat
    = (max (-256) (min 256 (((r.val + 512 : ℕ) : ℤ) - (c.val : ℤ))) + 256).toNat
  have : (((n * 256 + r.val : ℕ) : ℤ) - ((n * 256 + c.val - 512 : ℕ) : ℤ)) = ((r.val + 512 : ℕ) : ℤ) - (c.val : ℤ) := by omega
  rw [this]

/-- A sum over the allowed keys of a row is the sum over the window's columns. -/
theorem sum_band (r : Fin 256) (f : Fin 8192 → ℝ) (hf : ∀ j : Fin 8192, ¬ ok (qp n r) j → f j = 0) :
    ∑ c : Fin 768, (if val n c then f (kp n c) else 0) = ∑ j, f j := by
  classical
  rw [← Finset.sum_filter]
  rw [← Finset.sum_filter_of_ne (s := Finset.univ) (f := f) (p := fun j : Fin 8192 => n * 256 ≤ j.val + 512 ∧ j.val + 512 < n * 256 + 768)]
  · refine Finset.sum_bij' (fun c _ => kp n c) (fun j _ => (⟨(j.val + 512 - n * 256) % 768, Nat.mod_lt _ (by norm_num)⟩ : Fin 768)) ?_ ?_ ?_ ?_ ?_
    · intro c hc
      have hv : val n c := (Finset.mem_filter.1 hc).2
      refine Finset.mem_filter.2 ⟨Finset.mem_univ _, ?_⟩
      rw [kp_val hn hv]; unfold val at hv; omega
    · intro j hj
      have hj := (Finset.mem_filter.1 hj).2
      refine Finset.mem_filter.2 ⟨Finset.mem_univ _, ?_⟩
      show 512 ≤ n * 256 + (j.val + 512 - n * 256) % 768
      omega
    · intro c hc
      have hv : val n c := (Finset.mem_filter.1 hc).2
      apply Fin.ext
      show ((kp n c).val + 512 - n * 256) % 768 = c.val
      rw [kp_val hn hv]; unfold val at hv; omega
    · intro j hj
      have hj := (Finset.mem_filter.1 hj).2
      apply Fin.ext
      have hv : val n ⟨(j.val + 512 - n * 256) % 768, Nat.mod_lt _ (by norm_num)⟩ := by
        show 512 ≤ n * 256 + (j.val + 512 - n * 256) % 768; omega
      rw [kp_val hn hv]
      show n * 256 + (j.val + 512 - n * 256) % 768 - 512 = j.val
      omega
    · intro c _; rfl
  · intro j _ hj
    by_contra hc
    refine hj (hf j fun ho => hc ?_)
    unfold ok at ho; rw [qp_val hn] at ho; omega

variable (A : Ins) (h : Fin 16)

theorem pt_e (r : Fin 256) (c : Fin 768) : (pt A h n).e r c = if val n c then A.ez h (qp n r) (kp n c) else 0 := by
  unfold Pt.e Ins.ez
  show (if decide (val n c ∧ okc r c) = true then _ else _) = _
  by_cases hv : val n c
  · rw [if_pos hv]
    by_cases hk : okc r c
    · rw [if_pos (by simp [hv, hk]), if_pos ((ok_iff hn hv).2 hk)]
      unfold Ins.score; rw [rel_eq hn hv]; rfl
    · rw [if_neg (by simp [hk]), if_neg fun ho => hk ((ok_iff hn hv).1 ho)]
  · rw [if_neg (by simp [hv]), if_neg hv]

theorem pt_z (r : Fin 256) : (pt A h n).z r = A.Z h (qp n r) := by
  unfold Pt.z Ins.Z
  rw [← sum_band hn r (fun j => A.ez h (qp n r) j) fun j hj => by unfold Ins.ez; rw [if_neg hj]]
  exact Finset.sum_congr rfl fun c _ => pt_e hn A h r c

theorem pt_p (r : Fin 256) (c : Fin 768) : (pt A h n).p r c = if val n c then A.P h (qp n r) (kp n c) else 0 := by
  unfold Pt.p Ins.P
  rw [pt_z hn, pt_e hn]; split
  · rfl
  · rw [zero_div]

theorem pt_ds (r : Fin 256) (c : Fin 768) : (pt A h n).ds r c = if val n c then A.DS h (qp n r) (kp n c) else 0 := by
  unfold Pt.ds Ins.DS
  have e : ∑ l, (pt A h n).dp r l * (pt A h n).p r l = ∑ l, A.DP h (qp n r) l * A.P h (qp n r) l := by
    rw [← sum_band hn r (fun j => A.DP h (qp n r) j * A.P h (qp n r) j) fun j hj => by rw [A.P_of_not_ok hj, mul_zero]]
    refine Finset.sum_congr rfl fun c _ => ?_
    rw [pt_p hn]; split
    · rfl
    · rw [mul_zero]
  rw [e, pt_p hn]; split
  · rfl
  · rw [zero_mul]

theorem pt_dqn (r : Fin 256) (d : Fin 128) : (pt A h n).dqn r d = A.dqn h (qp n r) d := by
  unfold Pt.dqn Ins.dqn
  rw [← sum_band hn r (fun j => A.DS h (qp n r) j * scl * A.kn h j d) fun j hj => by rw [A.DS_of_not_ok hj, zero_mul, zero_mul]]
  refine Finset.sum_congr rfl fun c _ => ?_
  rw [pt_ds hn]; split
  · rfl
  · rw [zero_mul, zero_mul]

/-- Every row of a block is allowed its own column. -/
theorem pt_some (r : Fin 256) : ∃ c, (pt A h n).al r c = true := by
  refine ⟨⟨r.val + 512, by omega⟩, ?_⟩
  show decide (val n ⟨r.val + 512, by omega⟩ ∧ okc r ⟨r.val + 512, by omega⟩) = true
  refine decide_eq_true ⟨?_, ?_, ?_⟩
  · show 512 ≤ n * 256 + (r.val + 512); omega
  · show r.val / 64 ≤ (r.val + 512) / 64; omega
  · show (r.val + 512) / 64 ≤ r.val / 64 + 8; omega
end

/-! ## The accumulators -/

/-- What an accumulator holds before point `n`, when point `m` adds `C m`, and after each point the rows move up by one
    block and zeros follow. -/
def accB (C : ℕ → Fin 768 → Fin 128 → ℝ) : ℕ → Fin 768 → Fin 128 → ℝ
  | 0, _, _ => 0
  | n + 1, c, d => if hc : c.val < 512 then accB C n ⟨c.val + 256, by omega⟩ d + C n ⟨c.val + 256, by omega⟩ d else 0

theorem accB_top (C : ℕ → Fin 768 → Fin 128 → ℝ) (n : ℕ) (r : Fin 256) (d : Fin 128) :
    accB C (n + 2) ⟨r.val, by omega⟩ d + C (n + 2) ⟨r.val, by omega⟩ d
      = C n ⟨r.val + 512, by omega⟩ d + C (n + 1) ⟨r.val + 256, by omega⟩ d + C (n + 2) ⟨r.val, by omega⟩ d := by
  have h0 : accB C n ⟨r.val + 256 + 256, by omega⟩ d = 0 := by
    cases n with
    | zero => rfl
    | succ n => exact dif_neg (by show ¬ r.val + 256 + 256 < 512; omega)
  have h1 : accB C (n + 1) ⟨r.val + 256, by omega⟩ d = C n ⟨r.val + 512, by omega⟩ d := by
    refine (dif_pos (show r.val + 256 < 512 by omega)).trans ?_
    show accB C n ⟨r.val + 256 + 256, by omega⟩ d + C n ⟨r.val + 256 + 256, by omega⟩ d = _
    rw [h0, zero_add]
  have h2 : accB C (n + 2) ⟨r.val, by omega⟩ d = C n ⟨r.val + 512, by omega⟩ d + C (n + 1) ⟨r.val + 256, by omega⟩ d := by
    refine (dif_pos (show r.val < 512 by omega)).trans ?_
    show accB C (n + 1) ⟨r.val + 256, by omega⟩ d + C (n + 1) ⟨r.val + 256, by omega⟩ d = _
    rw [h1]
  rw [h2]

/-- A sum over positions, block by block. -/
theorem sum_blocks (f : Fin 8192 → ℝ) : ∑ i, f i = ∑ m ∈ Finset.range 32, ∑ r : Fin 256, f (qp m r) := by
  rw [Finset.sum_range (fun m => ∑ r : Fin 256, f (qp m r)), ← Fintype.sum_prod_type' (fun (m : Fin 32) (r : Fin 256) => f (qp m.val r))]
  rw [← Equiv.sum_comp (finProdFinEquiv (m := 32) (n := 256)) f]
  refine Finset.sum_congr rfl fun x _ => congrArg f (Fin.ext ?_)
  show x.2.val + 256 * x.1.val = min x.1.val 31 * 256 + x.2.val
  have := x.1.isLt; omega

/-- A sum of terms that vanish off three successive blocks. -/
theorem sum_three (n : ℕ) (hn : n < 32) (g : ℕ → ℝ) (hg : ∀ m, m < 32 → ¬ (n ≤ m ∧ m ≤ n + 2) → g m = 0) :
    ∑ m ∈ Finset.range 32, g m = (if n ≤ 31 then g n else 0) + (if n + 1 ≤ 31 then g (n + 1) else 0) + (if n + 2 ≤ 31 then g (n + 2) else 0) := by
  have e : ∑ m ∈ Finset.range 32, g m = ∑ m ∈ Finset.range (n + 3), (if n ≤ m ∧ m ≤ 31 then g m else 0) := by
    have e1 : ∑ m ∈ Finset.range 32, g m = ∑ m ∈ Finset.range 34, (if m ≤ 31 ∧ n ≤ m ∧ m ≤ n + 2 then g m else 0) := by
      rw [Finset.sum_range_succ _ 33, Finset.sum_range_succ _ 32, if_neg (by omega), if_neg (by omega), add_zero, add_zero]
      refine Finset.sum_congr rfl fun m hm => ?_
      have hm := Finset.mem_range.1 hm
      by_cases hc : n ≤ m ∧ m ≤ n + 2
      · rw [if_pos ⟨by omega, hc⟩]
      · rw [if_neg (fun h => hc h.2), hg m hm hc]
    rw [e1]
    symm
    refine Finset.sum_subset_zero_on_sdiff (Finset.range_mono (by omega)) (fun m hm => ?_) (fun m hm => ?_)
    · have h1 := Finset.mem_sdiff.1 hm
      have h2 : ¬ m < n + 3 := fun h => h1.2 (Finset.mem_range.2 h)
      exact if_neg (by omega)
    · have hm := Finset.mem_range.1 hm
      exact if_congr (by constructor <;> intro h <;> omega) rfl rfl
  rw [e, Finset.sum_range_succ, Finset.sum_range_succ, Finset.sum_range_succ,
    Finset.sum_eq_zero (fun m hm => if_neg (by have := Finset.mem_range.1 hm; omega)), zero_add]
  congr 1
  · congr 1
    · exact if_congr (by omega) rfl rfl
    · exact if_congr (by omega) rfl rfl
  · exact if_congr (by omega) rfl rfl

/-- The shares the points of head `h` add to the two accumulators. -/
def shK (A : Ins) (h : Fin 16) (n : ℕ) (c : Fin 768) (d : Fin 128) : ℝ := if n ≤ 31 then (pt A h n).ck c d else 0
def shV (A : Ins) (h : Fin 16) (n : ℕ) (c : Fin 768) (d : Fin 128) : ℝ := if n ≤ 31 then (pt A h n).cv c d else 0

/-- Where three successive windows meet, they hold one key. -/
theorem kp_meet (n : ℕ) (hn : n < 32) (r : Fin 256) :
    kp n ⟨r.val + 512, by omega⟩ = qp n r ∧ kp (n + 1) ⟨r.val + 256, by omega⟩ = qp n r ∧ kp (n + 2) ⟨r.val, by omega⟩ = qp n r := by
  refine ⟨Fin.ext ?_, Fin.ext ?_, Fin.ext ?_⟩
  · show min (n + (r.val + 512) / 256 - 2) 31 * 256 + (r.val + 512) % 256 = min n 31 * 256 + r.val; omega
  · show min (n + 1 + (r.val + 256) / 256 - 2) 31 * 256 + (r.val + 256) % 256 = min n 31 * 256 + r.val; omega
  · show min (n + 2 + r.val / 256 - 2) 31 * 256 + r.val % 256 = min n 31 * 256 + r.val; omega

theorem val_meet (n : ℕ) (r : Fin 256) :
    val n ⟨r.val + 512, by omega⟩ ∧ val (n + 1) ⟨r.val + 256, by omega⟩ ∧ val (n + 2) ⟨r.val, by omega⟩ := by
  unfold val
  refine ⟨?_, ?_, ?_⟩
  · show 512 ≤ n * 256 + (r.val + 512); omega
  · show 512 ≤ (n + 1) * 256 + (r.val + 256); omega
  · show 512 ≤ (n + 2) * 256 + r.val; omega

/-- A quantity that vanishes off the allowed pairs, summed over the queries of three successive blocks. -/
theorem meet (n : ℕ) (hn : n < 32) (r : Fin 256) (X : Fin 8192 → Fin 8192 → ℝ) (hX : ∀ i j : Fin 8192, ¬ ok i j → X i j = 0)
    (Y : ℕ → Fin 768 → ℝ) (hY : ∀ m c, m ≤ 31 → val m c → Y m c = ∑ s : Fin 256, X (qp m s) (kp m c)) :
    (if n ≤ 31 then Y n ⟨r.val + 512, by omega⟩ else 0) + (if n + 1 ≤ 31 then Y (n + 1) ⟨r.val + 256, by omega⟩ else 0)
      + (if n + 2 ≤ 31 then Y (n + 2) ⟨r.val, by omega⟩ else 0) = ∑ i, X i (qp n r) := by
  obtain ⟨k0, k1, k2⟩ := kp_meet n hn r
  obtain ⟨v0, v1, v2⟩ := val_meet n r
  rw [sum_blocks, sum_three n hn]
  · congr 1
    · congr 1
      · split
        · rename_i hm; rw [hY _ _ hm v0, k0]
        · rfl
      · split
        · rename_i hm; rw [hY _ _ hm v1, k1]
        · rfl
    · split
      · rename_i hm; rw [hY _ _ hm v2, k2]
      · rfl
  · intro m hm hc
    refine Finset.sum_eq_zero fun s _ => hX _ _ fun ho => hc ?_
    unfold ok at ho
    rw [qp_val (n := m) (by omega), qp_val (n := n) (by omega)] at ho
    omega

theorem accV_top (A : Ins) (h : Fin 16) (n : ℕ) (hn : n < 32) (r : Fin 256) (d : Fin 128) :
    accB (shV A h) (n + 2) ⟨r.val, by omega⟩ d + shV A h (n + 2) ⟨r.val, by omega⟩ d = A.dv h (qp n r) d := by
  rw [accB_top]
  refine meet n hn r (fun i j => A.P h i j * A.o h i d) (fun i j hj => by rw [A.P_of_not_ok hj, zero_mul])
    (fun m c => (pt A h m).cv c d) fun m c hm hv => ?_
  unfold Pt.cv
  refine Finset.sum_congr rfl fun s _ => ?_
  rw [pt_p hm, if_pos hv]; rfl

theorem accK_top (A : Ins) (h : Fin 16) (n : ℕ) (hn : n < 32) (r : Fin 256) (d : Fin 128) :
    accB (shK A h) (n + 2) ⟨r.val, by omega⟩ d + shK A h (n + 2) ⟨r.val, by omega⟩ d = A.dkn h (qp n r) d := by
  rw [accB_top]
  refine meet n hn r (fun i j => A.DS h i j * scl * A.qn h i d) (fun i j hj => by rw [A.DS_of_not_ok hj, zero_mul, zero_mul])
    (fun m c => (pt A h m).ck c d) fun m c hm hv => ?_
  unfold Pt.ck
  refine Finset.sum_congr rfl fun s _ => ?_
  rw [pt_ds hm, if_pos hv]; rfl

/-! ## The gains -/

/-- The head of grid point `t`. -/
def hd (t : ℕ) : Fin 16 := ⟨t / 34 % 16, Nat.mod_lt _ (by norm_num)⟩

/-- The shares of the points in the two gain gradients. -/
def shGq (A : Ins) (t : ℕ) (d : Fin 128) : ℝ := if t % 34 ≤ 31 then (pt A (hd t) (t % 34)).cg d else 0
def shGk (A : Ins) (t : ℕ) (d : Fin 128) : ℝ :=
  if 2 ≤ t % 34 then ∑ r : Fin 256, A.dkn (hd t) (qp (t % 34 - 2) r) d * hat (A.k (hd t) (qp (t % 34 - 2) r)) d else 0

theorem sum_points (f : ℕ → ℝ) (k : ℕ) : ∑ t ∈ Finset.range (k * 34), f t = ∑ h ∈ Finset.range k, ∑ n ∈ Finset.range 34, f (h * 34 + n) := by
  induction k with
  | zero => rfl
  | succ k ih => rw [Nat.add_mul, Nat.one_mul, Finset.sum_range_add, ih, Finset.sum_range_succ _ k]

theorem sum_shGq (A : Ins) (d : Fin 128) : ∑ t ∈ Finset.range 544, shGq A t d = A.dgq d := by
  rw [show (544 : ℕ) = 16 * 34 from rfl, sum_points, Finset.sum_range]
  refine Finset.sum_congr rfl fun h _ => ?_
  have hh : ∀ n, n < 34 → hd (h.val * 34 + n) = h ∧ (h.val * 34 + n) % 34 = n := fun n hn =>
    ⟨Fin.ext (by show (h.val * 34 + n) / 34 % 16 = h.val; omega), by omega⟩
  rw [Finset.sum_range_succ _ 33, Finset.sum_range_succ _ 32, sum_blocks]
  have h2 : ∀ n, n < 34 → 32 ≤ n → shGq A (h.val * 34 + n) d = 0 := fun n hn h3 => by
    unfold shGq; rw [(hh n hn).2]; exact if_neg (by omega)
  rw [h2 33 (by norm_num) (by norm_num), h2 32 (by norm_num) (by norm_num), add_zero, add_zero]
  refine Finset.sum_congr rfl fun n hn => ?_
  have hn := Finset.mem_range.1 hn
  unfold shGq; rw [(hh n (by omega)).1, (hh n (by omega)).2, if_pos (by omega)]
  unfold Pt.cg
  refine Finset.sum_congr rfl fun r _ => ?_
  rw [pt_dqn (by omega)]; rfl

theorem sum_shGk (A : Ins) (d : Fin 128) : ∑ t ∈ Finset.range 544, shGk A t d = A.dgk d := by
  rw [show (544 : ℕ) = 16 * 34 from rfl, sum_points, Finset.sum_range]
  refine Finset.sum_congr rfl fun h _ => ?_
  have hh : ∀ n, n < 34 → hd (h.val * 34 + n) = h ∧ (h.val * 34 + n) % 34 = n := fun n hn =>
    ⟨Fin.ext (by show (h.val * 34 + n) / 34 % 16 = h.val; omega), by omega⟩
  rw [show (34 : ℕ) = 2 + 32 from rfl, Finset.sum_range_add, sum_blocks]
  have h2 : ∑ n ∈ Finset.range 2, shGk A (h.val * (2 + 32) + n) d = 0 := Finset.sum_eq_zero fun n hn => by
    have hn := Finset.mem_range.1 hn
    show shGk A (h.val * 34 + n) d = 0
    unfold shGk; rw [(hh n (by omega)).2]; exact if_neg (by omega)
  rw [h2, zero_add]
  refine Finset.sum_congr rfl fun n hn => ?_
  have hn := Finset.mem_range.1 hn
  show shGk A (h.val * 34 + (2 + n)) d = _
  unfold shGk; rw [(hh (2 + n) (by omega)).1, (hh (2 + n) (by omega)).2, if_pos (by omega), Nat.add_sub_cancel_left]

end Cert.Att
-- ==== Proof.Att.RefNorm.lean ====
/-
  The reference over the real numbers, first part: the normalised queries and keys, the values, the output's cotangent
  and the scaled products of queries and keys.
-/
module

public import proofs.«01_k».proof.Proof.Att.Spec
public import proofs.«01_k».proof.Proof.Gen.ReferenceIdeal.Read

@[expose] public section

set_option maxRecDepth 16384

noncomputable section

namespace Cert.Att

open Cert.ReferenceIdeal Cert.ReferenceIdeal.Gen Cert.ReferenceIdeal.Read
open Idealize.ShloMosaic Idealize.ShloMosaic.TcCoe Idealize.ShloMosaic.ValueIdx

/-- The column of head `h`'s coordinate `d` in the third `w` of the packed queries, keys and values. -/
def col (w : Fin 3) (h : Fin 16) (d : Fin 128) : Fin 6144 := ⟨w * 2048 + (h * 128 + d), by omega⟩
/-- The column of head `h`'s coordinate `d` in an array of all heads. -/
def hcol (h : Fin 16) (d : Fin 128) : Fin 2048 := ⟨h * 128 + d, by omega⟩

/-- The coordinates of an index by their ranges: position, head, coordinate. -/
def tq (i : S8192x16x128.Idx) : Fin 8192 := i 0
def hq (i : S8192x16x128.Idx) : Fin 16 := i 1
def dq (i : S8192x16x128.Idx) : Fin 128 := i 2
def t1 (i : S8192x16x1.Idx) : Fin 8192 := i 0
def h1 (i : S8192x16x1.Idx) : Fin 16 := i 1
/-- Head, query, key. -/
def hs (i : S16x8192x8192.Idx) : Fin 16 := i 0
def is (i : S16x8192x8192.Idx) : Fin 8192 := i 1
def js (i : S16x8192x8192.Idx) : Fin 8192 := i 2
/-- Head, coordinate, position. -/
def ho (i : S16x128x8192.Idx) : Fin 16 := i 0
def eo (i : S16x128x8192.Idx) : Fin 128 := i 1
def po (i : S16x128x8192.Idx) : Fin 8192 := i 2

/-- The arguments hold the real numbers `A`. -/
structure Holds (A : Ins) (x0 : S8192x6144.Idx → EReal) (x1 x2 : S1x128.Idx → EReal) (x3 : S16x513.Idx → EReal)
    (x4 : S8192x2048.Idx → EReal) : Prop where
  q : ∀ h t d, x0 (ix2 t (col 0 h d)) = (A.q h t d : EReal)
  k : ∀ h t d, x0 (ix2 t (col 1 h d)) = (A.k h t d : EReal)
  v : ∀ h t d, x0 (ix2 t (col 2 h d)) = (A.v h t d : EReal)
  gq : ∀ d, x1 (ix2 0 d) = (A.gq d : EReal)
  gk : ∀ d, x2 (ix2 0 d) = (A.gk d : EReal)
  b : ∀ h r, x3 (ix2 h r) = (A.b h r : EReal)
  o : ∀ h t d, x4 (ix2 t (hcol h d)) = (A.o h t d : EReal)

variable {A : Ins} {x0 : S8192x6144.Idx → EReal} {x1 x2 : S1x128.Idx → EReal} {x3 : S16x513.Idx → EReal}
  {x4 : S8192x2048.Idx → EReal} (H : Holds A x0 x1 x2 x3 x4)
include H

/-- The raw rows, by position, head and coordinate. -/
theorem r3 (i : S8192x16x128.Idx) : val_main_v3 (F := Ideal) x0 i = (A.q (hq i) (tq i) (dq i) : EReal) := by
  rw [val_main_v3_apply, val_main_v0_apply, ← H.q]
  refine congrArg x0 (funext fun a => Fin.ext ?_)
  have e0 : (i 0).val < 8192 := (i 0).isLt
  have e1 : (i 1).val < 16 := (i 1).isLt
  have e2 : (i 2).val < 128 := (i 2).isLt
  match a with
  | ⟨0, _⟩ => show (((i 0).val * 16 + (i 1).val) * 128 + (i 2).val) / 2048 = (i 0).val; omega
  | ⟨1, _⟩ =>
    show (((i 0).val * 16 + (i 1).val) * 128 + (i 2).val) % 2048 = 0 * 2048 + ((i 1).val * 128 + (i 2).val)
    omega
/-- Their mean squares. -/
theorem r10 (i : S8192x16x1.Idx) : val_main_v10 (F := Ideal) x0 i = (var (A.q (h1 i) (t1 i)) : EReal) := by
  rw [val_main_v10_apply, val_main_v8_apply, val_main_v6_apply, val_main_v5_apply, val_main_v7_apply, val_main_v9_apply,
    val_main_cst_apply, val_main_cst_0_apply, val_main_cst_1_apply]
  simp only [val_main_v4_apply, r3 H, Ideal.addf_def, Ideal.mulf_def, Ideal.hostDivf_def, Ideal.ofBits_def, Ideal.ofBits_zero_f32,
    ofBits_128, ofBits_eps, zero_add, ← EReal.coe_mul, ← coe_sum]
  rw [div_real (by norm_num), ← EReal.coe_add]
  rfl
/-- Their reciprocal roots. -/
theorem r11 (i : S8192x16x1.Idx) : val_main_v11 (F := Ideal) x0 i = (rinv (A.q (h1 i) (t1 i)) : EReal) := by
  rw [val_main_v11_apply, r10 H]
  exact rsqrt_real (var_pos _)
/-- The factor differentiation takes from the reciprocal root. -/
theorem r14 (i : S8192x16x1.Idx) : val_main_v14 (F := Ideal) x0 i
    = ((-(1 / 2) * (rinv (A.q (h1 i) (t1 i)) / var (A.q (h1 i) (t1 i))) : ℝ) : EReal) := by
  rw [val_main_v14_apply, val_main_v13_apply, val_main_cst_2_apply, val_main_v12_apply, r11 H, r10 H]
  simp only [Ideal.mulf_def, Ideal.hostDivf_def, Ideal.ofBits_def, ofBits_neg_half, div_real (var_pos _).ne', ← EReal.coe_mul]
/-- The normalised rows. -/
theorem r16 (i : S8192x16x128.Idx) : val_main_v16 (F := Ideal) x0 i = (hat (A.q (hq i) (tq i)) (dq i) : EReal) := by
  rw [val_main_v16_apply, val_main_v15_apply, r3 H, r11 H]
  simp only [Ideal.mulf_def, ← EReal.coe_mul]
  rfl
/-- The gain. -/
theorem r18 (i : S8192x16x128.Idx) : val_main_v18 (F := Ideal) x1 i = (A.gq (dq i) : EReal) := by
  rw [val_main_v18_apply, val_main_v17_apply, ← H.gq]
  exact congrArg x1 (funext fun a => Fin.ext (match a with | ⟨0, _⟩ => rfl | ⟨1, _⟩ => rfl))
/-- The normalised rows with their gain. -/
theorem r19 (i : S8192x16x128.Idx) : val_main_v19 (F := Ideal) x0 x1 i = (A.qn (hq i) (tq i) (dq i) : EReal) := by
  rw [val_main_v19_apply, r16 H, r18 H]
  simp only [Ideal.mulf_def, ← EReal.coe_mul]
  rfl

/-- The raw rows, by position, head and coordinate. -/
theorem r20 (i : S8192x16x128.Idx) : val_main_v20 (F := Ideal) x0 i = (A.k (hq i) (tq i) (dq i) : EReal) := by
  rw [val_main_v20_apply, val_main_v1_apply, ← H.k]
  refine congrArg x0 (funext fun a => Fin.ext ?_)
  have e0 : (i 0).val < 8192 := (i 0).isLt
  have e1 : (i 1).val < 16 := (i 1).isLt
  have e2 : (i 2).val < 128 := (i 2).isLt
  match a with
  | ⟨0, _⟩ => show (((i 0).val * 16 + (i 1).val) * 128 + (i 2).val) / 2048 = (i 0).val; omega
  | ⟨1, _⟩ =>
    show 2048 + (((i 0).val * 16 + (i 1).val) * 128 + (i 2).val) % 2048 = 1 * 2048 + ((i 1).val * 128 + (i 2).val)
    omega
/-- Their mean squares. -/
theorem r27 (i : S8192x16x1.Idx) : val_main_v27 (F := Ideal) x0 i = (var (A.k (h1 i) (t1 i)) : EReal) := by
  rw [val_main_v27_apply, val_main_v25_apply, val_main_v23_apply, val_main_v22_apply, val_main_v24_apply, val_main_v26_apply,
    val_main_cst_3_apply, val_main_cst_4_apply, val_main_cst_5_apply]
  simp only [val_main_v21_apply, r20 H, Ideal.addf_def, Ideal.mulf_def, Ideal.hostDivf_def, Ideal.ofBits_def, Ideal.ofBits_zero_f32,
    ofBits_128, ofBits_eps, zero_add, ← EReal.coe_mul, ← coe_sum]
  rw [div_real (by norm_num), ← EReal.coe_add]
  rfl
/-- Their reciprocal roots. -/
theorem r28 (i : S8192x16x1.Idx) : val_main_v28 (F := Ideal) x0 i = (rinv (A.k (h1 i) (t1 i)) : EReal) := by
  rw [val_main_v28_apply, r27 H]
  exact rsqrt_real (var_pos _)
/-- The factor differentiation takes from the reciprocal root. -/
theorem r31 (i : S8192x16x1.Idx) : val_main_v31 (F := Ideal) x0 i
    = ((-(1 / 2) * (rinv (A.k (h1 i) (t1 i)) / var (A.k (h1 i) (t1 i))) : ℝ) : EReal) := by
  rw [val_main_v31_apply, val_main_v30_apply, val_main_cst_6_apply, val_main_v29_apply, r28 H, r27 H]
  simp only [Ideal.mulf_def, Ideal.hostDivf_def, Ideal.ofBits_def, ofBits_neg_half, div_real (var_pos _).ne', ← EReal.coe_mul]
/-- The normalised rows. -/
theorem r33 (i : S8192x16x128.Idx) : val_main_v33 (F := Ideal) x0 i = (hat (A.k (hq i) (tq i)) (dq i) : EReal) := by
  rw [val_main_v33_apply, val_main_v32_apply, r20 H, r28 H]
  simp only [Ideal.mulf_def, ← EReal.coe_mul]
  rfl
/-- The gain. -/
theorem r35 (i : S8192x16x128.Idx) : val_main_v35 (F := Ideal) x2 i = (A.gk (dq i) : EReal) := by
  rw [val_main_v35_apply, val_main_v34_apply, ← H.gk]
  exact congrArg x2 (funext fun a => Fin.ext (match a with | ⟨0, _⟩ => rfl | ⟨1, _⟩ => rfl))
/-- The normalised rows with their gain. -/
theorem r36 (i : S8192x16x128.Idx) : val_main_v36 (F := Ideal) x0 x2 i = (A.kn (hq i) (tq i) (dq i) : EReal) := by
  rw [val_main_v36_apply, r33 H, r35 H]
  simp only [Ideal.mulf_def, ← EReal.coe_mul]
  rfl

/-- The values, by position, head and coordinate. -/
theorem r37 (i : S8192x16x128.Idx) : val_main_v37 (F := Ideal) x0 i = (A.v (hq i) (tq i) (dq i) : EReal) := by
  rw [val_main_v37_apply, val_main_v2_apply, ← H.v]
  refine congrArg x0 (funext fun a => Fin.ext ?_)
  have e0 : (i 0).val < 8192 := (i 0).isLt
  have e1 : (i 1).val < 16 := (i 1).isLt
  have e2 : (i 2).val < 128 := (i 2).isLt
  match a with
  | ⟨0, _⟩ => show (((i 0).val * 16 + (i 1).val) * 128 + (i 2).val) / 2048 = (i 0).val; omega
  | ⟨1, _⟩ =>
    show 4096 + (((i 0).val * 16 + (i 1).val) * 128 + (i 2).val) % 2048 = 2 * 2048 + ((i 1).val * 128 + (i 2).val)
    omega
/-- The output's cotangent, by head, coordinate and position. -/
theorem r104 (i : S16x128x8192.Idx) : val_main_v104 (F := Ideal) x4 i = (A.o (ho i) (po i) (eo i) : EReal) := by
  rw [val_main_v104_apply, val_main_v103_apply, val_main_v102_apply, ← H.o]
  refine congrArg x4 (funext fun a => Fin.ext ?_)
  have e0 : (i 0).val < 16 := (i 0).isLt
  have e1 : (i 1).val < 128 := (i 1).isLt
  have e2 : (i 2).val < 8192 := (i 2).isLt
  match a with
  | ⟨0, _⟩ => show (((i 2).val * 16 + (i 0).val) * 128 + (i 1).val) / 2048 = (i 2).val; omega
  | ⟨1, _⟩ => show (((i 2).val * 16 + (i 0).val) * 128 + (i 1).val) % 2048 = (i 0).val * 128 + (i 1).val; omega
/-- The scaled products of queries and keys. -/
theorem r50 (i : S16x8192x8192.Idx) : val_main_v50 (F := Ideal) x0 x1 x2 i
    = (((∑ d, A.qn (hs i) (is i) d * A.kn (hs i) (js i) d) * scl : ℝ) : EReal) := by
  rw [val_main_v50_apply, val_main_v48_apply, val_main_v49_apply, val_main_cst_9_apply]
  simp only [r19 H, r36 H, Ideal.mulf_def, Ideal.ofBits_def, ofBits_scl, ← EReal.coe_mul, ← coe_sum]
  rfl

end Cert.Att

end
-- ==== Proof.Att.Words.lean ====
/-
  The 32-bit words of the masks and of the bias columns: rounding division by 64, the comparison of two chunk numbers,
  and the clipped distance of two positions.
-/
module

public import proofs.«01_k».proof.Proof.Att.Spec
public import Idealize.ShloMosaic.Lib.ValueIdxCore

@[expose] public section

set_option maxRecDepth 16384

noncomputable section

namespace Cert.Att

open Idealize.ShloMosaic

/-- The sign of a word. -/
def sgn (w : BitVec 32) : BitVec 32 := if w = 0 then 0 else if w.msb then -1 else 1
/-- Division by 64, rounding down, as the host spells it. -/
def fdiv (w : BitVec 32) : BitVec 32 :=
  Scalar.select (IntOp.andi (IntOp.cmpi .ne (sgn w) (sgn 64#32)) (IntOp.cmpi .ne (IntOp.remsi .host w 64#32) 0#32))
    (IntOp.subi (IntOp.divsi .host w 64#32) 1#32) (IntOp.divsi .host w 64#32)

theorem toInt_small {n : ℕ} (h : n < 2 ^ 31) : (BitVec.ofNat 32 n).toInt = n := by
  rw [BitVec.toInt_eq_toNat_cond, BitVec.toNat_ofNat, Nat.mod_eq_of_lt (by omega), if_pos (by omega)]
theorem msb_small {n : ℕ} (h : n < 2 ^ 31) : (BitVec.ofNat 32 n).msb = false := by
  rw [BitVec.msb_eq_decide, BitVec.toNat_ofNat, Nat.mod_eq_of_lt (by omega)]; simp only [decide_eq_false_iff_not]; omega

theorem corner64 (x : BitVec 32) : ¬ IntOp.SDivCorner x 64#32 := by
  rintro (h | ⟨_, h⟩)
  · exact absurd h (by decide)
  · exact absurd h (by decide)

theorem fdiv_eq (r : ℕ) (h : r < 2 ^ 31) : fdiv (BitVec.ofNat 32 r) = BitVec.ofNat 32 (r / 64) := by
  have hm := msb_small h
  have h6 : (64#32 : BitVec 32).msb = false := by decide
  have hd : IntOp.divsi .host (BitVec.ofNat 32 r) 64#32 = BitVec.ofNat 32 (r / 64) := by
    unfold IntOp.divsi
    rw [if_neg (corner64 _), BitVec.sdiv_eq, hm, h6]
    apply BitVec.eq_of_toNat_eq
    show (BitVec.ofNat 32 r / 64#32).toNat = _
    rw [BitVec.toNat_udiv, BitVec.toNat_ofNat, BitVec.toNat_ofNat, BitVec.toNat_ofNat, Nat.mod_eq_of_lt (by omega : r < 2 ^ 32),
      Nat.mod_eq_of_lt (by omega : r / 64 < 2 ^ 32)]
  have hr : IntOp.remsi .host (BitVec.ofNat 32 r) 64#32 = BitVec.ofNat 32 (r % 64) := by
    unfold IntOp.remsi
    rw [if_neg (corner64 _), BitVec.srem_eq, hm, h6]
    apply BitVec.eq_of_toNat_eq
    show (BitVec.ofNat 32 r % 64#32).toNat = _
    rw [BitVec.toNat_umod, BitVec.toNat_ofNat, BitVec.toNat_ofNat, BitVec.toNat_ofNat, Nat.mod_eq_of_lt (by omega : r < 2 ^ 32),
      Nat.mod_eq_of_lt (by omega : r % 64 < 2 ^ 32)]
  have hs : sgn 64#32 = 1 := by decide
  unfold fdiv
  rw [hd, hr, hs]
  have hz : IntOp.andi (IntOp.cmpi .ne (sgn (BitVec.ofNat 32 r)) 1) (IntOp.cmpi .ne (BitVec.ofNat 32 (r % 64)) 0#32) = 0#1 := by
    by_cases h0 : r = 0
    · subst h0; decide
    · have : sgn (BitVec.ofNat 32 r) = 1 := by
        unfold sgn
        rw [if_neg, hm]
        · rfl
        · intro hc
          have := congrArg BitVec.toNat hc
          rw [BitVec.toNat_ofNat, Nat.mod_eq_of_lt (by omega)] at this
          exact h0 this
      rw [this]
      show (BitVec.ofBool ((1 : BitVec 32) != 1)) &&& _ = 0#1
      simp
  rw [hz]
  rfl

/-- The clipped distance, made a column number and wrapped as an index, as the host spells it. -/
def relWord (w : BitVec 32) : BitVec 32 :=
  let v := IntOp.addi (IntOp.minsi 256#32 (IntOp.maxsi (-256#32) w)) 256#32
  Scalar.select (IntOp.cmpi .slt v 0#32) (IntOp.addi v 513#32) v

theorem maxsi_toInt (x y : BitVec 32) : (IntOp.maxsi x y).toInt = max x.toInt y.toInt := by
  unfold IntOp.maxsi; rw [BitVec.slt_eq_decide]
  by_cases h : y.toInt < x.toInt
  · simp only [h, decide_true, if_true]; omega
  · simp only [h, decide_false, Bool.false_eq_true, if_false]; omega
theorem minsi_toInt (x y : BitVec 32) : (IntOp.minsi x y).toInt = min x.toInt y.toInt := by
  unfold IntOp.minsi; rw [BitVec.slt_eq_decide]
  by_cases h : x.toInt < y.toInt
  · simp only [h, decide_true, if_true]; omega
  · simp only [h, decide_false, Bool.false_eq_true, if_false]; omega
theorem bmod_small (n : ℤ) (h : -2 ^ 31 ≤ n) (h' : n < 2 ^ 31) : n.bmod (2 ^ 32) = n := by
  apply Int.bmod_eq_of_le <;> omega
theorem subi_toInt (i j : ℕ) (hi : i < 2 ^ 30) (hj : j < 2 ^ 30) :
    (IntOp.subi (BitVec.ofNat 32 i) (BitVec.ofNat 32 j)).toInt = (i : ℤ) - j := by
  show (BitVec.ofNat 32 i - BitVec.ofNat 32 j).toInt = _
  rw [BitVec.toInt_sub, toInt_small (by omega), toInt_small (by omega), bmod_small _ (by omega) (by omega)]

/-- The column read at a word of small value. -/
theorem relWord_eq (w : BitVec 32) (n : ℤ) (hw : w.toInt = n) :
    min (relWord w).toInt.toNat 512 = (max (-256) (min 256 n) + 256).toNat := by
  have hv : (IntOp.addi (IntOp.minsi 256#32 (IntOp.maxsi (-256#32) w)) 256#32).toInt = max (-256) (min 256 n) + 256 := by
    show ((IntOp.minsi 256#32 (IntOp.maxsi (-256#32) w)) + 256#32).toInt = _
    have e1 : (256#32 : BitVec 32).toInt = 256 := by decide
    have e2 : (-256#32 : BitVec 32).toInt = -256 := by decide
    rw [BitVec.toInt_add, minsi_toInt, maxsi_toInt, e1, e2, hw, bmod_small _ (by omega) (by omega)]
    omega
  have hc : IntOp.cmpi .slt (IntOp.addi (IntOp.minsi 256#32 (IntOp.maxsi (-256#32) w)) 256#32) 0#32 = 0#1 := by
    show BitVec.ofBool (BitVec.slt _ _) = _
    rw [BitVec.slt_eq_decide, hv, BitVec.toInt_zero, decide_eq_false (by omega)]
    rfl
  unfold relWord
  simp only [hc]
  show min (IntOp.addi (IntOp.minsi 256#32 (IntOp.maxsi (-256#32) w)) 256#32).toInt.toNat 512 = _
  rw [hv]
  omega

/-- The column read at positions `i`, `j`. -/
theorem relWord_rel (i j : Fin 8192) :
    min (relWord (IntOp.subi (BitVec.ofNat 32 i) (BitVec.ofNat 32 j))).toInt.toNat 512 = (rel i j).val := by
  rw [relWord_eq _ _ (subi_toInt i j (by omega) (by omega))]
  rfl

/-- The mask's bit at two chunk numbers, as the reference spells it. -/
def maskWord (a b : BitVec 32) : BitVec 1 :=
  IntOp.andi (IntOp.cmpi .sge (IntOp.subi a b) 0#32) (IntOp.cmpi .sle (IntOp.subi a b) 8#32)

theorem maskWord_eq (a b : ℕ) (ha : a < 2 ^ 30) (hb : b < 2 ^ 30) : maskWord (BitVec.ofNat 32 a) (BitVec.ofNat 32 b)
    = if b ≤ a ∧ a ≤ b + 8 then 1#1 else 0#1 := by
  have e8 : (8#32 : BitVec 32).toInt = 8 := by decide
  show BitVec.ofBool (BitVec.sle _ _) &&& BitVec.ofBool (BitVec.sle _ _) = _
  rw [BitVec.sle_eq_decide, BitVec.sle_eq_decide, subi_toInt a b ha hb, BitVec.toInt_zero, e8]
  by_cases h1 : b ≤ a <;> by_cases h2 : a ≤ b + 8
  · rw [decide_eq_true (by omega), decide_eq_true (by omega), if_pos ⟨h1, h2⟩]; rfl
  · rw [decide_eq_true (by omega), decide_eq_false (by omega), if_neg (fun h => h2 h.2)]; rfl
  · rw [decide_eq_false (by omega), if_neg (fun h => h1 h.1)]; simp
  · rw [decide_eq_false (by omega), if_neg (fun h => h1 h.1)]; simp

theorem maskWord_ok (i j : Fin 8192) : maskWord (fdiv (BitVec.ofNat 32 i)) (fdiv (BitVec.ofNat 32 j)) = if ok i j then 1#1 else 0#1 := by
  rw [fdiv_eq _ (by omega), fdiv_eq _ (by omega), maskWord_eq _ _ (by omega) (by omega)]
  rfl

end Cert.Att

end
-- ==== Proof.Att.KerVal.lean ====
/-
  What the kernel leaves after each grid point, at the extended reals: the invariant of its two accumulators, of its two
  gain sums, and of the blocks it writes.
-/
module

public import proofs.«01_k».proof.Proof.Att.Vals
public import proofs.«01_k».proof.Proof.Att.Blocks
public import proofs.«01_k».proof.Proof.Att.Band
public import proofs.«01_k».proof.Proof.Att.RefNorm
public import proofs.«01_k».proof.Proof.Att.Words

@[expose] public section

set_option maxRecDepth 16384

noncomputable section

namespace Cert.KernelIdeal.Att

open Cert.KernelIdeal Cert.KernelIdeal.Gen Cert.Att
open Idealize.ShloMosaic Idealize.ShloMosaic.TcCoe Idealize.ShloMosaic.ValueIdx
open Idealize.ShloMosaic.Pipeline (Dat Cfg Window)

theorem w_back : ∀ n : Fin 34, (IntOp.muli (IntOp.subi 2#32 (BitVec.ofNat 32 n.val)) 256#32).toInt = 512 - (n.val : ℤ) * 256 := by decide

/-- The comparison in words is the one on positions. -/
theorem vis_iff (t : Fin cfg0.N) (c : Fin 768) : vis (a1 t) c ↔ val (t.val % 34) c := by
  have e : a1 t = BitVec.ofNat 32 (t.val % 34) := by show BitVec.ofNat 32 ((grid0.coords t) 1).val = _; rw [co1]
  have hm := w_back ⟨t.val % 34, Nat.mod_lt _ (by norm_num)⟩
  unfold vis val
  rw [e]
  show BitVec.ofBool ((IntOp.muli (IntOp.subi 2#32 (BitVec.ofNat 32 (t.val % 34))) 256#32).sle (BitVec.ofNat 32 c.val)) = 1#1 ↔ _
  have hs : (IntOp.muli (IntOp.subi 2#32 (BitVec.ofNat 32 (t.val % 34))) 256#32).sle (BitVec.ofNat 32 c.val)
      = decide (512 ≤ t.val % 34 * 256 + c.val) := by
    have hc := c.isLt
    rw [BitVec.sle_eq_decide, toInt_small (by omega)]
    refine decide_eq_decide.mpr ?_
    have hm' : (IntOp.muli (IntOp.subi 2#32 (BitVec.ofNat 32 (t.val % 34))) 256#32).toInt = 512 - ((t.val % 34 : ℕ) : ℤ) * 256 := hm
    rw [hm']; omega
  rw [hs]
  by_cases h : 512 ≤ t.val % 34 * 256 + c.val
  · simp [h]
  · simp [h]

variable (m : (ℓ : Loc nD τ sig) → Buf (Elt Ideal) ℓ) (c : Dev nD) {A : Ins}

/-- The bias table with its mask, as the body reads it. -/
def Biased (A : Ins) : Prop := ∀ (h : Fin 16) (r : Fin 256) (l : Fin 768),
  V m c main_v25 (ix3 h r l) = if okc r l then ((A.b h (rel (r.val + 512) l.val) : ℝ) : EReal) else ⊥

section
variable (H : Holds A (V m c main_arg0) (V m c main_arg1) (V m c main_arg2) (V m c main_arg3) (V m c main_arg4))
include H

theorem blkG (t : Fin cfg0.N) (d : Fin 128) : iblk m c 7 t (ix2 0 d) = (A.gq d : EReal) :=
  (iblk7 m c t 0 d (ix2 0 d) (by show 0 = 0 * 1 + 0; rfl) (by show d.val = 0 * 128 + d.val; omega)).trans (H.gq d)
theorem blkK (t : Fin cfg0.N) (d : Fin 128) : iblk m c 8 t (ix2 0 d) = (A.gk d : EReal) :=
  (iblk8 m c t 0 d (ix2 0 d) (by show 0 = 0 * 1 + 0; rfl) (by show d.val = 0 * 128 + d.val; omega)).trans (H.gk d)

/-- The first block of keys lies at the rows whose gradient the point completes. -/
theorem blk1 (t : Fin cfg0.N) (r : Fin 256) (d : Fin 128) :
    iblk m c 1 t (ix2 r d) = (A.k (hd t.val) (qp (t.val % 34 - 2) r) d : EReal) := by
  have hN : t.val < 544 := lt_of_lt_of_eq t.isLt (show cfg0.N = 544 from N_0)
  refine (iblk1 m c t r d (ix2 (qp (t.val % 34 - 2) r) (col 1 (hd t.val) d)) ?_ ?_).trans (H.k _ _ d)
  · show min (t.val % 34 - 2) 31 * 256 + r.val = _; omega
  · show 1 * 2048 + (t.val / 34 % 16 * 128 + d.val) = _; omega

/-- The blocks at a point below the last two of a head hold the point's numbers. -/
theorem point (B : Biased m c A) (t : Fin cfg0.N) (h2 : t.val % 34 ≤ 31) :
    PtHolds (pt A (hd t.val) (t.val % 34)) (a1 t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) := by
  have hN : t.val < 544 := lt_of_lt_of_eq t.isLt (show cfg0.N = 544 from N_0)
  constructor
  · intro r d
    refine (iblk0 m c t r d (ix2 (qp (t.val % 34) r) (col 0 (hd t.val) d)) ?_ ?_).trans (H.q _ _ d)
    · show min (t.val % 34) 31 * 256 + r.val = _; omega
    · show 0 * 2048 + (t.val / 34 % 16 * 128 + d.val) = _; omega
  · intro r d
    refine (iblk1 m c t r d (ix2 (kp (t.val % 34) ⟨r.val, by omega⟩) (col 1 (hd t.val) d)) ?_ ?_).trans (H.k _ _ d)
    · show min (t.val % 34 + r.val / 256 - 2) 31 * 256 + r.val % 256 = _; omega
    · show 1 * 2048 + (t.val / 34 % 16 * 128 + d.val) = _; omega
  · intro r d
    refine (iblk2 m c t r d (ix2 (kp (t.val % 34) ⟨r.val + 256, by omega⟩) (col 1 (hd t.val) d)) ?_ ?_).trans (H.k _ _ d)
    · show min (t.val % 34 + (r.val + 256) / 256 - 2) 31 * 256 + (r.val + 256) % 256 = _; omega
    · show 1 * 2048 + (t.val / 34 % 16 * 128 + d.val) = _; omega
  · intro r d
    refine (iblk3 m c t r d (ix2 (kp (t.val % 34) ⟨r.val + 512, by omega⟩) (col 1 (hd t.val) d)) ?_ ?_).trans (H.k _ _ d)
    · show min (t.val % 34 + (r.val + 512) / 256 - 2) 31 * 256 + (r.val + 512) % 256 = _; omega
    · show 1 * 2048 + (t.val / 34 % 16 * 128 + d.val) = _; omega
  · intro r d
    refine (iblk4 m c t r d (ix2 (kp (t.val % 34) ⟨r.val, by omega⟩) (col 2 (hd t.val) d)) ?_ ?_).trans (H.v _ _ d)
    · show min (t.val % 34 + r.val / 256 - 2) 31 * 256 + r.val % 256 = _; omega
    · show 2 * 2048 + (t.val / 34 % 16 * 128 + d.val) = _; omega
  · intro r d
    refine (iblk5 m c t r d (ix2 (kp (t.val % 34) ⟨r.val + 256, by omega⟩) (col 2 (hd t.val) d)) ?_ ?_).trans (H.v _ _ d)
    · show min (t.val % 34 + (r.val + 256) / 256 - 2) 31 * 256 + (r.val + 256) % 256 = _; omega
    · show 2 * 2048 + (t.val / 34 % 16 * 128 + d.val) = _; omega
  · intro r d
    refine (iblk6 m c t r d (ix2 (kp (t.val % 34) ⟨r.val + 512, by omega⟩) (col 2 (hd t.val) d)) ?_ ?_).trans (H.v _ _ d)
    · show min (t.val % 34 + (r.val + 512) / 256 - 2) 31 * 256 + (r.val + 512) % 256 = _; omega
    · show 2 * 2048 + (t.val / 34 % 16 * 128 + d.val) = _; omega
  · exact blkG m c H t
  · exact blkK m c H t
  · intro r l hv
    have hv' := (vis_iff t l).mp hv
    refine (iblk9 m c t 0 r l (ix3 (hd t.val) r l) ?_ ?_ ?_).trans ((B (hd t.val) r l).trans ?_)
    · show t.val / 34 % 16 = t.val / 34 * 1 + 0; omega
    · show r.val = 0 * 256 + r.val; omega
    · show l.val = 0 * 768 + l.val; omega
    · show _ = if decide (val (t.val % 34) l ∧ okc r l) = true then ((A.b (hd t.val) (rel (r.val + 512) l.val) : ℝ) : EReal) else ⊥
      by_cases hk : okc r l
      · rw [if_pos hk, if_pos (decide_eq_true ⟨hv', hk⟩)]
      · rw [if_neg hk, if_neg (fun h => hk (of_decide_eq_true h).2)]
  · intro r l hv
    exact decide_eq_false fun h => hv ((vis_iff t l).mpr h.1)
  · intro r d
    refine (iblk10 m c t r d (ix2 (qp (t.val % 34) r) (hcol (hd t.val) d)) ?_ ?_).trans (H.o _ _ d)
    · show min (t.val % 34) 31 * 256 + r.val = _; omega
    · show t.val / 34 % 16 * 128 + d.val = _; omega
  · exact fun r => pt_some h2 A (hd t.val) r
end

/-- An accumulator's contents shift by one block from a point to the next. -/
theorem shift_val {C : ℕ → Fin 768 → Fin 128 → ℝ} {n : ℕ} {a : S768x128.Idx → EReal} (w : S512x128.Idx → EReal) (z : S256x128.Idx → EReal)
    (ha : ∀ l d, a (ix2 l d) = ((accB C n l d + C n l d : ℝ) : EReal)) (hw : w = rest (F := Ideal) a) (hz : ∀ i, z i = ((0 : ℝ) : EReal))
    (l : Fin 768) (d : Fin 128) : shifted (F := Ideal) w z (ix2 l d) = ((accB C (n + 1) l d : ℝ) : EReal) := by
  subst hw
  unfold shifted
  by_cases hl : l.val < 512
  · refine (dif_pos hl).trans ?_
    rw [accB, dif_pos hl]
    exact ha ⟨l.val + 256, by omega⟩ d
  · refine (dif_neg hl).trans ((hz _).trans ?_)
    rw [accB, dif_neg hl]

theorem topK {A : Ins} (t : Fin cfg0.N) (h3 : 2 ≤ t.val % 34) (a : Vec Ideal S768x128 .f32)
    (ha : ∀ l d, a (ix2 l d) = ((accB (shK A (hd t.val)) (t.val % 34) l d + shK A (hd t.val) (t.val % 34) l d : ℝ) : EReal))
    (r : Fin 256) (d : Fin 128) : top (F := Ideal) a (ix2 r d) = ((A.dkn (hd t.val) (qp (t.val % 34 - 2) r) d : ℝ) : EReal) := by
  have e := accK_top A (hd t.val) (t.val % 34 - 2) (by omega) r d
  rw [show t.val % 34 - 2 + 2 = t.val % 34 by omega] at e
  exact (ha ⟨r.val, by omega⟩ d).trans (congrArg _ e)

theorem topV {A : Ins} (t : Fin cfg0.N) (h3 : 2 ≤ t.val % 34) (a : Vec Ideal S768x128 .f32)
    (ha : ∀ l d, a (ix2 l d) = ((accB (shV A (hd t.val)) (t.val % 34) l d + shV A (hd t.val) (t.val % 34) l d : ℝ) : EReal))
    (r : Fin 256) (d : Fin 128) : top (F := Ideal) a (ix2 r d) = ((A.dv (hd t.val) (qp (t.val % 34 - 2) r) d : ℝ) : EReal) := by
  have e := accV_top A (hd t.val) (t.val % 34 - 2) (by omega) r d
  rw [show t.val % 34 - 2 + 2 = t.val % 34 by omega] at e
  exact (ha ⟨r.val, by omega⟩ d).trans (congrArg _ e)

/-- What holds after the point `t`. -/
structure Inv (A : Ins) (t : ℕ)
    (o : Vec Ideal S256x128 .bf16 × Vec Ideal S256x128 .bf16 × Vec Ideal S256x128 .bf16 × Vec Ideal S1x256x768 .f32 × Vec Ideal S1x128 .f32
      × Vec Ideal S1x128 .f32 × Vec Ideal S768x128 .f32 × Vec Ideal S768x128 .f32) : Prop where
  s0 : ∀ l d, o.2.2.2.2.2.2.1 (ix2 l d) = ((accB (shK A (hd t)) (t % 34 + 1) l d : ℝ) : EReal)
  s1 : ∀ l d, o.2.2.2.2.2.2.2 (ix2 l d) = ((accB (shV A (hd t)) (t % 34 + 1) l d : ℝ) : EReal)
  gq : ∀ d, o.2.2.2.2.1 (ix2 0 d) = ((∑ s ∈ Finset.range (t + 1), shGq A s d : ℝ) : EReal)
  gk : ∀ d, o.2.2.2.2.2.1 (ix2 0 d) = ((∑ s ∈ Finset.range (t + 1), shGk A s d : ℝ) : EReal)
  dq : ∀ r d, o.1 (ix2 r d) = ((A.dq (hd t) (qp (t % 34) r) d : ℝ) : EReal)
  dk : 2 ≤ t % 34 → ∀ r d, o.2.1 (ix2 r d) = ((A.dk (hd t) (qp (t % 34 - 2) r) d : ℝ) : EReal)
  dv : 2 ≤ t % 34 → ∀ r d, o.2.2.1 (ix2 r d) = ((A.dv (hd t) (qp (t % 34 - 2) r) d : ℝ) : EReal)

section
variable (H : Holds A (V m c main_arg0) (V m c main_arg1) (V m c main_arg2) (V m c main_arg3) (V m c main_arg4)) (B : Biased m c A)
include H B

/-- The accumulators, the queries' gradient and the queries' gain sum at a point that has a query block. -/
theorem acK_val (t : Fin cfg0.N) (h2 : t.val % 34 ≤ 31) (a : Vec Ideal S768x128 .f32)
    (ha : ∀ l d, a (ix2 l d) = ((accB (shK A (hd t.val)) (t.val % 34) l d : ℝ) : EReal)) (l : Fin 768) (d : Fin 128) :
    acK (F := Ideal) t (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 l d)
      = ((accB (shK A (hd t.val)) (t.val % 34) l d + shK A (hd t.val) (t.val % 34) l d : ℝ) : EReal) := by
  refine (w11 (point m c H B t h2) a _ ha l d).trans ?_
  unfold shK; rw [if_pos h2]

theorem acV_val (t : Fin cfg0.N) (h2 : t.val % 34 ≤ 31) (a : Vec Ideal S768x128 .f32)
    (ha : ∀ l d, a (ix2 l d) = ((accB (shV A (hd t.val)) (t.val % 34) l d : ℝ) : EReal)) (l : Fin 768) (d : Fin 128) :
    acV (F := Ideal) t (iblk m c 0 t) (iblk m c 1 t) (iblk m c 2 t) (iblk m c 3 t) (iblk m c 7 t) (iblk m c 8 t) (iblk m c 9 t) (iblk m c 10 t) a (ix2 l d)
      = ((accB (shV A (hd t.val)) (t.val % 34) l d + shV A (hd t.val) (t.val % 34) l d : ℝ) : EReal) := by
  refine (w6 (point m c H B t h2) a _ ha l d).trans ?_
  unfold shV; rw [if_pos h2]

theorem dQp_val (t : Fin cfg0.N) (h2 : t.val % 34 ≤ 31) (r : Fin 256) (d : Fin 128) :
    dQp (F := Ideal) t (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r d)
      = ((A.dq (hd t.val) (qp (t.val % 34) r) d : ℝ) : EReal) := by
  refine (w27 (point m c H B t h2) r d).trans ?_
  rw [show (pt A (hd t.val) (t.val % 34)).dqn r = A.dqn (hd t.val) (qp (t.val % 34) r) from funext fun e => pt_dqn h2 A _ r e]
  rfl

theorem gQp_val (t : Fin cfg0.N) (h2 : t.val % 34 ≤ 31) (a : Vec Ideal S1x128 .f32)
    (ha : ∀ d, a (ix2 0 d) = ((∑ s ∈ Finset.range t.val, shGq A s d : ℝ) : EReal)) (d : Fin 128) :
    gQp (F := Ideal) t (iblk m c 0 t) (iblk m c 1 t) (iblk m c 2 t) (iblk m c 3 t) (iblk m c 4 t) (iblk m c 5 t) (iblk m c 6 t) (iblk m c 7 t) (iblk m c 8 t) (iblk m c 9 t) (iblk m c 10 t) a (ix2 0 d)
      = ((∑ s ∈ Finset.range (t.val + 1), shGq A s d : ℝ) : EReal) := by
  refine (w28 (point m c H B t h2) a _ ha d).trans ?_
  rw [Finset.sum_range_succ, show shGq A t.val d = (pt A (hd t.val) (t.val % 34)).cg d from if_pos h2]
omit B

/-- The keys' gradient and gain sum at a point that completes a block. -/
theorem dK_val (t : Fin cfg0.N) (h3 : 2 ≤ t.val % 34) (a : Vec Ideal S768x128 .f32)
    (ha : ∀ l d, a (ix2 l d) = ((accB (shK A (hd t.val)) (t.val % 34) l d + shK A (hd t.val) (t.val % 34) l d : ℝ) : EReal))
    (r : Fin 256) (d : Fin 128) :
    k0_pay19 (F := Ideal) (top a) (iblk m c 1 t) (iblk m c 8 t) (ix2 r d) = ((A.dk (hd t.val) (qp (t.val % 34 - 2) r) d : ℝ) : EReal) := by
  refine (w19 (dn := fun r d => A.dkn (hd t.val) (qp (t.val % 34 - 2) r) d) (fun r d => ?_) (blk1 m c H t) (blkK m c H t) r d).trans rfl
  exact topK t h3 a ha r d

theorem gK_val (t : Fin cfg0.N) (h3 : 2 ≤ t.val % 34) (a : Vec Ideal S768x128 .f32) (x : Vec Ideal S1x128 .f32)
    (ha : ∀ l d, a (ix2 l d) = ((accB (shK A (hd t.val)) (t.val % 34) l d + shK A (hd t.val) (t.val % 34) l d : ℝ) : EReal))
    (hx : ∀ d, x (ix2 0 d) = ((∑ s ∈ Finset.range t.val, shGk A s d : ℝ) : EReal)) (d : Fin 128) :
    k0_pay20 (F := Ideal) (top a) (iblk m c 1 t) x (ix2 0 d) = ((∑ s ∈ Finset.range (t.val + 1), shGk A s d : ℝ) : EReal) := by
  refine (w20 (dn := fun r d => A.dkn (hd t.val) (qp (t.val % 34 - 2) r) d) (fun r d => topK t h3 a ha r d) (blk1 m c H t) hx d).trans ?_
  rw [Finset.sum_range_succ, show shGk A t.val d = _ from if_pos h3]
end

end Cert.KernelIdeal.Att

end
-- ==== Proof.Att.Table.lean ====
/-
  The bias table that the host hands to the kernel: for a query in row `r` of a block and a key in row `l` of its band,
  the bias at their clipped distance where the chunk mask allows the pair, and minus infinity elsewhere.
-/
module

public import proofs.«01_k».proof.Proof.Att.KerVal
public import Idealize.ShloMosaic.Lib.Claim

@[expose] public section

set_option maxRecDepth 16384

noncomputable section

namespace Cert.KernelIdeal.Att

open Cert.KernelIdeal Cert.KernelIdeal.Gen Cert.Att
open Idealize.ShloMosaic Idealize.ShloMosaic.TcCoe Idealize.ShloMosaic.ValueIdx

variable (m : (ℓ : Loc nD τ sig) → Buf (Elt Ideal) ℓ) (c : Dev nD)

/-- The table with its last column repeated to the left and its other columns reversed. -/
def tab5 (x : S16x513.Idx → EReal) : S16x1024.Idx → EReal :=
  pad S16x1024 ![0, 0] ![0, 1] ![0, 0]
    (concatenate S16x1023 1 [⟨S16x512, broadcastInDim S16x512 ![0, 1] bcast_S16x1_S16x512_0_1 (extractStridedSlice S16x1 ![0, 512] x slices_S16x513_S16x1_0_512)⟩,
      ⟨S16x511, Host.reverse [1] (extractStridedSlice S16x511 ![0, 1] x slices_S16x513_S16x511_0_1)⟩] concatenates_S16x512_S16x511_S16x1023_d1)
    (sitofp (F := Ideal) .f32 (constantI S_ 32 0#32) : S_.Idx → EReal) pads_S16x1023_S16x1024_000_010 h_S_

/-- Its sheared copies, one row of keys for each query of a block. -/
def tab11 (x : S16x513.Idx → EReal) : S16x256x768.Idx → EReal :=
  extractStridedSlice S16x256x768 ![0, 0, 255]
    (shapeCast S16x256x1023
      (extractStridedSlice S16x261888 ![0, 0]
        (shapeCast S16x262144
          (broadcastInDim S16x256x1024 ![0, 1, 2] bcast_S16x1x1024_S16x256x1024_0_1_2
            (broadcastInDim S16x1x1024 ![0, 2] bcast_S16x1024_S16x1x1024_0_2 (tab5 x)))
          shapeCasts_S16x256x1024_S16x262144)
        slices_S16x262144_S16x261888_0_0)
      shapeCasts_S16x261888_S16x256x1023)
    slices_S16x256x1023_S16x256x768_0_0_255

/-- Division by 64, rounding down, of a vector of words. -/
def tabDiv (w : IVec S256x768 32) : IVec S256x768 32 :=
  let k : IVec S_ 32 := constantI S_ 32 64#32
  let q : IVec S256x768 32 := Host.divsi w (broadcastInDim S256x768 ![] bcast_S_S256x768 k)
  select (andi (cmpi .ne (signi w) (broadcastInDim S256x768 ![] bcast_S_S256x768 (signi k)))
      (cmpi .ne (Host.remsi w (broadcastInDim S256x768 ![] bcast_S_S256x768 k)) (broadcastInDim S256x768 ![] bcast_S_S256x768 (constantI S_ 32 0#32))))
    (subi q (broadcastInDim S256x768 ![] bcast_S_S256x768 (constantI S_ 32 1#32))) q

/-- The chunk mask: zero where a pair is allowed, minus infinity elsewhere. -/
def tab21 : S256x768.Idx → EReal :=
  select (andi (cmpi .sge (tabDiv (iotaInDim S256x768 32 1)) (tabDiv (iotaInDim S256x768 32 0)))
      (cmpi .sle (tabDiv (iotaInDim S256x768 32 1)) (addi (tabDiv (iotaInDim S256x768 32 0)) (broadcastInDim S256x768 ![] bcast_S_S256x768 (constantI S_ 32 8#32)))))
    (broadcastInDim S256x768 ![] bcast_S_S256x768 (constant (F := Ideal) S_ .f32 0x00000000#32 : S_.Idx → EReal))
    (broadcastInDim S256x768 ![] bcast_S_S256x768 (constant (F := Ideal) S_ .f32 0xFF800000#32 : S_.Idx → EReal))

/-- The table. -/
def tab25 (x : S16x513.Idx → EReal) : S16x256x768.Idx → EReal :=
  addf (F := Ideal) (φ := .f32) (tab11 x) (broadcastInDim S16x256x768 ![0, 1, 2] bcast_S1x256x768_S16x256x768_0_1_2
    (broadcastInDim S1x256x768 ![1, 2] bcast_S256x768_S1x256x768_1_2 tab21))

theorem V_main_v25 : V m c main_v25 = tab25 (m (c.tc.loc main_arg3)) := by
  sl_kernel_rfl

end Cert.KernelIdeal.Att

end
-- ==== Proof.Att.TableVal.lean ====
/-
  The entries of the bias table over the extended reals.
-/
module

public import proofs.«01_k».proof.Proof.Att.Table
public import Idealize.ShloMosaic.Lib.KernelVsHost
public import Idealize.ShloMosaic.Lib.Pointwise.SelectCore

@[expose] public section

set_option maxRecDepth 16384

noncomputable section

namespace Cert.KernelIdeal.Att

open Cert.KernelIdeal Cert.KernelIdeal.Gen Cert.Att
open Idealize.ShloMosaic Idealize.ShloMosaic.TcCoe Idealize.ShloMosaic.ValueIdx

variable (m : (ℓ : Loc nD τ sig) → Buf (Elt Ideal) ℓ) (c : Dev nD)

theorem tab5_left (x : S16x513.Idx → EReal) (h : Fin 16) (j : Fin 1024) (hj : j.val < 512) : tab5 x (ValueIdx.ix2 h j) = x (ValueIdx.ix2 h 512) := by
  unfold tab5
  rw [pad_apply_of_inside _ _ _ _ _ _ _ (ValueIdx.ix2 h j) (ValueIdx.ix2 h (⟨j.val, by omega⟩ : Fin 1023) : S16x1023.Idx)
    (fun a => by match a with
      | ⟨0, _⟩ => show h.val = 0 + h.val * (0 + 1); omega
      | ⟨1, _⟩ => show j.val = 0 + j.val * (0 + 1); omega)]
  rw [concatenate_pair_apply]
  refine (dif_pos (show j.val < 512 from hj)).trans ?_
  refine congrArg x (funext fun a => Fin.ext ?_)
  match a with
  | ⟨0, _⟩ => show 0 + h.val = h.val; omega
  | ⟨1, _⟩ => rfl

theorem tab5_right (x : S16x513.Idx → EReal) (h : Fin 16) (j : Fin 1024) (hj : 512 ≤ j.val) (hj' : j.val < 1023) :
    tab5 x (ValueIdx.ix2 h j) = x (ValueIdx.ix2 h ⟨1023 - j.val, by omega⟩) := by
  unfold tab5
  rw [pad_apply_of_inside _ _ _ _ _ _ _ (ValueIdx.ix2 h j) (ValueIdx.ix2 h (⟨j.val, by omega⟩ : Fin 1023) : S16x1023.Idx)
    (fun a => by match a with
      | ⟨0, _⟩ => show h.val = 0 + h.val * (0 + 1); omega
      | ⟨1, _⟩ => show j.val = 0 + j.val * (0 + 1); omega)]
  rw [concatenate_pair_apply]
  refine (dif_neg (show ¬ j.val < 512 by omega)).trans ?_
  refine congrArg x (funext fun a => Fin.ext ?_)
  match a with
  | ⟨0, _⟩ => show 0 + h.val = h.val; omega
  | ⟨1, _⟩ => show 1 + (511 - (j.val - 512 + 1)) = 1023 - j.val; omega

theorem tabB_eq (x : S16x1024.Idx → EReal) (h : Fin 16) (r : Fin 256) (l : Fin 1024) :
    broadcastInDim S16x256x1024 ![0, 1, 2] bcast_S16x1x1024_S16x256x1024_0_1_2
      (broadcastInDim S16x1x1024 ![0, 2] bcast_S16x1024_S16x1x1024_0_2 x) (ValueIdx.ix3 h r l) = x (ValueIdx.ix2 h l) := by
  rw [broadcastInDim_apply _ _ _ _ (ValueIdx.ix3 h (0 : Fin 1) l : S16x1x1024.Idx) (fun a => by match a with
      | ⟨0, _⟩ => rfl
      | ⟨1, _⟩ => rfl
      | ⟨2, _⟩ => rfl),
    broadcastInDim_apply _ _ _ _ (ValueIdx.ix2 h l : S16x1024.Idx) (fun a => by match a with
      | ⟨0, _⟩ => rfl
      | ⟨1, _⟩ => rfl)]

/-- Row `r`, column `l` of the sheared table: the pad value is never read. -/
theorem tab11_eq (x : S16x513.Idx → EReal) (h : Fin 16) (r : Fin 256) (l : Fin 768) :
    tab11 x (ValueIdx.ix3 h r l) = x (ValueIdx.ix2 h (rel (r.val + 512) l.val)) := by
  have hr := r.isLt
  have hl := l.isLt
  have hh := h.isLt
  unfold tab11
  rw [extractStridedSlice_apply _ _ _ _ (ValueIdx.ix3 h r (⟨255 + l.val, by omega⟩ : Fin 1023) : S16x256x1023.Idx) (fun a => by match a with
      | ⟨0, _⟩ => show h.val = 0 + h.val; omega
      | ⟨1, _⟩ => show r.val = 0 + r.val; omega
      | ⟨2, _⟩ => rfl)]
  rw [shapeCast_apply _ _ _ (ValueIdx.ix2 h (⟨r.val * 1023 + 255 + l.val, by omega⟩ : Fin 261888) : S16x261888.Idx) (by
    rw [Shape.rowMajor_val_two, Shape.rowMajor_val_three]
    show h.val * 261888 + (r.val * 1023 + 255 + l.val) = (h.val * 256 + r.val) * 1023 + (255 + l.val)
    omega)]
  rw [extractStridedSlice_apply _ _ _ _ (ValueIdx.ix2 h (⟨r.val * 1023 + 255 + l.val, by omega⟩ : Fin 262144) : S16x262144.Idx) (fun a => by match a with
      | ⟨0, _⟩ => show h.val = 0 + h.val; omega
      | ⟨1, _⟩ => show r.val * 1023 + 255 + l.val = 0 + (r.val * 1023 + 255 + l.val); omega)]
  rw [shapeCast_apply _ _ _ (ValueIdx.ix3 h r (⟨255 + l.val - r.val, by omega⟩ : Fin 1024) : S16x256x1024.Idx) (by
    rw [Shape.rowMajor_val_two, Shape.rowMajor_val_three]
    show (h.val * 256 + r.val) * 1024 + (255 + l.val - r.val) = h.val * 262144 + (r.val * 1023 + 255 + l.val)
    omega)]
  rw [tabB_eq]
  by_cases hj : 255 + l.val - r.val < 512
  · rw [tab5_left x h _ hj]
    refine congrArg (fun z => x (ValueIdx.ix2 h z)) (Fin.ext ?_)
    show 512 = (max (-256) (min 256 (((r.val + 512 : ℕ) : ℤ) - (l.val : ℤ))) + 256).toNat
    omega
  · rw [tab5_right x h _ (by show 512 ≤ 255 + l.val - r.val; omega) (by show 255 + l.val - r.val < 1023; omega)]
    refine congrArg (fun z => x (ValueIdx.ix2 h z)) (Fin.ext ?_)
    show 1023 - (255 + l.val - r.val) = (max (-256) (min 256 (((r.val + 512 : ℕ) : ℤ) - (l.val : ℤ))) + 256).toNat
    omega

theorem tabDiv_eq (w : IVec S256x768 32) (i : S256x768.Idx) : tabDiv w i = fdiv (w i) := rfl

theorem sge_small (a b : ℕ) (ha : a < 2 ^ 30) (hb : b < 2 ^ 30) : IntOp.cmpi .sge (BitVec.ofNat 32 a) (BitVec.ofNat 32 b) = if b ≤ a then 1#1 else 0#1 := by
  show BitVec.ofBool (BitVec.sle _ _) = _
  rw [BitVec.sle_eq_decide, toInt_small (by omega), toInt_small (by omega)]
  by_cases h : b ≤ a
  · rw [decide_eq_true (by omega), if_pos h]; rfl
  · rw [decide_eq_false (by omega), if_neg h]; rfl
theorem sle_small (a b : ℕ) (ha : a < 2 ^ 30) (hb : b < 2 ^ 30) : IntOp.cmpi .sle (BitVec.ofNat 32 a) (BitVec.ofNat 32 b) = if a ≤ b then 1#1 else 0#1 := by
  show BitVec.ofBool (BitVec.sle _ _) = _
  rw [BitVec.sle_eq_decide, toInt_small (by omega), toInt_small (by omega)]
  by_cases h : a ≤ b
  · rw [decide_eq_true (by omega), if_pos h]; rfl
  · rw [decide_eq_false (by omega), if_neg h]; rfl

theorem tab21_eq (r : Fin 256) (l : Fin 768) : tab21 (ValueIdx.ix2 r l) = if okc r l then ((0 : ℝ) : EReal) else ⊥ := by
  have hr := r.isLt
  have hl := l.isLt
  have e : tab21 (ValueIdx.ix2 r l) = Scalar.select
      (IntOp.andi (IntOp.cmpi .sge (fdiv (BitVec.ofNat 32 l.val)) (fdiv (BitVec.ofNat 32 r.val)))
        (IntOp.cmpi .sle (fdiv (BitVec.ofNat 32 l.val)) (IntOp.addi (fdiv (BitVec.ofNat 32 r.val)) 8#32)))
      (Scalar.ofBits (F := Ideal) .f32 0x00000000#32) (Scalar.ofBits (F := Ideal) .f32 0xFF800000#32) := rfl
  have e8 : IntOp.addi (BitVec.ofNat 32 (r.val / 64)) 8#32 = BitVec.ofNat 32 (r.val / 64 + 8) := (BitVec.ofNat_add (r.val / 64) 8).symm
  rw [e, fdiv_eq _ (by omega), fdiv_eq _ (by omega), e8, sge_small _ _ (by omega) (by omega), sle_small _ _ (by omega) (by omega)]
  by_cases h1 : r.val / 64 ≤ l.val / 64 <;> by_cases h2 : l.val / 64 ≤ r.val / 64 + 8
  · rw [if_pos h1, if_pos h2, if_pos (show okc r l from ⟨h1, h2⟩)]; exact Ideal.ofBits_zero_f32
  · rw [if_pos h1, if_neg h2, if_neg (show ¬ okc r l from fun h => h2 h.2)]; exact ofBits_bot
  · rw [if_neg h1, if_pos h2, if_neg (show ¬ okc r l from fun h => h1 h.1)]; exact ofBits_bot
  · rw [if_neg h1, if_neg h2, if_neg (show ¬ okc r l from fun h => h1 h.1)]; exact ofBits_bot

theorem tab25_eq (x : S16x513.Idx → EReal) (h : Fin 16) (r : Fin 256) (l : Fin 768) :
    tab25 x (ValueIdx.ix3 h r l) = x (ValueIdx.ix2 h (rel (r.val + 512) l.val)) + tab21 (ValueIdx.ix2 r l) := by
  rw [← tab11_eq x]
  unfold tab25
  refine congrArg (fun z : EReal => (tab11 x (ValueIdx.ix3 h r l) + z : EReal)) ?_
  rw [broadcastInDim_apply _ _ _ _ (ValueIdx.ix3 (0 : Fin 1) r l : S1x256x768.Idx) (fun a => by match a with
      | ⟨0, _⟩ => rfl
      | ⟨1, _⟩ => rfl
      | ⟨2, _⟩ => rfl),
    broadcastInDim_apply _ _ _ _ (ValueIdx.ix2 r l : S256x768.Idx) (fun a => by match a with
      | ⟨0, _⟩ => rfl
      | ⟨1, _⟩ => rfl)]

theorem biased {A : Ins} (H : ∀ h r, (m (c.tc.loc main_arg3) : S16x513.Idx → EReal) (ValueIdx.ix2 h r) = ((A.b h r : ℝ) : EReal)) : Biased m c A := fun h r l => by
  rw [V_main_v25, tab25_eq, tab21_eq, H]
  by_cases hk : okc r l
  · rw [if_pos hk, if_pos hk, ← EReal.coe_add, add_zero]
  · rw [if_neg hk, if_neg hk]; exact EReal.add_bot _

end Cert.KernelIdeal.Att

end
-- ==== Proof.Att.KerInv.lean ====
/-
  The invariant holds after every grid point.
-/
module

public import proofs.«01_k».proof.Proof.Att.KerVal
public import proofs.«01_k».proof.Proof.Att.State

@[expose] public section

set_option maxRecDepth 16384

noncomputable section

namespace Cert.KernelIdeal.Att

open Cert.KernelIdeal Cert.KernelIdeal.Gen Cert.Att
open Idealize.ShloMosaic Idealize.ShloMosaic.TcCoe Idealize.ShloMosaic.ValueIdx
open Idealize.ShloMosaic.Pipeline (Dat Cfg Window)

variable (m : (ℓ : Loc nD τ sig) → Buf (Elt Ideal) ℓ) (c : Dev nD) {A : Ins}

theorem gq_skip (A : Ins) (t : ℕ) (h2 : ¬ t % 34 ≤ 31) (d : Fin 128) :
    ∑ s ∈ Finset.range (t + 1), shGq A s d = ∑ s ∈ Finset.range t, shGq A s d := by
  rw [Finset.sum_range_succ, show shGq A t d = 0 from if_neg h2, add_zero]
theorem gk_skip (A : Ins) (t : ℕ) (h3 : ¬ 2 ≤ t % 34) (d : Fin 128) :
    ∑ s ∈ Finset.range (t + 1), shGk A s d = ∑ s ∈ Finset.range t, shGk A s d := by
  rw [Finset.sum_range_succ, show shGk A t d = 0 from if_neg h3, add_zero]

theorem accB_zero (C : ℕ → Fin 768 → Fin 128 → ℝ) (n : ℕ) (hn : n = 0) (l : Fin 768) (d : Fin 128) : (((0 : ℝ)) : EReal) = ((accB C n l d : ℝ) : EReal) := by
  subst hn; rfl

/-- What the point before leaves, in the numbers of this point. -/
structure Before (A : Ins) (t : ℕ)
    (o : Vec Ideal S256x128 .bf16 × Vec Ideal S256x128 .bf16 × Vec Ideal S256x128 .bf16 × Vec Ideal S1x256x768 .f32 × Vec Ideal S1x128 .f32
      × Vec Ideal S1x128 .f32 × Vec Ideal S768x128 .f32 × Vec Ideal S768x128 .f32) : Prop where
  s0 : t % 34 ≠ 0 → ∀ l d, o.2.2.2.2.2.2.1 (ix2 l d) = ((accB (shK A (hd t)) (t % 34) l d : ℝ) : EReal)
  s1 : t % 34 ≠ 0 → ∀ l d, o.2.2.2.2.2.2.2 (ix2 l d) = ((accB (shV A (hd t)) (t % 34) l d : ℝ) : EReal)
  gq : ∀ d, o.2.2.2.2.1 (ix2 0 d) = ((∑ s ∈ Finset.range t, shGq A s d : ℝ) : EReal)
  gk : ∀ d, o.2.2.2.2.2.1 (ix2 0 d) = ((∑ s ∈ Finset.range t, shGk A s d : ℝ) : EReal)
  dq : 32 ≤ t % 34 → ∀ r d, o.1 (ix2 r d) = ((A.dq (hd t) (qp (t % 34) r) d : ℝ) : EReal)

theorem before_of {t : ℕ} {o} (P : Inv A (t - 1) o) (ht : t ≠ 0) : Before A t o := by
  have hh : t % 34 ≠ 0 → hd (t - 1) = hd t := fun h => Fin.ext (by show (t - 1) / 34 % 16 = t / 34 % 16; omega)
  refine ⟨fun h => ?_, fun h => ?_, ?_, ?_, fun h => ?_⟩
  · have e := P.s0; rw [hh h, show (t - 1) % 34 + 1 = t % 34 by omega] at e; exact e
  · have e := P.s1; rw [hh h, show (t - 1) % 34 + 1 = t % 34 by omega] at e; exact e
  · have e := P.gq; rw [show t - 1 + 1 = t by omega] at e; exact e
  · have e := P.gk; rw [show t - 1 + 1 = t by omega] at e; exact e
  · have e := P.dq; rw [hh (by omega)] at e
    intro r d
    rw [e r d, show qp ((t - 1) % 34) r = qp (t % 34) r from Fin.ext (by show min ((t - 1) % 34) 31 * 256 + r.val = min (t % 34) 31 * 256 + r.val; omega)]

section
variable (H : Holds A (V m c main_arg0) (V m c main_arg1) (V m c main_arg2) (V m c main_arg3) (V m c main_arg4)) (B : Biased m c A)
include H B

theorem inv_A (t : Fin cfg0.N) (h0 : t.val % 34 = 0) (h1 : t.val % 544 = 0) (h2 : t.val % 34 ≤ 31) (h3 : ¬2 ≤ t.val % 34) :
    Inv A t.val (outsAt0 m c t.val t.isLt) := by
  have hN : t.val < 544 := lt_of_lt_of_eq t.isLt (show cfg0.N = 544 from N_0)
  have E := outsAt0_A m c t h0 h1 h2 h3
  have a0 := acK_val m c H B t h2 (k0_pay22 (F := Ideal)) (fun l d => (w22 _).trans (accB_zero _ _ h0 l d))
  have a1 := acV_val m c H B t h2 (k0_pay23 (F := Ideal)) (fun l d => (w23 _).trans (accB_zero _ _ h0 l d))
  refine ⟨fun l d => ?_, fun l d => ?_, fun d => ?_, fun d => ?_, fun r d => ?_, fun h r d => ?_, fun h r d => ?_⟩
  · exact (congrFun ((congrArg (fun o => o.2.2.2.2.2.2.1) E).trans (sout0_A_0_eq (F := Ideal) c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) )) (ix2 l d)).trans (shift_val _ _ a0 (w29 _) w30 l d)
  · exact (congrFun ((congrArg (fun o => o.2.2.2.2.2.2.2) E).trans (sout0_A_1_eq (F := Ideal) c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) )) (ix2 l d)).trans (shift_val _ _ a1 (w31 _) w32 l d)
  · exact (congrFun ((congrArg (fun o => o.2.2.2.2.1) E).trans (out0_A_15_eq (F := Ideal) c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) )) (ix2 0 d)).trans (gQp_val m c H B t h2 _ (fun d => (w25 _).trans (by rw [show t.val = 0 by omega]; rfl)) d)
  · exact (congrFun ((congrArg (fun o => o.2.2.2.2.2.1) E).trans (out0_A_16_eq (F := Ideal) c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) )) (ix2 0 d)).trans ((w26 _).trans (congrArg (fun z : ℝ => (z : EReal)) (show (0 : ℝ) = ∑ s ∈ Finset.range (t.val + 1), shGk A s d by rw [gk_skip A _ h3, show t.val = 0 by omega]; rfl)))
  · exact (congrFun ((congrArg (fun o => o.1) E).trans (out0_A_11_eq (F := Ideal) c t ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) )) (ix2 r d)).trans (dQp_val m c H B t h2 r d)
  · exact absurd h h3
  · exact absurd h h3

theorem inv_B (t : Fin cfg0.N) (h0 : ¬t.val % 34 = 0) (h1 : ¬t.val % 544 = 0) (h2 : t.val % 34 ≤ 31) (h3 : ¬2 ≤ t.val % 34) (P : Before A t.val (prevOuts m c t)) :
    Inv A t.val (outsAt0 m c t.val t.isLt) := by
  have hN : t.val < 544 := lt_of_lt_of_eq t.isLt (show cfg0.N = 544 from N_0)
  have E := outsAt0_B m c t h0 h1 h2 h3
  have a0 := acK_val m c H B t h2 _ (P.s0 h0)
  have a1 := acV_val m c H B t h2 _ (P.s1 h0)
  refine ⟨fun l d => ?_, fun l d => ?_, fun d => ?_, fun d => ?_, fun r d => ?_, fun h r d => ?_, fun h r d => ?_⟩
  · exact (congrFun ((congrArg (fun o => o.2.2.2.2.2.2.1) E).trans (sout0_B_0_eq (F := Ideal) c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2)) (ix2 l d)).trans (shift_val _ _ a0 (w29 _) w30 l d)
  · exact (congrFun ((congrArg (fun o => o.2.2.2.2.2.2.2) E).trans (sout0_B_1_eq (F := Ideal) c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2)) (ix2 l d)).trans (shift_val _ _ a1 (w31 _) w32 l d)
  · exact (congrFun ((congrArg (fun o => o.2.2.2.2.1) E).trans (out0_B_15_eq (F := Ideal) c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2)) (ix2 0 d)).trans (gQp_val m c H B t h2 _ P.gq d)
  · exact (congrFun (congrArg (fun o => o.2.2.2.2.2.1) E) _).trans ((P.gk d).trans (congrArg (fun z : ℝ => (z : EReal)) (gk_skip A t.val h3 d).symm))
  · exact (congrFun ((congrArg (fun o => o.1) E).trans (out0_B_11_eq (F := Ideal) c t (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.2.1 (prevOuts m c t).2.2.2.2.2.2.2)) (ix2 r d)).trans (dQp_val m c H B t h2 r d)
  · exact absurd h h3
  · exact absurd h h3

set_option maxHeartbeats 1000000 in
theorem inv_C (t : Fin cfg0.N) (h0 : ¬t.val % 34 = 0) (h1 : ¬t.val % 544 = 0) (h2 : t.val % 34 ≤ 31) (h3 : 2 ≤ t.val % 34) (P : Before A t.val (prevOuts m c t)) :
    Inv A t.val (outsAt0 m c t.val t.isLt) := by
  have hN : t.val < 544 := lt_of_lt_of_eq t.isLt (show cfg0.N = 544 from N_0)
  have E := outsAt0_C m c t h0 h1 h2 h3
  have a0 := acK_val m c H B t h2 _ (P.s0 h0)
  have a1 := acV_val m c H B t h2 _ (P.s1 h0)
  have hv := fun r d => topV t h3 _ a1 r d
  refine ⟨fun l d => ?_, fun l d => ?_, fun d => ?_, fun d => ?_, fun r d => ?_, fun h r d => ?_, fun h r d => ?_⟩
  · exact (congrFun ((congrArg (fun o => o.2.2.2.2.2.2.1) E).trans (sout0_C_0_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 l d)).trans (shift_val _ _ a0 (w29 _) w30 l d)
  · exact (congrFun ((congrArg (fun o => o.2.2.2.2.2.2.2) E).trans (sout0_C_1_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 l d)).trans (shift_val _ _ a1 (w31 _) w32 l d)
  · exact (congrFun ((congrArg (fun o => o.2.2.2.2.1) E).trans (out0_C_15_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 0 d)).trans (gQp_val m c H B t h2 _ P.gq d)
  · exact (congrFun ((congrArg (fun o => o.2.2.2.2.2.1) E).trans (out0_C_16_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 0 d)).trans (gK_val m c H t h3 _ _ a0 P.gk d)
  · exact (congrFun ((congrArg (fun o => o.1) E).trans (out0_C_11_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 r d)).trans (dQp_val m c H B t h2 r d)
  · exact (congrFun ((congrArg (fun o => o.2.1) E).trans (out0_C_12_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2)) (ix2 r d)).trans (dK_val m c H t h3 _ a0 r d)
  · have e13 := ((congrArg (fun o => o.2.2.1) E).trans (out0_C_13_eq (F := Ideal) c t (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.1 (prevOuts m c t).2.2.2.2.1 (prevOuts m c t).2.2.2.2.2.1 (prevOuts m c t).2.2.2.2.2.2.1 (prevOuts m c t).2.2.2.2.2.2.2))
    exact (congrFun e13 (ix2 r d)).trans ((congrFun (w21 _) (ix2 r d)).trans (hv r d))

theorem inv_D (t : Fin cfg0.N) (h0 : ¬t.val % 34 = 0) (h1 : ¬t.val % 544 = 0) (h2 : ¬t.val % 34 ≤ 31) (h3 : 2 ≤ t.val % 34) (P : Before A t.val (prevOuts m c t)) :
    Inv A t.val (outsAt0 m c t.val t.isLt) := by
  have hN : t.val < 544 := lt_of_lt_of_eq t.isLt (show cfg0.N = 544 from N_0)
  have E := outsAt0_D m c t h0 h1 h2 h3
  have a0 : ∀ l d, (prevOuts m c t).2.2.2.2.2.2.1 (ix2 l d) = ((accB (shK A (hd t.val)) (t.val % 34) l d + shK A (hd t.val) (t.val % 34) l d : ℝ) : EReal) := fun l d => by
    rw [P.s0 h0, show shK A (hd t.val) (t.val % 34) l d = 0 from if_neg h2, add_zero]
  have a1 : ∀ l d, (prevOuts m c t).2.2.2.2.2.2.2 (ix2 l d) = ((accB (shV A (hd t.val)) (t.val % 34) l d + shV A (hd t.val) (t.val % 34) l d : ℝ) : EReal) := fun l d => by
    rw [P.s1 h0, show shV A (hd t.val) (t.val % 34) l d = 0 from if_neg h2, add_zero]
  have hv := fun r d => topV t h3 _ a1 r d
  refine ⟨fun l d => ?_, fun l d => ?_, fun d => ?_, fun d => ?_, fun r d => ?_, fun h r d => ?_, fun h r d => ?_⟩
  · exact (congrFun ((congrArg (fun o => o.2.2.2.2.2.2.1) E).trans (sout0_D_0_eq (F := Ideal) c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2)) (ix2 l d)).trans (shift_val _ _ a0 (w29 _) w30 l d)
  · exact (congrFun ((congrArg (fun o => o.2.2.2.2.2.2.2) E).trans (sout0_D_1_eq (F := Ideal) c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2)) (ix2 l d)).trans (shift_val _ _ a1 (w31 _) w32 l d)
  · exact (congrFun (congrArg (fun o => o.2.2.2.2.1) E) _).trans ((P.gq d).trans (congrArg (fun z : ℝ => (z : EReal)) (gq_skip A t.val h2 d).symm))
  · exact (congrFun ((congrArg (fun o => o.2.2.2.2.2.1) E).trans (out0_D_16_eq (F := Ideal) c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2)) (ix2 0 d)).trans (gK_val m c H t h3 _ _ a0 P.gk d)
  · exact (congrFun (congrArg (fun o => o.1) E) _).trans (P.dq (by omega) r d)
  · exact (congrFun ((congrArg (fun o => o.2.1) E).trans (out0_D_12_eq (F := Ideal) c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2)) (ix2 r d)).trans (dK_val m c H t h3 _ a0 r d)
  · have e13 := ((congrArg (fun o => o.2.2.1) E).trans (out0_D_13_eq (F := Ideal) c t (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.2.1 (prevOuts m c t).2.2.2.2.2.2.1 (prevOuts m c t).2.2.2.2.2.2.2))
    exact (congrFun e13 (ix2 r d)).trans ((congrFun (w21 _) (ix2 r d)).trans (hv r d))

theorem inv_E (t : Fin cfg0.N) (h0 : t.val % 34 = 0) (h1 : ¬t.val % 544 = 0) (h2 : t.val % 34 ≤ 31) (h3 : ¬2 ≤ t.val % 34) (P : Before A t.val (prevOuts m c t)) :
    Inv A t.val (outsAt0 m c t.val t.isLt) := by
  have hN : t.val < 544 := lt_of_lt_of_eq t.isLt (show cfg0.N = 544 from N_0)
  have E := outsAt0_E m c t h0 h1 h2 h3
  have a0 := acK_val m c H B t h2 (k0_pay22 (F := Ideal)) (fun l d => (w22 _).trans (accB_zero _ _ h0 l d))
  have a1 := acV_val m c H B t h2 (k0_pay23 (F := Ideal)) (fun l d => (w23 _).trans (accB_zero _ _ h0 l d))
  refine ⟨fun l d => ?_, fun l d => ?_, fun d => ?_, fun d => ?_, fun r d => ?_, fun h r d => ?_, fun h r d => ?_⟩
  · exact (congrFun ((congrArg (fun o => o.2.2.2.2.2.2.1) E).trans (sout0_E_0_eq (F := Ideal) c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1)) (ix2 l d)).trans (shift_val _ _ a0 (w29 _) w30 l d)
  · exact (congrFun ((congrArg (fun o => o.2.2.2.2.2.2.2) E).trans (sout0_E_1_eq (F := Ideal) c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1)) (ix2 l d)).trans (shift_val _ _ a1 (w31 _) w32 l d)
  · exact (congrFun ((congrArg (fun o => o.2.2.2.2.1) E).trans (out0_E_15_eq (F := Ideal) c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1)) (ix2 0 d)).trans (gQp_val m c H B t h2 _ P.gq d)
  · exact (congrFun (congrArg (fun o => o.2.2.2.2.2.1) E) _).trans ((P.gk d).trans (congrArg (fun z : ℝ => (z : EReal)) (gk_skip A t.val h3 d).symm))
  · exact (congrFun ((congrArg (fun o => o.1) E).trans (out0_E_11_eq (F := Ideal) c t ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (prevOuts m c t).2.2.2.2.1)) (ix2 r d)).trans (dQp_val m c H B t h2 r d)
  · exact absurd h h3
  · exact absurd h h3

theorem inv_step (t : Fin cfg0.N) (P : t.val ≠ 0 → Before A t.val (prevOuts m c t)) : Inv A t.val (outsAt0 m c t.val t.isLt) := by
  have hN : t.val < 544 := lt_of_lt_of_eq t.isLt (show cfg0.N = 544 from N_0)
  by_cases h0 : t.val % 34 = 0
  · by_cases h1 : t.val % 544 = 0
    · exact inv_A m c H B t h0 h1 (by omega) (by omega)
    · exact inv_E m c H B t h0 h1 (by omega) (by omega) (P (by omega))
  · by_cases h2 : t.val % 34 ≤ 31
    · by_cases h3 : 2 ≤ t.val % 34
      · exact inv_C m c H B t h0 (by omega) h2 h3 (P (by omega))
      · exact inv_B m c H B t h0 (by omega) h2 h3 (P (by omega))
    · exact inv_D m c H B t h0 (by omega) h2 (by omega) (P (by omega))

theorem inv : ∀ (t : ℕ) (ht : t < cfg0.N), Inv A t (outsAt0 m c t ht)
  | 0, ht => inv_step m c H B ⟨0, ht⟩ fun h => absurd rfl h
  | t + 1, ht => inv_step m c H B ⟨t + 1, ht⟩ fun h => before_of (inv t (Nat.lt_of_succ_lt ht)) h
end

end Cert.KernelIdeal.Att

end
-- ==== Proof.Att.RefMask.lean ====
/-
  The reference over the real numbers, second part: the mask of allowed keys, the bias read at the clipped distance,
  and the masked scores.
-/
module

public import proofs.«01_k».proof.Proof.Att.Words
public import proofs.«01_k».proof.Proof.Att.RefNorm

@[expose] public section

set_option maxRecDepth 16384

noncomputable section

namespace Cert.Att

open Cert.ReferenceIdeal Cert.ReferenceIdeal.Gen Cert.ReferenceIdeal.Read
open Idealize.ShloMosaic Idealize.ShloMosaic.TcCoe Idealize.ShloMosaic.ValueIdx

/-- The chunk number of a query's position. -/
theorem r59 (i : S8192x1.Idx) : val_main_v59 (F := Ideal) i = fdiv (BitVec.ofNat 32 (i 0).val) := by
  have e39 : val_main_v39 (F := Ideal) i = BitVec.ofNat 32 (i 0).val := by rw [val_main_v39_apply, val_main_v38_apply]
  have e3 : val_main_call1_v3 (F := Ideal) i = sgn (BitVec.ofNat 32 (i 0).val) := by
    rw [← e39]; rfl
  have e4 : ∀ j, val_main_call1_v4 (F := Ideal) j = sgn 64#32 := fun j => rfl
  rw [val_main_v59_apply, val_main_call1_v11_apply, val_main_call1_v13_apply, val_main_call1_v10_apply, val_main_call1_v6_apply,
    val_main_call1_v2_apply, val_main_call1_v8_apply, val_main_call1_v1_apply, val_main_call1_v7_apply, val_main_call1_v5_apply,
    val_main_call1_v9_apply, val_main_call1_v12_apply, e39, e3, e4]
  rfl
/-- The chunk number of a key's position. -/
theorem r60 (i : S1x8192.Idx) : val_main_v60 (F := Ideal) i = fdiv (BitVec.ofNat 32 (i 1).val) := by
  have e41 : val_main_v41 (F := Ideal) i = BitVec.ofNat 32 (i 1).val := by rw [val_main_v41_apply, val_main_v40_apply]
  have e3 : val_main_call2_v3 (F := Ideal) i = sgn (BitVec.ofNat 32 (i 1).val) := by
    rw [← e41]; rfl
  have e4 : ∀ j, val_main_call2_v4 (F := Ideal) j = sgn 64#32 := fun j => rfl
  rw [val_main_v60_apply, val_main_call2_v11_apply, val_main_call2_v13_apply, val_main_call2_v10_apply, val_main_call2_v6_apply,
    val_main_call2_v2_apply, val_main_call2_v8_apply, val_main_call2_v1_apply, val_main_call2_v7_apply, val_main_call2_v5_apply,
    val_main_call2_v9_apply, val_main_call2_v12_apply, e41, e3, e4]
  rfl
/-- The mask. -/
theorem r70m (i : S16x8192x8192.Idx) : val_main_v70_1 (F := Ideal) i = if ok (is i) (js i) then 1#1 else 0#1 := by
  rw [val_main_v70_1_apply, val_main_v69_apply, val_main_v68_apply, val_main_v65_apply, val_main_v67_apply, val_main_v63_apply,
    val_main_v61_apply, val_main_v62_apply, val_main_v64_apply, val_main_v66_apply, r59, r60]
  exact maskWord_ok (is i) (js i)
/-- The column of the bias table. -/
theorem r55 (i : S8192x8192.Idx) : val_main_v55 (F := Ideal) i
    = relWord (IntOp.subi (BitVec.ofNat 32 (i 0).val) (BitVec.ofNat 32 (i 1).val)) := by
  rw [val_main_v55_apply, val_main_v52_apply, val_main_v54_apply, val_main_v47_apply, val_main_v45_apply, val_main_call0_v2_apply,
    val_main_v44_apply, val_main_v42_apply, val_main_v43_apply, val_main_v39_apply, val_main_v41_apply, val_main_v38_apply,
    val_main_v40_apply, val_main_call0_v4_apply, val_main_call0_v1_apply, val_main_v46_apply, val_main_v51_apply, val_main_v53_apply]
  rfl

/-- The reference's reading of the bias table: column `v56` of row `h`, limited to the table. -/
theorem gather_read (x : S16x513.Idx → EReal) (idx : IVec S8192x8192x1 32) (y : S16x8192x8192.Idx) :
    Host.gather gather_S16x513_S8192x8192x1_S16x8192x8192_0_1_n_n_1_2_161 x idx y
      = x (ix2 (hs y) (⟨min (idx (ix3 (is y) (js y) 0)).toInt.toNat 512, by omega⟩ : Fin 513)) := by
  unfold Host.gather
  congr 1
  funext a
  refine Fin.ext ?_
  show GatherDims.start _ y idx a + GatherDims.batchCoord _ y a + GatherDims.offCoord _ y a = _
  rw [GatherDims.batchCoord_eq_zero _ _ _ (fun h => by simp [gather_S16x513_S8192x8192x1_S16x8192x8192_0_1_n_n_1_2_161] at h)]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ GatherDims.startIndexMap gather_S16x513_S8192x8192x1_S16x8192x8192_0_1_n_n_1_2_161 from fun h => absurd (List.mem_singleton.1 h) (by decide))]
    simp only [Nat.zero_add, Nat.add_zero]
    unfold GatherDims.offCoord
    rw [dif_pos (show (0 : Fin 2) ∈ GatherDims.sKept gather_S16x513_S8192x8192x1_S16x8192x8192_0_1_n_n_1_2_161 from (GatherDims.mem_sKept _ _).mpr ⟨fun h => absurd (List.mem_singleton.1 h) (by decide), List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ GatherDims.startIndexMap gather_S16x513_S8192x8192x1_S16x8192x8192_0_1_n_n_1_2_161 from List.mem_singleton.mpr rfl)]
    have hsi : GatherDims.siIdx gather_S16x513_S8192x8192x1_S16x8192x8192_0_1_n_n_1_2_161 y
        ⟨List.idxOf (1 : Fin 2) (GatherDims.startIndexMap gather_S16x513_S8192x8192x1_S16x8192x8192_0_1_n_n_1_2_161), List.idxOf_lt_length_iff.2 (List.mem_singleton.mpr rfl)⟩ = ix3 (is y) (js y) 0 := by
      funext b; refine Fin.ext ?_
      match b with
      | ⟨0, _⟩ => rfl
      | ⟨1, _⟩ => rfl
      | ⟨2, _⟩ => rfl
    exact congrArg (fun z => min (idx z).toInt.toNat 512) hsi

variable {A : Ins} {x0 : S8192x6144.Idx → EReal} {x1 x2 : S1x128.Idx → EReal} {x3 : S16x513.Idx → EReal}
  {x4 : S8192x2048.Idx → EReal} (H : Holds A x0 x1 x2 x3 x4)
include H

/-- The bias of a score. -/
theorem r57 (i : S16x8192x8192.Idx) : val_main_v57 (F := Ideal) x3 i = (A.b (hs i) (rel (is i) (js i)) : EReal) := by
  unfold val_main_v57
  rw [gather_read, ← H.b]
  refine congrArg (fun r => x3 (ix2 (hs i) r)) (Fin.ext ?_)
  have e : val_main_v56 (F := Ideal) (ix3 (is i) (js i) 0)
      = relWord (IntOp.subi (BitVec.ofNat 32 (is i).val) (BitVec.ofNat 32 (js i).val)) := by
    rw [val_main_v56_apply, r55]
  rw [← relWord_rel, ← e]
/-- The scores. -/
theorem r58 (i : S16x8192x8192.Idx) : val_main_v58 (F := Ideal) x0 x1 x2 x3 i = (A.score (hs i) (is i) (js i) : EReal) := by
  rw [val_main_v58_apply, r50 H, r57 H]
  simp only [Ideal.addf_def, ← EReal.coe_add]
  rfl
/-- The masked scores. -/
theorem r70 (i : S16x8192x8192.Idx) : val_main_v70_0 (F := Ideal) x0 x1 x2 x3 i
    = if ok (is i) (js i) then (A.score (hs i) (is i) (js i) : EReal) else ⊥ := by
  rw [val_main_v70_0_apply, r70m, r58 H, val_main_call3_v2_apply]
  by_cases h : ok (is i) (js i)
  · rw [if_pos h, if_pos h]; rfl
  · rw [if_neg h, if_neg h]; exact ofBits_bot

end Cert.Att

end
-- ==== Proof.Att.RefSoft.lean ====
/-
  The reference over the real numbers, third part: the softmax over all keys, with its row maximum some real number,
  and the cotangent of the scores.
-/
module

public import proofs.«01_k».proof.Proof.Att.RefMask
public import Idealize.ShloMosaic.Lib.KernelVsHost

@[expose] public section

set_option maxRecDepth 16384

noncomputable section

namespace Cert.Att

open Cert.ReferenceIdeal Cert.ReferenceIdeal.Gen Cert.ReferenceIdeal.Read
open Idealize.ShloMosaic Idealize.ShloMosaic.TcCoe Idealize.ShloMosaic.ValueIdx

/-- Head and query of a row. -/
def hr (i : S16x8192.Idx) : Fin 16 := i 0
def ir (i : S16x8192.Idx) : Fin 8192 := i 1
def hc (i : S16x8192x1.Idx) : Fin 16 := i 0
def ic (i : S16x8192x1.Idx) : Fin 8192 := i 1

variable {A : Ins} {x0 : S8192x6144.Idx → EReal} {x1 x2 : S1x128.Idx → EReal} {x3 : S16x513.Idx → EReal}
  {x4 : S8192x2048.Idx → EReal} (H : Holds A x0 x1 x2 x3 x4)
include H

/-- A row's maximum is a real number. -/
theorem r71 (h : Fin 16) (t : Fin 8192) : ∃ μ : ℝ, val_main_v71 (F := Ideal) x0 x1 x2 x3 (ix2 h t) = (μ : EReal) := by
  unfold val_main_v71 val_main_cst_17
  rw [hostReduce_maximumf_eq_multiReduction (φ := .f32) _ 0xFF800000#32 _ _ (by decide : S16x8192x8192.Reduces [2] S16x8192) (by decide)
    (by decide),
    Ideal.multiReduction_maximumf_single]
  have hb : (FloatOps.ofBits FTy.f32 0xFF800000#32 : Ideal FTy.f32) = (⊥ : EReal) := ofBits_bot
  rw [hb]
  refine fold_max_real _ (fun j => ?_) t ?_
  · show val_main_v70_0 (F := Ideal) x0 x1 x2 x3 _ ≠ ⊤
    rw [r70 H]; split
    · exact EReal.coe_ne_top _
    · exact bot_ne_top
  · show val_main_v70_0 (F := Ideal) x0 x1 x2 x3 _ ≠ ⊥
    rw [r70 H]
    rw [if_pos]
    · exact EReal.coe_ne_bot _
    · exact ok_self t.val
/-- The maximum as the programs use it. -/
def mu (x0 : S8192x6144.Idx → EReal) (x1 x2 : S1x128.Idx → EReal) (x3 : S16x513.Idx → EReal) (h : Fin 16) (t : Fin 8192) : ℝ :=
  (val_main_v71 (F := Ideal) x0 x1 x2 x3 (ix2 h t)).toReal
/-- The positive factor by which a row's exponentials differ from the plain ones. -/
def cf (x0 : S8192x6144.Idx → EReal) (x1 x2 : S1x128.Idx → EReal) (x3 : S16x513.Idx → EReal) (h : Fin 16) (t : Fin 8192) : ℝ :=
  Real.exp (-mu x0 x1 x2 x3 h t)
omit H in
theorem cf_pos (h : Fin 16) (t : Fin 8192) : 0 < cf x0 x1 x2 x3 h t := Real.exp_pos _
theorem r71' (i : S16x8192.Idx) : val_main_v71 (F := Ideal) x0 x1 x2 x3 i = (mu x0 x1 x2 x3 (hr i) (ir i) : EReal) := by
  obtain ⟨μ, h⟩ := r71 H (hr i) (ir i)
  unfold mu
  rw [h, EReal.toReal_coe, ← h]
  exact congrArg _ (eq_ix2 i)
theorem r89 (i : S16x8192x8192.Idx) : val_main_v89 (F := Ideal) x0 x1 x2 x3 i = (mu x0 x1 x2 x3 (hs i) (is i) : EReal) := by
  rw [val_main_v89_apply, val_main_v88_apply, val_main_v78_apply, val_main_v77_apply, r71' H]
  show max (Ideal.ofBits .f32 0xFF800000#32) _ = _
  rw [ofBits_bot, max_eq_right bot_le]
  rfl
/-- The exponentials. -/
theorem r91 (i : S16x8192x8192.Idx) : val_main_v91 (F := Ideal) x0 x1 x2 x3 i
    = ((cf x0 x1 x2 x3 (hs i) (is i) * A.ez (hs i) (is i) (js i) : ℝ) : EReal) := by
  rw [val_main_v91_apply, val_main_v90_apply, r70 H, r89 H]
  unfold Ins.ez cf
  by_cases h : ok (is i) (js i)
  · rw [if_pos h, if_pos h, ← Real.exp_add]
    show Ideal.exp ((A.score (hs i) (is i) (js i) : EReal) - (mu x0 x1 x2 x3 (hs i) (is i) : EReal)) = _
    rw [← EReal.coe_sub, Ideal.exp_coe, sub_eq_add_neg, add_comm]
  · rw [if_neg h, if_neg h, mul_zero]
    show Ideal.exp ((⊥ : EReal) - (mu x0 x1 x2 x3 (hs i) (is i) : EReal)) = _
    rw [EReal.bot_sub, Ideal.exp_bot]; rfl
/-- Their sum. -/
theorem r92 (i : S16x8192.Idx) : val_main_v92 (F := Ideal) x0 x1 x2 x3 i
    = ((cf x0 x1 x2 x3 (hr i) (ir i) * A.Z (hr i) (ir i) : ℝ) : EReal) := by
  rw [val_main_v92_apply, val_main_cst_25_apply]
  simp only [r91 H, Ideal.ofBits_def, Ideal.ofBits_zero_f32, zero_add, ← coe_sum]
  unfold Ins.Z
  rw [Finset.mul_sum]
  rfl
theorem cZ_ne (h : Fin 16) (t : Fin 8192) : cf x0 x1 x2 x3 h t * A.Z h t ≠ 0 :=
  (mul_pos (cf_pos h t) (A.Z_pos h t)).ne'
theorem r93 (i : S16x8192x1.Idx) : val_main_v93 (F := Ideal) x0 x1 x2 x3 i
    = ((cf x0 x1 x2 x3 (hc i) (ic i) * A.Z (hc i) (ic i) : ℝ) : EReal) := by
  rw [val_main_v93_apply, r92 H]
  rfl
/-- The weights. -/
theorem r95 (i : S16x8192x8192.Idx) : val_main_v95 (F := Ideal) x0 x1 x2 x3 i = (A.P (hs i) (is i) (js i) : EReal) := by
  rw [val_main_v95_apply, val_main_v94_apply, r91 H, r93 H, Ideal.hostDivf_def]
  show Ideal.div _ ((cf x0 x1 x2 x3 (hs i) (is i) * A.Z (hs i) (is i) : ℝ) : EReal) = _
  rw [div_real (cZ_ne H _ _), mul_div_mul_left _ _ (cf_pos _ _).ne']
  rfl
/-- The cotangent of the weights. -/
theorem r105 (i : S16x8192x8192.Idx) : val_main_v105 (F := Ideal) x0 x4 i = (A.DP (hs i) (is i) (js i) : EReal) := by
  rw [val_main_v105_apply]
  simp only [r104 H, r37 H, ← EReal.coe_mul, ← coe_sum]
  rfl
/-- The sum that centres it. -/
theorem r111 (i : S16x8192.Idx) : val_main_v111 (F := Ideal) x0 x1 x2 x3 x4 i
    = ((∑ l, A.DP (hr i) (ir i) l * (1 / (cf x0 x1 x2 x3 (hr i) (ir i) * A.Z (hr i) (ir i) * (cf x0 x1 x2 x3 (hr i) (ir i) * A.Z (hr i) (ir i))))
        * (cf x0 x1 x2 x3 (hr i) (ir i) * A.ez (hr i) (ir i) l) : ℝ) : EReal) := by
  rw [val_main_v111_apply, val_main_cst_27_apply]
  simp only [Ideal.ofBits_def, Ideal.ofBits_zero_f32, zero_add]
  refine sum_eq_coe _ _ fun k => ?_
  have e : val_main_v108 (F := Ideal) x0 x1 x2 x3 (idx_main_v111 i k)
      = ((1 / (cf x0 x1 x2 x3 (hr i) (ir i) * A.Z (hr i) (ir i) * (cf x0 x1 x2 x3 (hr i) (ir i) * A.Z (hr i) (ir i))) : ℝ) : EReal) := by
    rw [val_main_v108_apply, val_main_v98_apply, val_main_v97_apply, val_main_cst_26_apply, val_main_v96_apply, r93 H]
    simp only [Ideal.ofBits_def, ofBits_one, Ideal.mulf_def, ← EReal.coe_mul, Ideal.hostDivf_def]
    rw [div_real (mul_ne_zero (cZ_ne H _ _) (cZ_ne H _ _))]
    rfl
  rw [val_main_v110_apply, val_main_v109_apply, r105 H, r91 H, e]
  simp only [Ideal.mulf_def, ← EReal.coe_mul]
  rfl
theorem r117 (i : S16x8192x8192.Idx) : val_main_v117 (F := Ideal) x0 x1 x2 x3 x4 i
    = ((-(∑ l, A.DP (hs i) (is i) l * (1 / (cf x0 x1 x2 x3 (hs i) (is i) * A.Z (hs i) (is i) * (cf x0 x1 x2 x3 (hs i) (is i) * A.Z (hs i) (is i))))
        * (cf x0 x1 x2 x3 (hs i) (is i) * A.ez (hs i) (is i) l)) : ℝ) : EReal) := by
  rw [val_main_v117_apply, val_main_v116_apply, val_main_cst_28_apply]
  simp only [Ideal.ofBits_def, Ideal.ofBits_zero_f32, zero_add, Finset.univ_unique, Finset.sum_singleton]
  rw [val_main_v113_apply, val_main_v112_apply, r111 H]
  have e0 : (i 0).val < 16 := (i 0).isLt
  have e1 : (i 1).val < 8192 := (i 1).isLt
  have eh : hr (idx_main_v112 (idx_main_v116 (idx_main_v117 i) default)) = hs i := Fin.ext (by
    show (((i 0).val * 8192 + (i 1).val) * 1 + 0) / 8192 = (i 0).val; omega)
  have ei : ir (idx_main_v112 (idx_main_v116 (idx_main_v117 i) default)) = is i := Fin.ext (by
    show (((i 0).val * 8192 + (i 1).val) * 1 + 0) % 8192 = (i 1).val; omega)
  rw [eh, ei]
  exact (EReal.coe_neg _).symm
/-- The cotangent of the scores. -/
theorem r120 (i : S16x8192x8192.Idx) : val_main_v120 (F := Ideal) x0 x1 x2 x3 x4 i = (A.DS (hs i) (is i) (js i) : EReal) := by
  rw [val_main_v120_apply, r70m, val_main_call4_v0_apply]
  by_cases h : ok (is i) (js i)
  · rw [if_pos h]
    show val_main_v119 (F := Ideal) x0 x1 x2 x3 x4 i = _
    have e : val_main_v114 (F := Ideal) x0 x1 x2 x3 i
        = ((cf x0 x1 x2 x3 (hs i) (is i) * A.Z (hs i) (is i) : ℝ) : EReal) := by
      rw [val_main_v114_apply, r93 H]; rfl
    rw [val_main_v119_apply, val_main_v118_apply, val_main_v115_apply, r105 H, e, r117 H, r91 H]
    simp only [Ideal.hostDivf_def, Ideal.addf_def, Ideal.mulf_def]
    rw [div_real (cZ_ne H _ _), ← EReal.coe_add, ← EReal.coe_mul, scoreBwd_eq A _ _ _ _ (cf_pos _ _)]
  · rw [if_neg h, A.DS_of_not_ok h]
    exact Ideal.ofBits_zero_f32
/-- Scaled. -/
theorem r122 (i : S16x8192x8192.Idx) : val_main_v122 (F := Ideal) x0 x1 x2 x3 x4 i = ((A.DS (hs i) (is i) (js i) * scl : ℝ) : EReal) := by
  rw [val_main_v122_apply, r120 H, val_main_v121_apply, val_main_cst_29_apply]
  simp only [Ideal.ofBits_def, ofBits_scl, Ideal.mulf_def, ← EReal.coe_mul]

end Cert.Att

end
-- ==== Proof.Att.RefGrad.lean ====
/-
  The reference over the real numbers, last part: the five gradients.
-/
module

public import proofs.«01_k».proof.Proof.Att.RefSoft

@[expose] public section

set_option maxRecDepth 16384

noncomputable section

namespace Cert.Att

open Cert.ReferenceIdeal Cert.ReferenceIdeal.Gen Cert.ReferenceIdeal.Read
open Idealize.ShloMosaic Idealize.ShloMosaic.TcCoe Idealize.ShloMosaic.ValueIdx

/-- Head and coordinate of a column of an array of all heads. -/
def ch (c : Fin 2048) : Fin 16 := ⟨c.val / 128, by omega⟩
def cd (c : Fin 2048) : Fin 128 := ⟨c.val % 128, by omega⟩
def tp (i : S8192x2048.Idx) : Fin 8192 := i 0
def cp (i : S8192x2048.Idx) : Fin 2048 := i 1
/-- Head, position, coordinate. -/
def hg (i : S16x8192x128.Idx) : Fin 16 := i 0
def tg (i : S16x8192x128.Idx) : Fin 8192 := i 1
def dg (i : S16x8192x128.Idx) : Fin 128 := i 2
def t2 (i : S8192x16.Idx) : Fin 8192 := i 0
def h2 (i : S8192x16.Idx) : Fin 16 := i 1
def d1 (i : S128.Idx) : Fin 128 := i 0

/-- The host's sum over positions and heads, as two sums. -/
theorem sum_th (x : S8192x16x128.Idx → EReal) (init : EReal) (j : S128.Idx) :
    Ideal.hostReduceAdd reducesTo_S8192x16x128_S128_d0_1 x init j = init + ∑ h : Fin 16, ∑ t : Fin 8192, x (ix3 t h (d1 j)) := by
  unfold Ideal.hostReduceAdd
  refine congrArg (init + ·) ?_
  rw [← Finset.sum_product']
  refine (Finset.sum_nbij' (i := fun p : Fin 16 × Fin 8192 => (ix3 p.2 p.1 (d1 j) : S8192x16x128.Idx))
    (j := fun i : S8192x16x128.Idx => (hq i, tq i)) ?_ ?_ ?_ ?_ ?_).symm
  · intro p _
    refine Finset.mem_filter.2 ⟨Finset.mem_univ _, funext fun a => Fin.ext ?_⟩
    match a with | ⟨0, _⟩ => rfl
  · intro i _; exact Finset.mem_product.2 ⟨Finset.mem_univ _, Finset.mem_univ _⟩
  · intro p _; rfl
  · intro i hi
    have h := (Finset.mem_filter.1 hi).2
    rw [← h]
    funext a
    match a with
    | ⟨0, _⟩ => rfl
    | ⟨1, _⟩ => rfl
    | ⟨2, _⟩ => rfl
  · intro p _; rfl

/-- The host's sum over two axes of length one. -/
theorem sum_11 (x : S1x1x128.Idx → EReal) (init : EReal) (j : S128.Idx) :
    Ideal.hostReduceAdd reducesTo_S1x1x128_S128_d0_1 x init j = init + x (ix3 0 0 (d1 j)) := by
  unfold Ideal.hostReduceAdd
  refine congrArg (init + ·) ?_
  rw [Finset.sum_eq_single_of_mem (ix3 0 0 (d1 j) : S1x1x128.Idx)]
  · refine Finset.mem_filter.2 ⟨Finset.mem_univ _, funext fun a => Fin.ext ?_⟩
    match a with | ⟨0, _⟩ => rfl
  · intro i hi hne
    refine absurd ?_ hne
    have h := (Finset.mem_filter.1 hi).2
    rw [← h]
    funext a
    match a with
    | ⟨0, _⟩ => exact Subsingleton.elim (α := Fin 1) _ _
    | ⟨1, _⟩ => exact Subsingleton.elim (α := Fin 1) _ _
    | ⟨2, _⟩ => rfl

variable {A : Ins} {x0 : S8192x6144.Idx → EReal} {x1 x2 : S1x128.Idx → EReal} {x3 : S16x513.Idx → EReal}
  {x4 : S8192x2048.Idx → EReal} (H : Holds A x0 x1 x2 x3 x4)
include H

/-- The gradient of the values, by head, coordinate and position. -/
theorem r106 (i : S16x128x8192.Idx) : val_main_v106 (F := Ideal) x0 x1 x2 x3 x4 i = (A.dv (ho i) (po i) (eo i) : EReal) := by
  rw [val_main_v106_apply]
  simp only [r104 H, r95 H, ← EReal.coe_mul, ← coe_sum]
  exact congrArg _ (Finset.sum_congr rfl fun k _ => mul_comm _ _)
/-- The gradient of the values. -/
theorem r174 (i : S8192x2048.Idx) : val_main_v174 (F := Ideal) x0 x1 x2 x3 x4 i = (A.dv (ch (cp i)) (tp i) (cd (cp i)) : EReal) := by
  rw [val_main_v174_apply, val_main_v127_apply, val_main_v107_apply, r106 H]
  have e0 : (i 0).val < 8192 := (i 0).isLt
  have e1 : (i 1).val < 2048 := (i 1).isLt
  have a1 : ho (idx_main_v107 (idx_main_v127 i)) = ch (cp i) := Fin.ext (by
    show ((i 0).val * 2048 + (i 1).val) / 128 % 16 = (i 1).val / 128; omega)
  have a2 : po (idx_main_v107 (idx_main_v127 i)) = tp i := Fin.ext (by
    show ((i 0).val * 2048 + (i 1).val) / 2048 = (i 0).val; omega)
  have a3 : eo (idx_main_v107 (idx_main_v127 i)) = cd (cp i) := Fin.ext (by
    show ((i 0).val * 2048 + (i 1).val) % 128 = (i 1).val % 128; omega)
  rw [a1, a2, a3]
  rfl

/-- The gradient of the normalised rows (keys), by head, position and coordinate. -/
theorem r123 (i : S16x8192x128.Idx) : val_main_v123 (F := Ideal) x0 x1 x2 x3 x4 i = (A.dkn (hg i) (tg i) (dg i) : EReal) := by
  rw [val_main_v123_apply]
  simp only [r122 H, r19 H, ← EReal.coe_mul, ← coe_sum]
  rfl
theorem r124 (i : S8192x16x128.Idx) : val_main_v124 (F := Ideal) x0 x1 x2 x3 x4 i = (A.dkn (hq i) (tq i) (dq i) : EReal) := by
  rw [val_main_v124_apply, r123 H]
  rfl
/-- The gradient of the gain. -/
theorem r134 (i : S1x128.Idx) (d : Fin 128) (hd : i 1 = d) : val_main_v134 (F := Ideal) x0 x1 x2 x3 x4 i = (A.dgk d : EReal) := by
  rw [val_main_v134_apply]
  have e1 : ∀ j : S128.Idx, val_main_v129 (F := Ideal) x0 x1 x2 x3 x4 j = (A.dgk (d1 j) : EReal) := fun j => by
    unfold val_main_v129
    show Ideal.hostReduceAdd reducesTo_S8192x16x128_S128_d0_1 _ (Ideal.ofBits .f32 0x00000000#32) j = _
    rw [sum_th, Ideal.ofBits_zero_f32, zero_add]
    simp only [val_main_v128_apply, r33 H, r124 H, Ideal.mulf_def, ← EReal.coe_mul, ← coe_sum]
    refine congrArg _ (Finset.sum_congr rfl fun h _ => Finset.sum_congr rfl fun t _ => ?_)
    exact mul_comm _ _
  have e2 : ∀ j : S128.Idx, val_main_v133 (F := Ideal) x0 x1 x2 x3 x4 j = (A.dgk (d1 j) : EReal) := fun j => by
    unfold val_main_v133
    show Ideal.hostReduceAdd reducesTo_S1x1x128_S128_d0_1 _ (Ideal.ofBits .f32 0x00000000#32) j = _
    rw [sum_11, Ideal.ofBits_zero_f32, zero_add, val_main_v130_apply, e1]
    refine congrArg (fun z => (A.dgk z : EReal)) (Fin.ext ?_)
    have := (d1 j).isLt
    show (0 * 1 + 0) * 128 + (d1 j).val = (d1 j).val
    omega
  rw [e2]
  exact congrArg (fun z => (A.dgk z : EReal)) hd
/-- The gradient of the rows before their gain. -/
theorem r132 (i : S8192x16x128.Idx) : val_main_v132 (F := Ideal) x0 x1 x2 x3 x4 i
    = ((A.dkn (hq i) (tq i) (dq i) * A.gk (dq i) : ℝ) : EReal) := by
  have e : val_main_v131 (F := Ideal) x2 i = (A.gk (dq i) : EReal) := by
    rw [val_main_v131_apply, val_main_v34_apply, ← H.gk]
    exact congrArg x2 (funext fun a => Fin.ext (match a with | ⟨0, _⟩ => rfl | ⟨1, _⟩ => rfl))
  rw [val_main_v132_apply, r124 H, e]
  simp only [Ideal.mulf_def, ← EReal.coe_mul]
/-- What every coordinate of a row receives through the mean square. -/
theorem r144 (i : S8192x16x128.Idx) : val_main_v144 (F := Ideal) x0 x1 x2 x3 x4 i
    = (((∑ e, A.k (hq i) (tq i) e * (A.dkn (hq i) (tq i) e * A.gk e)) * (-(1 / 2) * (rinv (A.k (hq i) (tq i)) / var (A.k (hq i) (tq i)))) / 128 : ℝ) : EReal) := by
  rw [val_main_v144_apply, val_main_v143_apply, val_main_cst_34_apply]
  simp only [Ideal.ofBits_def, Ideal.ofBits_zero_f32, zero_add, Finset.univ_unique, Finset.sum_singleton]
  rw [val_main_v142_apply, val_main_v140_apply, val_main_v137_apply, val_main_v136_apply, val_main_v141_apply, val_main_cst_33_apply,
    val_main_cst_32_apply, r31 H]
  simp only [val_main_v135_apply, r20 H, r132 H, Ideal.ofBits_def, Ideal.ofBits_zero_f32, zero_add, ofBits_128, Ideal.hostDivf_def,
    Ideal.mulf_def, ← EReal.coe_mul, ← coe_sum]
  rw [div_real (by norm_num)]
  have e0 : (i 0).val < 8192 := (i 0).isLt
  have e1 : (i 1).val < 16 := (i 1).isLt
  have a1 : hq i = ⟨(((i 0).val * 16 + (i 1).val) * 1 + 0) % 16, by omega⟩ := Fin.ext (by
    show (i 1).val = (((i 0).val * 16 + (i 1).val) * 1 + 0) % 16; omega)
  have a2 : tq i = ⟨(((i 0).val * 16 + (i 1).val) * 1 + 0) / 16, by omega⟩ := Fin.ext (by
    show (i 0).val = (((i 0).val * 16 + (i 1).val) * 1 + 0) / 16; omega)
  have f : ∀ (h h' : Fin 16) (t t' : Fin 8192), h = h' → t = t' →
      ((∑ e, A.k h t e * (A.dkn h t e * A.gk e)) * (-(1 / 2) * (rinv (A.k (hq i) (tq i)) / var (A.k (hq i) (tq i)))) / 128 : ℝ)
        = (∑ e, A.k h' t' e * (A.dkn h' t' e * A.gk e)) * (-(1 / 2) * (rinv (A.k (hq i) (tq i)) / var (A.k (hq i) (tq i)))) / 128 := by
    rintro h _ t _ rfl rfl; rfl
  exact congrArg _ (f _ _ _ _ a1 a2).symm
/-- The gradient of the raw rows. -/
theorem r148 (i : S8192x16x128.Idx) : val_main_v148 (F := Ideal) x0 x1 x2 x3 x4 i = (A.dk (hq i) (tq i) (dq i) : EReal) := by
  have e : val_main_v138 (F := Ideal) x0 i = (rinv (A.k (hq i) (tq i)) : EReal) := by
    rw [val_main_v138_apply, r28 H]
    rfl
  rw [val_main_v148_apply, val_main_v146_apply, val_main_v139_apply, val_main_v145_apply, val_main_v147_apply, r132 H, e, r20 H, r144 H]
  simp only [Ideal.addf_def, Ideal.mulf_def, ← EReal.coe_mul, ← EReal.coe_add]
  exact congrArg _ (normBwd_eq (A.gk) (A.k (hq i) (tq i)) (A.dkn (hq i) (tq i)) (dq i))
theorem r173 (i : S8192x2048.Idx) : val_main_v173 (F := Ideal) x0 x1 x2 x3 x4 i = (A.dk (ch (cp i)) (tp i) (cd (cp i)) : EReal) := by
  rw [val_main_v173_apply, val_main_v149_apply, r148 H]
  have e0 : (i 0).val < 8192 := (i 0).isLt
  have e1 : (i 1).val < 2048 := (i 1).isLt
  have a1 : hq (idx_main_v149 i) = ch (cp i) := Fin.ext (by
    show ((i 0).val * 2048 + (i 1).val) / 128 % 16 = (i 1).val / 128; omega)
  have a2 : tq (idx_main_v149 i) = tp i := Fin.ext (by
    show ((i 0).val * 2048 + (i 1).val) / 2048 = (i 0).val; omega)
  have a3 : dq (idx_main_v149 i) = cd (cp i) := Fin.ext (by
    show ((i 0).val * 2048 + (i 1).val) % 128 = (i 1).val % 128; omega)
  rw [a1, a2, a3]
  rfl

/-- The gradient of the normalised rows (queries), by head, position and coordinate. -/
theorem r125 (i : S16x8192x128.Idx) : val_main_v125 (F := Ideal) x0 x1 x2 x3 x4 i = (A.dqn (hg i) (tg i) (dg i) : EReal) := by
  rw [val_main_v125_apply]
  simp only [r122 H, r36 H, ← EReal.coe_mul, ← coe_sum]
  rfl
theorem r126 (i : S8192x16x128.Idx) : val_main_v126 (F := Ideal) x0 x1 x2 x3 x4 i = (A.dqn (hq i) (tq i) (dq i) : EReal) := by
  rw [val_main_v126_apply, r125 H]
  rfl
/-- The gradient of the gain. -/
theorem r156 (i : S1x128.Idx) (d : Fin 128) (hd : i 1 = d) : val_main_v156 (F := Ideal) x0 x1 x2 x3 x4 i = (A.dgq d : EReal) := by
  rw [val_main_v156_apply]
  have e1 : ∀ j : S128.Idx, val_main_v151 (F := Ideal) x0 x1 x2 x3 x4 j = (A.dgq (d1 j) : EReal) := fun j => by
    unfold val_main_v151
    show Ideal.hostReduceAdd reducesTo_S8192x16x128_S128_d0_1 _ (Ideal.ofBits .f32 0x00000000#32) j = _
    rw [sum_th, Ideal.ofBits_zero_f32, zero_add]
    simp only [val_main_v150_apply, r16 H, r126 H, Ideal.mulf_def, ← EReal.coe_mul, ← coe_sum]
    refine congrArg _ (Finset.sum_congr rfl fun h _ => Finset.sum_congr rfl fun t _ => ?_)
    exact mul_comm _ _
  have e2 : ∀ j : S128.Idx, val_main_v155 (F := Ideal) x0 x1 x2 x3 x4 j = (A.dgq (d1 j) : EReal) := fun j => by
    unfold val_main_v155
    show Ideal.hostReduceAdd reducesTo_S1x1x128_S128_d0_1 _ (Ideal.ofBits .f32 0x00000000#32) j = _
    rw [sum_11, Ideal.ofBits_zero_f32, zero_add, val_main_v152_apply, e1]
    refine congrArg (fun z => (A.dgq z : EReal)) (Fin.ext ?_)
    have := (d1 j).isLt
    show (0 * 1 + 0) * 128 + (d1 j).val = (d1 j).val
    omega
  rw [e2]
  exact congrArg (fun z => (A.dgq z : EReal)) hd
/-- The gradient of the rows before their gain. -/
theorem r154 (i : S8192x16x128.Idx) : val_main_v154 (F := Ideal) x0 x1 x2 x3 x4 i
    = ((A.dqn (hq i) (tq i) (dq i) * A.gq (dq i) : ℝ) : EReal) := by
  have e : val_main_v153 (F := Ideal) x1 i = (A.gq (dq i) : EReal) := by
    rw [val_main_v153_apply, val_main_v17_apply, ← H.gq]
    exact congrArg x1 (funext fun a => Fin.ext (match a with | ⟨0, _⟩ => rfl | ⟨1, _⟩ => rfl))
  rw [val_main_v154_apply, r126 H, e]
  simp only [Ideal.mulf_def, ← EReal.coe_mul]
/-- What every coordinate of a row receives through the mean square. -/
theorem r166 (i : S8192x16x128.Idx) : val_main_v166 (F := Ideal) x0 x1 x2 x3 x4 i
    = (((∑ e, A.q (hq i) (tq i) e * (A.dqn (hq i) (tq i) e * A.gq e)) * (-(1 / 2) * (rinv (A.q (hq i) (tq i)) / var (A.q (hq i) (tq i)))) / 128 : ℝ) : EReal) := by
  rw [val_main_v166_apply, val_main_v165_apply, val_main_cst_39_apply]
  simp only [Ideal.ofBits_def, Ideal.ofBits_zero_f32, zero_add, Finset.univ_unique, Finset.sum_singleton]
  rw [val_main_v164_apply, val_main_v162_apply, val_main_v159_apply, val_main_v158_apply, val_main_v163_apply, val_main_cst_38_apply,
    val_main_cst_37_apply, r14 H]
  simp only [val_main_v157_apply, r3 H, r154 H, Ideal.ofBits_def, Ideal.ofBits_zero_f32, zero_add, ofBits_128, Ideal.hostDivf_def,
    Ideal.mulf_def, ← EReal.coe_mul, ← coe_sum]
  rw [div_real (by norm_num)]
  have e0 : (i 0).val < 8192 := (i 0).isLt
  have e1 : (i 1).val < 16 := (i 1).isLt
  have a1 : hq i = ⟨(((i 0).val * 16 + (i 1).val) * 1 + 0) % 16, by omega⟩ := Fin.ext (by
    show (i 1).val = (((i 0).val * 16 + (i 1).val) * 1 + 0) % 16; omega)
  have a2 : tq i = ⟨(((i 0).val * 16 + (i 1).val) * 1 + 0) / 16, by omega⟩ := Fin.ext (by
    show (i 0).val = (((i 0).val * 16 + (i 1).val) * 1 + 0) / 16; omega)
  have f : ∀ (h h' : Fin 16) (t t' : Fin 8192), h = h' → t = t' →
      ((∑ e, A.q h t e * (A.dqn h t e * A.gq e)) * (-(1 / 2) * (rinv (A.q (hq i) (tq i)) / var (A.q (hq i) (tq i)))) / 128 : ℝ)
        = (∑ e, A.q h' t' e * (A.dqn h' t' e * A.gq e)) * (-(1 / 2) * (rinv (A.q (hq i) (tq i)) / var (A.q (hq i) (tq i)))) / 128 := by
    rintro h _ t _ rfl rfl; rfl
  exact congrArg _ (f _ _ _ _ a1 a2).symm
/-- The gradient of the raw rows. -/
theorem r170 (i : S8192x16x128.Idx) : val_main_v170 (F := Ideal) x0 x1 x2 x3 x4 i = (A.dq (hq i) (tq i) (dq i) : EReal) := by
  have e : val_main_v160 (F := Ideal) x0 i = (rinv (A.q (hq i) (tq i)) : EReal) := by
    rw [val_main_v160_apply, r11 H]
    rfl
  rw [val_main_v170_apply, val_main_v168_apply, val_main_v161_apply, val_main_v167_apply, val_main_v169_apply, r154 H, e, r3 H, r166 H]
  simp only [Ideal.addf_def, Ideal.mulf_def, ← EReal.coe_mul, ← EReal.coe_add]
  exact congrArg _ (normBwd_eq (A.gq) (A.q (hq i) (tq i)) (A.dqn (hq i) (tq i)) (dq i))
theorem r172 (i : S8192x2048.Idx) : val_main_v172 (F := Ideal) x0 x1 x2 x3 x4 i = (A.dq (ch (cp i)) (tp i) (cd (cp i)) : EReal) := by
  rw [val_main_v172_apply, val_main_v171_apply, r170 H]
  have e0 : (i 0).val < 8192 := (i 0).isLt
  have e1 : (i 1).val < 2048 := (i 1).isLt
  have a1 : hq (idx_main_v171 i) = ch (cp i) := Fin.ext (by
    show ((i 0).val * 2048 + (i 1).val) / 128 % 16 = (i 1).val / 128; omega)
  have a2 : tq (idx_main_v171 i) = tp i := Fin.ext (by
    show ((i 0).val * 2048 + (i 1).val) / 2048 = (i 0).val; omega)
  have a3 : dq (idx_main_v171 i) = cd (cp i) := Fin.ext (by
    show ((i 0).val * 2048 + (i 1).val) % 128 = (i 1).val % 128; omega)
  rw [a1, a2, a3]
  rfl

end Cert.Att

end
-- ==== Proof.Att.KerFinal.lean ====
/-
  What the arrays of the five results hold after the run, and the run with those contents named.
-/
module

public import proofs.«01_k».proof.Proof.Att.KerInv
public import proofs.«01_k».proof.Proof.Att.RefGrad
public import proofs.«01_k».proof.Proof.Att.Body

@[expose] public section

set_option maxRecDepth 16384

noncomputable section

namespace Cert.KernelIdeal.Att

open Cert.KernelIdeal Cert.KernelIdeal.Gen Cert.Att
open Idealize.ShloMosaic Idealize.ShloMosaic.TcCoe Idealize.SL.Sem
open Idealize.ShloMosaic.Pipeline (Dat Cfg Window)

variable (m : (ℓ : Loc nD τ sig) → Buf (Elt Ideal) ℓ) (c : Dev nD) {A : Ins}

theorem fl11 : ∀ t : Fin cfg0.N, (t.val % 34 ≤ 30 ∨ t.val % 34 = 33) → (cfg0.win 11).flush t = true := by decide +kernel
theorem fl12 : ∀ t : Fin cfg0.N, (cfg0.win 12).flush t = true ↔ 2 ≤ t.val % 34 := by decide +kernel
theorem fl13 : ∀ t : Fin cfg0.N, (cfg0.win 13).flush t = true ↔ 2 ≤ t.val % 34 := by decide +kernel

/-- An index of an array of all heads, from its head and coordinate. -/
theorem ch_hcol (h : Fin 16) (d : Fin 128) : ch (hcol h d) = h := Fin.ext (by show (h.val * 128 + d.val) / 128 = h.val; omega)
theorem cd_hcol (h : Fin 16) (d : Fin 128) : cd (hcol h d) = d := Fin.ext (by show (h.val * 128 + d.val) % 128 = d.val; omega)

/-- A position that a view embeds lies in the view's set. -/
theorem mem_of_emb {κ : Kind} {sp : Space} {s : Shape} {e : EltTy} (v : View sig κ sp s e) {y : s.Idx} {i : v.ty.Idx}
    (h : v.emb y = i) : i ∈ v.set := by
  subst h; exact View.emb_mem_set v y

/-- The results over the real numbers. -/
def G11 (A : Ins) : S8192x2048.Idx → EReal := fun i => ((A.dq (ch (cp i)) (tp i) (cd (cp i)) : ℝ) : EReal)
def G12 (A : Ins) : S8192x2048.Idx → EReal := fun i => ((A.dk (ch (cp i)) (tp i) (cd (cp i)) : ℝ) : EReal)
def G13 (A : Ins) : S8192x2048.Idx → EReal := fun i => ((A.dv (ch (cp i)) (tp i) (cd (cp i)) : ℝ) : EReal)
def lane (i : S1x128.Idx) : Fin 128 := i 1
def G15 (A : Ins) : S1x128.Idx → EReal := fun i => ((A.dgq (lane i) : ℝ) : EReal)
def G16 (A : Ins) : S1x128.Idx → EReal := fun i => ((A.dgk (lane i) : ℝ) : EReal)

section
variable (H : Holds A (V m c main_arg0) (V m c main_arg1) (V m c main_arg2) (V m c main_arg3) (V m c main_arg4)) (B : Biased m c A)
include H B

theorem arr11 : (dats m 0 c).arrAt 11 cfg0.N = G11 A := by
  refine Dat.arrAt_eq_of_cover (dats m 0 c) 11 (G11 A) (fun t hf => ?_) (fun i => ?_)
  · have hN : t.val < 544 := lt_of_lt_of_eq t.isLt (show cfg0.N = 544 from N_0)
    have hv := (inv m c H B t.val t.isLt).dq
    have e0 : (dats m 0 c).flushed 11 t = (cfg0.win 11).cut (grid0.coords t) ((outsAt0 m c t.val t.isLt).1) := by
      show (cfg0.win 11).cut (grid0.coords t) ((dats m 0 c).after 11 t) = _
      rw [after0_11]
    rw [e0]
    funext j
    obtain ⟨r, d, rfl⟩ : ∃ (r : Fin 256) (d : Fin 128), j = (ValueIdx.ix2 r d : S256x128.Idx) := ⟨j 0, j 1, (ValueIdx.eq_ix2 j)⟩
    have ee := emb11 t r d (ValueIdx.ix2 (qp (t.val % 34) r) (hcol (hd t.val) d)) rfl (by
      show t.val / 34 % 16 * 128 + d.val = t.val / 34 * 128 + d.val; omega)
    refine (hv r d).trans ?_
    show _ = G11 A (((cfg0.win 11).blk t).view.emb (ValueIdx.ix2 r d))
    rw [ee]
    show _ = ((A.dq (ch (hcol (hd t.val) d)) (qp (t.val % 34) r) (cd (hcol (hd t.val) d)) : ℝ) : EReal)
    rw [ch_hcol, cd_hcol]
  · have h0 : (tp i).val < 8192 := (tp i).isLt
    have h1 : (ch (cp i)).val < 16 := (ch (cp i)).isLt
    have hq : ch (cp i) * 34 + (if (tp i).val / 256 ≤ 30 then (tp i).val / 256 else 33) < cfg0.N := by
      rw [show cfg0.N = 544 from N_0]; split <;> omega
    refine ⟨⟨ch (cp i) * 34 + (if (tp i).val / 256 ≤ 30 then (tp i).val / 256 else 33), hq⟩, fl11 _ (by show (ch (cp i) * 34 + (if (tp i).val / 256 ≤ 30 then (tp i).val / 256 else 33)) % 34 ≤ 30 ∨ (ch (cp i) * 34 + (if (tp i).val / 256 ≤ 30 then (tp i).val / 256 else 33)) % 34 = 33; split <;> omega), ?_⟩
    have ee := emb11 ⟨ch (cp i) * 34 + (if (tp i).val / 256 ≤ 30 then (tp i).val / 256 else 33), hq⟩ (⟨(tp i).val % 256, Nat.mod_lt _ (by norm_num)⟩ : Fin 256) (cd (cp i)) i
      (by show (tp i).val = min ((ch (cp i) * 34 + (if (tp i).val / 256 ≤ 30 then (tp i).val / 256 else 33)) % 34) 31 * 256 + (tp i).val % 256; split <;> omega)
      (by show (cp i).val = (ch (cp i) * 34 + (if (tp i).val / 256 ≤ 30 then (tp i).val / 256 else 33)) / 34 * 128 + (cp i).val % 128
          have : (ch (cp i)).val = (cp i).val / 128 := rfl
          split <;> omega)
    exact mem_of_emb _ ee

theorem arr12 : (dats m 0 c).arrAt 12 cfg0.N = G12 A := by
  refine Dat.arrAt_eq_of_cover (dats m 0 c) 12 (G12 A) (fun t hf => ?_) (fun i => ?_)
  · have hN : t.val < 544 := lt_of_lt_of_eq t.isLt (show cfg0.N = 544 from N_0)
    have hv := (inv m c H B t.val t.isLt).dk ((fl12 t).1 hf)
    have e0 : (dats m 0 c).flushed 12 t = (cfg0.win 12).cut (grid0.coords t) ((outsAt0 m c t.val t.isLt).2.1) := by
      show (cfg0.win 12).cut (grid0.coords t) ((dats m 0 c).after 12 t) = _
      rw [after0_12]
    rw [e0]
    funext j
    obtain ⟨r, d, rfl⟩ : ∃ (r : Fin 256) (d : Fin 128), j = (ValueIdx.ix2 r d : S256x128.Idx) := ⟨j 0, j 1, (ValueIdx.eq_ix2 j)⟩
    have ee := emb12 t r d (ValueIdx.ix2 (qp (t.val % 34 - 2) r) (hcol (hd t.val) d)) rfl (by
      show t.val / 34 % 16 * 128 + d.val = t.val / 34 * 128 + d.val; omega)
    refine (hv r d).trans ?_
    show _ = G12 A (((cfg0.win 12).blk t).view.emb (ValueIdx.ix2 r d))
    rw [ee]
    show _ = ((A.dk (ch (hcol (hd t.val) d)) (qp (t.val % 34 - 2) r) (cd (hcol (hd t.val) d)) : ℝ) : EReal)
    rw [ch_hcol, cd_hcol]
  · have h0 : (tp i).val < 8192 := (tp i).isLt
    have h1 : (ch (cp i)).val < 16 := (ch (cp i)).isLt
    have hq : ch (cp i) * 34 + ((tp i).val / 256 + 2) < cfg0.N := by
      rw [show cfg0.N = 544 from N_0]; omega
    refine ⟨⟨ch (cp i) * 34 + ((tp i).val / 256 + 2), hq⟩, (fl12 _).2 (by show 2 ≤ (ch (cp i) * 34 + ((tp i).val / 256 + 2)) % 34; omega), ?_⟩
    have ee := emb12 ⟨ch (cp i) * 34 + ((tp i).val / 256 + 2), hq⟩ (⟨(tp i).val % 256, Nat.mod_lt _ (by norm_num)⟩ : Fin 256) (cd (cp i)) i
      (by show (tp i).val = min ((ch (cp i) * 34 + ((tp i).val / 256 + 2)) % 34 - 2) 31 * 256 + (tp i).val % 256; omega)
      (by show (cp i).val = (ch (cp i) * 34 + ((tp i).val / 256 + 2)) / 34 * 128 + (cp i).val % 128
          have : (ch (cp i)).val = (cp i).val / 128 := rfl
          omega)
    exact mem_of_emb _ ee

theorem arr13 : (dats m 0 c).arrAt 13 cfg0.N = G13 A := by
  refine Dat.arrAt_eq_of_cover (dats m 0 c) 13 (G13 A) (fun t hf => ?_) (fun i => ?_)
  · have hN : t.val < 544 := lt_of_lt_of_eq t.isLt (show cfg0.N = 544 from N_0)
    have hv := (inv m c H B t.val t.isLt).dv ((fl13 t).1 hf)
    have e0 : (dats m 0 c).flushed 13 t = (cfg0.win 13).cut (grid0.coords t) ((outsAt0 m c t.val t.isLt).2.2.1) := by
      show (cfg0.win 13).cut (grid0.coords t) ((dats m 0 c).after 13 t) = _
      rw [after0_13]
    rw [e0]
    funext j
    obtain ⟨r, d, rfl⟩ : ∃ (r : Fin 256) (d : Fin 128), j = (ValueIdx.ix2 r d : S256x128.Idx) := ⟨j 0, j 1, (ValueIdx.eq_ix2 j)⟩
    have ee := emb13 t r d (ValueIdx.ix2 (qp (t.val % 34 - 2) r) (hcol (hd t.val) d)) rfl (by
      show t.val / 34 % 16 * 128 + d.val = t.val / 34 * 128 + d.val; omega)
    refine (hv r d).trans ?_
    show _ = G13 A (((cfg0.win 13).blk t).view.emb (ValueIdx.ix2 r d))
    rw [ee]
    show _ = ((A.dv (ch (hcol (hd t.val) d)) (qp (t.val % 34 - 2) r) (cd (hcol (hd t.val) d)) : ℝ) : EReal)
    rw [ch_hcol, cd_hcol]
  · have h0 : (tp i).val < 8192 := (tp i).isLt
    have h1 : (ch (cp i)).val < 16 := (ch (cp i)).isLt
    have hq : ch (cp i) * 34 + ((tp i).val / 256 + 2) < cfg0.N := by
      rw [show cfg0.N = 544 from N_0]; omega
    refine ⟨⟨ch (cp i) * 34 + ((tp i).val / 256 + 2), hq⟩, (fl13 _).2 (by show 2 ≤ (ch (cp i) * 34 + ((tp i).val / 256 + 2)) % 34; omega), ?_⟩
    have ee := emb13 ⟨ch (cp i) * 34 + ((tp i).val / 256 + 2), hq⟩ (⟨(tp i).val % 256, Nat.mod_lt _ (by norm_num)⟩ : Fin 256) (cd (cp i)) i
      (by show (tp i).val = min ((ch (cp i) * 34 + ((tp i).val / 256 + 2)) % 34 - 2) 31 * 256 + (tp i).val % 256; omega)
      (by show (cp i).val = (ch (cp i) * 34 + ((tp i).val / 256 + 2)) / 34 * 128 + (cp i).val % 128
          have : (ch (cp i)).val = (cp i).val / 128 := rfl
          omega)
    exact mem_of_emb _ ee

theorem arr15 : (dats m 0 c).arrAt 15 cfg0.N = G15 A := by
  have hlast : 543 < cfg0.N := by rw [show cfg0.N = 544 from N_0]; norm_num
  refine Dat.arrAt_eq_of_cover (dats m 0 c) 15 (G15 A) (fun t hf => ?_) (fun i => ?_)
  · have hN : t.val < 544 := lt_of_lt_of_eq t.isLt (show cfg0.N = 544 from N_0)
    have ht : t.val = 543 := by have := (flush0_15 t).1 hf; omega
    have hv := (inv m c H B t.val t.isLt).gq
    have e0 : (dats m 0 c).flushed 15 t = (cfg0.win 15).cut (grid0.coords t) ((outsAt0 m c t.val t.isLt).2.2.2.2.1) := by
      show (cfg0.win 15).cut (grid0.coords t) ((dats m 0 c).after 15 t) = _
      rw [after0_15]
    rw [e0]
    funext j
    obtain ⟨r, d, rfl⟩ : ∃ (r : Fin 1) (d : Fin 128), j = (ValueIdx.ix2 r d : S1x128.Idx) := ⟨j 0, j 1, (ValueIdx.eq_ix2 j)⟩
    obtain rfl : r = 0 := Subsingleton.elim _ _
    have ee := emb15 t 0 d (ValueIdx.ix2 0 d) rfl (by show d.val = 0 * 128 + d.val; omega)
    refine (hv d).trans ?_
    show _ = G15 A (((cfg0.win 15).blk t).view.emb (ValueIdx.ix2 0 d))
    rw [ee, ht, sum_shGq]
    rfl
  · refine ⟨⟨543, hlast⟩, (flush0_15 _).2 rfl, ?_⟩
    have ee := emb15 ⟨543, hlast⟩ 0 (lane i) i (by have : (i 0).val < 1 := (i 0).isLt; show (i 0).val = 0 * 1 + 0; omega)
      (by show (i 1).val = 0 * 128 + (i 1).val; omega)
    exact mem_of_emb _ ee

theorem arr16 : (dats m 0 c).arrAt 16 cfg0.N = G16 A := by
  have hlast : 543 < cfg0.N := by rw [show cfg0.N = 544 from N_0]; norm_num
  refine Dat.arrAt_eq_of_cover (dats m 0 c) 16 (G16 A) (fun t hf => ?_) (fun i => ?_)
  · have hN : t.val < 544 := lt_of_lt_of_eq t.isLt (show cfg0.N = 544 from N_0)
    have ht : t.val = 543 := by have := (flush0_16 t).1 hf; omega
    have hv := (inv m c H B t.val t.isLt).gk
    have e0 : (dats m 0 c).flushed 16 t = (cfg0.win 16).cut (grid0.coords t) ((outsAt0 m c t.val t.isLt).2.2.2.2.2.1) := by
      show (cfg0.win 16).cut (grid0.coords t) ((dats m 0 c).after 16 t) = _
      rw [after0_16]
    rw [e0]
    funext j
    obtain ⟨r, d, rfl⟩ : ∃ (r : Fin 1) (d : Fin 128), j = (ValueIdx.ix2 r d : S1x128.Idx) := ⟨j 0, j 1, (ValueIdx.eq_ix2 j)⟩
    obtain rfl : r = 0 := Subsingleton.elim _ _
    have ee := emb16 t 0 d (ValueIdx.ix2 0 d) rfl (by show d.val = 0 * 128 + d.val; omega)
    refine (hv d).trans ?_
    show _ = G16 A (((cfg0.win 16).blk t).view.emb (ValueIdx.ix2 0 d))
    rw [ee, ht, sum_shGk]
    rfl
  · refine ⟨⟨543, hlast⟩, (flush0_16 _).2 rfl, ?_⟩
    have ee := emb16 ⟨543, hlast⟩ 0 (lane i) i (by have : (i 0).val < 1 := (i 0).isLt; show (i 0).val = 0 * 1 + 0; omega)
      (by show (i 1).val = 0 * 128 + (i 1).val; omega)
    exact mem_of_emb _ ee
end

theorem run_values (ρ : Dev nD → PrngReg) (A : Dev nD → Ins)
    (H : ∀ c, Holds (A c) (V m c main_arg0) (V m c main_arg1) (V m c main_arg2) (V m c main_arg3) (V m c main_arg4))
    (B : ∀ c, Biased m c (A c)) :
    θ_run defs (onTc (τ := τ) (main (F := Ideal))) ⟨m, fun _ => 0, ρ⟩ (fun r => ∀ c : Dev nD,
      r.2.mem ((c.tc : Thread nD τ).loc main_v26_0) = G11 (A c)
      ∧ r.2.mem ((c.tc : Thread nD τ).loc main_v26_1) = G12 (A c)
      ∧ r.2.mem ((c.tc : Thread nD τ).loc main_v26_2) = G13 (A c)
      ∧ r.2.mem ((c.tc : Thread nD τ).loc main_v26_4) = G15 (A c)
      ∧ r.2.mem ((c.tc : Thread nD τ).loc main_v26_5) = G16 (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 11).trans (arr11 m c (H c) (B c)), ((h.1 c).1 12).trans (arr12 m c (H c) (B c)),
      ((h.1 c).1 13).trans (arr13 m c (H c) (B c)), ((h.1 c).1 15).trans (arr15 m c (H c) (B c)),
      ((h.1 c).1 16).trans (arr16 m c (H c) (B c)), h.2 c⟩)
    (θ_run_and (run_main m ρ) (unchanged m ρ))

end Cert.KernelIdeal.Att

end
-- ==== Proof.Att.RefVal.lean ====
/-
  The run of the reference with its five results named, and its frame.
-/
module

public import proofs.«01_k».proof.Proof.Att.RefGrad
public import proofs.«01_k».proof.Proof.Gen.ReferenceIdeal.Run
public import proofs.«01_k».proof.Defs
public import Idealize.ShloMosaic.Lib.Quiescent

@[expose] public section

set_option maxRecDepth 16384

noncomputable section

namespace Cert.Att

open Cert.ReferenceIdeal Cert.ReferenceIdeal.Read
open Idealize.ShloMosaic Idealize.ShloMosaic.TcCoe Idealize.SL.Sem

theorem run_reference (m : (ℓ : Loc nD τ sig) → Buf (Elt Ideal) ℓ) (ρ : Dev nD → PrngReg) (A : Dev nD → Ins)
    (H : ∀ c, Holds (A c) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    θ_run defs (onTc (τ := τ) (main (F := Ideal))) ⟨m, fun _ => 0, ρ⟩ (fun r => ∀ c : Dev nD,
      r.2.mem ((c.tc : Thread nD τ).loc main_v172) = (fun i : S8192x2048.Idx => (((A c).dq (ch (cp i)) (tp i) (cd (cp i)) : ℝ) : EReal))
      ∧ r.2.mem ((c.tc : Thread nD τ).loc main_v173) = (fun i : S8192x2048.Idx => (((A c).dk (ch (cp i)) (tp i) (cd (cp i)) : ℝ) : EReal))
      ∧ r.2.mem ((c.tc : Thread nD τ).loc main_v174) = (fun i : S8192x2048.Idx => (((A c).dv (ch (cp i)) (tp i) (cd (cp i)) : ℝ) : EReal))
      ∧ r.2.mem ((c.tc : Thread nD τ).loc main_v156) = (fun i : S1x128.Idx => (((A c).dgq (i 1) : ℝ) : EReal))
      ∧ r.2.mem ((c.tc : Thread nD τ).loc main_v134) = (fun i : S1x128.Idx => (((A c).dgk (i 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).1.trans (val_main_v172_eq _)).trans (funext fun i => r172 (H c) i),
     ((h c).2.1.trans (val_main_v173_eq _)).trans (funext fun i => r173 (H c) i),
     ((h c).2.2.1.trans (val_main_v174_eq _)).trans (funext fun i => r174 (H c) i),
     ((h c).2.2.2.1.trans (val_main_v156_eq _)).trans (funext fun i => r156 (H c) i _ rfl),
     ((h c).2.2.2.2.1.trans (val_main_v134_eq _)).trans (funext fun i => r134 (H c) i _ rfl),
     (h c).2.2.2.2.2⟩)
    (Cert.ReferenceIdeal.Value.run (F := Ideal) m ρ)

theorem frame_reference : Cert.quiescent_ReferenceIdeal := fun m ρ _ =>
  (θ_run defs _ _).mono (fun r h => ⟨fun c => (h c).2.2.2.2.2, sem_eq_zero_of_no_sems (by decide) r.2⟩)
    (Cert.ReferenceIdeal.Value.run (F := Ideal) m ρ)

end Cert.Att

end
-- ==== Proof.Att.Args.lean ====
/-
  The precondition read at each device: arguments all of whose entries are below infinity in magnitude are real
  numbers, and the gradient's inputs are those numbers.
-/
module

public import proofs.«01_k».proof.Defs
public import proofs.«01_k».proof.Proof.Att.RefNorm

@[expose] public section

noncomputable section

namespace Cert.Att

open Cert.ReferenceIdeal Idealize.ShloMosaic

theorem pre_facts : Cert.Pre_finite_arguments.Facts where
  bcast_S_S8192x6144 := by decide
  bcast_S_S1x128 := by decide
  bcast_S_S16x513 := by decide
  bitsLt_bf16_f32 := by decide
  bcast_S_S8192x2048 := by decide

/-- An entry smaller than infinity in magnitude is a real number. -/
theorem real_of_abs_lt (x : EReal)
    (h : (FloatOps.cmpf (F := Ideal) .olt (FloatOps.hostAbsf (F := Ideal) (φ := .f32) x) (FloatOps.ofBits .f32 0x7F800000#32) : BitVec 1) = 1#1) :
    ((x.toReal : ℝ) : EReal) = x := by
  have ht : x ≠ ⊤ := by
    rintro rfl
    revert h
    show (if (max (⊤ : EReal) (-⊤)) < Ideal.ofBits .f32 0x7F800000#32 then (1#1 : BitVec 1) else 0#1) = 1#1 → False
    simp
  have hb : x ≠ ⊥ := by
    rintro rfl
    revert h
    show (if (max (⊥ : EReal) (-⊥)) < Ideal.ofBits .f32 0x7F800000#32 then (1#1 : BitVec 1) else 0#1) = 1#1 → False
    simp
  exact EReal.coe_toReal ht hb

/-- The inputs the arguments hold. -/
def insOf (x0 : S8192x6144.Idx → EReal) (x1 x2 : S1x128.Idx → EReal) (x3 : S16x513.Idx → EReal)
    (x4 : S8192x2048.Idx → EReal) : Ins where
  q h t d := (x0 (ValueIdx.ix2 t (col 0 h d))).toReal
  k h t d := (x0 (ValueIdx.ix2 t (col 1 h d))).toReal
  v h t d := (x0 (ValueIdx.ix2 t (col 2 h d))).toReal
  o h t d := (x4 (ValueIdx.ix2 t (hcol h d))).toReal
  gq d := (x1 (ValueIdx.ix2 0 d)).toReal
  gk d := (x2 (ValueIdx.ix2 0 d)).toReal
  b h r := (x3 (ValueIdx.ix2 h r)).toReal

theorem holds_of_finite [Cert.Pre_finite_arguments.Facts] (x0 : S8192x6144.Idx → EReal) (x1 x2 : S1x128.Idx → EReal)
    (x3 : S16x513.Idx → EReal) (x4 : S8192x2048.Idx → EReal)
    (h0 : (Cert.Pre_finite_arguments.fn (F := Ideal) x0 x1 x2 x3 x4).1 = fun _ => 1#1)
    (h1 : (Cert.Pre_finite_arguments.fn (F := Ideal) x0 x1 x2 x3 x4).2.1 = fun _ => 1#1)
    (h2 : (Cert.Pre_finite_arguments.fn (F := Ideal) x0 x1 x2 x3 x4).2.2.1 = fun _ => 1#1)
    (h3 : (Cert.Pre_finite_arguments.fn (F := Ideal) x0 x1 x2 x3 x4).2.2.2.1 = fun _ => 1#1)
    (h4 : (Cert.Pre_finite_arguments.fn (F := Ideal) x0 x1 x2 x3 x4).2.2.2.2 = fun _ => 1#1) :
    Holds (insOf x0 x1 x2 x3 x4) x0 x1 x2 x3 x4 := by
  have e0 : ∀ i, ((x0 i).toReal : EReal) = x0 i := fun i => real_of_abs_lt _ (congrFun h0 i)
  have e1 : ∀ i, ((x1 i).toReal : EReal) = x1 i := fun i => real_of_abs_lt _ (congrFun h1 i)
  have e2 : ∀ i, ((x2 i).toReal : EReal) = x2 i := fun i => real_of_abs_lt _ (congrFun h2 i)
  have e3 : ∀ i, ((x3 i).toReal : EReal) = x3 i := fun i => real_of_abs_lt _ (congrFun h3 i)
  have e4 : ∀ i, ((x4 i).toReal : EReal) = x4 i := fun i => real_of_abs_lt _ (congrFun h4 i)
  exact ⟨fun h t d => (e0 _).symm, fun h t d => (e0 _).symm, fun h t d => (e0 _).symm, fun d => (e1 _).symm,
    fun d => (e2 _).symm, fun h r => (e3 _).symm, fun h t d => (e4 _).symm⟩

end Cert.Att

end
-- ==== Proof.Mlp.Frames.lean ====
/-
  The frames of the six products' programs and of their references: every run ends, with the arguments kept and every
  semaphore back at nought. A printed program has its ideal form's text, so its frame is that of the ideal form at bit patterns.
-/
module

public import proofs.«01_k».proof.Defs
public import Idealize.ShloMosaic.Lib.Tactic.ProgEq
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run

@[expose] public section

set_option maxRecDepth 65536

noncomputable section

namespace Cert.Mlp

open Idealize.ShloMosaic Idealize.ShloMosaic.Tactic Idealize.SL.Sem
open scoped Idealize.ShloMosaic.ProgEq

theorem printed2 : Cert.quiescent_Kernel2 := fun m ρ _ => Eq.mp (by sl_kernel_rfl) (Cert.Kernel2Ideal.Gen.frame (F := Bits) m ρ)
theorem ideal2 : Cert.quiescent_Kernel2Ideal := fun m ρ _ => Cert.Kernel2Ideal.Gen.frame (F := Ideal) m ρ
theorem reference2 : Cert.quiescent_Reference2Ideal := fun m ρ _ =>
  (θ_run _ _ _).mono (fun r h => ⟨fun c => (h c).2, sem_eq_zero_of_no_sems (by decide) r.2⟩) (Cert.Reference2Ideal.Value.run (F := Ideal) m ρ)
theorem printed3 : Cert.quiescent_Kernel3 := fun m ρ _ => Eq.mp (by sl_kernel_rfl) (Cert.Kernel3Ideal.Gen.frame (F := Bits) m ρ)
theorem ideal3 : Cert.quiescent_Kernel3Ideal := fun m ρ _ => Cert.Kernel3Ideal.Gen.frame (F := Ideal) m ρ
theorem reference3 : Cert.quiescent_Reference3Ideal := fun m ρ _ =>
  (θ_run _ _ _).mono (fun r h => ⟨fun c => (h c).2, sem_eq_zero_of_no_sems (by decide) r.2⟩) (Cert.Reference3Ideal.Value.run (F := Ideal) m ρ)
theorem printed4 : Cert.quiescent_Kernel4 := fun m ρ _ => Eq.mp (by sl_kernel_rfl) (Cert.Kernel4Ideal.Gen.frame (F := Bits) m ρ)
theorem ideal4 : Cert.quiescent_Kernel4Ideal := fun m ρ _ => Cert.Kernel4Ideal.Gen.frame (F := Ideal) m ρ
theorem reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)
theorem printed5 : Cert.quiescent_Kernel5 := fun m ρ _ => Eq.mp (by sl_kernel_rfl) (Cert.Kernel5Ideal.Gen.frame (F := Bits) m ρ)
theorem ideal5 : Cert.quiescent_Kernel5Ideal := fun m ρ _ => Cert.Kernel5Ideal.Gen.frame (F := Ideal) m ρ
theorem reference5 : Cert.quiescent_Reference5Ideal := fun m ρ _ =>
  (θ_run _ _ _).mono (fun r h => ⟨fun c => (h c).2, sem_eq_zero_of_no_sems (by decide) r.2⟩) (Cert.Reference5Ideal.Value.run (F := Ideal) m ρ)
theorem printed6 : Cert.quiescent_Kernel6 := fun m ρ _ => Eq.mp (by sl_kernel_rfl) (Cert.Kernel6Ideal.Gen.frame (F := Bits) m ρ)
theorem ideal6 : Cert.quiescent_Kernel6Ideal := fun m ρ _ => Cert.Kernel6Ideal.Gen.frame (F := Ideal) m ρ
theorem reference6 : Cert.quiescent_Reference6Ideal := fun m ρ _ =>
  (θ_run _ _ _).mono (fun r h => ⟨fun c => (h c).2.2, sem_eq_zero_of_no_sems (by decide) r.2⟩) (Cert.Reference6Ideal.Value.run (F := Ideal) m ρ)
theorem printed7 : Cert.quiescent_Kernel7 := fun m ρ _ => Eq.mp (by sl_kernel_rfl) (Cert.Kernel7Ideal.Gen.frame (F := Bits) m ρ)
theorem ideal7 : Cert.quiescent_Kernel7Ideal := fun m ρ _ => Cert.Kernel7Ideal.Gen.frame (F := Ideal) m ρ
theorem reference7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

end Cert.Mlp

end
-- ==== Proof.Mlp.Sums.lean ====
/-
  Sums of products over the extended reals, cut into blocks; the gradient of a squared ReLU; and where a block's entries lie.
-/
module

public import Idealize.ShloMosaic.PureOps.Ideal.Laws
public import Idealize.ShloMosaic.Lib.Pipeline
public import Idealize.ShloMosaic.Lib.ValueIdxCore

@[expose] public section

noncomputable section

namespace Cert.Mlp

open Idealize.ShloMosaic Idealize.ShloMosaic.ValueIdx

/-- Where an entry of a block lies, from the block's number. -/
theorem at_block {v a a' b x R : ℕ} (e : v = a * b + x) (h : a = a') (hR : R = a' * b + x) : v = R := by
  rw [e, h, hR]

/-- Where an entry of the first block lies. -/
theorem at_start {v a b x : ℕ} (e : v = a * b + x) (h : a = 0) : v = x := by
  rw [e, h, Nat.zero_mul, Nat.zero_add]

/-- A sum over `a + b` terms is the sum of the first `a` plus the sum of the last `b`. -/
theorem sum_two {n : ℕ} (a b : ℕ) (e : a + b = n) (f : Fin n → EReal) :
    ∑ k, f k = (∑ k : Fin a, f ⟨k.val, by omega⟩) + ∑ k : Fin b, f ⟨a + k.val, by omega⟩ := by
  subst e
  exact Fin.sum_univ_add f

/-- A sum over 8192 terms, by halves. -/
theorem sum_halves (f : Fin 8192 → EReal) :
    ∑ k, f k = (∑ k : Fin 4096, f ⟨(0 : Fin 2).val * 4096 + k.val, by show 0 * 4096 + k.val < 8192; omega⟩)
      + ∑ k : Fin 4096, f ⟨(1 : Fin 2).val * 4096 + k.val, by show 1 * 4096 + k.val < 8192; omega⟩ := by
  rw [sum_two 4096 4096 rfl f]
  refine congrArg₂ (· + ·) (Finset.sum_congr rfl fun k _ => congrArg f (Fin.ext ?_)) (Finset.sum_congr rfl fun k _ => congrArg f (Fin.ext ?_))
  · show k.val = 0 * 4096 + k.val
    omega
  · rfl

/-- A sum over 8192 terms, by quarters, added one after the other. -/
theorem sum_quarters (f : Fin 8192 → EReal) :
    ∑ k, f k = (((∑ k : Fin 2048, f ⟨(0 : Fin 4).val * 2048 + k.val, by show 0 * 2048 + k.val < 8192; omega⟩)
      + ∑ k : Fin 2048, f ⟨(1 : Fin 4).val * 2048 + k.val, by show 1 * 2048 + k.val < 8192; omega⟩)
      + ∑ k : Fin 2048, f ⟨(2 : Fin 4).val * 2048 + k.val, by show 2 * 2048 + k.val < 8192; omega⟩)
      + ∑ k : Fin 2048, f ⟨(3 : Fin 4).val * 2048 + k.val, by show 3 * 2048 + k.val < 8192; omega⟩ := by
  rw [sum_two 6144 2048 rfl f, sum_two 4096 2048 rfl, sum_two 2048 2048 rfl]
  refine congrArg₂ (· + ·) (congrArg₂ (· + ·) (congrArg₂ (· + ·) ?_ ?_) ?_) ?_
  · refine Finset.sum_congr rfl fun k _ => congrArg f (Fin.ext ?_)
    show k.val = 0 * 2048 + k.val
    omega
  all_goals rfl

/-- The slot of a column block, and the column block of a slot. -/
theorem slot_block : ∀ n : Fin 8, 2 * ((4 * (n.val % 2) + n.val / 2) % 4) + (4 * (n.val % 2) + n.val / 2) / 4 = n.val := by decide
theorem block_slot : ∀ s : Fin 8, 4 * ((2 * (s.val % 4) + s.val / 4) % 2) + (2 * (s.val % 4) + s.val / 4) / 2 = s.val := by decide

/-- A position that a view embeds lies in the view's set. -/
theorem mem_of_emb {sig : RefSig} {κ : Kind} {sp : Space} {s : Shape} {e : EltTy} (v : View sig κ sp s e) {y : s.Idx} {i : v.ty.Idx}
    (h : v.emb y = i) : i ∈ v.set := by
  subst h; exact View.emb_mem_set v y

/-- The gradient of a squared ReLU: twice the value `max u 0` times the gradient `g` of the square is `v g + g v` where
    `u` is positive, and nothing elsewhere. No entry need be finite. -/
theorem relu_sq_grad (u g : EReal) :
    2 * max u 0 * g = if 0 < u then max u 0 * g + g * max u 0 else 0 := by
  by_cases h : 0 < u
  · rw [if_pos h, max_eq_left h.le, mul_assoc, mul_comm g u]
    rw [show (2 : EReal) = 1 + 1 from by norm_num]
    exact (EReal.right_distrib_of_nonneg zero_le_one zero_le_one).trans (by rw [one_mul])
  · rw [if_neg h, max_eq_right (not_lt.1 h), mul_zero, zero_mul]

end Cert.Mlp

end
-- ==== Proof.Mlp.Forms.lean ====
/-
  The quantities of a squared-ReLU MLP and of its gradients, entry by entry, over the extended reals.
-/
module

public import proofs.«01_k».proof.Proof.Mlp.Sums
public import proofs.«01_k».proof.Proof.Gen.Reference5Ideal

@[expose] public section

set_option maxRecDepth 16384

noncomputable section

namespace Cert.Mlp

open Cert.Reference5Ideal Cert.Reference5Ideal.Gen
open Idealize.ShloMosaic Idealize.ShloMosaic.ValueIdx

/-- The first product. -/
def pre (h : S8192x2048.Idx → EReal) (w1 : S2048x8192.Idx → EReal) : S8192x8192.Idx → EReal :=
  fun i => ∑ j : Fin 2048, h (ix2 (i 0) j) * w1 (ix2 j (i 1))

/-- Its positive part. -/
def act (h : S8192x2048.Idx → EReal) (w1 : S2048x8192.Idx → EReal) : S8192x8192.Idx → EReal := fun i => max (pre h w1 i) 0

/-- The gradient that reaches the square. -/
def back (dy w2 : S8192x2048.Idx → EReal) : S8192x8192.Idx → EReal :=
  fun i => ∑ j : Fin 2048, dy (ix2 (i 0) j) * w2 (ix2 (i 1) j)

/-- The gradient that reaches the first product. -/
def grad (h : S8192x2048.Idx → EReal) (w1 : S2048x8192.Idx → EReal) (w2 dy : S8192x2048.Idx → EReal) : S8192x8192.Idx → EReal :=
  fun i => if 0 < pre h w1 i then act h w1 i * back dy w2 i + back dy w2 i * act h w1 i else 0

theorem pre_eq (h : S8192x2048.Idx → EReal) (w1 : S2048x8192.Idx → EReal) :
    (Host.dotGeneral (F := Ideal) (φ₁ := .f32) (φ₂ := .f32) dot_S8192x2048_S2048x8192_S8192x8192_1_0_0_1_n_n none h w1 : S8192x8192.Idx → EReal) = pre h w1 := by
  funext i
  refine (Ideal.dotGeneral_apply _ _ _ _ _ i).trans ?_
  rw [← Equiv.sum_comp (contrEquiv1 dot_S8192x2048_S2048x8192_S8192x8192_1_0_0_1_n_n 2048 rfl rfl).symm]
  refine Finset.sum_congr rfl fun k _ => ?_
  congr 1
  · exact congrArg h (funext fun a => Fin.ext (match a with | ⟨0, _⟩ => rfl | ⟨1, _⟩ => rfl))
  · exact congrArg w1 (funext fun a => Fin.ext (match a with | ⟨0, _⟩ => rfl | ⟨1, _⟩ => rfl))

theorem back_eq (dy w2 : S8192x2048.Idx → EReal) :
    (Host.dotGeneral (F := Ideal) (φ₁ := .f32) (φ₂ := .f32) dot_S8192x2048_S8192x2048_S8192x8192_1_1_0_0_n_n none dy w2 : S8192x8192.Idx → EReal) = back dy w2 := by
  funext i
  refine (Ideal.dotGeneral_apply _ _ _ _ _ i).trans ?_
  rw [← Equiv.sum_comp (contrEquiv1 dot_S8192x2048_S8192x2048_S8192x8192_1_1_0_0_n_n 2048 rfl rfl).symm]
  refine Finset.sum_congr rfl fun k _ => ?_
  congr 1
  · exact congrArg dy (funext fun a => Fin.ext (match a with | ⟨0, _⟩ => rfl | ⟨1, _⟩ => rfl))
  · exact congrArg w2 (funext fun a => Fin.ext (match a with | ⟨0, _⟩ => rfl | ⟨1, _⟩ => rfl))

theorem zero_eq (i : S8192x8192.Idx) :
    (broadcastInDim S8192x8192 ![] bcast_S_S8192x8192 (constant (F := Ideal) S_ .f32 0x00000000#32) : S8192x8192.Idx → EReal) i = 0 :=
  Ideal.ofBits_zero_f32

theorem act_eq (h : S8192x2048.Idx → EReal) (w1 : S2048x8192.Idx → EReal) :
    (maximumf (F := Ideal) (φ := .f32) (Host.dotGeneral (F := Ideal) (φ₁ := .f32) (φ₂ := .f32) dot_S8192x2048_S2048x8192_S8192x8192_1_0_0_1_n_n none h w1)
      (broadcastInDim S8192x8192 ![] bcast_S_S8192x8192 (constant (F := Ideal) S_ .f32 0x00000000#32)) : S8192x8192.Idx → EReal) = act h w1 := by
  funext i
  show max _ _ = _
  rw [pre_eq, zero_eq]
  rfl

theorem grad_eq (h : S8192x2048.Idx → EReal) (w1 : S2048x8192.Idx → EReal) (w2 dy : S8192x2048.Idx → EReal) :
    (select (cmpf (F := Ideal) (φ := .f32) .ogt (pre h w1) (broadcastInDim S8192x8192 ![] bcast_S_S8192x8192 (constant (F := Ideal) S_ .f32 0x00000000#32)))
      (addf (F := Ideal) (φ := .f32) (mulf (F := Ideal) (φ := .f32) (act h w1) (back dy w2)) (mulf (F := Ideal) (φ := .f32) (back dy w2) (act h w1)))
      (broadcastInDim S8192x8192 ![] bcast_S_S8192x8192 (constant (F := Ideal) S_ .f32 0x00000000#32)) : S8192x8192.Idx → EReal) = grad h w1 w2 dy := by
  funext i
  show Scalar.select (Ideal.cmp .ogt (pre h w1 i) _) _ _ = _
  rw [zero_eq]
  show (if _ then _ else _) = _
  simp only [Ideal.cmp, grad]
  by_cases hp : 0 < pre h w1 i
  · simp [hp]; rfl
  · simp [hp]

/-- The same, from the arguments. -/
theorem grad_all (h : S8192x2048.Idx → EReal) (w1 : S2048x8192.Idx → EReal) (w2 dy : S8192x2048.Idx → EReal) :
    (select (cmpf (F := Ideal) (φ := .f32) .ogt (Host.dotGeneral (F := Ideal) (φ₁ := .f32) (φ₂ := .f32) dot_S8192x2048_S2048x8192_S8192x8192_1_0_0_1_n_n none h w1) (broadcastInDim S8192x8192 ![] bcast_S_S8192x8192 (constant (F := Ideal) S_ .f32 0x00000000#32)))
      (addf (F := Ideal) (φ := .f32) (mulf (F := Ideal) (φ := .f32) (maximumf (F := Ideal) (φ := .f32) (Host.dotGeneral (F := Ideal) (φ₁ := .f32) (φ₂ := .f32) dot_S8192x2048_S2048x8192_S8192x8192_1_0_0_1_n_n none h w1) (broadcastInDim S8192x8192 ![] bcast_S_S8192x8192 (constant (F := Ideal) S_ .f32 0x00000000#32))) (Host.dotGeneral (F := Ideal) (φ₁ := .f32) (φ₂ := .f32) dot_S8192x2048_S8192x2048_S8192x8192_1_1_0_0_n_n none dy w2))
        (mulf (F := Ideal) (φ := .f32) (Host.dotGeneral (F := Ideal) (φ₁ := .f32) (φ₂ := .f32) dot_S8192x2048_S8192x2048_S8192x8192_1_1_0_0_n_n none dy w2) (maximumf (F := Ideal) (φ := .f32) (Host.dotGeneral (F := Ideal) (φ₁ := .f32) (φ₂ := .f32) dot_S8192x2048_S2048x8192_S8192x8192_1_0_0_1_n_n none h w1) (broadcastInDim S8192x8192 ![] bcast_S_S8192x8192 (constant (F := Ideal) S_ .f32 0x00000000#32)))))
      (broadcastInDim S8192x8192 ![] bcast_S_S8192x8192 (constant (F := Ideal) S_ .f32 0x00000000#32)) : S8192x8192.Idx → EReal) = grad h w1 w2 dy := by
  rw [← grad_eq, ← act_eq, ← pre_eq, ← back_eq]

/-- Twice the positive part, times what reaches the square, is that gradient. -/
theorem grad_two (h : S8192x2048.Idx → EReal) (w1 : S2048x8192.Idx → EReal) (w2 dy : S8192x2048.Idx → EReal) (i : S8192x8192.Idx) :
    2 * act h w1 i * back dy w2 i = grad h w1 w2 dy i := relu_sq_grad _ _

end Cert.Mlp

end
-- ==== Proof.Mlp.Down.lean ====
/-
  The call that makes the gradient of the hidden layer: its array is the reference's result.
-/
module

public import proofs.«01_k».proof.Proof.Mlp.Forms
public import proofs.«01_k».proof.Proof.Gen.Kernel2Ideal.Value
public import proofs.«01_k».proof.Proof.Gen.Reference2Ideal.Run
public import proofs.«01_k».proof.Defs
public import Idealize.ShloMosaic.Lib.Pipeline.ValueKit.Acc
public import Idealize.ShloMosaic.Lib.ValueLayout
public import Idealize.ShloMosaic.Lib.ValueLayoutCasts

@[expose] public section

set_option maxRecDepth 16384

noncomputable section

namespace Cert.Kernel2Ideal.Mlp

open Cert.Kernel2Ideal Cert.Kernel2Ideal.Gen Cert.Mlp
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-! ## What the call reads -/

/-- The positive part that the forward kept. -/
theorem V_act : (V m c main_v3 : S8192x8192.Idx → EReal)
    = act (m ((c.tc : Thread nD τ).loc main_arg0)) (m ((c.tc : Thread nD τ).loc main_arg1)) := by
  rw [← act_eq]
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-- The second weight matrix, under a leading axis of one. -/
theorem V_weight : (V m c main_v7 : S1x8192x2048.Idx → EReal)
    = broadcastInDim S1x8192x2048 ![1, 2] bcast_S8192x2048_S1x8192x2048_1_2 (m ((c.tc : Thread nD τ).loc main_arg2) : S8192x2048.Idx → EReal) := by
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-! ## Where the blocks lie -/

theorem tr0 : ∀ t : Fin cfg0.N, cc0_transform_0 (grid0.coords t) = ![t.val / 8, 0] := by decide +kernel
theorem tr1 : ∀ t : Fin cfg0.N, cc0_transform_1 (grid0.coords t) = ![0, t.val % 8, 0] := by decide +kernel
theorem tr2 : ∀ t : Fin cfg0.N, cc0_transform_2 (grid0.coords t) = ![t.val / 8, t.val % 8] := by decide +kernel
theorem tr3 : ∀ t : Fin cfg0.N, cc0_transform_3 (grid0.coords t) = ![t.val / 8, t.val % 8] := by decide +kernel

theorem iblk0 (t : Fin cfg0.N) (r : Fin 1024) (d : Fin 2048) (R : Fin 8192) (hR : R.val = t.val / 8 * 1024 + r.val) :
    iblk m c 0 t (ix2 r d) = (m ((c.tc : Thread nD τ).loc main_arg3) : S8192x2048.Idx → EReal) (ix2 R d) := by
  refine Eq.trans ?_ (congrFun (V_main_arg3 m c) (ix2 R d))
  refine congrArg (V m c main_arg3) (funext fun a => Fin.ext ?_)
  match a with
  | ⟨0, _⟩ => exact at_block (Window.rect_emb_val (cfg0.win 0) t (ix2 r d) 0) (congrFun (tr0 t) 0) hR
  | ⟨1, _⟩ => exact at_start (Window.rect_emb_val (cfg0.win 0) t (ix2 r d) 1) (congrFun (tr0 t) 1)

theorem iblk1 (t : Fin cfg0.N) (r : Fin 1024) (d : Fin 2048) (C : Fin 8192) (hC : C.val = t.val % 8 * 1024 + r.val) :
    iblk m c 1 t (ix3 (0 : Fin 1) r d) = (m ((c.tc : Thread nD τ).loc main_arg2) : S8192x2048.Idx → EReal) (ix2 C d) := by
  have e : iblk m c 1 t (ix3 (0 : Fin 1) r d) = (V m c main_v7 : S1x8192x2048.Idx → EReal) (ix3 (0 : Fin 1) C d) := by
    refine congrArg (V m c main_v7) (funext fun a => Fin.ext ?_)
    match a with
    | ⟨0, _⟩ => exact (Window.rect_emb_val (cfg0.win 1) t (ix3 (0 : Fin 1) r d) 0).trans (by show cc0_transform_1 (grid0.coords t) 0 * 1 + 0 = 0; rw [tr1]; rfl)
    | ⟨1, _⟩ => exact at_block (Window.rect_emb_val (cfg0.win 1) t (ix3 (0 : Fin 1) r d) 1) (congrFun (tr1 t) 1) hC
    | ⟨2, _⟩ => exact at_start (Window.rect_emb_val (cfg0.win 1) t (ix3 (0 : Fin 1) r d) 2) (congrFun (tr1 t) 2)
  rw [e, V_weight]
  exact congrArg (m ((c.tc : Thread nD τ).loc main_arg2) : S8192x2048.Idx → EReal) (funext fun a => Fin.ext (match a with | ⟨0, _⟩ => rfl | ⟨1, _⟩ => rfl))

theorem iblk2 (t : Fin cfg0.N) (r d : Fin 1024) (R C : Fin 8192) (hR : R.val = t.val / 8 * 1024 + r.val) (hC : C.val = t.val % 8 * 1024 + d.val) :
    iblk m c 2 t (ix2 r d) = act (m ((c.tc : Thread nD τ).loc main_arg0)) (m ((c.tc : Thread nD τ).loc main_arg1)) (ix2 R C) := by
  rw [← V_act]
  refine congrArg (V m c main_v3) (funext fun a => Fin.ext ?_)
  match a with
  | ⟨0, _⟩ => exact at_block (Window.rect_emb_val (cfg0.win 2) t (ix2 r d) 0) (congrFun (tr2 t) 0) hR
  | ⟨1, _⟩ => exact at_block (Window.rect_emb_val (cfg0.win 2) t (ix2 r d) 1) (congrFun (tr2 t) 1) hC

theorem emb3 (t : Fin cfg0.N) (r d : Fin 1024) (i : S8192x8192.Idx) (h0 : (i 0).val = t.val / 8 * 1024 + r.val)
    (h1 : (i 1).val = t.val % 8 * 1024 + d.val) : ((cfg0.win 3).blk t).view.emb (ix2 r d) = i := by
  funext a
  apply Fin.ext
  match a with
  | ⟨0, _⟩ => exact at_block (Window.rect_emb_val (cfg0.win 3) t (ix2 r d) 0) (congrFun (tr3 t) 0) h0
  | ⟨1, _⟩ => exact at_block (Window.rect_emb_val (cfg0.win 3) t (ix2 r d) 1) (congrFun (tr3 t) 1) h1

/-! ## What a step leaves -/

theorem two : Ideal.ofBits .f32 0x40000000#32 = (2 : EReal) := by
  simp [Ideal.ofBits, Ideal.ieee]
  rw [← EReal.coe_mul]
  norm_num
  rfl

theorem prod (x : S1024x2048.Idx → EReal) (y : S1x1024x2048.Idx → EReal) (z : S1024x1024.Idx → EReal) (r d : Fin 1024) :
    k0_pay1 (F := Ideal) x y z (ix2 r d) = 2 * z (ix2 r d) * ∑ k : Fin 2048, x (ix2 r k) * y (ix3 (0 : Fin 1) d k) := by
  unfold k0_pay1
  rw [shapeCast_self]
  refine congrArg₂ (· * ·) (congrArg (· * z (ix2 r d)) two) ?_
  refine (Ideal.matmul_constant_zero_apply (φ₁ := .bf16) (φ₂ := .bf16) dot_S1024x2048_S1024x2048_S1024x1024_1_1_0_0_n_n none x _ (ix2 r d)).trans ?_
  rw [← Equiv.sum_comp (contrEquiv1 dot_S1024x2048_S1024x2048_S1024x1024_1_1_0_0_n_n 2048 rfl rfl).symm]
  refine Finset.sum_congr rfl fun k _ => congrArg₂ (· * ·) ?_ ?_
  · exact congrArg x (funext fun a => Fin.ext (match a with | ⟨0, _⟩ => rfl | ⟨1, _⟩ => rfl))
  · refine Eq.trans (congrArg _ (?_ : _ = (ix2 d k : S1024x2048.Idx))) (shapeCast_1ab_ab_apply _ _ _ _)
    exact funext fun a => Fin.ext (match a with | ⟨0, _⟩ => rfl | ⟨1, _⟩ => rfl)

theorem left (t : Fin cfg0.N) : (dats m 0 c).after 3 t = k0_pay1 (iblk m c 0 t) (iblk m c 1 t) (iblk m c 2 t) := by
  rw [after0_3]
  frame_out

/-! ## The array after the run -/

set_option maxHeartbeats 1000000 in
theorem array : (dats m 0 c).arrAt 3 cfg0.N = grad (m ((c.tc : Thread nD τ).loc main_arg0)) (m ((c.tc : Thread nD τ).loc main_arg1))
    (m ((c.tc : Thread nD τ).loc main_arg2)) (m ((c.tc : Thread nD τ).loc main_arg3)) := by
  refine Dat.arrAt_eq_of_cover (dats m 0 c) 3 (grad (m ((c.tc : Thread nD τ).loc main_arg0)) (m ((c.tc : Thread nD τ).loc main_arg1))
    (m ((c.tc : Thread nD τ).loc main_arg2)) (m ((c.tc : Thread nD τ).loc main_arg3))) (fun t hf => ?_) (fun i => ?_)
  · have hN : t.val < 64 := lt_of_lt_of_eq t.isLt (show cfg0.N = 64 from N_0)
    show (cfg0.win 3).cut (grid0.coords t) ((dats m 0 c).after 3 t) = _
    rw [left]
    funext j
    obtain ⟨r, d, rfl⟩ : ∃ r d : Fin 1024, j = (ix2 r d : S1024x1024.Idx) := ⟨j 0, j 1, (eq_ix2 j)⟩
    have ee := emb3 t r d (ix2 (⟨t.val / 8 * 1024 + r.val, by omega⟩ : Fin 8192) (⟨t.val % 8 * 1024 + d.val, by omega⟩ : Fin 8192)) rfl rfl
    show k0_pay1 (F := Ideal) _ _ _ (ix2 r d) = grad _ _ _ _ (((cfg0.win 3).blk t).view.emb (ix2 r d))
    rw [ee, ← grad_two]
    refine (prod _ _ _ r d).trans (congrArg₂ (· * ·) (congrArg (2 * ·) (iblk2 m c t r d _ _ rfl rfl)) (Finset.sum_congr rfl fun k _ => congrArg₂ (· * ·) ?_ ?_))
    · exact iblk0 m c t r k _ rfl
    · exact iblk1 m c t d k _ rfl
  · have h0 : (i 0).val < 8192 := (i 0).isLt
    have h1 : (i 1).val < 8192 := (i 1).isLt
    have hq : (i 0).val / 1024 * 8 + (i 1).val / 1024 < cfg0.N := by
      rw [show cfg0.N = 64 from N_0]; omega
    refine ⟨⟨(i 0).val / 1024 * 8 + (i 1).val / 1024, hq⟩, flush0_3 _, ?_⟩
    exact mem_of_emb _ (emb3 ⟨_, hq⟩ (⟨(i 0).val % 1024, Nat.mod_lt _ (by norm_num)⟩ : Fin 1024) (⟨(i 1).val % 1024, Nat.mod_lt _ (by norm_num)⟩ : Fin 1024) i
      (by dsimp only; omega) (by dsimp only; omega))

theorem algebraic : Cert.algebraic_Kernel2Ideal_Reference2Ideal := by
  intro m g m' g' _ hag
  refine ⟨fun c => (dats m 0 c).arrAt 3 cfg0.N, Value.run_blocks m g, ?_⟩
  refine (θ_run _ _ _).mono (fun r h c => ⟨(h c).1.trans ?_, (h c).2⟩) (Reference2Ideal.Value.run (F := Ideal) m' g')
  rw [(hag c).1, (hag c).2.1, (hag c).2.2.1, (hag c).2.2.2]
  refine Eq.trans ?_ (array m c).symm
  exact grad_all _ _ _ _

end Cert.Kernel2Ideal.Mlp

end
-- ==== Proof.Mlp.SecondWeight.lean ====
/-
  The call that makes the gradient of the second weight matrix: what its result array holds after the run.
-/
module

public import proofs.«01_k».proof.Proof.Mlp.Sums
public import proofs.«01_k».proof.Proof.Gen.Kernel3Ideal.Value
public import Idealize.ShloMosaic.Lib.Pipeline.ValueKit.Acc
public import Idealize.ShloMosaic.Lib.Pipeline.ReadBack
public import Idealize.ShloMosaic.Lib.ValueLayout
public import Idealize.ShloMosaic.Lib.ValueLayoutCasts

@[expose] public section

set_option maxRecDepth 16384

noncomputable section

namespace Cert.Kernel3Ideal.Mlp

open Cert.Kernel3Ideal Cert.Kernel3Ideal.Gen Cert.Mlp
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-! ## Where the blocks lie -/

theorem tr0 : ∀ t : Fin cfg0.N, cc0_transform_0 (grid0.coords t) = ![t.val % 2, t.val / 4] := by decide +kernel
theorem tr1 : ∀ t : Fin cfg0.N, cc0_transform_1 (grid0.coords t) = ![t.val % 2, t.val / 2 % 2] := by decide +kernel
theorem tr2 : ∀ t : Fin cfg0.N, cc0_transform_2 (grid0.coords t) = ![4 * (t.val / 4 % 2) + t.val / 4 / 2, 0, t.val / 2 % 2] := by
  decide +kernel

theorem iblk0 (t : Fin cfg0.N) (r : Fin 4096) (d : Fin 1024) (i : S8192x8192.Idx) (h0 : (i 0).val = t.val % 2 * 4096 + r.val)
    (h1 : (i 1).val = t.val / 4 * 1024 + d.val) : iblk m c 0 t (ix2 r d) = V m c main_v5 i := by
  refine congrArg (V m c main_v5) (funext fun a => Fin.ext ?_)
  match a with
  | ⟨0, _⟩ => exact at_block (Window.rect_emb_val (cfg0.win 0) t (ix2 r d) 0) (congrFun (tr0 t) 0) h0
  | ⟨1, _⟩ => exact at_block (Window.rect_emb_val (cfg0.win 0) t (ix2 r d) 1) (congrFun (tr0 t) 1) h1
theorem iblk1 (t : Fin cfg0.N) (r : Fin 4096) (d : Fin 1024) (i : S8192x2048.Idx) (h0 : (i 0).val = t.val % 2 * 4096 + r.val)
    (h1 : (i 1).val = t.val / 2 % 2 * 1024 + d.val) : iblk m c 1 t (ix2 r d) = V m c main_arg3 i := by
  refine congrArg (V m c main_arg3) (funext fun a => Fin.ext ?_)
  match a with
  | ⟨0, _⟩ => exact at_block (Window.rect_emb_val (cfg0.win 1) t (ix2 r d) 0) (congrFun (tr1 t) 0) h0
  | ⟨1, _⟩ => exact at_block (Window.rect_emb_val (cfg0.win 1) t (ix2 r d) 1) (congrFun (tr1 t) 1) h1
theorem emb2 (t : Fin cfg0.N) (u : Fin 1) (r d : Fin 1024) (i : S8x1024x2048.Idx)
    (h0 : (i 0).val = 4 * (t.val / 4 % 2) + t.val / 4 / 2) (h1 : (i 1).val = r.val)
    (h2 : (i 2).val = t.val / 2 % 2 * 1024 + d.val) : ((cfg0.win 2).blk t).view.emb (ix3 u r d) = i := by
  have hu : u.val = 0 := by omega
  funext a
  apply Fin.ext
  match a with
  | ⟨0, _⟩ => exact ((Window.rect_emb_val (cfg0.win 2) t (ix3 u r d) 0).trans (by show cc0_transform_2 (grid0.coords t) 0 * 1 + u.val = _; rw [tr2, hu]; exact Nat.mul_one _)).trans h0.symm
  | ⟨1, _⟩ => exact (at_start (Window.rect_emb_val (cfg0.win 2) t (ix3 u r d) 1) (congrFun (tr2 t) 1)).trans h1.symm
  | ⟨2, _⟩ => exact at_block (Window.rect_emb_val (cfg0.win 2) t (ix3 u r d) 2) (congrFun (tr2 t) 2) h2

/-! ## What a step leaves -/

/-- A product over 4096 rows. -/
theorem prod (x y : S4096x1024.Idx → EReal) (r d : Fin 1024) :
    k0_pay1 (F := Ideal) x y (ix2 r d) = ∑ k : Fin 4096, x (ix2 k r) * y (ix2 k d) := by
  unfold k0_pay1
  rw [shapeCast_self]
  refine (Ideal.matmul_constant_zero_apply (φ₁ := .bf16) (φ₂ := .bf16) dot_S4096x1024_S4096x1024_S1024x1024_0_0_1_1_n_n none x y (ix2 r d)).trans ?_
  rw [← Equiv.sum_comp (contrEquiv1 dot_S4096x1024_S4096x1024_S1024x1024_0_0_1_1_n_n 4096 rfl rfl).symm]
  refine Finset.sum_congr rfl fun k _ => congrArg₂ (· * ·) ?_ ?_
  · exact congrArg x (funext fun a => Fin.ext (match a with | ⟨0, _⟩ => rfl | ⟨1, _⟩ => rfl))
  · exact congrArg y (funext fun a => Fin.ext (match a with | ⟨0, _⟩ => rfl | ⟨1, _⟩ => rfl))

theorem first_left (t : Fin cfg0.N) (h0 : t.val % 2 = 0) : (outsAt0 m c t.val t.isLt).2 = k0_pay2 (iblk m c 0 t) (iblk m c 1 t) := by
  rw [outsAt0_A m c t h0 (by omega)]
  frame_out [read_unread_whole]

theorem second_out (t : Fin cfg0.N) (h0 : t.val % 2 = 1) :
    (outsAt0 m c t.val t.isLt).1 = k0_pay4 (iblk m c 0 t) (iblk m c 1 t)
      (outsAt0 m c (t.val - 1) (Nat.lt_of_le_of_lt (Nat.sub_le _ _) t.isLt)).2 := by
  rw [outsAt0_B m c t (by omega) h0]
  frame_out [read_unread_whole]

/-- The two arrays multiplied, as entries. -/
def X : S8192x8192.Idx → EReal := V m c main_v5
def Y : S8192x2048.Idx → EReal := V m c main_arg3

/-- A step's product, over the arrays. -/
theorem step (t : Fin cfg0.N) (p : Fin 2) (hp : t.val % 2 = p.val) (r d : Fin 1024) (R : Fin 8192) (C : Fin 2048)
    (hR : R.val = t.val / 4 * 1024 + r.val) (hC : C.val = t.val / 2 % 2 * 1024 + d.val) :
    k0_pay1 (F := Ideal) (iblk m c 0 t) (iblk m c 1 t) (ix2 r d)
      = ∑ k : Fin 4096, X m c (ix2 (⟨p.val * 4096 + k.val, by omega⟩ : Fin 8192) R)
        * Y m c (ix2 (⟨p.val * 4096 + k.val, by omega⟩ : Fin 8192) C) := by
  refine (prod _ _ r d).trans (Finset.sum_congr rfl fun k _ => congrArg₂ (· * ·) ?_ ?_)
  · exact iblk0 m c t k r _ (by rw [hp]) hR
  · exact iblk1 m c t k d _ (by rw [hp]) hC

/-! ## The array after the run -/

/-- The row of the whole gradient that slot `s`, row `r` holds. -/
def row (s : Fin 8) (r : Fin 1024) : Fin 8192 := ⟨(2 * (s.val % 4) + s.val / 4) * 1024 + r.val, by omega⟩

/-- The products of the columns of `X` and of `Y`, over all rows, in the order of the slots. -/
def G (X : S8192x8192.Idx → EReal) (Y : S8192x2048.Idx → EReal) : S8x1024x2048.Idx → EReal :=
  fun i => ∑ k : Fin 8192, X (ix2 k (row (i 0) (i 1))) * Y (ix2 k (i 2))

set_option maxHeartbeats 1000000 in
theorem array : (dats m 0 c).arrAt 2 cfg0.N = G (X m c) (Y m c) := by
  refine Dat.arrAt_eq_of_cover (dats m 0 c) 2 (G (X m c) (Y m c)) (fun t hf => ?_) (fun i => ?_)
  · have hN : t.val < 32 := lt_of_lt_of_eq t.isLt (show cfg0.N = 32 from N_0)
    have h1 : t.val % 2 = 1 := (flush0_2 t).1 hf
    have hq : t.val - 1 < cfg0.N := Nat.lt_of_le_of_lt (Nat.sub_le _ _) t.isLt
    rw [Value.flushed2, second_out m c t h1, first_left m c ⟨t.val - 1, hq⟩ (by show (t.val - 1) % 2 = 0; omega)]
    funext j
    obtain ⟨u, r, d, rfl⟩ : ∃ (u : Fin 1) (r d : Fin 1024), j = (ix3 u r d : S1x1024x1024.Idx) := ⟨j 0, j 1, j 2, (eq_ix3 j)⟩
    have ee := emb2 t u r d (ix3 (⟨4 * (t.val / 4 % 2) + t.val / 4 / 2, by omega⟩ : Fin 8) r
      (⟨t.val / 2 % 2 * 1024 + d.val, by omega⟩ : Fin 2048)) rfl rfl rfl
    show k0_pay4 (F := Ideal) _ _ _ (ix3 u r d) = G _ _ (((cfg0.win 2).blk t).view.emb (ix3 u r d))
    rw [ee]
    refine Eq.trans ?_ (sum_halves (fun k => X m c (ix2 k (row (⟨4 * (t.val / 4 % 2) + t.val / 4 / 2, by omega⟩ : Fin 8) r))
      * Y m c (ix2 k (⟨t.val / 2 % 2 * 1024 + d.val, by omega⟩ : Fin 2048)))).symm
    unfold k0_pay4 k0_pay2
    rw [shapeCast_ab_1ab_apply, shapeCast_self]
    refine congrArg₂ (· + ·) (step m c ⟨t.val - 1, hq⟩ 0 ?_ r d _ _ ?_ ?_) (step m c t 1 h1 r d _ _ ?_ ?_)
    · show (t.val - 1) % 2 = 0
      omega
    · show (2 * ((4 * (t.val / 4 % 2) + t.val / 4 / 2) % 4) + (4 * (t.val / 4 % 2) + t.val / 4 / 2) / 4) * 1024 + r.val = (t.val - 1) / 4 * 1024 + r.val
      omega
    · show t.val / 2 % 2 * 1024 + d.val = (t.val - 1) / 2 % 2 * 1024 + d.val
      omega
    · show (2 * ((4 * (t.val / 4 % 2) + t.val / 4 / 2) % 4) + (4 * (t.val / 4 % 2) + t.val / 4 / 2) / 4) * 1024 + r.val = t.val / 4 * 1024 + r.val
      omega
    · rfl
  · have h0 : (i 0).val < 8 := (i 0).isLt
    have h1 : (i 1).val < 1024 := (i 1).isLt
    have h2 : (i 2).val < 2048 := (i 2).isLt
    have hq : (2 * ((i 0).val % 4) + (i 0).val / 4) * 4 + (i 2).val / 1024 * 2 + 1 < cfg0.N := by
      rw [show cfg0.N = 32 from N_0]; omega
    refine ⟨⟨(2 * ((i 0).val % 4) + (i 0).val / 4) * 4 + (i 2).val / 1024 * 2 + 1, hq⟩, (flush0_2 _).2 (by dsimp only; omega), ?_⟩
    exact mem_of_emb _ (emb2 ⟨_, hq⟩ 0 (i 1) (⟨(i 2).val % 1024, Nat.mod_lt _ (by norm_num)⟩ : Fin 1024) i
      (by dsimp only; omega) rfl (by dsimp only; omega))

end Cert.Kernel3Ideal.Mlp

end
-- ==== Proof.Mlp.SecondWeightEq.lean ====
/-
  The gradient of the second weight matrix: the call's array is the reference's result.
-/
module

public import proofs.«01_k».proof.Proof.Mlp.SecondWeight
public import proofs.«01_k».proof.Proof.Mlp.Forms
public import proofs.«01_k».proof.Proof.Gen.Reference3Ideal.Run
public import proofs.«01_k».proof.Defs

@[expose] public section

set_option maxRecDepth 16384

noncomputable section

namespace Cert.Kernel3Ideal.Mlp

open Cert.Kernel3Ideal Cert.Kernel3Ideal.Gen Cert.Mlp
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- What the call multiplies: the squared positive part. -/
theorem V_square : (V m c main_v5 : S8192x8192.Idx → EReal)
    = fun i => act (m ((c.tc : Thread nD τ).loc main_arg0)) (m ((c.tc : Thread nD τ).loc main_arg1)) i
        * act (m ((c.tc : Thread nD τ).loc main_arg0)) (m ((c.tc : Thread nD τ).loc main_arg1)) i := by
  rw [← act_eq]
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-- The reference's product, cut into the devices' shards in the order of the slots. -/
theorem shards (P : Reference3Ideal.S2048x8192.Idx → EReal) (h1 : Reference3Ideal.S2048x8192.Transposes [1, 0] Reference3Ideal.S8192x2048)
    (h2 : Reference3Ideal.S8192x2048.ShapeCasts Reference3Ideal.S4x2x1024x2048)
    (h3 : Reference3Ideal.S4x2x1024x2048.Transposes [1, 0, 2, 3] Reference3Ideal.S2x4x1024x2048)
    (h4 : Reference3Ideal.S2x4x1024x2048.ShapeCasts Reference3Ideal.S8x1024x2048) (i : S8x1024x2048.Idx) :
    shapeCast Reference3Ideal.S8x1024x2048 (transpose Reference3Ideal.S2x4x1024x2048 [1, 0, 2, 3]
      (shapeCast Reference3Ideal.S4x2x1024x2048 (transpose Reference3Ideal.S8192x2048 [1, 0] P h1) h2) h3) h4 i
      = P (ix2 (i 2) (row (i 0) (i 1))) := by
  obtain ⟨s, r, d, rfl⟩ : ∃ (s : Fin 8) (r : Fin 1024) (d : Fin 2048), i = (ix3 s r d : S8x1024x2048.Idx) := ⟨i 0, i 1, i 2, (eq_ix3 i)⟩
  rw [shapeCast_apply _ _ _ (ix4 (⟨s.val / 4, by omega⟩ : Fin 2) (⟨s.val % 4, by omega⟩ : Fin 4) r d : Reference3Ideal.S2x4x1024x2048.Idx) (by
    rw [Shape.rowMajor_val_four, Shape.rowMajor_val_three]
    show ((s.val / 4 * 4 + s.val % 4) * 1024 + r.val) * 2048 + d.val = (s.val * 1024 + r.val) * 2048 + d.val
    omega)]
  rw [transpose_apply _ _ _ _ (ix4 (⟨s.val % 4, by omega⟩ : Fin 4) (⟨s.val / 4, by omega⟩ : Fin 2) r d : Reference3Ideal.S4x2x1024x2048.Idx) (fun b => by
    match b with | ⟨0, _⟩ => rfl | ⟨1, _⟩ => rfl | ⟨2, _⟩ => rfl | ⟨3, _⟩ => rfl)]
  rw [shapeCast_apply _ _ _ (ix2 (row s r) d : Reference3Ideal.S8192x2048.Idx) (by
    rw [Shape.rowMajor_val_four, Shape.rowMajor_val_two]
    show ((2 * (s.val % 4) + s.val / 4) * 1024 + r.val) * 2048 + d.val = ((s.val % 4 * 2 + s.val / 4) * 1024 + r.val) * 2048 + d.val
    omega)]
  exact transpose_apply _ _ _ _ (ix2 d (row s r) : Reference3Ideal.S2048x8192.Idx) (fun b => by
    match b with | ⟨0, _⟩ => rfl | ⟨1, _⟩ => rfl)

/-- The reference's product, entry by entry. -/
theorem product (dy : S8192x2048.Idx → EReal) (q : S8192x8192.Idx → EReal) (d : Fin 2048) (R : Fin 8192) :
    (Host.dotGeneral (F := Ideal) (φ₁ := .f32) (φ₂ := .f32) Reference3Ideal.dot_S8192x2048_S8192x8192_S2048x8192_0_0_1_1_n_n none dy q
      : Reference3Ideal.S2048x8192.Idx → EReal) (ix2 d R) = ∑ k : Fin 8192, q (ix2 k R) * dy (ix2 k d) := by
  refine (Ideal.dotGeneral_apply _ _ _ _ _ (ix2 d R)).trans ?_
  rw [← Equiv.sum_comp (contrEquiv1 Reference3Ideal.dot_S8192x2048_S8192x8192_S2048x8192_0_0_1_1_n_n 8192 rfl rfl).symm]
  refine Finset.sum_congr rfl fun k _ => (congrArg₂ (· * ·) ?_ ?_).trans (mul_comm (dy (ix2 k d)) (q (ix2 k R)))
  · exact congrArg dy (funext fun a => Fin.ext (match a with | ⟨0, _⟩ => rfl | ⟨1, _⟩ => rfl))
  · exact congrArg q (funext fun a => Fin.ext (match a with | ⟨0, _⟩ => rfl | ⟨1, _⟩ => rfl))

theorem algebraic : Cert.algebraic_Kernel3Ideal_Reference3Ideal := by
  intro m g m' g' _ hag
  refine ⟨fun c => (dats m 0 c).arrAt 2 cfg0.N, Value.run_blocks m g, ?_⟩
  refine (θ_run _ _ _).mono (fun r h c => ⟨(h c).1.trans ?_, (h c).2⟩) (Reference3Ideal.Value.run (F := Ideal) m' g')
  rw [(hag c).1, (hag c).2.1, (hag c).2.2.2]
  refine Eq.trans ?_ (array m c).symm
  funext i
  refine (shards _ _ _ _ _ i).trans ((product _ _ _ _).trans ?_)
  show _ = G (X m c) (Y m c) i
  unfold G X Y
  rw [V_square, V_main_arg3, ← act_eq]
  rfl

end Cert.Kernel3Ideal.Mlp

end
-- ==== Proof.Mlp.FirstWeight.lean ====
/-
  The call that makes the gradient of the first weight matrix: what its result array holds after the run.
-/
module

public import proofs.«01_k».proof.Proof.Mlp.Sums
public import proofs.«01_k».proof.Proof.Gen.Kernel4Ideal.Value
public import Idealize.ShloMosaic.Lib.Pipeline.ValueKit.Acc
public import Idealize.ShloMosaic.Lib.Pipeline.ReadBack
public import Idealize.ShloMosaic.Lib.ValueLayout
public import Idealize.ShloMosaic.Lib.ValueLayoutCasts

@[expose] public section

set_option maxRecDepth 16384

noncomputable section

namespace Cert.Kernel4Ideal.Mlp

open Cert.Kernel4Ideal Cert.Kernel4Ideal.Gen Cert.Mlp
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-! ## Where the blocks lie -/

theorem tr0 : ∀ t : Fin cfg0.N, cc0_transform_0 (grid0.coords t) = ![t.val % 2, t.val / 16] := by decide +kernel
theorem tr1 : ∀ t : Fin cfg0.N, cc0_transform_1 (grid0.coords t) = ![t.val % 2, t.val / 2 % 8] := by decide +kernel
theorem tr2 : ∀ t : Fin cfg0.N, cc0_transform_2 (grid0.coords t) = ![4 * (t.val / 2 % 8 % 2) + t.val / 2 % 8 / 2, t.val / 16, 0] := by
  decide +kernel

theorem iblk0 (t : Fin cfg0.N) (r : Fin 4096) (d : Fin 1024) (i : S8192x2048.Idx) (h0 : (i 0).val = t.val % 2 * 4096 + r.val)
    (h1 : (i 1).val = t.val / 16 * 1024 + d.val) : iblk m c 0 t (ix2 r d) = V m c main_arg0 i := by
  refine congrArg (V m c main_arg0) (funext fun a => Fin.ext ?_)
  match a with
  | ⟨0, _⟩ => exact at_block (Window.rect_emb_val (cfg0.win 0) t (ix2 r d) 0) (congrFun (tr0 t) 0) h0
  | ⟨1, _⟩ => exact at_block (Window.rect_emb_val (cfg0.win 0) t (ix2 r d) 1) (congrFun (tr0 t) 1) h1
theorem iblk1 (t : Fin cfg0.N) (r : Fin 4096) (d : Fin 1024) (i : S8192x8192.Idx) (h0 : (i 0).val = t.val % 2 * 4096 + r.val)
    (h1 : (i 1).val = t.val / 2 % 8 * 1024 + d.val) : iblk m c 1 t (ix2 r d) = V m c main_v15 i := by
  refine congrArg (V m c main_v15) (funext fun a => Fin.ext ?_)
  match a with
  | ⟨0, _⟩ => exact at_block (Window.rect_emb_val (cfg0.win 1) t (ix2 r d) 0) (congrFun (tr1 t) 0) h0
  | ⟨1, _⟩ => exact at_block (Window.rect_emb_val (cfg0.win 1) t (ix2 r d) 1) (congrFun (tr1 t) 1) h1
theorem emb2 (t : Fin cfg0.N) (u : Fin 1) (r d : Fin 1024) (i : S8x2048x1024.Idx)
    (h0 : (i 0).val = 4 * (t.val / 2 % 8 % 2) + t.val / 2 % 8 / 2) (h1 : (i 1).val = t.val / 16 * 1024 + r.val)
    (h2 : (i 2).val = d.val) : ((cfg0.win 2).blk t).view.emb (ix3 u r d) = i := by
  have hu : u.val = 0 := by omega
  funext a
  apply Fin.ext
  match a with
  | ⟨0, _⟩ => exact ((Window.rect_emb_val (cfg0.win 2) t (ix3 u r d) 0).trans (by show cc0_transform_2 (grid0.coords t) 0 * 1 + u.val = _; rw [tr2, hu]; exact Nat.mul_one _)).trans h0.symm
  | ⟨1, _⟩ => exact at_block (Window.rect_emb_val (cfg0.win 2) t (ix3 u r d) 1) (congrFun (tr2 t) 1) h1
  | ⟨2, _⟩ => exact (at_start (Window.rect_emb_val (cfg0.win 2) t (ix3 u r d) 2) (congrFun (tr2 t) 2)).trans h2.symm

/-! ## What a step leaves -/

/-- A product over 4096 rows. -/
theorem prod (x y : S4096x1024.Idx → EReal) (r d : Fin 1024) :
    k0_pay1 (F := Ideal) x y (ix2 r d) = ∑ k : Fin 4096, x (ix2 k r) * y (ix2 k d) := by
  unfold k0_pay1
  rw [shapeCast_self]
  refine (Ideal.matmul_constant_zero_apply (φ₁ := .bf16) (φ₂ := .bf16) dot_S4096x1024_S4096x1024_S1024x1024_0_0_1_1_n_n none x y (ix2 r d)).trans ?_
  rw [← Equiv.sum_comp (contrEquiv1 dot_S4096x1024_S4096x1024_S1024x1024_0_0_1_1_n_n 4096 rfl rfl).symm]
  refine Finset.sum_congr rfl fun k _ => congrArg₂ (· * ·) ?_ ?_
  · exact congrArg x (funext fun a => Fin.ext (match a with | ⟨0, _⟩ => rfl | ⟨1, _⟩ => rfl))
  · exact congrArg y (funext fun a => Fin.ext (match a with | ⟨0, _⟩ => rfl | ⟨1, _⟩ => rfl))

theorem first_left (t : Fin cfg0.N) (h0 : t.val % 2 = 0) : (outsAt0 m c t.val t.isLt).2 = k0_pay2 (iblk m c 0 t) (iblk m c 1 t) := by
  rw [outsAt0_A m c t h0 (by omega)]
  frame_out [read_unread_whole]

theorem second_out (t : Fin cfg0.N) (h0 : t.val % 2 = 1) :
    (outsAt0 m c t.val t.isLt).1 = k0_pay4 (iblk m c 0 t) (iblk m c 1 t)
      (outsAt0 m c (t.val - 1) (Nat.lt_of_le_of_lt (Nat.sub_le _ _) t.isLt)).2 := by
  rw [outsAt0_B m c t (by omega) h0]
  frame_out [read_unread_whole]

/-- The two arrays multiplied, as entries. -/
def X : S8192x2048.Idx → EReal := V m c main_arg0
def Y : S8192x8192.Idx → EReal := V m c main_v15

/-- A step's product, over the arrays. -/
theorem step (t : Fin cfg0.N) (p : Fin 2) (hp : t.val % 2 = p.val) (r d : Fin 1024) (R : Fin 2048) (C : Fin 8192)
    (hR : R.val = t.val / 16 * 1024 + r.val) (hC : C.val = t.val / 2 % 8 * 1024 + d.val) :
    k0_pay1 (F := Ideal) (iblk m c 0 t) (iblk m c 1 t) (ix2 r d)
      = ∑ k : Fin 4096, X m c (ix2 (⟨p.val * 4096 + k.val, by omega⟩ : Fin 8192) R) * Y m c (ix2 (⟨p.val * 4096 + k.val, by omega⟩ : Fin 8192) C) := by
  refine (prod _ _ r d).trans (Finset.sum_congr rfl fun k _ => congrArg₂ (· * ·) ?_ ?_)
  · exact iblk0 m c t k r _ (by rw [hp]) hR
  · exact iblk1 m c t k d _ (by rw [hp]) hC

/-! ## The array after the run -/

/-- The column of the whole gradient that slot `s`, column `d` holds. -/
def col (s : Fin 8) (d : Fin 1024) : Fin 8192 := ⟨(2 * (s.val % 4) + s.val / 4) * 1024 + d.val, by omega⟩

/-- The products of the columns of `X` and of `Y`, over all rows, in the order of the slots. -/
def G (X : S8192x2048.Idx → EReal) (Y : S8192x8192.Idx → EReal) : S8x2048x1024.Idx → EReal :=
  fun i => ∑ k : Fin 8192, X (ix2 k (i 1)) * Y (ix2 k (col (i 0) (i 2)))

set_option maxHeartbeats 1000000 in
theorem array : (dats m 0 c).arrAt 2 cfg0.N = G (X m c) (Y m c) := by
  refine Dat.arrAt_eq_of_cover (dats m 0 c) 2 (G (X m c) (Y m c)) (fun t hf => ?_) (fun i => ?_)
  · have hN : t.val < 32 := lt_of_lt_of_eq t.isLt (show cfg0.N = 32 from N_0)
    have h1 : t.val % 2 = 1 := (flush0_2 t).1 hf
    have hs : 2 * ((4 * (t.val / 2 % 8 % 2) + t.val / 2 % 8 / 2) % 4) + (4 * (t.val / 2 % 8 % 2) + t.val / 2 % 8 / 2) / 4 = t.val / 2 % 8 :=
      slot_block ⟨t.val / 2 % 8, by omega⟩
    have hq : t.val - 1 < cfg0.N := Nat.lt_of_le_of_lt (Nat.sub_le _ _) t.isLt
    rw [Value.flushed2, second_out m c t h1, first_left m c ⟨t.val - 1, hq⟩ (by show (t.val - 1) % 2 = 0; omega)]
    funext j
    obtain ⟨u, r, d, rfl⟩ : ∃ (u : Fin 1) (r d : Fin 1024), j = (ix3 u r d : S1x1024x1024.Idx) := ⟨j 0, j 1, j 2, (eq_ix3 j)⟩
    have ee := emb2 t u r d (ix3 (⟨4 * (t.val / 2 % 8 % 2) + t.val / 2 % 8 / 2, by omega⟩ : Fin 8)
      (⟨t.val / 16 * 1024 + r.val, by omega⟩ : Fin 2048) d) rfl rfl rfl
    show k0_pay4 (F := Ideal) _ _ _ (ix3 u r d) = G _ _ (((cfg0.win 2).blk t).view.emb (ix3 u r d))
    rw [ee]
    refine Eq.trans ?_ (sum_halves (fun k => X m c (ix2 k (⟨t.val / 16 * 1024 + r.val, by omega⟩ : Fin 2048))
      * Y m c (ix2 k (col (⟨4 * (t.val / 2 % 8 % 2) + t.val / 2 % 8 / 2, by omega⟩ : Fin 8) d)))).symm
    unfold k0_pay4 k0_pay2
    rw [shapeCast_ab_1ab_apply, shapeCast_self]
    refine congrArg₂ (· + ·) (step m c ⟨t.val - 1, hq⟩ 0 ?_ r d _ _ ?_ ?_) (step m c t 1 h1 r d _ _ ?_ ?_)
    · show (t.val - 1) % 2 = 0
      omega
    · show t.val / 16 * 1024 + r.val = (t.val - 1) / 16 * 1024 + r.val
      omega
    · show (2 * ((4 * (t.val / 2 % 8 % 2) + t.val / 2 % 8 / 2) % 4) + (4 * (t.val / 2 % 8 % 2) + t.val / 2 % 8 / 2) / 4) * 1024 + d.val = (t.val - 1) / 2 % 8 * 1024 + d.val
      rw [hs]
      omega
    · rfl
    · show (2 * ((4 * (t.val / 2 % 8 % 2) + t.val / 2 % 8 / 2) % 4) + (4 * (t.val / 2 % 8 % 2) + t.val / 2 % 8 / 2) / 4) * 1024 + d.val = t.val / 2 % 8 * 1024 + d.val
      rw [hs]
  · have h0 : (i 0).val < 8 := (i 0).isLt
    have h1 : (i 1).val < 2048 := (i 1).isLt
    have h2 : (i 2).val < 1024 := (i 2).isLt
    have hs : 4 * ((2 * ((i 0).val % 4) + (i 0).val / 4) % 2) + (2 * ((i 0).val % 4) + (i 0).val / 4) / 2 = (i 0).val := block_slot (i 0)
    obtain ⟨n, hn⟩ : ∃ n, n = 2 * ((i 0).val % 4) + (i 0).val / 4 := ⟨_, rfl⟩
    rw [← hn] at hs
    have hq : (i 1).val / 1024 * 16 + n * 2 + 1 < cfg0.N := by
      rw [show cfg0.N = 32 from N_0]; omega
    refine ⟨⟨(i 1).val / 1024 * 16 + n * 2 + 1, hq⟩, (flush0_2 _).2 (by dsimp only; omega), ?_⟩
    have hv : ((i 1).val / 1024 * 16 + n * 2 + 1) / 2 % 8 = n := by omega
    exact mem_of_emb _ (emb2 ⟨_, hq⟩ 0 (⟨(i 1).val % 1024, Nat.mod_lt _ (by norm_num)⟩ : Fin 1024) (i 2) i
      (by dsimp only; rw [hv]; exact hs.symm) (by dsimp only; omega) rfl)

end Cert.Kernel4Ideal.Mlp

end
-- ==== Proof.Mlp.FirstWeightEq.lean ====
/-
  The gradient of the first weight matrix: the call's array is the reference's result.
-/
module

public import proofs.«01_k».proof.Proof.Mlp.FirstWeight
public import proofs.«01_k».proof.Proof.Mlp.Forms
public import proofs.«01_k».proof.Proof.Gen.Reference4Ideal.Run
public import proofs.«01_k».proof.Defs

@[expose] public section

set_option maxRecDepth 16384

noncomputable section

namespace Cert.Kernel4Ideal.Mlp

open Cert.Kernel4Ideal Cert.Kernel4Ideal.Gen Cert.Mlp
open Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- What the call multiplies `h` by: the gradient that reaches the first product. -/
theorem V_grad : (V m c main_v15 : S8192x8192.Idx → EReal)
    = grad (m ((c.tc : Thread nD τ).loc main_arg0)) (m ((c.tc : Thread nD τ).loc main_arg1)) (m ((c.tc : Thread nD τ).loc main_arg2))
        (m ((c.tc : Thread nD τ).loc main_arg3)) := by
  rw [← grad_all]
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-- The reference's product, cut into the devices' shards in the order of the slots. -/
theorem shards (P : Reference4Ideal.S8192x2048.Idx → EReal) (h1 : Reference4Ideal.S8192x2048.Transposes [1, 0] Reference4Ideal.S2048x8192)
    (h2 : Reference4Ideal.S2048x8192.ShapeCasts Reference4Ideal.S2048x4x2x1024)
    (h3 : Reference4Ideal.S2048x4x2x1024.Transposes [2, 1, 0, 3] Reference4Ideal.S2x4x2048x1024)
    (h4 : Reference4Ideal.S2x4x2048x1024.ShapeCasts Reference4Ideal.S8x2048x1024) (i : S8x2048x1024.Idx) :
    shapeCast Reference4Ideal.S8x2048x1024 (transpose Reference4Ideal.S2x4x2048x1024 [2, 1, 0, 3]
      (shapeCast Reference4Ideal.S2048x4x2x1024 (transpose Reference4Ideal.S2048x8192 [1, 0] P h1) h2) h3) h4 i
      = P (ix2 (col (i 0) (i 2)) (i 1)) := by
  obtain ⟨s, r, d, rfl⟩ : ∃ (s : Fin 8) (r : Fin 2048) (d : Fin 1024), i = (ix3 s r d : S8x2048x1024.Idx) := ⟨i 0, i 1, i 2, (eq_ix3 i)⟩
  rw [shapeCast_apply _ _ _ (ix4 (⟨s.val / 4, by omega⟩ : Fin 2) (⟨s.val % 4, by omega⟩ : Fin 4) r d : Reference4Ideal.S2x4x2048x1024.Idx) (by
    rw [Shape.rowMajor_val_four, Shape.rowMajor_val_three]
    show ((s.val / 4 * 4 + s.val % 4) * 2048 + r.val) * 1024 + d.val = (s.val * 2048 + r.val) * 1024 + d.val
    omega)]
  rw [transpose_apply _ _ _ _ (ix4 r (⟨s.val % 4, by omega⟩ : Fin 4) (⟨s.val / 4, by omega⟩ : Fin 2) d : Reference4Ideal.S2048x4x2x1024.Idx) (fun b => by
    match b with | ⟨0, _⟩ => rfl | ⟨1, _⟩ => rfl | ⟨2, _⟩ => rfl | ⟨3, _⟩ => rfl)]
  rw [shapeCast_apply _ _ _ (ix2 r (col s d) : Reference4Ideal.S2048x8192.Idx) (by
    rw [Shape.rowMajor_val_four, Shape.rowMajor_val_two]
    show r.val * 8192 + ((2 * (s.val % 4) + s.val / 4) * 1024 + d.val) = ((r.val * 4 + s.val % 4) * 2 + s.val / 4) * 1024 + d.val
    omega)]
  exact transpose_apply _ _ _ _ (ix2 (col s d) r : Reference4Ideal.S8192x2048.Idx) (fun b => by
    match b with | ⟨0, _⟩ => rfl | ⟨1, _⟩ => rfl)

/-- The reference's product, entry by entry. -/
theorem product (q : S8192x8192.Idx → EReal) (h : S8192x2048.Idx → EReal) (C : Fin 8192) (j : Fin 2048) :
    (Host.dotGeneral (F := Ideal) (φ₁ := .f32) (φ₂ := .f32) Reference4Ideal.dot_S8192x8192_S8192x2048_S8192x2048_0_0_1_1_n_n none q h
      : Reference4Ideal.S8192x2048.Idx → EReal) (ix2 C j) = ∑ k : Fin 8192, h (ix2 k j) * q (ix2 k C) := by
  refine (Ideal.dotGeneral_apply _ _ _ _ _ (ix2 C j)).trans ?_
  rw [← Equiv.sum_comp (contrEquiv1 Reference4Ideal.dot_S8192x8192_S8192x2048_S8192x2048_0_0_1_1_n_n 8192 rfl rfl).symm]
  refine Finset.sum_congr rfl fun k _ => (congrArg₂ (· * ·) ?_ ?_).trans (mul_comm (q (ix2 k C)) (h (ix2 k j)))
  · exact congrArg q (funext fun a => Fin.ext (match a with | ⟨0, _⟩ => rfl | ⟨1, _⟩ => rfl))
  · exact congrArg h (funext fun a => Fin.ext (match a with | ⟨0, _⟩ => rfl | ⟨1, _⟩ => rfl))

theorem algebraic : Cert.algebraic_Kernel4Ideal_Reference4Ideal := by
  intro m g m' g' _ hag
  refine ⟨fun c => (dats m 0 c).arrAt 2 cfg0.N, Value.run_blocks m g, ?_⟩
  refine (θ_run _ _ _).mono (fun r h c => ⟨(h c).1.trans ?_, (h c).2⟩) (Reference4Ideal.Value.run (F := Ideal) m' g')
  rw [(hag c).1, (hag c).2.1, (hag c).2.2.1, (hag c).2.2.2]
  refine Eq.trans ?_ (array m c).symm
  funext i
  refine (shards _ _ _ _ _ i).trans ((product _ _ _ _).trans ?_)
  show _ = G (X m c) (Y m c) i
  unfold G X Y
  rw [V_grad, V_main_arg0, ← grad_all]
  rfl

end Cert.Kernel4Ideal.Mlp

end
-- ==== Proof.Mlp.Input.lean ====
/-
  The call that makes the gradient of the block's input: its array is the reference's result.
-/
module

public import proofs.«01_k».proof.Proof.Mlp.Forms
public import proofs.«01_k».proof.Proof.Gen.Kernel5Ideal.Value
public import proofs.«01_k».proof.Proof.Gen.Reference5Ideal.Run
public import proofs.«01_k».proof.Defs
public import Idealize.ShloMosaic.Lib.Pipeline.ValueKit.Acc
public import Idealize.ShloMosaic.Lib.Pipeline.ReadBack
public import Idealize.ShloMosaic.Lib.Pipeline.ValueKit.Tiles
public import Idealize.ShloMosaic.Lib.ValueLayout
public import Idealize.ShloMosaic.Lib.ValueLayoutCasts

@[expose] public section

set_option maxRecDepth 16384

noncomputable section

namespace Cert.Kernel5Ideal.Mlp

open Cert.Kernel5Ideal Cert.Kernel5Ideal.Gen Cert.Mlp
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-! ## What the call reads -/

/-- The gradient that reaches the first product. -/
theorem V_grad : (V m c main_v18 : S8192x8192.Idx → EReal)
    = grad (m ((c.tc : Thread nD τ).loc main_arg0)) (m ((c.tc : Thread nD τ).loc main_arg1)) (m ((c.tc : Thread nD τ).loc main_arg2))
        (m ((c.tc : Thread nD τ).loc main_arg3)) := by
  rw [← grad_all]
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-- The first weight matrix in the devices' shards: blocks of its columns. -/
theorem V_weight : (V m c main_v2 : S8x2048x1024.Idx → EReal)
    = transpose S8x2048x1024 [1, 0, 2] (shapeCast S2048x8x1024 (m ((c.tc : Thread nD τ).loc main_arg1) : S2048x8192.Idx → EReal)
        shapeCasts_S2048x8192_S2048x8x1024) transposes_S2048x8x1024_S8x2048x1024_1_0_2 := by
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

theorem V_weight_apply (s : Fin 8) (j : Fin 2048) (d : Fin 1024) (K : Fin 8192) (hK : K.val = s.val * 1024 + d.val) :
    (V m c main_v2 : S8x2048x1024.Idx → EReal) (ix3 s j d) = (m ((c.tc : Thread nD τ).loc main_arg1) : S2048x8192.Idx → EReal) (ix2 j K) := by
  rw [V_weight, transpose_apply _ _ _ _ (ix3 j s d : S2048x8x1024.Idx) (fun b => by
    match b with | ⟨0, _⟩ => rfl | ⟨1, _⟩ => rfl | ⟨2, _⟩ => rfl)]
  exact shapeCast_apply _ _ _ (ix2 j K : S2048x8192.Idx) (by
    rw [Shape.rowMajor_val_three, Shape.rowMajor_val_two]
    show j.val * 8192 + K.val = (j.val * 8 + s.val) * 1024 + d.val
    omega)

/-! ## Where the blocks lie -/

theorem tr0 : ∀ t : Fin cfg0.N, cc0_transform_0 (grid0.coords t) = ![t.val / 8, t.val % 4] := by decide +kernel
theorem tr1 : ∀ t : Fin cfg0.N, cc0_transform_1 (grid0.coords t) = ![2 * (t.val % 4), t.val / 4 % 2, 0] := by decide +kernel
theorem tr2 : ∀ t : Fin cfg0.N, cc0_transform_2 (grid0.coords t) = ![2 * (t.val % 4) + 1, t.val / 4 % 2, 0] := by decide +kernel
theorem tr3 : ∀ t : Fin cfg0.N, cc0_transform_3 (grid0.coords t) = ![t.val / 8, t.val / 4 % 2] := by decide +kernel

theorem iblk0 (t : Fin cfg0.N) (r : Fin 1024) (d : Fin 2048) (R K : Fin 8192) (hR : R.val = t.val / 8 * 1024 + r.val) (hK : K.val = t.val % 4 * 2048 + d.val) :
    iblk m c 0 t (ix2 r d) = (V m c main_v18 : S8192x8192.Idx → EReal) (ix2 R K) := by
  refine congrArg (V m c main_v18) (funext fun a => Fin.ext ?_)
  match a with
  | ⟨0, _⟩ => exact at_block (Window.rect_emb_val (cfg0.win 0) t (ix2 r d) 0) (congrFun (tr0 t) 0) hR
  | ⟨1, _⟩ => exact at_block (Window.rect_emb_val (cfg0.win 0) t (ix2 r d) 1) (congrFun (tr0 t) 1) hK

theorem iblk1 (t : Fin cfg0.N) (r d : Fin 1024) (J : Fin 2048) (K : Fin 8192) (hJ : J.val = t.val / 4 % 2 * 1024 + r.val) (hK : K.val = t.val % 4 * 2048 + d.val) :
    iblk m c 1 t (ix3 (0 : Fin 1) r d) = (m ((c.tc : Thread nD τ).loc main_arg1) : S2048x8192.Idx → EReal) (ix2 J K) := by
  rw [← V_weight_apply m c (⟨2 * (t.val % 4), by omega⟩ : Fin 8) J d K (by dsimp only; omega)]
  refine congrArg (V m c main_v2) (funext fun a => Fin.ext ?_)
  match a with
  | ⟨0, _⟩ => exact (Window.rect_emb_val (cfg0.win 1) t (ix3 (0 : Fin 1) r d) 0).trans (by show cc0_transform_1 (grid0.coords t) 0 * 1 + 0 = 2 * (t.val % 4); rw [tr1]; exact Nat.mul_one _)
  | ⟨1, _⟩ => exact at_block (Window.rect_emb_val (cfg0.win 1) t (ix3 (0 : Fin 1) r d) 1) (congrFun (tr1 t) 1) hJ
  | ⟨2, _⟩ => exact at_start (Window.rect_emb_val (cfg0.win 1) t (ix3 (0 : Fin 1) r d) 2) (congrFun (tr1 t) 2)

theorem iblk2 (t : Fin cfg0.N) (r d : Fin 1024) (J : Fin 2048) (K : Fin 8192) (hJ : J.val = t.val / 4 % 2 * 1024 + r.val) (hK : K.val = t.val % 4 * 2048 + (1024 + d.val)) :
    iblk m c 2 t (ix3 (0 : Fin 1) r d) = (m ((c.tc : Thread nD τ).loc main_arg1) : S2048x8192.Idx → EReal) (ix2 J K) := by
  rw [← V_weight_apply m c (⟨2 * (t.val % 4) + 1, by omega⟩ : Fin 8) J d K (by dsimp only; omega)]
  refine congrArg (V m c main_v2) (funext fun a => Fin.ext ?_)
  match a with
  | ⟨0, _⟩ => exact (Window.rect_emb_val (cfg0.win 2) t (ix3 (0 : Fin 1) r d) 0).trans (by show cc0_transform_2 (grid0.coords t) 0 * 1 + 0 = 2 * (t.val % 4) + 1; rw [tr2]; exact Nat.mul_one _)
  | ⟨1, _⟩ => exact at_block (Window.rect_emb_val (cfg0.win 2) t (ix3 (0 : Fin 1) r d) 1) (congrFun (tr2 t) 1) hJ
  | ⟨2, _⟩ => exact at_start (Window.rect_emb_val (cfg0.win 2) t (ix3 (0 : Fin 1) r d) 2) (congrFun (tr2 t) 2)

theorem emb3 (t : Fin cfg0.N) (r d : Fin 1024) (i : S8192x2048.Idx) (h0 : (i 0).val = t.val / 8 * 1024 + r.val)
    (h1 : (i 1).val = t.val / 4 % 2 * 1024 + d.val) : ((cfg0.win 3).blk t).view.emb (ix2 r d) = i := by
  funext a
  apply Fin.ext
  match a with
  | ⟨0, _⟩ => exact at_block (Window.rect_emb_val (cfg0.win 3) t (ix2 r d) 0) (congrFun (tr3 t) 0) h0
  | ⟨1, _⟩ => exact at_block (Window.rect_emb_val (cfg0.win 3) t (ix2 r d) 1) (congrFun (tr3 t) 1) h1

/-! ## What a step leaves -/

/-- The two halves of a block's columns. -/
def lo (x : Vec Ideal S1024x2048 .bf16) : Vec Ideal S1024x1024 .bf16 :=
  View.ld (Val := Elt Ideal) (e' := .bf16) x (Rect.unit (s := S1024x2048) ![0, 0] S1024x1024.size inb_S1024x2048_S1024x1024_0_0)
def hi (x : Vec Ideal S1024x2048 .bf16) : Vec Ideal S1024x1024 .bf16 :=
  View.ld (Val := Elt Ideal) (e' := .bf16) x (Rect.unit (s := S1024x2048) ![0, 1024] S1024x1024.size inb_S1024x2048_S1024x1024_0_1024)

theorem lo_apply (x : Vec Ideal S1024x2048 .bf16) (r k : Fin 1024) : lo x (ix2 r k) = x (ix2 r (⟨k.val, by omega⟩ : Fin 2048)) :=
  View.ld_unit_apply_of (Val := Elt Ideal) (e := .bf16) x _ _ _ (ix2 r k : S1024x1024.Idx) _ (fun a => match a with | ⟨0, _⟩ => (Nat.zero_add _).symm | ⟨1, _⟩ => (Nat.zero_add _).symm)
theorem hi_apply (x : Vec Ideal S1024x2048 .bf16) (r k : Fin 1024) : hi x (ix2 r k) = x (ix2 r (⟨1024 + k.val, by omega⟩ : Fin 2048)) :=
  View.ld_unit_apply_of (Val := Elt Ideal) (e := .bf16) x _ _ _ (ix2 r k : S1024x1024.Idx) _ (fun a => match a with | ⟨0, _⟩ => (Nat.zero_add _).symm | ⟨1, _⟩ => rfl)

/-- A product over 1024 columns. -/
theorem prod (x : S1024x1024.Idx → EReal) (y : S1x1024x1024.Idx → EReal) (h : S1x1024x1024.ShapeCasts S1024x1024) (r d : Fin 1024) :
    (matmul (F := Ideal) (φ₁ := .bf16) (φ₂ := .bf16) dot_S1024x1024_S1024x1024_S1024x1024_1_1_0_0_n_n none x (shapeCast S1024x1024 y h) (constant (F := Ideal) S1024x1024 .f32 0x00000000#32)
      : S1024x1024.Idx → EReal) (ix2 r d) = ∑ k : Fin 1024, x (ix2 r k) * y (ix3 (0 : Fin 1) d k) := by
  refine (Ideal.matmul_constant_zero_apply (φ₁ := .bf16) (φ₂ := .bf16) dot_S1024x1024_S1024x1024_S1024x1024_1_1_0_0_n_n none x _ (ix2 r d)).trans ?_
  rw [← Equiv.sum_comp (contrEquiv1 dot_S1024x1024_S1024x1024_S1024x1024_1_1_0_0_n_n 1024 rfl rfl).symm]
  refine Finset.sum_congr rfl fun k _ => congrArg₂ (· * ·) ?_ ?_
  · exact congrArg x (funext fun a => Fin.ext (match a with | ⟨0, _⟩ => rfl | ⟨1, _⟩ => rfl))
  · refine Eq.trans (congrArg _ (?_ : _ = (ix2 d k : S1024x1024.Idx))) (shapeCast_1ab_ab_apply _ _ _ _)
    exact funext fun a => Fin.ext (match a with | ⟨0, _⟩ => rfl | ⟨1, _⟩ => rfl)

theorem prods (x y' : S1024x1024.Idx → EReal) (y z : S1x1024x1024.Idx → EReal) (r d : Fin 1024) :
    k0_pay1 (F := Ideal) x y y' z (ix2 r d)
      = (∑ k : Fin 1024, x (ix2 r k) * y (ix3 (0 : Fin 1) d k)) + ∑ k : Fin 1024, y' (ix2 r k) * z (ix3 (0 : Fin 1) d k) := by
  unfold k0_pay1
  rw [shapeCast_self, shapeCast_self]
  refine congrArg₂ (· + ·) (Eq.trans ?_ (zero_add _)) (prod y' z _ r d)
  exact congrArg₂ (· + ·) (show Ideal.ofBits .f32 0x00000000#32 = (0 : EReal) by simp [Ideal.ofBits, Ideal.ieee]) (prod x y _ r d)

/-- What a step adds. -/
def part (t : Fin cfg0.N) : S1024x1024.Idx → EReal := k0_pay1 (F := Ideal) (lo (iblk m c 0 t)) (iblk m c 1 t) (hi (iblk m c 0 t)) (iblk m c 2 t)

theorem left_first (t : Fin cfg0.N) (h : t.val % 4 = 0) : (outsAt0 m c t.val t.isLt).2 = part m c t := by
  rw [outsAt0_A m c t h (by omega) (by omega)]
  refine Eq.trans ?_ (shapeCast_self _ shapeCasts_S1024x1024_S1024x1024)
  frame_out [read_unread_whole]
  rfl

theorem left_middle (t : Fin cfg0.N) (h : 1 ≤ t.val % 4 ∧ t.val % 4 ≤ 2) (i : S1024x1024.Idx) :
    (outsAt0 m c t.val t.isLt).2 i = (outsAt0 m c (t.val - 1) (Nat.lt_of_le_of_lt (Nat.sub_le _ _) t.isLt)).2 i + part m c t i := by
  rw [outsAt0_B m c t (by omega) h (by omega)]
  refine congrFun (?_ : _ = k0_pay4 (F := Ideal) (lo (iblk m c 0 t)) (iblk m c 1 t) (hi (iblk m c 0 t)) (iblk m c 2 t) (outsAt0 m c (t.val - 1) (Nat.lt_of_le_of_lt (Nat.sub_le _ _) t.isLt)).2) i
  refine Eq.trans ?_ (shapeCast_self _ shapeCasts_S1024x1024_S1024x1024)
  frame_out [read_unread_whole]
  rfl

theorem out_last (t : Fin cfg0.N) (h : t.val % 4 = 3) (i : S1024x1024.Idx) :
    (outsAt0 m c t.val t.isLt).1 i = (outsAt0 m c (t.val - 1) (Nat.lt_of_le_of_lt (Nat.sub_le _ _) t.isLt)).2 i + part m c t i := by
  rw [outsAt0_C m c t (by omega) (by omega) h]
  refine congrFun (?_ : _ = k0_pay4 (F := Ideal) (lo (iblk m c 0 t)) (iblk m c 1 t) (hi (iblk m c 0 t)) (iblk m c 2 t) (outsAt0 m c (t.val - 1) (Nat.lt_of_le_of_lt (Nat.sub_le _ _) t.isLt)).2) i
  frame_out [read_unread_whole]
  rfl

/-- The two arrays multiplied, as entries. -/
def X : S8192x8192.Idx → EReal := V m c main_v18
def Y : S2048x8192.Idx → EReal := m ((c.tc : Thread nD τ).loc main_arg1)

theorem part_apply (t : Fin cfg0.N) (p : Fin 4) (hp : t.val % 4 = p.val) (r d : Fin 1024) (R : Fin 8192) (J : Fin 2048)
    (hR : R.val = t.val / 8 * 1024 + r.val) (hJ : J.val = t.val / 4 % 2 * 1024 + d.val) :
    part m c t (ix2 r d) = ∑ k : Fin 2048, X m c (ix2 R (⟨p.val * 2048 + k.val, by omega⟩ : Fin 8192)) * Y m c (ix2 J (⟨p.val * 2048 + k.val, by omega⟩ : Fin 8192)) := by
  rw [sum_two 1024 1024 rfl]
  refine (prods _ _ _ _ r d).trans (congrArg₂ (· + ·) (Finset.sum_congr rfl fun k _ => congrArg₂ (· * ·) ?_ ?_) (Finset.sum_congr rfl fun k _ => congrArg₂ (· * ·) ?_ ?_))
  · exact (lo_apply _ r k).trans (iblk0 m c t r _ _ _ hR (by rw [hp]))
  · exact iblk1 m c t d k _ _ hJ (by rw [hp])
  · exact (hi_apply _ r k).trans (iblk0 m c t r _ _ _ hR (by rw [hp]))
  · exact iblk2 m c t d k _ _ hJ (by rw [hp])

/-! ## The array after the run -/

/-- The products of the rows of `X` and of `Y`. -/
def G (X : S8192x8192.Idx → EReal) (Y : S2048x8192.Idx → EReal) : S8192x2048.Idx → EReal :=
  fun i => ∑ k : Fin 8192, X (ix2 (i 0) k) * Y (ix2 (i 1) k)

set_option maxHeartbeats 1000000 in
theorem array : (dats m 0 c).arrAt 3 cfg0.N = G (X m c) (Y m c) := by
  refine Dat.arrAt_eq_of_cover (dats m 0 c) 3 (G (X m c) (Y m c)) (fun t hf => ?_) (fun i => ?_)
  · have hN : t.val < 64 := lt_of_lt_of_eq t.isLt (show cfg0.N = 64 from N_0)
    have h3 : t.val % 4 = 3 := (flush0_3 t).1 hf
    have q1 : t.val - 1 < cfg0.N := Nat.lt_of_le_of_lt (Nat.sub_le _ _) t.isLt
    have q2 : t.val - 1 - 1 < cfg0.N := Nat.lt_of_le_of_lt (Nat.sub_le _ _) q1
    have q3 : t.val - 1 - 1 - 1 < cfg0.N := Nat.lt_of_le_of_lt (Nat.sub_le _ _) q2
    rw [Value.flushed3]
    funext j
    obtain ⟨r, d, rfl⟩ : ∃ r d : Fin 1024, j = (ix2 r d : S1024x1024.Idx) := ⟨j 0, j 1, (eq_ix2 j)⟩
    have ee := emb3 t r d (ix2 (⟨t.val / 8 * 1024 + r.val, by omega⟩ : Fin 8192) (⟨t.val / 4 % 2 * 1024 + d.val, by omega⟩ : Fin 2048)) rfl rfl
    show (outsAt0 m c t.val t.isLt).1 (ix2 r d) = G _ _ (((cfg0.win 3).blk t).view.emb (ix2 r d))
    rw [ee]
    refine Eq.trans ?_ (sum_quarters (fun k => X m c (ix2 (⟨t.val / 8 * 1024 + r.val, by omega⟩ : Fin 8192) k)
      * Y m c (ix2 (⟨t.val / 4 % 2 * 1024 + d.val, by omega⟩ : Fin 2048) k))).symm
    refine (out_last m c t h3 _).trans (congrArg₂ (· + ·) ?_ (part_apply m c t 3 h3 r d _ _ rfl rfl))
    refine (left_middle m c ⟨t.val - 1, q1⟩ (by dsimp only; omega) _).trans (congrArg₂ (· + ·) ?_ (part_apply m c ⟨t.val - 1, q1⟩ 2 (by show (t.val - 1) % 4 = 2; omega) r d _ _
      (by dsimp only; omega) (by dsimp only; omega)))
    refine (left_middle m c ⟨t.val - 1 - 1, q2⟩ (by dsimp only; omega) _).trans (congrArg₂ (· + ·) ?_ (part_apply m c ⟨t.val - 1 - 1, q2⟩ 1 (by show (t.val - 1 - 1) % 4 = 1; omega) r d _ _
      (by dsimp only; omega) (by dsimp only; omega)))
    exact (congrFun (left_first m c ⟨t.val - 1 - 1 - 1, q3⟩ (by dsimp only; omega)) _).trans (part_apply m c ⟨t.val - 1 - 1 - 1, q3⟩ 0 (by show (t.val - 1 - 1 - 1) % 4 = 0; omega) r d _ _
      (by dsimp only; omega) (by dsimp only; omega))
  · have h0 : (i 0).val < 8192 := (i 0).isLt
    have h1 : (i 1).val < 2048 := (i 1).isLt
    have hq : (i 0).val / 1024 * 8 + (i 1).val / 1024 * 4 + 3 < cfg0.N := by
      rw [show cfg0.N = 64 from N_0]; omega
    refine ⟨⟨(i 0).val / 1024 * 8 + (i 1).val / 1024 * 4 + 3, hq⟩, (flush0_3 _).2 (by dsimp only; omega), ?_⟩
    exact mem_of_emb _ (emb3 ⟨_, hq⟩ (⟨(i 0).val % 1024, Nat.mod_lt _ (by norm_num)⟩ : Fin 1024) (⟨(i 1).val % 1024, Nat.mod_lt _ (by norm_num)⟩ : Fin 1024) i
      (by dsimp only; omega) (by dsimp only; omega))

/-- The reference's product, entry by entry. -/
theorem product (q : S8192x8192.Idx → EReal) (w : S2048x8192.Idx → EReal) (R : Fin 8192) (j : Fin 2048) :
    (Host.dotGeneral (F := Ideal) (φ₁ := .f32) (φ₂ := .f32) Reference5Ideal.dot_S8192x8192_S2048x8192_S8192x2048_1_1_0_0_n_n none q w
      : Reference5Ideal.S8192x2048.Idx → EReal) (ix2 R j) = ∑ k : Fin 8192, q (ix2 R k) * w (ix2 j k) := by
  refine (Ideal.dotGeneral_apply _ _ _ _ _ (ix2 R j)).trans ?_
  rw [← Equiv.sum_comp (contrEquiv1 Reference5Ideal.dot_S8192x8192_S2048x8192_S8192x2048_1_1_0_0_n_n 8192 rfl rfl).symm]
  refine Finset.sum_congr rfl fun k _ => congrArg₂ (· * ·) ?_ ?_
  · exact congrArg q (funext fun a => Fin.ext (match a with | ⟨0, _⟩ => rfl | ⟨1, _⟩ => rfl))
  · exact congrArg w (funext fun a => Fin.ext (match a with | ⟨0, _⟩ => rfl | ⟨1, _⟩ => rfl))

theorem algebraic : Cert.algebraic_Kernel5Ideal_Reference5Ideal := by
  intro m g m' g' _ hag
  refine ⟨fun c => (dats m 0 c).arrAt 3 cfg0.N, Value.run_blocks m g, ?_⟩
  refine (θ_run _ _ _).mono (fun r h c => ⟨(h c).1.trans ?_, (h c).2⟩) (Reference5Ideal.Value.run (F := Ideal) m' g')
  rw [(hag c).1, (hag c).2.1, (hag c).2.2.1, (hag c).2.2.2]
  refine Eq.trans ?_ (array m c).symm
  funext i
  obtain ⟨r, j, rfl⟩ : ∃ (r : Fin 8192) (j : Fin 2048), i = (ix2 r j : S8192x2048.Idx) := ⟨i 0, i 1, (eq_ix2 i)⟩
  refine (product _ _ r j).trans ?_
  show _ = G (X m c) (Y m c) (ix2 r j)
  unfold G X Y
  rw [V_grad, ← grad_all]
  rfl

end Cert.Kernel5Ideal.Mlp

end
-- ==== Proof.Mlp.Up.lean ====
/-
  The call that makes the hidden layer: its two arrays are the reference's results.
-/
module

public import proofs.«01_k».proof.Proof.Mlp.Forms
public import proofs.«01_k».proof.Proof.Gen.Kernel6Ideal.Value
public import proofs.«01_k».proof.Proof.Gen.Reference6Ideal.Run
public import proofs.«01_k».proof.Defs
public import Idealize.ShloMosaic.Lib.Pipeline.ValueKit.Acc
public import Idealize.ShloMosaic.Lib.ValueLayout
public import Idealize.ShloMosaic.Lib.ValueLayoutCasts

@[expose] public section

set_option maxRecDepth 16384

noncomputable section

namespace Cert.Kernel6Ideal.Mlp

open Cert.Kernel6Ideal Cert.Kernel6Ideal.Gen Cert.Mlp
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-! ## What the call reads -/

/-- The first weight matrix in the devices' shards: blocks of its columns. -/
theorem V_weight : (V m c main_v2 : S8x2048x1024.Idx → EReal)
    = transpose S8x2048x1024 [1, 0, 2] (shapeCast S2048x8x1024 (m ((c.tc : Thread nD τ).loc main_arg1) : S2048x8192.Idx → EReal)
        shapeCasts_S2048x8192_S2048x8x1024) transposes_S2048x8x1024_S8x2048x1024_1_0_2 := by
  show StableHlo.after _ _ _ = _
  simp only [hostOps0, List.flatten_cons, List.flatten_nil, List.append_nil, List.cons_append, List.nil_append,
    TRef.binary, TRef.nullary, TRef.unary, TRef.toBuf, TRef.ofBuf, cast_eq]
  after_results <;> rfl

theorem V_weight_apply (s : Fin 8) (j : Fin 2048) (d : Fin 1024) (K : Fin 8192) (hK : K.val = s.val * 1024 + d.val) :
    (V m c main_v2 : S8x2048x1024.Idx → EReal) (ix3 s j d) = (m ((c.tc : Thread nD τ).loc main_arg1) : S2048x8192.Idx → EReal) (ix2 j K) := by
  rw [V_weight, transpose_apply _ _ _ _ (ix3 j s d : S2048x8x1024.Idx) (fun b => by
    match b with | ⟨0, _⟩ => rfl | ⟨1, _⟩ => rfl | ⟨2, _⟩ => rfl)]
  exact shapeCast_apply _ _ _ (ix2 j K : S2048x8192.Idx) (by
    rw [Shape.rowMajor_val_three, Shape.rowMajor_val_two]
    show j.val * 8192 + K.val = (j.val * 8 + s.val) * 1024 + d.val
    omega)

/-! ## Where the blocks lie -/

theorem tr0 : ∀ t : Fin cfg0.N, cc0_transform_0 (grid0.coords t) = ![t.val / 8, 0] := by decide +kernel
theorem tr1 : ∀ t : Fin cfg0.N, cc0_transform_1 (grid0.coords t) = ![t.val % 8, 0, 0] := by decide +kernel
theorem tr2 : ∀ t : Fin cfg0.N, cc0_transform_2 (grid0.coords t) = ![t.val / 8, t.val % 8] := by decide +kernel
theorem tr3 : ∀ t : Fin cfg0.N, cc0_transform_3 (grid0.coords t) = ![t.val / 8, t.val % 8] := by decide +kernel

theorem iblk0 (t : Fin cfg0.N) (r : Fin 1024) (d : Fin 2048) (R : Fin 8192) (hR : R.val = t.val / 8 * 1024 + r.val) :
    iblk m c 0 t (ix2 r d) = (m ((c.tc : Thread nD τ).loc main_arg0) : S8192x2048.Idx → EReal) (ix2 R d) := by
  refine Eq.trans ?_ (congrFun (V_main_arg0 m c) (ix2 R d))
  refine congrArg (V m c main_arg0) (funext fun a => Fin.ext ?_)
  match a with
  | ⟨0, _⟩ => exact at_block (Window.rect_emb_val (cfg0.win 0) t (ix2 r d) 0) (congrFun (tr0 t) 0) hR
  | ⟨1, _⟩ => exact at_start (Window.rect_emb_val (cfg0.win 0) t (ix2 r d) 1) (congrFun (tr0 t) 1)

theorem iblk1 (t : Fin cfg0.N) (r : Fin 2048) (d : Fin 1024) (C : Fin 8192) (hC : C.val = t.val % 8 * 1024 + d.val) :
    iblk m c 1 t (ix3 (0 : Fin 1) r d) = (m ((c.tc : Thread nD τ).loc main_arg1) : S2048x8192.Idx → EReal) (ix2 r C) := by
  rw [← V_weight_apply m c (⟨t.val % 8, by omega⟩ : Fin 8) r d C (by dsimp only; omega)]
  refine congrArg (V m c main_v2) (funext fun a => Fin.ext ?_)
  match a with
  | ⟨0, _⟩ => exact (Window.rect_emb_val (cfg0.win 1) t (ix3 (0 : Fin 1) r d) 0).trans (by show cc0_transform_1 (grid0.coords t) 0 * 1 + 0 = t.val % 8; rw [tr1]; exact Nat.mul_one _)
  | ⟨1, _⟩ => exact at_start (Window.rect_emb_val (cfg0.win 1) t (ix3 (0 : Fin 1) r d) 1) (congrFun (tr1 t) 1)
  | ⟨2, _⟩ => exact at_start (Window.rect_emb_val (cfg0.win 1) t (ix3 (0 : Fin 1) r d) 2) (congrFun (tr1 t) 2)

theorem emb2 (t : Fin cfg0.N) (r d : Fin 1024) (i : S8192x8192.Idx) (h0 : (i 0).val = t.val / 8 * 1024 + r.val)
    (h1 : (i 1).val = t.val % 8 * 1024 + d.val) : ((cfg0.win 2).blk t).view.emb (ix2 r d) = i := by
  funext a
  apply Fin.ext
  match a with
  | ⟨0, _⟩ => exact at_block (Window.rect_emb_val (cfg0.win 2) t (ix2 r d) 0) (congrFun (tr2 t) 0) h0
  | ⟨1, _⟩ => exact at_block (Window.rect_emb_val (cfg0.win 2) t (ix2 r d) 1) (congrFun (tr2 t) 1) h1

theorem emb3 (t : Fin cfg0.N) (r d : Fin 1024) (i : S8192x8192.Idx) (h0 : (i 0).val = t.val / 8 * 1024 + r.val)
    (h1 : (i 1).val = t.val % 8 * 1024 + d.val) : ((cfg0.win 3).blk t).view.emb (ix2 r d) = i := by
  funext a
  apply Fin.ext
  match a with
  | ⟨0, _⟩ => exact at_block (Window.rect_emb_val (cfg0.win 3) t (ix2 r d) 0) (congrFun (tr3 t) 0) h0
  | ⟨1, _⟩ => exact at_block (Window.rect_emb_val (cfg0.win 3) t (ix2 r d) 1) (congrFun (tr3 t) 1) h1

/-! ## What a step leaves -/

theorem prod (x : S1024x2048.Idx → EReal) (y : S1x2048x1024.Idx → EReal) (r d : Fin 1024) :
    k0_pay1 (F := Ideal) x y (ix2 r d) = max (∑ k : Fin 2048, x (ix2 r k) * y (ix3 (0 : Fin 1) k d)) 0 := by
  unfold k0_pay1
  refine congrArg₂ max ?_ (show Ideal.ofBits .f32 0x00000000#32 = (0 : EReal) by simp [Ideal.ofBits, Ideal.ieee])
  refine (Ideal.matmul_constant_zero_apply (φ₁ := .bf16) (φ₂ := .bf16) dot_S1024x2048_S2048x1024_S1024x1024_1_0_0_1_n_n none x _ (ix2 r d)).trans ?_
  rw [← Equiv.sum_comp (contrEquiv1 dot_S1024x2048_S2048x1024_S1024x1024_1_0_0_1_n_n 2048 rfl rfl).symm]
  refine Finset.sum_congr rfl fun k _ => congrArg₂ (· * ·) ?_ ?_
  · exact congrArg x (funext fun a => Fin.ext (match a with | ⟨0, _⟩ => rfl | ⟨1, _⟩ => rfl))
  · refine Eq.trans (congrArg _ (?_ : _ = (ix2 k d : S2048x1024.Idx))) (shapeCast_1ab_ab_apply _ _ _ _)
    exact funext fun a => Fin.ext (match a with | ⟨0, _⟩ => rfl | ⟨1, _⟩ => rfl)

theorem left2 (t : Fin cfg0.N) : (dats m 0 c).after 2 t = k0_pay2 (iblk m c 0 t) (iblk m c 1 t) := by
  rw [after0_2]
  frame_out

theorem left3 (t : Fin cfg0.N) : (dats m 0 c).after 3 t = k0_pay3 (iblk m c 0 t) (iblk m c 1 t) := by
  rw [after0_3]
  frame_out

/-- The hidden layer of the arguments. -/
def A : S8192x8192.Idx → EReal := act (m ((c.tc : Thread nD τ).loc main_arg0)) (m ((c.tc : Thread nD τ).loc main_arg1))

theorem step (t : Fin cfg0.N) (r d : Fin 1024) (R C : Fin 8192) (hR : R.val = t.val / 8 * 1024 + r.val) (hC : C.val = t.val % 8 * 1024 + d.val) :
    k0_pay1 (F := Ideal) (iblk m c 0 t) (iblk m c 1 t) (ix2 r d) = A m c (ix2 R C) := by
  refine (prod _ _ r d).trans (congrArg (max · 0) (Finset.sum_congr rfl fun k _ => congrArg₂ (· * ·) ?_ ?_))
  · exact iblk0 m c t r k R hR
  · exact iblk1 m c t k d C hC

/-! ## The arrays after the run -/

/-- Every entry lies in the block of some step. -/
theorem covered (i : S8192x8192.Idx) : ∃ (t : Fin cfg0.N) (r d : Fin 1024), (i 0).val = t.val / 8 * 1024 + r.val ∧ (i 1).val = t.val % 8 * 1024 + d.val := by
  have h0 : (i 0).val < 8192 := (i 0).isLt
  have h1 : (i 1).val < 8192 := (i 1).isLt
  have hq : (i 0).val / 1024 * 8 + (i 1).val / 1024 < cfg0.N := by
    rw [show cfg0.N = 64 from N_0]; omega
  exact ⟨⟨(i 0).val / 1024 * 8 + (i 1).val / 1024, hq⟩, ⟨(i 0).val % 1024, Nat.mod_lt _ (by norm_num)⟩, ⟨(i 1).val % 1024, Nat.mod_lt _ (by norm_num)⟩,
    by dsimp only; omega, by dsimp only; omega⟩

set_option maxHeartbeats 1000000 in
theorem array2 : (dats m 0 c).arrAt 2 cfg0.N = A m c := by
  refine Dat.arrAt_eq_of_cover (dats m 0 c) 2 (A m c) (fun t hf => ?_) (fun i => ?_)
  · have hN : t.val < 64 := lt_of_lt_of_eq t.isLt (show cfg0.N = 64 from N_0)
    show (cfg0.win 2).cut (grid0.coords t) ((dats m 0 c).after 2 t) = _
    rw [left2]
    funext j
    obtain ⟨r, d, rfl⟩ : ∃ r d : Fin 1024, j = (ix2 r d : S1024x1024.Idx) := ⟨j 0, j 1, (eq_ix2 j)⟩
    have ee := emb2 t r d (ix2 (⟨t.val / 8 * 1024 + r.val, by omega⟩ : Fin 8192) (⟨t.val % 8 * 1024 + d.val, by omega⟩ : Fin 8192)) rfl rfl
    show k0_pay1 (F := Ideal) _ _ (ix2 r d) = A m c (((cfg0.win 2).blk t).view.emb (ix2 r d))
    rw [ee]
    exact step m c t r d _ _ rfl rfl
  · obtain ⟨t, r, d, h0, h1⟩ := covered i
    exact ⟨t, flush0_2 t, mem_of_emb _ (emb2 t r d i h0 h1)⟩

set_option maxHeartbeats 1000000 in
theorem array3 : (dats m 0 c).arrAt 3 cfg0.N = fun i => A m c i * A m c i := by
  refine Dat.arrAt_eq_of_cover (dats m 0 c) 3 (fun i => A m c i * A m c i) (fun t hf => ?_) (fun i => ?_)
  · have hN : t.val < 64 := lt_of_lt_of_eq t.isLt (show cfg0.N = 64 from N_0)
    show (cfg0.win 3).cut (grid0.coords t) ((dats m 0 c).after 3 t) = _
    rw [left3]
    funext j
    obtain ⟨r, d, rfl⟩ : ∃ r d : Fin 1024, j = (ix2 r d : S1024x1024.Idx) := ⟨j 0, j 1, (eq_ix2 j)⟩
    have ee := emb3 t r d (ix2 (⟨t.val / 8 * 1024 + r.val, by omega⟩ : Fin 8192) (⟨t.val % 8 * 1024 + d.val, by omega⟩ : Fin 8192)) rfl rfl
    have s := step m c t r d (⟨t.val / 8 * 1024 + r.val, by omega⟩ : Fin 8192) (⟨t.val % 8 * 1024 + d.val, by omega⟩ : Fin 8192) rfl rfl
    show k0_pay1 (F := Ideal) _ _ (ix2 r d) * k0_pay1 (F := Ideal) _ _ (ix2 r d)
      = A m c (((cfg0.win 3).blk t).view.emb (ix2 r d)) * A m c (((cfg0.win 3).blk t).view.emb (ix2 r d))
    rw [ee]
    exact congrArg₂ (· * ·) s s
  · obtain ⟨t, r, d, h0, h1⟩ := covered i
    exact ⟨t, flush0_3 t, mem_of_emb _ (emb3 t r d i h0 h1)⟩

theorem algebraic : Cert.algebraic_Kernel6Ideal_Reference6Ideal := by
  intro m g m' g' _ hag
  refine ⟨fun c => (dats m 0 c).arrAt 2 cfg0.N, fun c => (dats m 0 c).arrAt 3 cfg0.N, Value.run_blocks m g, ?_⟩
  refine (θ_run _ _ _).mono (fun r h c => ⟨(h c).1.trans ?_, (h c).2.1.trans ?_, (h c).2.2⟩) (Reference6Ideal.Value.run (F := Ideal) m' g')
  · rw [(hag c).1, (hag c).2]
    refine Eq.trans ?_ (array2 m c).symm
    exact act_eq _ _
  · rw [(hag c).1, (hag c).2]
    refine Eq.trans ?_ (array3 m c).symm
    have e := act_eq (m ((c.tc : Thread nD τ).loc main_arg0)) (m ((c.tc : Thread nD τ).loc main_arg1))
    exact funext fun i => congrArg₂ (· * ·) (congrFun e i) (congrFun e i)

end Cert.Kernel6Ideal.Mlp

end
-- ==== Proof.Mlp.Output.lean ====
/-
  The call that makes the block's output: its array is the reference's result.
-/
module

public import proofs.«01_k».proof.Proof.Mlp.Forms
public import proofs.«01_k».proof.Proof.Gen.Kernel7Ideal.Value
public import proofs.«01_k».proof.Proof.Gen.Reference7Ideal.Run
public import proofs.«01_k».proof.Defs
public import Idealize.ShloMosaic.Lib.Pipeline.ValueKit.Acc
public import Idealize.ShloMosaic.Lib.Pipeline.ReadBack
public import Idealize.ShloMosaic.Lib.ValueLayout
public import Idealize.ShloMosaic.Lib.ValueLayoutCasts

@[expose] public section

set_option maxRecDepth 16384

noncomputable section

namespace Cert.Kernel7Ideal.Mlp

open Cert.Kernel7Ideal Cert.Kernel7Ideal.Gen Cert.Mlp
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (c : Dev nD)

/-! ## What the call reads -/

/-- The square that the call before made. -/
theorem V_square : (V m c main_v5 : S8192x8192.Idx → EReal)
    = fun i => act (m ((c.tc : Thread nD τ).loc main_arg0)) (m ((c.tc : Thread nD τ).loc main_arg1)) i
        * act (m ((c.tc : Thread nD τ).loc main_arg0)) (m ((c.tc : Thread nD τ).loc main_arg1)) i := by
  rw [← act_eq]
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-- The second weight matrix, under a leading axis of one. -/
theorem V_weight : (V m c main_v7 : S1x8192x2048.Idx → EReal)
    = broadcastInDim S1x8192x2048 ![1, 2] bcast_S8192x2048_S1x8192x2048_1_2 (m ((c.tc : Thread nD τ).loc main_arg2) : S8192x2048.Idx → EReal) := by
  show StableHlo.after _ _ _ = _
  simp only [hostOps0, hostOps0_1, hostOps0_2, List.flatten_cons, List.flatten_nil, List.append_nil, List.cons_append, List.nil_append,
    TRef.binary, TRef.nullary, TRef.unary, TRef.toBuf, TRef.ofBuf, cast_eq]
  after_results <;> rfl

/-! ## Where the blocks lie -/

theorem tr0 : ∀ t : Fin cfg0.N, cc0_transform_0 (grid0.coords t) = ![t.val / 8, t.val % 4] := by decide +kernel
theorem tr1 : ∀ t : Fin cfg0.N, cc0_transform_1 (grid0.coords t) = ![0, t.val % 4, t.val / 4 % 2] := by decide +kernel
theorem tr2 : ∀ t : Fin cfg0.N, cc0_transform_2 (grid0.coords t) = ![t.val / 8, t.val / 4 % 2] := by decide +kernel
theorem tr3 : ∀ t : Fin cfg0.N, cc0_transform_3 (grid0.coords t) = ![t.val / 8, t.val / 4 % 2] := by decide +kernel

theorem iblk0 (t : Fin cfg0.N) (r : Fin 1024) (d : Fin 2048) (R K : Fin 8192) (hR : R.val = t.val / 8 * 1024 + r.val) (hK : K.val = t.val % 4 * 2048 + d.val) :
    iblk m c 0 t (ix2 r d) = (V m c main_v5 : S8192x8192.Idx → EReal) (ix2 R K) := by
  refine congrArg (V m c main_v5) (funext fun a => Fin.ext ?_)
  match a with
  | ⟨0, _⟩ => exact at_block (Window.rect_emb_val (cfg0.win 0) t (ix2 r d) 0) (congrFun (tr0 t) 0) hR
  | ⟨1, _⟩ => exact at_block (Window.rect_emb_val (cfg0.win 0) t (ix2 r d) 1) (congrFun (tr0 t) 1) hK

theorem iblk1 (t : Fin cfg0.N) (r : Fin 2048) (d : Fin 1024) (K : Fin 8192) (J : Fin 2048) (hK : K.val = t.val % 4 * 2048 + r.val) (hJ : J.val = t.val / 4 % 2 * 1024 + d.val) :
    iblk m c 1 t (ix3 (0 : Fin 1) r d) = (m ((c.tc : Thread nD τ).loc main_arg2) : S8192x2048.Idx → EReal) (ix2 K J) := by
  have e : iblk m c 1 t (ix3 (0 : Fin 1) r d) = (V m c main_v7 : S1x8192x2048.Idx → EReal) (ix3 (0 : Fin 1) K J) := by
    refine congrArg (V m c main_v7) (funext fun a => Fin.ext ?_)
    match a with
    | ⟨0, _⟩ => exact (Window.rect_emb_val (cfg0.win 1) t (ix3 (0 : Fin 1) r d) 0).trans (by show cc0_transform_1 (grid0.coords t) 0 * 1 + 0 = 0; rw [tr1]; rfl)
    | ⟨1, _⟩ => exact at_block (Window.rect_emb_val (cfg0.win 1) t (ix3 (0 : Fin 1) r d) 1) (congrFun (tr1 t) 1) hK
    | ⟨2, _⟩ => exact at_block (Window.rect_emb_val (cfg0.win 1) t (ix3 (0 : Fin 1) r d) 2) (congrFun (tr1 t) 2) hJ
  rw [e, V_weight]
  exact congrArg (m ((c.tc : Thread nD τ).loc main_arg2) : S8192x2048.Idx → EReal) (funext fun a => Fin.ext (match a with | ⟨0, _⟩ => rfl | ⟨1, _⟩ => rfl))

theorem iblk2 (t : Fin cfg0.N) (r d : Fin 1024) (R : Fin 8192) (J : Fin 2048) (hR : R.val = t.val / 8 * 1024 + r.val) (hJ : J.val = t.val / 4 % 2 * 1024 + d.val) :
    iblk m c 2 t (ix2 r d) = (m ((c.tc : Thread nD τ).loc main_arg3) : S8192x2048.Idx → EReal) (ix2 R J) := by
  refine Eq.trans ?_ (congrFun (V_main_arg3 m c) (ix2 R J))
  refine congrArg (V m c main_arg3) (funext fun a => Fin.ext ?_)
  match a with
  | ⟨0, _⟩ => exact at_block (Window.rect_emb_val (cfg0.win 2) t (ix2 r d) 0) (congrFun (tr2 t) 0) hR
  | ⟨1, _⟩ => exact at_block (Window.rect_emb_val (cfg0.win 2) t (ix2 r d) 1) (congrFun (tr2 t) 1) hJ

theorem emb3 (t : Fin cfg0.N) (r d : Fin 1024) (i : S8192x2048.Idx) (h0 : (i 0).val = t.val / 8 * 1024 + r.val)
    (h1 : (i 1).val = t.val / 4 % 2 * 1024 + d.val) : ((cfg0.win 3).blk t).view.emb (ix2 r d) = i := by
  funext a
  apply Fin.ext
  match a with
  | ⟨0, _⟩ => exact at_block (Window.rect_emb_val (cfg0.win 3) t (ix2 r d) 0) (congrFun (tr3 t) 0) h0
  | ⟨1, _⟩ => exact at_block (Window.rect_emb_val (cfg0.win 3) t (ix2 r d) 1) (congrFun (tr3 t) 1) h1

/-! ## What a step leaves -/

/-- A product over 2048 columns. -/
theorem prod (x : S1024x2048.Idx → EReal) (y : S1x2048x1024.Idx → EReal) (r d : Fin 1024) :
    k0_pay1 (F := Ideal) x y (ix2 r d) = ∑ k : Fin 2048, x (ix2 r k) * y (ix3 (0 : Fin 1) k d) := by
  unfold k0_pay1
  rw [shapeCast_self]
  refine (Ideal.matmul_constant_zero_apply (φ₁ := .bf16) (φ₂ := .bf16) dot_S1024x2048_S2048x1024_S1024x1024_1_0_0_1_n_n none x _ (ix2 r d)).trans ?_
  rw [← Equiv.sum_comp (contrEquiv1 dot_S1024x2048_S2048x1024_S1024x1024_1_0_0_1_n_n 2048 rfl rfl).symm]
  refine Finset.sum_congr rfl fun k _ => congrArg₂ (· * ·) ?_ ?_
  · exact congrArg x (funext fun a => Fin.ext (match a with | ⟨0, _⟩ => rfl | ⟨1, _⟩ => rfl))
  · refine Eq.trans (congrArg _ (?_ : _ = (ix2 k d : S2048x1024.Idx))) (shapeCast_1ab_ab_apply _ _ _ _)
    exact funext fun a => Fin.ext (match a with | ⟨0, _⟩ => rfl | ⟨1, _⟩ => rfl)

/-- What a step adds. -/
def part (t : Fin cfg0.N) : S1024x1024.Idx → EReal := k0_pay1 (F := Ideal) (iblk m c 0 t) (iblk m c 1 t)

theorem left_first (t : Fin cfg0.N) (h : t.val % 4 = 0) : (outsAt0 m c t.val t.isLt).2 = part m c t := by
  rw [outsAt0_A m c t h (by omega) (by omega)]
  refine Eq.trans (?_ : _ = k0_pay2 (F := Ideal) (iblk m c 0 t) (iblk m c 1 t)) (shapeCast_self _ shapeCasts_S1024x1024_S1024x1024)
  frame_out [read_unread_whole]

theorem left_middle (t : Fin cfg0.N) (h : 1 ≤ t.val % 4 ∧ t.val % 4 ≤ 2) (i : S1024x1024.Idx) :
    (outsAt0 m c t.val t.isLt).2 i = (outsAt0 m c (t.val - 1) (Nat.lt_of_le_of_lt (Nat.sub_le _ _) t.isLt)).2 i + part m c t i := by
  rw [outsAt0_B m c t (by omega) h (by omega)]
  refine congrFun (Eq.trans (?_ : _ = k0_pay3 (F := Ideal) (iblk m c 0 t) (iblk m c 1 t) (outsAt0 m c (t.val - 1) (Nat.lt_of_le_of_lt (Nat.sub_le _ _) t.isLt)).2)
    (shapeCast_self _ shapeCasts_S1024x1024_S1024x1024)) i
  frame_out [read_unread_whole]

theorem out_last (t : Fin cfg0.N) (h : t.val % 4 = 3) (i : S1024x1024.Idx) :
    (outsAt0 m c t.val t.isLt).1 i = (outsAt0 m c (t.val - 1) (Nat.lt_of_le_of_lt (Nat.sub_le _ _) t.isLt)).2 i + part m c t i + (iblk m c 2 t : S1024x1024.Idx → EReal) i := by
  rw [outsAt0_C m c t (by omega) (by omega) h]
  refine congrFun (?_ : _ = k0_pay4 (F := Ideal) (iblk m c 0 t) (iblk m c 1 t) (outsAt0 m c (t.val - 1) (Nat.lt_of_le_of_lt (Nat.sub_le _ _) t.isLt)).2 (iblk m c 2 t)) i
  frame_out [read_unread_whole]

/-- The arrays, as entries. -/
def X : S8192x8192.Idx → EReal := V m c main_v5
def Y : S8192x2048.Idx → EReal := m ((c.tc : Thread nD τ).loc main_arg2)
def Z : S8192x2048.Idx → EReal := m ((c.tc : Thread nD τ).loc main_arg3)

theorem part_apply (t : Fin cfg0.N) (p : Fin 4) (hp : t.val % 4 = p.val) (r d : Fin 1024) (R : Fin 8192) (J : Fin 2048)
    (hR : R.val = t.val / 8 * 1024 + r.val) (hJ : J.val = t.val / 4 % 2 * 1024 + d.val) :
    part m c t (ix2 r d) = ∑ k : Fin 2048, X m c (ix2 R (⟨p.val * 2048 + k.val, by omega⟩ : Fin 8192)) * Y m c (ix2 (⟨p.val * 2048 + k.val, by omega⟩ : Fin 8192) J) := by
  refine (prod _ _ r d).trans (Finset.sum_congr rfl fun k _ => congrArg₂ (· * ·) ?_ ?_)
  · exact iblk0 m c t r k _ _ hR (by rw [hp])
  · exact iblk1 m c t k d _ _ (by rw [hp]) hJ

/-! ## The array after the run -/

/-- The products of the rows of `X` and the columns of `Y`, on top of `Z`. -/
def G (X : S8192x8192.Idx → EReal) (Y Z : S8192x2048.Idx → EReal) : S8192x2048.Idx → EReal :=
  fun i => (∑ k : Fin 8192, X (ix2 (i 0) k) * Y (ix2 k (i 1))) + Z i

set_option maxHeartbeats 1000000 in
theorem array : (dats m 0 c).arrAt 3 cfg0.N = G (X m c) (Y m c) (Z m c) := by
  refine Dat.arrAt_eq_of_cover (dats m 0 c) 3 (G (X m c) (Y m c) (Z m c)) (fun t hf => ?_) (fun i => ?_)
  · have hN : t.val < 64 := lt_of_lt_of_eq t.isLt (show cfg0.N = 64 from N_0)
    have h3 : t.val % 4 = 3 := (flush0_3 t).1 hf
    have q1 : t.val - 1 < cfg0.N := Nat.lt_of_le_of_lt (Nat.sub_le _ _) t.isLt
    have q2 : t.val - 1 - 1 < cfg0.N := Nat.lt_of_le_of_lt (Nat.sub_le _ _) q1
    have q3 : t.val - 1 - 1 - 1 < cfg0.N := Nat.lt_of_le_of_lt (Nat.sub_le _ _) q2
    rw [Value.flushed3]
    funext j
    obtain ⟨r, d, rfl⟩ : ∃ r d : Fin 1024, j = (ix2 r d : S1024x1024.Idx) := ⟨j 0, j 1, (eq_ix2 j)⟩
    have ee := emb3 t r d (ix2 (⟨t.val / 8 * 1024 + r.val, by omega⟩ : Fin 8192) (⟨t.val / 4 % 2 * 1024 + d.val, by omega⟩ : Fin 2048)) rfl rfl
    show (outsAt0 m c t.val t.isLt).1 (ix2 r d) = G _ _ _ (((cfg0.win 3).blk t).view.emb (ix2 r d))
    rw [ee]
    refine (out_last m c t h3 _).trans (congrArg₂ (· + ·) ?_ (iblk2 m c t r d _ _ rfl rfl))
    refine Eq.trans ?_ (sum_quarters (fun k => X m c (ix2 (⟨t.val / 8 * 1024 + r.val, by omega⟩ : Fin 8192) k)
      * Y m c (ix2 k (⟨t.val / 4 % 2 * 1024 + d.val, by omega⟩ : Fin 2048)))).symm
    refine (congrArg₂ (· + ·) ?_ (part_apply m c t 3 h3 r d _ _ rfl rfl))
    refine (left_middle m c ⟨t.val - 1, q1⟩ (by dsimp only; omega) _).trans (congrArg₂ (· + ·) ?_ (part_apply m c ⟨t.val - 1, q1⟩ 2 (by show (t.val - 1) % 4 = 2; omega) r d _ _
      (by dsimp only; omega) (by dsimp only; omega)))
    refine (left_middle m c ⟨t.val - 1 - 1, q2⟩ (by dsimp only; omega) _).trans (congrArg₂ (· + ·) ?_ (part_apply m c ⟨t.val - 1 - 1, q2⟩ 1 (by show (t.val - 1 - 1) % 4 = 1; omega) r d _ _
      (by dsimp only; omega) (by dsimp only; omega)))
    exact (congrFun (left_first m c ⟨t.val - 1 - 1 - 1, q3⟩ (by dsimp only; omega)) _).trans (part_apply m c ⟨t.val - 1 - 1 - 1, q3⟩ 0 (by show (t.val - 1 - 1 - 1) % 4 = 0; omega) r d _ _
      (by dsimp only; omega) (by dsimp only; omega))
  · have h0 : (i 0).val < 8192 := (i 0).isLt
    have h1 : (i 1).val < 2048 := (i 1).isLt
    have hq : (i 0).val / 1024 * 8 + (i 1).val / 1024 * 4 + 3 < cfg0.N := by
      rw [show cfg0.N = 64 from N_0]; omega
    refine ⟨⟨(i 0).val / 1024 * 8 + (i 1).val / 1024 * 4 + 3, hq⟩, (flush0_3 _).2 (by dsimp only; omega), ?_⟩
    exact mem_of_emb _ (emb3 ⟨_, hq⟩ (⟨(i 0).val % 1024, Nat.mod_lt _ (by norm_num)⟩ : Fin 1024) (⟨(i 1).val % 1024, Nat.mod_lt _ (by norm_num)⟩ : Fin 1024) i
      (by dsimp only; omega) (by dsimp only; omega))

/-- The reference's product, entry by entry. -/
theorem product (q : S8192x8192.Idx → EReal) (w : S8192x2048.Idx → EReal) (R : Fin 8192) (j : Fin 2048) :
    (Host.dotGeneral (F := Ideal) (φ₁ := .f32) (φ₂ := .f32) Reference7Ideal.dot_S8192x8192_S8192x2048_S8192x2048_1_0_0_1_n_n none q w
      : Reference7Ideal.S8192x2048.Idx → EReal) (ix2 R j) = ∑ k : Fin 8192, q (ix2 R k) * w (ix2 k j) := by
  refine (Ideal.dotGeneral_apply _ _ _ _ _ (ix2 R j)).trans ?_
  rw [← Equiv.sum_comp (contrEquiv1 Reference7Ideal.dot_S8192x8192_S8192x2048_S8192x2048_1_0_0_1_n_n 8192 rfl rfl).symm]
  refine Finset.sum_congr rfl fun k _ => congrArg₂ (· * ·) ?_ ?_
  · exact congrArg q (funext fun a => Fin.ext (match a with | ⟨0, _⟩ => rfl | ⟨1, _⟩ => rfl))
  · exact congrArg w (funext fun a => Fin.ext (match a with | ⟨0, _⟩ => rfl | ⟨1, _⟩ => rfl))

theorem algebraic : Cert.algebraic_Kernel7Ideal_Reference7Ideal := by
  intro m g m' g' _ hag
  refine ⟨fun c => (dats m 0 c).arrAt 3 cfg0.N, Value.run_blocks m g, ?_⟩
  refine (θ_run _ _ _).mono (fun r h c => ⟨(h c).1.trans ?_, (h c).2⟩) (Reference7Ideal.Value.run (F := Ideal) m' g')
  rw [(hag c).1, (hag c).2.1, (hag c).2.2.1, (hag c).2.2.2]
  refine Eq.trans ?_ (array m c).symm
  funext i
  obtain ⟨r, j, rfl⟩ : ∃ (r : Fin 8192) (j : Fin 2048), i = (ix2 r j : S8192x2048.Idx) := ⟨i 0, i 1, (eq_ix2 i)⟩
  refine (add_comm (Z m c (ix2 r j)) _).trans (congrArg (· + Z m c (ix2 r j)) ((product _ _ r j).trans ?_))
  unfold X Y
  rw [V_square, ← act_eq]
  rfl

end Cert.Kernel7Ideal.Mlp

end
-- ==== Proof.lean ====
/-
  The claims, of the attention's backward call and of the MLP's four backward and two forward products: the frames of each program as printed,
  of its idealization and of its reference; the idealization; and that the idealized program and the reference end with
  equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Att.Same
public import proofs.«01_k».proof.Proof.Att.TableVal
public import proofs.«01_k».proof.Proof.Att.KerFinal
public import proofs.«01_k».proof.Proof.Att.RefVal
public import proofs.«01_k».proof.Proof.Att.Args
public import proofs.«01_k».proof.Proof.Mlp.Frames
public import proofs.«01_k».proof.Proof.Mlp.Down
public import proofs.«01_k».proof.Proof.Mlp.SecondWeightEq
public import proofs.«01_k».proof.Proof.Mlp.FirstWeightEq
public import proofs.«01_k».proof.Proof.Mlp.Input
public import proofs.«01_k».proof.Proof.Mlp.Up
public import proofs.«01_k».proof.Proof.Mlp.Output

@[expose] public section

noncomputable section

namespace Cert.Proof

open Idealize.ShloMosaic Idealize.SL.Sem Cert.Att

theorem frame_ideal : Cert.quiescent_KernelIdeal := fun m g _ => Cert.KernelIdeal.Att.frame (F := Ideal) m g

theorem preserves : Cert.preserves_Kernel_KernelIdeal :=
  IdealRules.named_const.statement Cert.KernelIdeal.κ "mask" .f32 0xF149F2CA#32 ⊥ rfl

theorem algebraic [hP : Cert.Pre_finite_arguments.Facts] :
    Cert.algebraic_KernelIdeal_ReferenceIdeal_pre_finite_arguments := by
  intro m g m' g' hpre hag
  let A : Dev Cert.KernelIdeal.nD → Ins := fun c => insOf (m (c.tc.loc Cert.KernelIdeal.main_arg0))
    (m (c.tc.loc Cert.KernelIdeal.main_arg1)) (m (c.tc.loc Cert.KernelIdeal.main_arg2))
    (m (c.tc.loc Cert.KernelIdeal.main_arg3)) (m (c.tc.loc Cert.KernelIdeal.main_arg4))
  have H : ∀ c, Holds (A c) (m (c.tc.loc Cert.KernelIdeal.main_arg0)) (m (c.tc.loc Cert.KernelIdeal.main_arg1))
      (m (c.tc.loc Cert.KernelIdeal.main_arg2)) (m (c.tc.loc Cert.KernelIdeal.main_arg3))
      (m (c.tc.loc Cert.KernelIdeal.main_arg4)) := fun c =>
    holds_of_finite _ _ _ _ _ (hpre c).1 (hpre c).2.1 (hpre c).2.2.1 (hpre c).2.2.2.1 (hpre c).2.2.2.2
  have HK : ∀ c, Holds (A c) (Cert.KernelIdeal.Gen.V m c Cert.KernelIdeal.main_arg0)
      (Cert.KernelIdeal.Gen.V m c Cert.KernelIdeal.main_arg1) (Cert.KernelIdeal.Gen.V m c Cert.KernelIdeal.main_arg2)
      (Cert.KernelIdeal.Gen.V m c Cert.KernelIdeal.main_arg3) (Cert.KernelIdeal.Gen.V m c Cert.KernelIdeal.main_arg4) := fun c => by
    rw [Cert.KernelIdeal.Gen.V_main_arg0, Cert.KernelIdeal.Gen.V_main_arg1, Cert.KernelIdeal.Gen.V_main_arg2,
      Cert.KernelIdeal.Gen.V_main_arg3, Cert.KernelIdeal.Gen.V_main_arg4]
    exact H c
  have HR : ∀ c : Dev Cert.ReferenceIdeal.nD, Holds (A c) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4)) := fun c => by
    rw [(hag c).1, (hag c).2.1, (hag c).2.2.1, (hag c).2.2.2.1, (hag c).2.2.2.2]
    exact H c
  exact ⟨fun c => Cert.KernelIdeal.Att.G11 (A c), fun c => Cert.KernelIdeal.Att.G12 (A c),
    fun c => Cert.KernelIdeal.Att.G13 (A c), fun c => Cert.KernelIdeal.Att.G15 (A c), fun c => Cert.KernelIdeal.Att.G16 (A c),
    Cert.KernelIdeal.Att.run_values m g A HK (fun c => Cert.KernelIdeal.Att.biased m c (H c).b), run_reference m' g' A HR⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, pre_facts,
  frame_printed, frame_ideal, fun m g _ => frame_ideal m g trivial, frame_reference, fun m g _ => frame_reference m g trivial,
  Cert.Mlp.printed2, Cert.Mlp.ideal2, Cert.Mlp.reference2, Cert.Mlp.printed3, Cert.Mlp.ideal3, Cert.Mlp.reference3,
  Cert.Mlp.printed4, Cert.Mlp.ideal4, Cert.Mlp.reference4, Cert.Mlp.printed5, Cert.Mlp.ideal5, Cert.Mlp.reference5,
  Cert.Mlp.printed6, Cert.Mlp.ideal6, Cert.Mlp.reference6, Cert.Mlp.printed7, Cert.Mlp.ideal7, Cert.Mlp.reference7,
  preserves, algebraic (hP := pre_facts),
  trivial, Cert.Kernel2Ideal.Mlp.algebraic, trivial, Cert.Kernel3Ideal.Mlp.algebraic,
  trivial, Cert.Kernel4Ideal.Mlp.algebraic, trivial, Cert.Kernel5Ideal.Mlp.algebraic,
  trivial, Cert.Kernel6Ideal.Mlp.algebraic, trivial, Cert.Kernel7Ideal.Mlp.algebraic⟩

end Cert.Proof

end
